-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  IdealRules.named_const.Statement Cert.KernelIdeal.κ "gelu_3ac" .f32 0x3DDB33B6#32 (((3 * (12003091 / 268435456)) * (6693141 / 8388608) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_v181) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v18_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v18_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v78) = v1 c
          ∧ r.2.mem ((c.tc : Thread Cert.Reference3Ideal.nD Cert.Reference3Ideal.τ).loc Cert.Reference3Ideal.main_v79) = v2 c
          ∧ r.2.mem ((c.tc : Thread Cert.Reference3Ideal.nD Cert.Reference3Ideal.τ).loc Cert.Reference3Ideal.main_v80) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)) (v4 : (c : Dev Cert.Kernel6Ideal.nD) → Buf (Elt Ideal) ((c.tc : Thread Cert.Kernel6Ideal.nD Cert.Kernel6Ideal.τ).loc Cert.Kernel6Ideal.main_v9_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_v9_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v43) = v3 c
          ∧ r.2.mem ((c.tc : Thread Cert.Reference6Ideal.nD Cert.Reference6Ideal.τ).loc Cert.Reference6Ideal.main_v44) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_v20) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)) (v3 : (c : Dev Cert.Kernel10Ideal.nD) → Buf (Elt Ideal) ((c.tc : Thread Cert.Kernel10Ideal.nD Cert.Kernel10Ideal.τ).loc Cert.Kernel10Ideal.main_v2_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_v2_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v54) = v0 c
          ∧ r.2.mem ((c.tc : Thread Cert.Reference10Ideal.nD Cert.Reference10Ideal.τ).loc Cert.Reference10Ideal.main_v33) = v1 c
          ∧ r.2.mem ((c.tc : Thread Cert.Reference10Ideal.nD Cert.Reference10Ideal.τ).loc Cert.Reference10Ideal.main_v55) = v2 c
          ∧ r.2.mem ((c.tc : Thread Cert.Reference10Ideal.nD Cert.Reference10Ideal.τ).loc Cert.Reference10Ideal.main_v56) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v7) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)) (v2 : (c : Dev Cert.Kernel12Ideal.nD) → Buf (Elt Ideal) ((c.tc : Thread Cert.Kernel12Ideal.nD Cert.Kernel12Ideal.τ).loc Cert.Kernel12Ideal.main_v5_2)) (v3 : (c : Dev Cert.Kernel12Ideal.nD) → Buf (Elt Ideal) ((c.tc : Thread Cert.Kernel12Ideal.nD Cert.Kernel12Ideal.τ).loc Cert.Kernel12Ideal.main_v5_3)) (v4 : (c : Dev Cert.Kernel12Ideal.nD) → Buf (Elt Ideal) ((c.tc : Thread Cert.Kernel12Ideal.nD Cert.Kernel12Ideal.τ).loc Cert.Kernel12Ideal.main_v5_4)) (v5 : (c : Dev Cert.Kernel12Ideal.nD) → Buf (Elt Ideal) ((c.tc : Thread Cert.Kernel12Ideal.nD Cert.Kernel12Ideal.τ).loc Cert.Kernel12Ideal.main_v5_5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_v5_2) = v2 c
          ∧ r.2.mem ((c.tc : Thread Cert.Kernel12Ideal.nD Cert.Kernel12Ideal.τ).loc Cert.Kernel12Ideal.main_v5_3) = v3 c
          ∧ r.2.mem ((c.tc : Thread Cert.Kernel12Ideal.nD Cert.Kernel12Ideal.τ).loc Cert.Kernel12Ideal.main_v5_4) = v4 c
          ∧ r.2.mem ((c.tc : Thread Cert.Kernel12Ideal.nD Cert.Kernel12Ideal.τ).loc Cert.Kernel12Ideal.main_v5_5) = v5 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v50) = v0 c
          ∧ r.2.mem ((c.tc : Thread Cert.Reference12Ideal.nD Cert.Reference12Ideal.τ).loc Cert.Reference12Ideal.main_v51) = v1 c
          ∧ r.2.mem ((c.tc : Thread Cert.Reference12Ideal.nD Cert.Reference12Ideal.τ).loc Cert.Reference12Ideal.main_v52) = v2 c
          ∧ r.2.mem ((c.tc : Thread Cert.Reference12Ideal.nD Cert.Reference12Ideal.τ).loc Cert.Reference12Ideal.main_v22) = v3 c
          ∧ r.2.mem ((c.tc : Thread Cert.Reference12Ideal.nD Cert.Reference12Ideal.τ).loc Cert.Reference12Ideal.main_v36) = v4 c
          ∧ r.2.mem ((c.tc : Thread Cert.Reference12Ideal.nD Cert.Reference12Ideal.τ).loc Cert.Reference12Ideal.main_v53) = v5 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v19) = v0 c
          ∧ r.2.mem ((c.tc : Thread Cert.Reference13Ideal.nD Cert.Reference13Ideal.τ).loc Cert.Reference13Ideal.main_v20) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite3 : Cert.Pre_finite3.Facts) (hPre_finite5 : Cert.Pre_finite5.Facts) (hPre_finite6 : Cert.Pre_finite6.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x2048 : Shape := ⟨2, ![4096, 2048]⟩
abbrev S4x256 : Shape := ⟨2, ![4, 256]⟩
abbrev S4x128x128 : Shape := ⟨3, ![4, 128, 128]⟩
abbrev S4x128 : Shape := ⟨2, ![4, 128]⟩
abbrev S4096x1024 : Shape := ⟨2, ![4096, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4x256 : S_.BroadcastsInDim S4x256 (![] : Fin 0 → Fin S4x256.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S4096x1024 : S_.BroadcastsInDim S4096x1024 (![] : Fin 0 → Fin S4096x1024.rank)

variable [Facts]

def fn_part1 {F : FTy → Type} [FloatOps F] (main_v3 : IVec S4096x2048 1) (main_v6 : IVec S4x256 1) (main_v9 : IVec S4x256 1) (main_v12 : IVec S4x128x128 1) (main_v15 : IVec S4x128 1) (main_v17 : FVec F S4096x1024 .f32) (main_cst_4 : FVec F S_ .f32) : IVec S4096x2048 1 × IVec S4x256 1 × IVec S4x256 1 × IVec S4x128x128 1 × IVec S4x128 1 × IVec S4096x1024 1 :=
  let main_v18 : FVec F S4096x1024 .f32 := broadcastInDim S4096x1024 ![] bcast_S_S4096x1024 main_cst_4
  let main_v19 : IVec S4096x1024 1 := cmpf .olt main_v17 main_v18
  (main_v3, main_v6, main_v9, main_v12, main_v15, main_v19)

def fn {F : FTy → Type} [FloatOps F] (main_arg0 : FVec F S4096x2048 .bf16) (main_arg1 : FVec F S4x256 .f32) (main_arg2 : FVec F S4x256 .f32) (main_arg3 : FVec F S4x128x128 .f32) (main_arg4 : FVec F S4x128 .f32) (main_arg5 : FVec F S4096x1024 .bf16) : IVec S4096x2048 1 × IVec S4x256 1 × IVec S4x256 1 × IVec S4x128x128 1 × IVec S4x128 1 × IVec S4096x1024 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_v7 : FVec F S4x256 .f32 := Host.absf main_arg2
  let main_cst_1 : FVec F S_ .f32 := constant S_ .f32 0x7F800000#32
  let main_v8 : FVec F S4x256 .f32 := broadcastInDim S4x256 ![] bcast_S_S4x256 main_cst_1
  let main_v9 : IVec S4x256 1 := cmpf .olt main_v7 main_v8
  let main_v10 : FVec F S4x128x128 .f32 := Host.absf main_arg3
  let main_cst_2 : FVec F S_ .f32 := constant S_ .f32 0x7F800000#32
  let main_v11 : FVec F S4x128x128 .f32 := broadcastInDim S4x128x128 ![] bcast_S_S4x128x128 main_cst_2
  let main_v12 : IVec S4x128x128 1 := cmpf .olt main_v10 main_v11
  let main_v13 : FVec F S4x128 .f32 := Host.absf main_arg4
  let main_cst_3 : FVec F S_ .f32 := constant S_ .f32 0x7F800000#32
  let main_v14 : FVec F S4x128 .f32 := broadcastInDim S4x128 ![] bcast_S_S4x128 main_cst_3
  let main_v15 : IVec S4x128 1 := cmpf .olt main_v13 main_v14
  let main_v16 : FVec F S4096x1024 .f32 := (extf .f32 · bitsLt_bf16_f32) main_arg5
  let main_v17 : FVec F S4096x1024 .f32 := Host.absf main_v16
  let main_cst_4 : FVec F S_ .f32 := constant S_ .f32 0x7F800000#32
  fn_part1 (F := F) main_v3 main_v6 main_v9 main_v12 main_v15 main_v17 main_cst_4
-- ==== Pre_finite10.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x2816 .bf16) (main_arg1 : FVec F S2816x1024 .f32) (main_arg2 : FVec F S4096x1024 .f32) (main_arg3 : FVec F S4096x1024 .f32) (main_arg4 : FVec F S1024 .f32) : IVec S4096x2816 1 × IVec S2816x1024 1 × IVec S4096x1024 1 × IVec S4096x1024 1 × IVec S1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_v13 : FVec F S1024 .f32 := Host.absf main_arg4
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  (main_v3, main_v6, main_v9, main_v12, main_v15)
-- ==== Pre_finite2.lean ====
abbrev S4096x3072 : Shape := ⟨2, ![4096, 3072]⟩
abbrev S4096x16 : Shape := ⟨2, ![4096, 16]⟩
abbrev S4096x2048 : Shape := ⟨2, ![4096, 2048]⟩
abbrev S1024x7184 : Shape := ⟨2, ![1024, 7184]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S4096x16 : S_.BroadcastsInDim S4096x16 (![] : Fin 0 → Fin S4096x16.rank)
  bcast_S_S4096x2048 : S_.BroadcastsInDim S4096x2048 (![] : Fin 0 → Fin S4096x2048.rank)
  bcast_S_S1024x7184 : S_.BroadcastsInDim S1024x7184 (![] : Fin 0 → Fin S1024x7184.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn_part1 {F : FTy → Type} [FloatOps F] (main_arg5 : FVec F S4096x1024 .f32) (main_arg6 : FVec F S4096x1024 .f32) (main_arg7 : FVec F S1024 .f32) (main_v3 : IVec S4096x3072 1) (main_v7 : IVec S4096x16 1) (main_v11 : IVec S4096x2048 1) (main_v15 : IVec S4096x2048 1) (main_v18 : IVec S1024x7184 1) : IVec S4096x3072 1 × IVec S4096x16 1 × IVec S4096x2048 1 × IVec S4096x2048 1 × IVec S1024x7184 1 × IVec S4096x1024 1 × IVec S4096x1024 1 × IVec S1024 1 :=
  let main_v19 : FVec F S4096x1024 .f32 := Host.absf main_arg5
  let main_cst_4 : FVec F S_ .f32 := constant S_ .f32 0x7F800000#32
  let main_v20 : FVec F S4096x1024 .f32 := broadcastInDim S4096x1024 ![] bcast_S_S4096x1024 main_cst_4
  let main_v21 : IVec S4096x1024 1 := cmpf .olt main_v19 main_v20
  let main_v22 : FVec F S4096x1024 .f32 := Host.absf main_arg6
  let main_cst_5 : FVec F S_ .f32 := constant S_ .f32 0x7F800000#32
  let main_v23 : FVec F S4096x1024 .f32 := broadcastInDim S4096x1024 ![] bcast_S_S4096x1024 main_cst_5
  let main_v24 : IVec S4096x1024 1 := cmpf .olt main_v22 main_v23
  let main_v25 : FVec F S1024 .f32 := Host.absf main_arg7
  let main_cst_6 : FVec F S_ .f32 := constant S_ .f32 0x7F800000#32
  let main_v26 : FVec F S1024 .f32 := broadcastInDim S1024 ![] bcast_S_S1024 main_cst_6
  let main_v27 : IVec S1024 1 := cmpf .olt main_v25 main_v26
  (main_v3, main_v7, main_v11, main_v15, main_v18, main_v21, main_v24, main_v27)

def fn {F : FTy → Type} [FloatOps F] (main_arg0 : FVec F S4096x3072 .bf16) (main_arg1 : FVec F S4096x16 .bf16) (main_arg2 : FVec F S4096x2048 .bf16) (main_arg3 : FVec F S4096x2048 .bf16) (main_arg4 : FVec F S1024x7184 .f32) (main_arg5 : FVec F S4096x1024 .f32) (main_arg6 : FVec F S4096x1024 .f32) (main_arg7 : FVec F S1024 .f32) : IVec S4096x3072 1 × IVec S4096x16 1 × IVec S4096x2048 1 × IVec S4096x2048 1 × IVec S1024x7184 1 × IVec S4096x1024 1 × IVec S4096x1024 1 × IVec S1024 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x16 .f32 := (extf .f32 · bitsLt_bf16_f32) main_arg1
  let main_v5 : FVec F S4096x16 .f32 := Host.absf main_v4
  let main_cst_0 : FVec F S_ .f32 := constant S_ .f32 0x7F800000#32
  let main_v6 : FVec F S4096x16 .f32 := broadcastInDim S4096x16 ![] bcast_S_S4096x16 main_cst_0
  let main_v7 : IVec S4096x16 1 := cmpf .olt main_v5 main_v6
  let main_v8 : FVec F S4096x2048 .f32 := (extf .f32 · bitsLt_bf16_f32) main_arg2
  let main_v9 : FVec F S4096x2048 .f32 := Host.absf main_v8
  let main_cst_1 : FVec F S_ .f32 := constant S_ .f32 0x7F800000#32
  let main_v10 : FVec F S4096x2048 .f32 := broadcastInDim S4096x2048 ![] bcast_S_S4096x2048 main_cst_1
  let main_v11 : IVec S4096x2048 1 := cmpf .olt main_v9 main_v10
  let main_v12 : FVec F S4096x2048 .f32 := (extf .f32 · bitsLt_bf16_f32) main_arg3
  let main_v13 : FVec F S4096x2048 .f32 := Host.absf main_v12
  let main_cst_2 : FVec F S_ .f32 := constant S_ .f32 0x7F800000#32
  let main_v14 : FVec F S4096x2048 .f32 := broadcastInDim S4096x2048 ![] bcast_S_S4096x2048 main_cst_2
  let main_v15 : IVec S4096x2048 1 := cmpf .olt main_v13 main_v14
  let main_v16 : FVec F S1024x7184 .f32 := Host.absf main_arg4
  let main_cst_3 : FVec F S_ .f32 := constant S_ .f32 0x7F800000#32
  let main_v17 : FVec F S1024x7184 .f32 := broadcastInDim S1024x7184 ![] bcast_S_S1024x7184 main_cst_3
  let main_v18 : IVec S1024x7184 1 := cmpf .olt main_v16 main_v17
  fn_part1 (F := F) main_arg5 main_arg6 main_arg7 main_v3 main_v7 main_v11 main_v15 main_v18
-- ==== Pre_finite3.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn_part1 {F : FTy → Type} [FloatOps F] (main_arg6 : FVec F S1024 .f32) (main_v3 : IVec S4096x5632 1) (main_v6 : IVec S1024x5632 1) (main_v9 : IVec S4096x1024 1) (main_v12 : IVec S4096x1024 1) (main_v15 : IVec S4096x1024 1) (main_v16 : FVec F S1024 .f32) (main_v17 : FVec F S1024 .f32) : IVec S4096x5632 1 × IVec S1024x5632 1 × IVec S4096x1024 1 × IVec S4096x1024 1 × IVec S4096x1024 1 × IVec S1024 1 × IVec S1024 1 :=
  let main_v18 : IVec S1024 1 := cmpf .olt main_v16 main_v17
  let main_v19 : FVec F S1024 .f32 := Host.absf main_arg6
  let main_cst_5 : FVec F S_ .f32 := constant S_ .f32 0x7F800000#32
  let main_v20 : FVec F S1024 .f32 := broadcastInDim S1024 ![] bcast_S_S1024 main_cst_5
  let main_v21 : IVec S1024 1 := cmpf .olt main_v19 main_v20
  (main_v3, main_v6, main_v9, main_v12, main_v15, main_v18, main_v21)

def fn {F : FTy → Type} [FloatOps F] (main_arg0 : FVec F S4096x5632 .bf16) (main_arg1 : FVec F S1024x5632 .f32) (main_arg2 : FVec F S4096x1024 .f32) (main_arg3 : FVec F S4096x1024 .f32) (main_arg4 : FVec F S4096x1024 .f32) (main_arg5 : FVec F S1024 .f32) (main_arg6 : FVec F S1024 .f32) : IVec S4096x5632 1 × IVec S1024x5632 1 × IVec S4096x1024 1 × IVec S4096x1024 1 × IVec S4096x1024 1 × IVec S1024 1 × IVec S1024 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_v13 : FVec F S4096x1024 .f32 := Host.absf main_arg4
  let main_cst_3 : FVec F S_ .f32 := constant S_ .f32 0x7F800000#32
  let main_v14 : FVec F S4096x1024 .f32 := broadcastInDim S4096x1024 ![] bcast_S_S4096x1024 main_cst_3
  let main_v15 : IVec S4096x1024 1 := cmpf .olt main_v13 main_v14
  let main_v16 : FVec F S1024 .f32 := Host.absf main_arg5
  let main_cst_4 : FVec F S_ .f32 := constant S_ .f32 0x7F800000#32
  let main_v17 : FVec F S1024 .f32 := broadcastInDim S1024 ![] bcast_S_S1024 main_cst_4
  fn_part1 (F := F) main_arg6 main_v3 main_v6 main_v9 main_v12 main_v15 main_v16 main_v17
-- ==== Pre_finite5.lean ====
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x5632 : S_.BroadcastsInDim S4096x5632 (![] : Fin 0 → Fin S4096x5632.rank)

variable [Facts]

def fn {F : FTy → Type} [FloatOps F] (main_arg0 : FVec F S4096x1024 .bf16) (main_arg1 : FVec F S2816x1024 .f32) (main_arg2 : FVec F S4096x5632 .bf16) : IVec S4096x1024 1 × IVec S2816x1024 1 × IVec S4096x5632 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x5632 .f32 := (extf .f32 · bitsLt_bf16_f32) main_arg2
  let main_v8 : FVec F S4096x5632 .f32 := Host.absf main_v7
  let main_cst_1 : FVec F S_ .f32 := constant S_ .f32 0x7F800000#32
  let main_v9 : FVec F S4096x5632 .f32 := broadcastInDim S4096x5632 ![] bcast_S_S4096x5632 main_cst_1
  let main_v10 : IVec S4096x5632 1 := cmpf .olt main_v8 main_v9
  (main_v3, main_v6, main_v10)
-- ==== Pre_finite6.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x2048 : S_.BroadcastsInDim S4096x2048 (![] : Fin 0 → Fin S4096x2048.rank)
  bcast_S_S1024x1024 : S_.BroadcastsInDim S1024x1024 (![] : Fin 0 → Fin S1024x1024.rank)

variable [Facts]

def fn_part1 {F : FTy → Type} [FloatOps F] (main_arg5 : FVec F S1024x1024 .f32) (main_arg6 : FVec F S1024x1024 .f32) (main_v3 : IVec S4096x1024 1) (main_v7 : IVec S4096x1024 1) (main_v11 : IVec S4096x1024 1) (main_v15 : IVec S4096x2048 1) (main_v18 : IVec S1024x1024 1) : IVec S4096x1024 1 × IVec S4096x1024 1 × IVec S4096x1024 1 × IVec S4096x2048 1 × IVec S1024x1024 1 × IVec S1024x1024 1 × IVec S1024x1024 1 :=
  let main_v19 : FVec F S1024x1024 .f32 := Host.absf main_arg5
  let main_cst_4 : FVec F S_ .f32 := constant S_ .f32 0x7F800000#32
  let main_v20 : FVec F S1024x1024 .f32 := broadcastInDim S1024x1024 ![] bcast_S_S1024x1024 main_cst_4
  let main_v21 : IVec S1024x1024 1 := cmpf .olt main_v19 main_v20
  let main_v22 : FVec F S1024x1024 .f32 := Host.absf main_arg6
  let main_cst_5 : FVec F S_ .f32 := constant S_ .f32 0x7F800000#32
  let main_v23 : FVec F S1024x1024 .f32 := broadcastInDim S1024x1024 ![] bcast_S_S1024x1024 main_cst_5
  let main_v24 : IVec S1024x1024 1 := cmpf .olt main_v22 main_v23
  (main_v3, main_v7, main_v11, main_v15, main_v18, main_v21, main_v24)

def fn {F : FTy → Type} [FloatOps F] (main_arg0 : FVec F S4096x1024 .bf16) (main_arg1 : FVec F S4096x1024 .bf16) (main_arg2 : FVec F S4096x1024 .bf16) (main_arg3 : FVec F S4096x2048 .bf16) (main_arg4 : FVec F S1024x1024 .f32) (main_arg5 : FVec F S1024x1024 .f32) (main_arg6 : FVec F S1024x1024 .f32) : IVec S4096x1024 1 × IVec S4096x1024 1 × IVec S4096x1024 1 × IVec S4096x2048 1 × IVec S1024x1024 1 × IVec S1024x1024 1 × IVec S1024x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S4096x2048 .f32 := (extf .f32 · bitsLt_bf16_f32) main_arg3
  let main_v13 : FVec F S4096x2048 .f32 := Host.absf main_v12
  let main_cst_2 : FVec F S_ .f32 := constant S_ .f32 0x7F800000#32
  let main_v14 : FVec F S4096x2048 .f32 := broadcastInDim S4096x2048 ![] bcast_S_S4096x2048 main_cst_2
  let main_v15 : IVec S4096x2048 1 := cmpf .olt main_v13 main_v14
  let main_v16 : FVec F S1024x1024 .f32 := Host.absf main_arg4
  let main_cst_3 : FVec F S_ .f32 := constant S_ .f32 0x7F800000#32
  let main_v17 : FVec F S1024x1024 .f32 := broadcastInDim S1024x1024 ![] bcast_S_S1024x1024 main_cst_3
  let main_v18 : IVec S1024x1024 1 := cmpf .olt main_v16 main_v17
  fn_part1 (F := F) main_arg5 main_arg6 main_v3 main_v7 main_v11 main_v15 main_v18
-- ==== Kernel.lean ====
abbrev S4096x2048 : Shape := ⟨2, ![4096, 2048]⟩
abbrev S4x256 : Shape := ⟨2, ![4, 256]⟩
abbrev S4x128x128 : Shape := ⟨3, ![4, 128, 128]⟩
abbrev S4x128 : Shape := ⟨2, ![4, 128]⟩
abbrev S4096x1024 : Shape := ⟨2, ![4096, 1024]⟩
abbrev S4x1x256 : Shape := ⟨3, ![4, 1, 256]⟩
abbrev S4x128x1 : Shape := ⟨3, ![4, 128, 1]⟩
abbrev S256x2048 : Shape := ⟨2, ![256, 2048]⟩
abbrev S256x1024 : Shape := ⟨2, ![256, 1024]⟩
abbrev S128x128 : Shape := ⟨2, ![128, 128]⟩
abbrev S1x128x128 : Shape := ⟨3, ![1, 128, 128]⟩
abbrev S1x1x256 : Shape := ⟨3, ![1, 1, 256]⟩
abbrev S1x256 : Shape := ⟨2, ![1, 256]⟩
abbrev S128x256 : Shape := ⟨2, ![128, 256]⟩
abbrev S128 : Shape := ⟨1, ![128]⟩
abbrev S128x1 : Shape := ⟨2, ![128, 1]⟩
abbrev S1x128x1 : Shape := ⟨3, ![1, 128, 1]⟩
abbrev S256 : Shape := ⟨1, ![256]⟩

abbrev nBuf : Space → Nat
  | .hbm => 14
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4x256, .f32⟩
  | .hbm, ⟨2, _⟩ => ⟨S4x256, .f32⟩
  | .hbm, ⟨3, _⟩ => ⟨S4x128x128, .f32⟩
  | .hbm, ⟨4, _⟩ => ⟨S4x128, .f32⟩
  | .hbm, ⟨5, _⟩ => ⟨S4096x1024, .bf16⟩
  | .hbm, ⟨6, _⟩ => ⟨S4x1x256, .f32⟩
  | .hbm, ⟨7, _⟩ => ⟨S4x1x256, .f32⟩
  | .hbm, ⟨8, _⟩ => ⟨S4x128x1, .f32⟩
  | .hbm, ⟨9, _⟩ => ⟨S4096x2048, .bf16⟩
  | .hbm, ⟨10, _⟩ => ⟨S4x1x256, .f32⟩
  | .hbm, ⟨11, _⟩ => ⟨S4x1x256, .f32⟩
  | .hbm, ⟨12, _⟩ => ⟨S4x128x128, .f32⟩
  | .hbm, ⟨13, _⟩ => ⟨S4x128x1, .f32⟩
  | .local _ .vmem, ⟨0, _⟩ => ⟨S256x2048, .bf16⟩
  | .local _ .vmem, ⟨1, _⟩ => ⟨S256x2048, .bf16⟩
  | .local _ .vmem, ⟨2, _⟩ => ⟨S4x1x256, .f32⟩
  | .local _ .vmem, ⟨3, _⟩ => ⟨S4x1x256, .f32⟩
  | .local _ .vmem, ⟨4, _⟩ => ⟨S4x128x128, .f32⟩
  | .local _ .vmem, ⟨5, _⟩ => ⟨S4x128x1, .f32⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S4x1x256, .f32⟩
  | .local _ .vmem, ⟨11, _⟩ => ⟨S4x1x256, .f32⟩
  | .local _ .vmem, ⟨12, _⟩ => ⟨S4x128x128, .f32⟩
  | .local _ .vmem, ⟨13, _⟩ => ⟨S4x128x1, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_3ac" => some (((3 * (12003091 / 268435456)) * (6693141 / 8388608) : ℝ) : EReal)
  | _ => none
-- ==== ReferenceIdeal.lean ====
abbrev S4096x2048 : Shape := ⟨2, ![4096, 2048]⟩
abbrev S4x256 : Shape := ⟨2, ![4, 256]⟩
abbrev S4x128x128 : Shape := ⟨3, ![4, 128, 128]⟩
abbrev S4x128 : Shape := ⟨2, ![4, 128]⟩
abbrev S4096x1024 : Shape := ⟨2, ![4096, 1024]⟩
abbrev S1x4096x1024 : Shape := ⟨3, ![1, 4096, 1024]⟩
abbrev S_ : Shape := ⟨0, ![]⟩
abbrev S1x4096x4x256 : Shape := ⟨4, ![1, 4096, 4, 256]⟩
abbrev S1x4096x4 : Shape := ⟨3, ![1, 4096, 4]⟩
abbrev S1x4096x4x1 : Shape := ⟨4, ![1, 4096, 4, 1]⟩
abbrev S1x1x4x256 : Shape := ⟨4, ![1, 1, 4, 256]⟩
abbrev S1x32x128x4x256 : Shape := ⟨5, ![1, 32, 128, 4, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x1x32x256x128 : Shape := ⟨5, ![4, 1, 32, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S1x4x256 : Shape := ⟨3, ![1, 4, 256]⟩
abbrev S4096x4 : Shape := ⟨2, ![4096, 4]⟩
abbrev S4x1x256 : Shape := ⟨3, ![4, 1, 256]⟩
abbrev S4x128x1 : Shape := ⟨3, ![4, 128, 1]⟩

abbrev nBuf : Space → Nat
  | .hbm => 273
  | .vmem => 0
  | .smem => 0
  | _ => 0

abbrev hbmTy0_0 (i : Nat) : BufTy := match i % 128 with
  | 0 => ⟨S4096x2048, .bf16⟩
  | 1 => ⟨S4x256, .f32⟩
  | 2 => ⟨S4x256, .f32⟩
  | 3 => ⟨S4x128x128, .f32⟩
  | 4 => ⟨S4x128, .f32⟩
  | 5 => ⟨S4096x1024, .bf16⟩
  | 6 => ⟨S4096x2048, .f32⟩
  | 7 => ⟨S4096x1024, .f32⟩
  | 8 => ⟨S4096x1024, .f32⟩
  | 9 => ⟨S1x4096x1024, .f32⟩
  | 10 => ⟨S1x4096x1024, .f32⟩
  | 11 => ⟨S1x4096x1024, .f32⟩
  | 12 => ⟨S1x4096x1024, .f32⟩
  | 13 => ⟨S1x4096x1024, .f32⟩
  | 14 => ⟨S_, .f32⟩
  | 15 => ⟨S1x4096x1024, .f32⟩
  | 16 => ⟨S1x4096x1024, .f32⟩
  | 17 => ⟨S_, .f32⟩
  | 18 => ⟨S1x4096x1024, .f32⟩
  | 19 => ⟨S1x4096x1024, .f32⟩
  | 20 => ⟨S1x4096x1024, .f32⟩
  | 21 => ⟨S_, .f32⟩
  | 22 => ⟨S1x4096x1024, .f32⟩
  | 23 => ⟨S1x4096x1024, .f32⟩
  | 24 => ⟨S1x4096x1024, .f32⟩
  | 25 => ⟨S_, .f32⟩
  | 26 => ⟨S1x4096x1024, .f32⟩
  | 27 => ⟨S1x4096x1024, .f32⟩
  | 28 => ⟨S_, .f32⟩
  | 29 => ⟨S1x4096x1024, .f32⟩
  | 30 => ⟨S1x4096x1024, .f32⟩
  | 31 => ⟨S1x4096x1024, .f32⟩
  | 32 => ⟨S_, .f32⟩
  | 33 => ⟨S1x4096x1024, .f32⟩
  | 34 => ⟨S1x4096x1024, .f32⟩
  | 35 => ⟨S_, .f32⟩
  | 36 => ⟨S1x4096x1024, .f32⟩
  | 37 => ⟨S1x4096x1024, .f32⟩
  | 38 => ⟨S1x4096x1024, .f32⟩
  | 39 => ⟨S1x4096x1024, .f32⟩
  | 40 => ⟨S1x4096x1024, .f32⟩
  | 41 => ⟨S1x4096x1024, .f32⟩
  | 42 => ⟨S_, .f32⟩
  | 43 => ⟨S1x4096x1024, .f32⟩
  | 44 => ⟨S1x4096x1024, .f32⟩
  | 45 => ⟨S_, .f32⟩
  | 46 => ⟨S1x4096x1024, .f32⟩
  | 47 => ⟨S1x4096x1024, .f32⟩
  | 48 => ⟨S1x4096x1024, .f32⟩
  | 49 => ⟨S_, .f32⟩
  | 50 => ⟨S1x4096x1024, .f32⟩
  | 51 => ⟨S1x4096x1024, .f32⟩
  | 52 => ⟨S1x4096x1024, .f32⟩
  | 53 => ⟨S_, .f32⟩
  | 54 => ⟨S1x4096x1024, .f32⟩
  | 55 => ⟨S1x4096x1024, .f32⟩
  | 56 => ⟨S_, .f32⟩
  | 57 => ⟨S1x4096x1024, .f32⟩
  | 58 => ⟨S1x4096x1024, .f32⟩
  | 59 => ⟨S1x4096x1024, .f32⟩
  | 60 => ⟨S_, .f32⟩
  | 61 => ⟨S1x4096x1024, .f32⟩
  | 62 => ⟨S1x4096x1024, .f32⟩
  | 63 => ⟨S_, .f32⟩
  | 64 => ⟨S1x4096x1024, .f32⟩
  | 65 => ⟨S1x4096x1024, .f32⟩
  | 66 => ⟨S1x4096x1024, .f32⟩
  | 67 => ⟨S1x4096x4x256, .f32⟩
  | 68 => ⟨S_, .f32⟩
  | 69 => ⟨S1x4096x4, .f32⟩
  | 70 => ⟨S1x4096x4x1, .f32⟩
  | 71 => ⟨S_, .f32⟩
  | 72 => ⟨S1x4096x4x1, .f32⟩
  | 73 => ⟨S1x4096x4x1, .f32⟩
  | 74 => ⟨S1x4096x4x256, .f32⟩
  | 75 => ⟨S1x4096x4x256, .f32⟩
  | 76 => ⟨S1x4096x4x256, .f32⟩
  | 77 => ⟨S_, .f32⟩
  | 78 => ⟨S1x4096x4x256, .f32⟩
  | 79 => ⟨S1x4096x4x256, .f32⟩
  | 80 => ⟨S_, .f32⟩
  | 81 => ⟨S1x4096x4, .f32⟩
  | 82 => ⟨S1x4096x4x1, .f32⟩
  | 83 => ⟨S_, .f32⟩
  | 84 => ⟨S1x4096x4x1, .f32⟩
  | 85 => ⟨S1x4096x4x1, .f32⟩
  | 86 => ⟨S1x4096x4x256, .f32⟩
  | 87 => ⟨S1x4096x4x256, .f32⟩
  | 88 => ⟨S_, .f32⟩
  | 89 => ⟨S1x4096x4x1, .f32⟩
  | 90 => ⟨S1x4096x4x1, .f32⟩
  | 91 => ⟨S1x4096x4x1, .f32⟩
  | 92 => ⟨S1x4096x4x1, .f32⟩
  | 93 => ⟨S_, .f32⟩
  | 94 => ⟨S1x4096x4x1, .f32⟩
  | 95 => ⟨S1x4096x4x1, .f32⟩
  | 96 => ⟨S1x4096x4x256, .f32⟩
  | 97 => ⟨S1x4096x4x256, .f32⟩
  | 98 => ⟨S1x1x4x256, .f32⟩
  | 99 => ⟨S1x4096x4x256, .f32⟩
  | 100 => ⟨S1x4096x4x256, .f32⟩
  | 101 => ⟨S1x1x4x256, .f32⟩
  | 102 => ⟨S1x4096x4x256, .f32⟩
  | 103 => ⟨S1x4096x4x256, .f32⟩
  | 104 => ⟨S1x32x128x4x256, .f32⟩
  | 105 => ⟨S128, .i32⟩
  | 106 => ⟨S1x128, .i32⟩
  | 107 => ⟨S_, .i32⟩
  | 108 => ⟨S_, .i32⟩
  | 109 => ⟨S1x128, .i32⟩
  | 110 => ⟨S1x128, .i32⟩
  | 111 => ⟨S1x128, .i32⟩
  | 112 => ⟨S_, .i32⟩
  | 113 => ⟨S1x128, .i32⟩
  | 114 => ⟨S1x128, .i1⟩
  | 115 => ⟨S1x128, .i32⟩
  | 116 => ⟨S1x128, .i32⟩
  | 117 => ⟨S_, .i32⟩
  | 118 => ⟨S1x128, .i32⟩
  | 119 => ⟨S1x128, .i1⟩
  | 120 => ⟨S1x128, .i1⟩
  | 121 => ⟨S_, .i32⟩
  | 122 => ⟨S1x128, .i32⟩
  | 123 => ⟨S1x128, .i32⟩
  | 124 => ⟨S1x128, .i32⟩
  | 125 => ⟨S128x1, .i32⟩
  | 126 => ⟨S_, .i32⟩
  | 127 => ⟨S_, .i32⟩
  | _ => ⟨S4096x2048, .bf16⟩

abbrev hbmTy0_1 (i : Nat) : BufTy := match i % 128 with
  | 0 => ⟨S128x1, .i32⟩
  | 1 => ⟨S128x1, .i32⟩
  | 2 => ⟨S128x1, .i32⟩
  | 3 => ⟨S_, .i32⟩
  | 4 => ⟨S128x1, .i32⟩
  | 5 => ⟨S128x1, .i1⟩
  | 6 => ⟨S128x1, .i32⟩
  | 7 => ⟨S128x1, .i32⟩
  | 8 => ⟨S_, .i32⟩
  | 9 => ⟨S128x1, .i32⟩
  | 10 => ⟨S128x1, .i1⟩
  | 11 => ⟨S128x1, .i1⟩
  | 12 => ⟨S_, .i32⟩
  | 13 => ⟨S128x1, .i32⟩
  | 14 => ⟨S128x1, .i32⟩
  | 15 => ⟨S128x1, .i32⟩
  | 16 => ⟨S128x128, .i32⟩
  | 17 => ⟨S128x128, .i32⟩
  | 18 => ⟨S128x128, .i1⟩
  | 19 => ⟨S1x128x128, .i1⟩
  | 20 => ⟨S_, .f32⟩
  | 21 => ⟨S_, .f32⟩
  | 22 => ⟨S4x128x128, .i1⟩
  | 23 => ⟨S4x128x128, .f32⟩
  | 24 => ⟨S4x128x128, .f32⟩
  | 25 => ⟨S_, .f32⟩
  | 26 => ⟨S4x128x128, .f32⟩
  | 27 => ⟨S4x1x32x256x128, .f32⟩
  | 28 => ⟨S1x32x128x4x256, .f32⟩
  | 29 => ⟨S128x4, .f32⟩
  | 30 => ⟨S128x4x1, .f32⟩
  | 31 => ⟨S1x1x128x4x1, .f32⟩
  | 32 => ⟨S1x32x128x4x256, .f32⟩
  | 33 => ⟨S1x32x128x4x256, .f32⟩
  | 34 => ⟨S1x4096x1024, .f32⟩
  | 35 => ⟨S1x4096x1024, .f32⟩
  | 36 => ⟨S4096x1024, .f32⟩
  | 37 => ⟨S4096x1024, .f32⟩
  | 38 => ⟨S1x4096x1024, .f32⟩
  | 39 => ⟨S1x4096x1024, .f32⟩
  | 40 => ⟨S1x4096x1024, .f32⟩
  | 41 => ⟨S1x32x128x4x256, .f32⟩
  | 42 => ⟨S_, .f32⟩
  | 43 => ⟨S1x128x4, .f32⟩
  | 44 => ⟨S1x1x128x4x1, .f32⟩
  | 45 => ⟨S_, .f32⟩
  | 46 => ⟨S128x4, .f32⟩
  | 47 => ⟨S128x4x1, .f32⟩
  | 48 => ⟨S_, .f32⟩
  | 49 => ⟨S128x4, .f32⟩
  | 50 => ⟨S4x128, .f32⟩
  | 51 => ⟨S4x1x32x256x128, .f32⟩
  | 52 => ⟨S4x128x128, .f32⟩
  | 53 => ⟨S4x1x32x256x128, .f32⟩
  | 54 => ⟨S1x32x128x4x256, .f32⟩
  | 55 => ⟨S_, .f32⟩
  | 56 => ⟨S4x128x128, .f32⟩
  | 57 => ⟨S4x128x128, .f32⟩
  | 58 => ⟨S1x4096x4x256, .f32⟩
  | 59 => ⟨S_, .f32⟩
  | 60 => ⟨S1x4x256, .f32⟩
  | 61 => ⟨S1x1x4x256, .f32⟩
  | 62 => ⟨S_, .f32⟩
  | 63 => ⟨S4x256, .f32⟩
  | 64 => ⟨S1x4096x4x256, .f32⟩
  | 65 => ⟨S_, .f32⟩
  | 66 => ⟨S1x4x256, .f32⟩
  | 67 => ⟨S1x1x4x256, .f32⟩
  | 68 => ⟨S1x4096x4x256, .f32⟩
  | 69 => ⟨S1x4096x4x256, .f32⟩
  | 70 => ⟨S_, .f32⟩
  | 71 => ⟨S4x256, .f32⟩
  | 72 => ⟨S1x4096x4x256, .f32⟩
  | 73 => ⟨S_, .f32⟩
  | 74 => ⟨S1x4096x4, .f32⟩
  | 75 => ⟨S1x4096x4x1, .f32⟩
  | 76 => ⟨S1x4096x4x256, .f32⟩
  | 77 => ⟨S1x4096x4x256, .f32⟩
  | 78 => ⟨S1x4096x4x1, .f32⟩
  | 79 => ⟨S1x4096x4x256, .f32⟩
  | 80 => ⟨S_, .f32⟩
  | 81 => ⟨S1x4096x4, .f32⟩
  | 82 => ⟨S1x4096x4x1, .f32⟩
  | 83 => ⟨S_, .f32⟩
  | 84 => ⟨S1x4096x4x1, .f32⟩
  | 85 => ⟨S1x4096x4x1, .f32⟩
  | 86 => ⟨S_, .f32⟩
  | 87 => ⟨S4096x4, .f32⟩
  | 88 => ⟨S1x4096x4, .f32⟩
  | 89 => ⟨S1x4096x4x256, .f32⟩
  | 90 => ⟨S1x4096x4x256, .f32⟩
  | 91 => ⟨S1x4096x4x256, .f32⟩
  | 92 => ⟨S_, .f32⟩
  | 93 => ⟨S1x4096x4, .f32⟩
  | 94 => ⟨S1x4096x4x1, .f32⟩
  | 95 => ⟨S1x4096x4x256, .f32⟩
  | 96 => ⟨S1x4096x4x1, .f32⟩
  | 97 => ⟨S_, .f32⟩
  | 98 => ⟨S1x4096x4x1, .f32⟩
  | 99 => ⟨S1x4096x4x1, .f32⟩
  | 100 => ⟨S_, .f32⟩
  | 101 => ⟨S4096x4, .f32⟩
  | 102 => ⟨S1x4096x4, .f32⟩
  | 103 => ⟨S1x4096x4x256, .f32⟩
  | 104 => ⟨S1x4096x4x256, .f32⟩
  | 105 => ⟨S1x4096x1024, .f32⟩
  | 106 => ⟨S1x4096x1024, .f32⟩
  | 107 => ⟨S1x4096x1024, .f32⟩
  | 108 => ⟨S_, .f32⟩
  | 109 => ⟨S1x4096x1024, .f32⟩
  | 110 => ⟨S1x4096x1024, .f32⟩
  | 111 => ⟨S1x4096x1024, .f32⟩
  | 112 => ⟨S_, .f32⟩
  | 113 => ⟨S1x4096x1024, .f32⟩
  | 114 => ⟨S1x4096x1024, .f32⟩
  | 115 => ⟨S1x4096x1024, .f32⟩
  | 116 => ⟨S_, .f32⟩
  | 117 => ⟨S1x4096x1024, .f32⟩
  | 118 => ⟨S1x4096x1024, .f32⟩
  | 119 => ⟨S1x4096x1024, .f32⟩
  | 120 => ⟨S1x4096x1024, .f32⟩
  | 121 => ⟨S1x4096x1024, .f32⟩
  | 122 => ⟨S1x4096x1024, .f32⟩
  | 123 => ⟨S_, .f32⟩
  | 124 => ⟨S1x4096x1024, .f32⟩
  | 125 => ⟨S1x4096x1024, .f32⟩
  | 126 => ⟨S1x4096x1024, .f32⟩
  | 127 => ⟨S_, .f32⟩
  | _ => ⟨S4096x2048, .bf16⟩

abbrev hbmTy0_2 (i : Nat) : BufTy := match i % 128 with
  | 0 => ⟨S1x4096x1024, .f32⟩
  | 1 => ⟨S1x4096x1024, .f32⟩
  | 2 => ⟨S1x4096x1024, .f32⟩
  | 3 => ⟨S_, .f32⟩
  | 4 => ⟨S1x4096x1024, .f32⟩
  | 5 => ⟨S1x4096x1024, .f32⟩
  | 6 => ⟨S1x4096x1024, .f32⟩
  | 7 => ⟨S1x4096x1024, .f32⟩
  | 8 => ⟨S_, .f32⟩
  | 9 => ⟨S4096x1024, .f32⟩
  | 10 => ⟨S_, .f32⟩
  | 11 => ⟨S4096x1024, .f32⟩
  | 12 => ⟨S4096x2048, .f32⟩
  | 13 => ⟨S4096x2048, .bf16⟩
  | 14 => ⟨S4x1x256, .f32⟩
  | 15 => ⟨S4x1x256, .f32⟩
  | 16 => ⟨S4x128x1, .f32⟩
  | _ => ⟨S4096x2048, .bf16⟩

abbrev hbmTy (i : Nat) : BufTy := match i / 128 with
  | 0 => hbmTy0_0 i
  | 1 => hbmTy0_1 i
  | 2 => hbmTy0_2 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_19 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_v5 : Ref sig .tc := ⟨.hbm, 113, rfl⟩
abbrev main_call0_v6 : Ref sig .tc := ⟨.hbm, 114, rfl⟩
abbrev main_call0_v7 : Ref sig .tc := ⟨.hbm, 115, rfl⟩
abbrev main_call0_v8 : Ref sig .tc := ⟨.hbm, 116, rfl⟩
abbrev main_call0_c : Ref sig .tc := ⟨.hbm, 117, rfl⟩
abbrev main_call0_v9 : Ref sig .tc := ⟨.hbm, 118, rfl⟩
abbrev main_call0_v10 : Ref sig .tc := ⟨.hbm, 119, rfl⟩
abbrev main_call0_v11 : Ref sig .tc := ⟨.hbm, 120, rfl⟩
abbrev main_call0_c_0 : Ref sig .tc := ⟨.hbm, 121, rfl⟩
abbrev main_call0_v12 : Ref sig .tc := ⟨.hbm, 122, rfl⟩
abbrev main_call0_v13 : Ref sig .tc := ⟨.hbm, 123, rfl⟩
abbrev main_v80 : Ref sig .tc := ⟨.hbm, 124, rfl⟩
abbrev main_v81 : Ref sig .tc := ⟨.hbm, 125, rfl⟩
abbrev main_c_20 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_v7 : Ref sig .tc := ⟨.hbm, 134, rfl⟩
abbrev main_call1_v8 : Ref sig .tc := ⟨.hbm, 135, rfl⟩
abbrev main_call1_c : Ref sig .tc := ⟨.hbm, 136, rfl⟩
abbrev main_call1_v9 : Ref sig .tc := ⟨.hbm, 137, rfl⟩
abbrev main_call1_v10 : Ref sig .tc := ⟨.hbm, 138, rfl⟩
abbrev main_call1_v11 : Ref sig .tc := ⟨.hbm, 139, rfl⟩
abbrev main_call1_c_0 : Ref sig .tc := ⟨.hbm, 140, rfl⟩
abbrev main_call1_v12 : Ref sig .tc := ⟨.hbm, 141, rfl⟩
abbrev main_call1_v13 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_cst_21 : Ref sig .tc := ⟨.hbm, 148, rfl⟩
abbrev main_call2_v0 : Ref sig .tc := ⟨.hbm, 149, rfl⟩
abbrev main_v87_1 : Ref sig .tc := ⟨.hbm, 150, rfl⟩
abbrev main_call2_v2 : Ref sig .tc := ⟨.hbm, 151, rfl⟩
abbrev main_v87_0 : Ref sig .tc := ⟨.hbm, 152, rfl⟩
abbrev main_call2_cst : Ref sig .tc := ⟨.hbm, 153, rfl⟩
abbrev main_v87_2 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_22 : Ref sig .tc := ⟨.hbm, 170, rfl⟩
abbrev main_v103 : Ref sig .tc := ⟨.hbm, 171, rfl⟩
abbrev main_v104 : Ref sig .tc := ⟨.hbm, 172, rfl⟩
abbrev main_cst_23 : Ref sig .tc := ⟨.hbm, 173, rfl⟩
abbrev main_v105 : Ref sig .tc := ⟨.hbm, 174, rfl⟩
abbrev main_v106 : Ref sig .tc := ⟨.hbm, 175, rfl⟩
abbrev main_cst_24 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_call3_cst : Ref sig .tc := ⟨.hbm, 183, rfl⟩
abbrev main_call3_v0 : Ref sig .tc := ⟨.hbm, 184, rfl⟩
abbrev main_v113 : Ref sig .tc := ⟨.hbm, 185, rfl⟩
abbrev main_v114 : Ref sig .tc := ⟨.hbm, 186, rfl⟩
abbrev main_cst_25 : Ref sig .tc := ⟨.hbm, 187, rfl⟩
abbrev main_v115 : Ref sig .tc := ⟨.hbm, 188, rfl⟩
abbrev main_v116 : Ref sig .tc := ⟨.hbm, 189, rfl⟩
abbrev main_cst_26 : Ref sig .tc := ⟨.hbm, 190, rfl⟩
abbrev main_v117 : Ref sig .tc := ⟨.hbm, 191, rfl⟩
abbrev main_v118 : Ref sig .tc := ⟨.hbm, 192, rfl⟩
abbrev main_cst_27 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_28 : Ref sig .tc := ⟨.hbm, 198, rfl⟩
abbrev main_v123 : Ref sig .tc := ⟨.hbm, 199, rfl⟩
abbrev main_v124 : Ref sig .tc := ⟨.hbm, 200, rfl⟩
abbrev main_cst_29 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_30 : Ref sig .tc := ⟨.hbm, 208, rfl⟩
abbrev main_v131 : Ref sig .tc := ⟨.hbm, 209, rfl⟩
abbrev main_v132 : Ref sig .tc := ⟨.hbm, 210, rfl⟩
abbrev main_cst_31 : Ref sig .tc := ⟨.hbm, 211, rfl⟩
abbrev main_v133 : Ref sig .tc := ⟨.hbm, 212, rfl⟩
abbrev main_v134 : Ref sig .tc := ⟨.hbm, 213, rfl⟩
abbrev main_cst_32 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_cst_33 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_cst_34 : Ref sig .tc := ⟨.hbm, 225, rfl⟩
abbrev main_v144 : Ref sig .tc := ⟨.hbm, 226, rfl⟩
abbrev main_v145 : Ref sig .tc := ⟨.hbm, 227, rfl⟩
abbrev main_cst_35 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_cst_36 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_cst_37 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_cst_38 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_cst_39 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_cst_40 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_cst_41 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_cst_42 : Ref sig .tc := ⟨.hbm, 264, rfl⟩
abbrev main_v175 : Ref sig .tc := ⟨.hbm, 265, rfl⟩
abbrev main_cst_43 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩

abbrev nD : Nat := 1
abbrev τ : Topo := Topo.v7x

variable {F : FTy → Type} [FloatOps F]
-- ==== Kernel2.lean ====
abbrev S4096x3072 : Shape := ⟨2, ![4096, 3072]⟩
abbrev S4096x16 : Shape := ⟨2, ![4096, 16]⟩
abbrev S4096x2048 : Shape := ⟨2, ![4096, 2048]⟩
abbrev S1024x7184 : Shape := ⟨2, ![1024, 7184]⟩
abbrev S4096x1024 : Shape := ⟨2, ![4096, 1024]⟩
abbrev S1024 : Shape := ⟨1, ![1024]⟩
abbrev S_ : Shape := ⟨0, ![]⟩
abbrev S4096x128 : Shape := ⟨2, ![4096, 128]⟩
abbrev S7184x1024 : Shape := ⟨2, ![7184, 1024]⟩
abbrev S1x1024 : Shape := ⟨2, ![1, 1024]⟩
abbrev S512x3072 : Shape := ⟨2, ![512, 3072]⟩
abbrev S512x128 : Shape := ⟨2, ![512, 128]⟩
abbrev S512x2048 : Shape := ⟨2, ![512, 2048]⟩
abbrev S512x1024 : Shape := ⟨2, ![512, 1024]⟩
abbrev S3072x1024 : Shape := ⟨2, ![3072, 1024]⟩
abbrev S128x1024 : Shape := ⟨2, ![128, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S4096x3072, .bf16⟩
  | .hbm, ⟨1, _⟩ => ⟨S4096x16, .bf16⟩
  | .hbm, ⟨2, _⟩ => ⟨S4096x2048, .bf16⟩
  | .hbm, ⟨3, _⟩ => ⟨S4096x2048, .bf16⟩
  | .hbm, ⟨4, _⟩ => ⟨S1024x7184, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S_, .i32⟩
  | .hbm, ⟨9, _⟩ => ⟨S_, .bf16⟩
  | .hbm, ⟨10, _⟩ => ⟨S4096x128, .bf16⟩
  | .hbm, ⟨11, _⟩ => ⟨S7184x1024, .f32⟩
  | .hbm, ⟨12, _⟩ => ⟨S7184x1024, .bf16⟩
  | .hbm, ⟨13, _⟩ => ⟨S1x1024, .f32⟩
  | .hbm, ⟨14, _⟩ => ⟨S4096x1024, .f32⟩
  | .hbm, ⟨15, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x128, .bf16⟩
  | .local _ .vmem, ⟨3, _⟩ => ⟨S512x128, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S7184x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_29 : BitVec 32 := 0#32
  let v55 : BitVec 1 := Scalar.cmpi .ne v54 c0_i32_29
  v55

def k0_cond2 (i : grid0.Coords) : BitVec 1 :=
  let arg0 : BitVec 32 := BitVec.ofNat 32 (i 0).val
  let c0_i32_30 : BitVec 32 := 0#32
  let v56 : BitVec 1 := Scalar.cmpi .sgt arg0 c0_i32_30
  let v57 : BitVec 32 := Scalar.extui v56
  let c0_i32_31 : BitVec 32 := 0#32
  let v58 : BitVec 1 := Scalar.cmpi .ne v57 c0_i32_31
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S7184x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x3072 : Shape := ⟨2, ![4096, 3072]⟩
abbrev S4096x16 : Shape := ⟨2, ![4096, 16]⟩
abbrev S4096x2048 : Shape := ⟨2, ![4096, 2048]⟩
abbrev S1024x7184 : Shape := ⟨2, ![1024, 7184]⟩
abbrev S4096x1024 : Shape := ⟨2, ![4096, 1024]⟩
abbrev S1024 : Shape := ⟨1, ![1024]⟩
abbrev S4096x7184 : Shape := ⟨2, ![4096, 7184]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x16, .bf16⟩
  | .hbm, ⟨2, _⟩ => ⟨S4096x2048, .bf16⟩
  | .hbm, ⟨3, _⟩ => ⟨S4096x2048, .bf16⟩
  | .hbm, ⟨4, _⟩ => ⟨S1024x7184, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x3072, .f32⟩
  | .hbm, ⟨9, _⟩ => ⟨S4096x16, .f32⟩
  | .hbm, ⟨10, _⟩ => ⟨S4096x2048, .f32⟩
  | .hbm, ⟨11, _⟩ => ⟨S4096x2048, .f32⟩
  | .hbm, ⟨12, _⟩ => ⟨S4096x7184, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x7184, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Kernel3.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩
abbrev S512x5632 : Shape := ⟨2, ![512, 5632]⟩
abbrev S512x1024 : Shape := ⟨2, ![512, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩

abbrev nBuf : Space → Nat
  | .hbm => 32
  | .vmem => 17
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S5632x1024, .f32⟩
  | .hbm, ⟨25, _⟩ => ⟨S5632x1024, .bf16⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .bf16⟩
  | .hbm, ⟨30, _⟩ => ⟨S1x1024, .f32⟩
  | .hbm, ⟨31, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v146 : BitVec 1 := Scalar.cmpi .eq arg0 c0_i32
  let v147 : BitVec 32 := Scalar.extui v146
  let c0_i32_61 : BitVec 32 := 0#32
  let v148 : BitVec 1 := Scalar.cmpi .ne v147 c0_i32_61
  v148

def k0_cond2 (i : grid0.Coords) : BitVec 1 :=
  let arg0 : BitVec 32 := BitVec.ofNat 32 (i 0).val
  let c0_i32_62 : BitVec 32 := 0#32
  let v149 : BitVec 1 := Scalar.cmpi .sgt arg0 c0_i32_62
  let v150 : BitVec 32 := Scalar.extui v149
  let c0_i32_63 : BitVec 32 := 0#32
  let v151 : BitVec 1 := Scalar.cmpi .ne v150 c0_i32_63
  v151

def k0_cond3 (i : grid0.Coords) : BitVec 1 :=
  let arg0 : BitVec 32 := BitVec.ofNat 32 (i 0).val
  let c0_i32_64 : BitVec 32 := 0#32
  let v152 : BitVec 1 := Scalar.cmpi .eq arg0 c0_i32_64
  let v153 : BitVec 32 := Scalar.extui v152
  let c0_i32_65 : BitVec 32 := 0#32
  let v154 : BitVec 1 := Scalar.cmpi .ne v153 c0_i32_65
  v154

def k0_cond4 (i : grid0.Coords) : BitVec 1 :=
  let arg0 : BitVec 32 := BitVec.ofNat 32 (i 0).val
  let c0_i32_66 : BitVec 32 := 0#32
  let v155 : BitVec 1 := Scalar.cmpi .sgt arg0 c0_i32_66
  let v156 : BitVec 32 := Scalar.extui v155
  let c0_i32_67 : BitVec 32 := 0#32
  let v157 : BitVec 1 := Scalar.cmpi .ne v156 c0_i32_67
  v157

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x5632, .f32⟩
  | .hbm, ⟨49, _⟩ => ⟨S4096x5632, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .bf16⟩
  | .hbm, ⟨104, _⟩ => ⟨S1x1024, .f32⟩
  | .hbm, ⟨105, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_cst_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S5632x1024 : Shape := ⟨2, ![5632, 1024]⟩
abbrev S512x1024 : Shape := ⟨2, ![512, 1024]⟩
abbrev S512x2816 : Shape := ⟨2, ![512, 2816]⟩
abbrev S2816x1024 : Shape := ⟨2, ![2816, 1024]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S5632x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x5632 : Shape := ⟨2, ![4096, 5632]⟩
abbrev S512x1024 : Shape := ⟨2, ![512, 1024]⟩
abbrev S512x5632 : Shape := ⟨2, ![512, 5632]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S4096x5632, .bf16⟩
  | .hbm, ⟨3, _⟩ => ⟨S2816x1024, .bf16⟩
  | .hbm, ⟨4, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .f32⟩
  | .hbm, ⟨2, _⟩ => ⟨S4096x5632, .bf16⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Kernel6.lean ====
abbrev S4096x1024 : Shape := ⟨2, ![4096, 1024]⟩
abbrev S4096x2048 : Shape := ⟨2, ![4096, 2048]⟩
abbrev S1024x1024 : Shape := ⟨2, ![1024, 1024]⟩
abbrev S512x1024 : Shape := ⟨2, ![512, 1024]⟩
abbrev S512x2048 : Shape := ⟨2, ![512, 2048]⟩
abbrev S256x1024 : Shape := ⟨2, ![256, 1024]⟩

abbrev nBuf : Space → Nat
  | .hbm => 21
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x2048, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S4096x1024, .bf16⟩
  | .hbm, ⟨17, _⟩ => ⟨S4096x1024, .bf16⟩
  | .hbm, ⟨18, _⟩ => ⟨S4096x2048, .bf16⟩
  | .hbm, ⟨19, _⟩ => ⟨S4096x1024, .bf16⟩
  | .hbm, ⟨20, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x2048, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x2048, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4096x1024, .bf16⟩
  | .hbm, ⟨55, _⟩ => ⟨S4096x2048, .bf16⟩
  | .hbm, ⟨56, _⟩ => ⟨S4096x1024, .bf16⟩
  | .hbm, ⟨57, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x1024 : Shape := ⟨2, ![2816, 1024]⟩
abbrev S512x2816 : Shape := ⟨2, ![512, 2816]⟩
abbrev S512x1024 : Shape := ⟨2, ![512, 1024]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference7Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_26 : BitVec 32 := 0#32
  let v29 : BitVec 1 := Scalar.cmpi .ne v28 c0_i32_26
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S_, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S_, .f32⟩
  | .hbm, ⟨15, _⟩ => ⟨S1024x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S_, .f32⟩
  | .hbm, ⟨23, _⟩ => ⟨S1024x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x1024, .f32⟩
  | .hbm, ⟨28, _⟩ => ⟨S1024x1024, .f32⟩
  | .hbm, ⟨29, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel9.lean ====
abbrev S4096x1024 : Shape := ⟨2, ![4096, 1024]⟩
abbrev S4096x2048 : Shape := ⟨2, ![4096, 2048]⟩
abbrev S2048x1024 : Shape := ⟨2, ![2048, 1024]⟩
abbrev S512x1024 : Shape := ⟨2, ![512, 1024]⟩
abbrev S512x2048 : Shape := ⟨2, ![512, 2048]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x2048, .bf16⟩
  | .hbm, ⟨3, _⟩ => ⟨S2048x1024, .bf16⟩
  | .hbm, ⟨4, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | .local _ .vmem, ⟨9, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v33 : BitVec 1 := Scalar.cmpi .eq arg0 c7_i32
  let v34 : BitVec 32 := Scalar.extui v33
  let c0_i32_30 : BitVec 32 := 0#32
  let v35 : BitVec 1 := Scalar.cmpi .ne v34 c0_i32_30
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference9Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x2048, .bf16⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | .hbm, ⟨12, _⟩ => ⟨S_, .f32⟩
  | .hbm, ⟨13, _⟩ => ⟨S1024x2048, .f32⟩
  | .hbm, ⟨14, _⟩ => ⟨S4096x1024, .f32⟩
  | .hbm, ⟨15, _⟩ => ⟨S4096x2048, .f32⟩
  | .hbm, ⟨16, _⟩ => ⟨S4096x2048, .f32⟩
  | .hbm, ⟨17, _⟩ => ⟨S2048x1024, .f32⟩
  | .hbm, ⟨18, _⟩ => ⟨S1024x2048, .f32⟩
  | .hbm, ⟨19, _⟩ => ⟨S2048x1024, .f32⟩
  | .hbm, ⟨20, _⟩ => ⟨S2048x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S1x1 : Shape := ⟨2, ![1, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 11
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x128, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v122 : BitVec 1 := Scalar.cmpi .eq arg0 c0_i32
  let v123 : BitVec 32 := Scalar.extui v122
  let c0_i32_55 : BitVec 32 := 0#32
  let v124 : BitVec 1 := Scalar.cmpi .ne v123 c0_i32_55
  v124

def k0_cond2 (i : grid0.Coords) : BitVec 1 :=
  let arg0 : BitVec 32 := BitVec.ofNat 32 (i 0).val
  let c0_i32_56 : BitVec 32 := 0#32
  let v125 : BitVec 1 := Scalar.cmpi .sgt arg0 c0_i32_56
  let v126 : BitVec 32 := Scalar.extui v125
  let c0_i32_57 : BitVec 32 := 0#32
  let v127 : BitVec 1 := Scalar.cmpi .ne v126 c0_i32_57
  v127

def k0_cond3 (i : grid0.Coords) : BitVec 1 :=
  let arg0 : BitVec 32 := BitVec.ofNat 32 (i 0).val
  let c0_i32_58 : BitVec 32 := 0#32
  let v128 : BitVec 1 := Scalar.cmpi .eq arg0 c0_i32_58
  let v129 : BitVec 32 := Scalar.extui v128
  let c0_i32_59 : BitVec 32 := 0#32
  let v130 : BitVec 1 := Scalar.cmpi .ne v129 c0_i32_59
  v130

def k0_cond4 (i : grid0.Coords) : BitVec 1 :=
  let arg0 : BitVec 32 := BitVec.ofNat 32 (i 0).val
  let c0_i32_60 : BitVec 32 := 0#32
  let v131 : BitVec 1 := Scalar.cmpi .sgt arg0 c0_i32_60
  let v132 : BitVec 32 := Scalar.extui v131
  let c0_i32_61 : BitVec 32 := 0#32
  let v133 : BitVec 1 := Scalar.cmpi .ne v132 c0_i32_61
  v133

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x128, .f32⟩
  | .hbm, ⟨77, _⟩ => ⟨S4096x1024, .bf16⟩
  | .hbm, ⟨78, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel11.lean ====
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S4096x5632, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S5632x1024, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x5632, .bf16⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel12.lean ====
abbrev S4096x1024 : Shape := ⟨2, ![4096, 1024]⟩
abbrev S4096x2048 : Shape := ⟨2, ![4096, 2048]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩

abbrev nBuf : Space → Nat
  | .hbm => 20
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .f32⟩
  | .hbm, ⟨18, _⟩ => ⟨S4096x1024, .f32⟩
  | .hbm, ⟨19, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference12Ideal.lean ====
abbrev S4096x1024 : Shape := ⟨2, ![4096, 1024]⟩
abbrev S4096x2048 : Shape := ⟨2, ![4096, 2048]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .bf16⟩
  | .hbm, ⟨70, _⟩ => ⟨S4096x1024, .bf16⟩
  | .hbm, ⟨71, _⟩ => ⟨S4096x1024, .bf16⟩
  | .hbm, ⟨72, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel13.lean ====
abbrev S4096x1024 : Shape := ⟨2, ![4096, 1024]⟩
abbrev S4096x3072 : Shape := ⟨2, ![4096, 3072]⟩
abbrev S4096x128 : Shape := ⟨2, ![4096, 128]⟩
abbrev S2048x1024 : Shape := ⟨2, ![2048, 1024]⟩
abbrev S4x898x1024 : Shape := ⟨3, ![4, 898, 1024]⟩
abbrev S512x1024 : Shape := ⟨2, ![512, 1024]⟩
abbrev S512x3072 : Shape := ⟨2, ![512, 3072]⟩
abbrev S512x128 : Shape := ⟨2, ![512, 128]⟩
abbrev S3072x1024 : Shape := ⟨2, ![3072, 1024]⟩
abbrev S128x1024 : Shape := ⟨2, ![128, 1024]⟩
abbrev S1024x1024 : Shape := ⟨2, ![1024, 1024]⟩
abbrev S898x1024 : Shape := ⟨2, ![898, 1024]⟩
abbrev S1x898x1024 : Shape := ⟨3, ![1, 898, 1024]⟩
abbrev S378x1024 : Shape := ⟨2, ![378, 1024]⟩
abbrev S1x378x1024 : Shape := ⟨3, ![1, 378, 1024]⟩
abbrev S16x1024 : Shape := ⟨2, ![16, 1024]⟩
abbrev S1x16x1024 : Shape := ⟨3, ![1, 16, 1024]⟩
abbrev S504x1024 : Shape := ⟨2, ![504, 1024]⟩
abbrev S1x504x1024 : Shape := ⟨3, ![1, 504, 1024]⟩
abbrev S646x1024 : Shape := ⟨2, ![646, 1024]⟩
abbrev S1x646x1024 : Shape := ⟨3, ![1, 646, 1024]⟩
abbrev S252x1024 : Shape := ⟨2, ![252, 1024]⟩
abbrev S1x252x1024 : Shape := ⟨3, ![1, 252, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x128, .bf16⟩
  | .hbm, ⟨3, _⟩ => ⟨S2048x1024, .bf16⟩
  | .hbm, ⟨4, _⟩ => ⟨S2048x1024, .bf16⟩
  | .hbm, ⟨5, _⟩ => ⟨S4x898x1024, .bf16⟩
  | .hbm, ⟨6, _⟩ => ⟨S4x898x1024, .bf16⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S512x128, .bf16⟩
  | .local _ .vmem, ⟨5, _⟩ => ⟨S512x128, .bf16⟩
  | .local _ .vmem, ⟨6, _⟩ => ⟨S2048x1024, .bf16⟩
  | .local _ .vmem, ⟨7, _⟩ => ⟨S2048x1024, .bf16⟩
  | .local _ .vmem, ⟨8, _⟩ => ⟨S4x898x1024, .bf16⟩
  | .local _ .vmem, ⟨9, _⟩ => ⟨S4x898x1024, .bf16⟩
  | .local _ .vmem, ⟨10, _⟩ => ⟨S3072x1024, .f32⟩
  | .local _ .vmem, ⟨11, _⟩ => ⟨S128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_27 : BitVec 32 := 0#32
  let v34 : BitVec 1 := Scalar.cmpi .ne v33 c0_i32_27
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x898x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x898x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S4096x1024 : Shape := ⟨2, ![4096, 1024]⟩
abbrev S4096x3072 : Shape := ⟨2, ![4096, 3072]⟩
abbrev S4096x128 : Shape := ⟨2, ![4096, 128]⟩
abbrev S2048x1024 : Shape := ⟨2, ![2048, 1024]⟩
abbrev S_ : Shape := ⟨0, ![]⟩
abbrev S1024x3072 : Shape := ⟨2, ![1024, 3072]⟩
abbrev S3072x1024 : Shape := ⟨2, ![3072, 1024]⟩
abbrev S4096x16 : Shape := ⟨2, ![4096, 16]⟩
abbrev S1024x16 : Shape := ⟨2, ![1024, 16]⟩
abbrev S16x1024 : Shape := ⟨2, ![16, 1024]⟩
abbrev S7184x1024 : Shape := ⟨2, ![7184, 1024]⟩
abbrev S8x898x1024 : Shape := ⟨3, ![8, 898, 1024]⟩
abbrev S4x898x1024 : Shape := ⟨3, ![4, 898, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x128, .bf16⟩
  | .hbm, ⟨3, _⟩ => ⟨S2048x1024, .bf16⟩
  | .hbm, ⟨4, _⟩ => ⟨S2048x1024, .bf16⟩
  | .hbm, ⟨5, _⟩ => ⟨S_, .f32⟩
  | .hbm, ⟨6, _⟩ => ⟨S1024x3072, .f32⟩
  | .hbm, ⟨7, _⟩ => ⟨S4096x1024, .f32⟩
  | .hbm, ⟨8, _⟩ => ⟨S4096x3072, .f32⟩
  | .hbm, ⟨9, _⟩ => ⟨S4096x3072, .f32⟩
  | .hbm, ⟨10, _⟩ => ⟨S3072x1024, .f32⟩
  | .hbm, ⟨11, _⟩ => ⟨S1024x3072, .f32⟩
  | .hbm, ⟨12, _⟩ => ⟨S3072x1024, .f32⟩
  | .hbm, ⟨13, _⟩ => ⟨S3072x1024, .bf16⟩
  | .hbm, ⟨14, _⟩ => ⟨S4096x16, .bf16⟩
  | .hbm, ⟨15, _⟩ => ⟨S_, .f32⟩
  | .hbm, ⟨16, _⟩ => ⟨S1024x16, .f32⟩
  | .hbm, ⟨17, _⟩ => ⟨S4096x1024, .f32⟩
  | .hbm, ⟨18, _⟩ => ⟨S4096x16, .f32⟩
  | .hbm, ⟨19, _⟩ => ⟨S4096x16, .f32⟩
  | .hbm, ⟨20, _⟩ => ⟨S16x1024, .f32⟩
  | .hbm, ⟨21, _⟩ => ⟨S1024x16, .f32⟩
  | .hbm, ⟨22, _⟩ => ⟨S16x1024, .f32⟩
  | .hbm, ⟨23, _⟩ => ⟨S16x1024, .bf16⟩
  | .hbm, ⟨24, _⟩ => ⟨S7184x1024, .bf16⟩
  | .hbm, ⟨25, _⟩ => ⟨S8x898x1024, .bf16⟩
  | .hbm, ⟨26, _⟩ => ⟨S4x898x1024, .bf16⟩
  | .hbm, ⟨27, _⟩ => ⟨S4x898x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Spec.lean ====
module

public import Idealize.ShloMosaic.Lib.Pointwise

@[expose] public section

/-!
The gradient of the spatial gating unit over the real numbers: what one block of 128 tokens of one group of 256
channels contributes to each of the five results.
-/

noncomputable section
open Idealize.ShloMosaic

namespace Cert.Sgu

/-- The single-precision number nearest the square root of `2 / π`, the scale inside gelu's `tanh`. -/
def gC : ℝ := 6693141 / 8388608
/-- The single-precision number nearest `0.044715`, the weight of the cube inside gelu's `tanh`. -/
def gA : ℝ := 12003091 / 268435456
/-- The single-precision number nearest `10⁻⁶`, which layer norm adds to the variance. -/
def gEps : ℝ := 8796093 / 8796093022208

/-- The `tanh` of gelu. -/
def gt (x : ℝ) : ℝ := Real.tanh ((gC * x) * (1 + gA * (x * x)))
/-- Gelu in its `tanh` form. -/
def gelu (x : ℝ) : ℝ := (1 / 2 * x) * (1 + gt x)
/-- The derivative of `gelu`. -/
def dgelu (x : ℝ) : ℝ :=
  1 / 2 * (1 + gt x) + ((1 / 2 * x) * (1 - gt x * gt x)) * (gC + ((3 * gA) * gC) * (x * x))

/-- The mean of 256 numbers. -/
def mean (v : Fin 256 → ℝ) : ℝ := (∑ k, v k) * (1 / 256)
/-- A row less its mean. -/
def cen (v : Fin 256 → ℝ) (k : Fin 256) : ℝ := v k - mean v
/-- The variance of a row and the small number added to it. -/
def vare (v : Fin 256 → ℝ) : ℝ := mean (fun k => cen v k * cen v k) + gEps
/-- One over the standard deviation. -/
def rstd (v : Fin 256 → ℝ) : ℝ := (Real.sqrt (vare v))⁻¹
/-- The normalised row. -/
def xhat (v : Fin 256 → ℝ) (k : Fin 256) : ℝ := cen v k * rstd v

theorem vare_pos (v : Fin 256 → ℝ) : 0 < vare v := by
  have h : 0 ≤ ∑ k, cen v k * cen v k := Finset.sum_nonneg fun k _ => mul_self_nonneg _
  unfold vare mean gEps
  positivity

/-- The square of `rstd` is one over the variance. -/
theorem rstd_sq (v : Fin 256 → ℝ) : rstd v * rstd v = (vare v)⁻¹ := by
  unfold rstd
  rw [← mul_inv, Real.mul_self_sqrt (vare_pos v).le]

/-- The centred row sums to zero. -/
theorem sum_cen (v : Fin 256 → ℝ) : ∑ k, cen v k = 0 := by
  unfold cen mean
  rw [Finset.sum_sub_distrib, Finset.sum_const, Finset.card_univ, Fintype.card_fin, nsmul_eq_mul]
  push_cast
  ring

/-- Position `i` of a block may look at position `j`: the second half at everything, the first half at itself. -/
def Keep (i j : Fin 128) : Prop := (j : ℕ) < 64 ∨ 64 ≤ (i : ℕ)

instance (i j : Fin 128) : Decidable (Keep i j) := inferInstanceAs (Decidable (_ ∨ _))

/-- What one block of one group reads: the gate's and the value's projections, the incoming gradient, and the group's
    parameters. -/
structure Blk where
  su : Fin 128 → Fin 256 → ℝ
  sv : Fin 128 → Fin 256 → ℝ
  dy : Fin 128 → Fin 256 → ℝ
  lg : Fin 256 → ℝ
  lb : Fin 256 → ℝ
  w : Fin 128 → Fin 128 → ℝ
  b : Fin 128 → ℝ

namespace Blk
variable (B : Blk)
/-- The row of values layer norm sees. -/
def row (i : Fin 128) (k : Fin 256) : ℝ := gelu (B.sv i k)
def xh (i : Fin 128) (k : Fin 256) : ℝ := xhat (B.row i) k
def vn (i : Fin 128) (k : Fin 256) : ℝ := B.xh i k * B.lg k + B.lb k
def wm (i j : Fin 128) : ℝ := if Keep i j then B.w i j else 0
def mixed (i : Fin 128) (k : Fin 256) : ℝ := (∑ j, B.wm i j * B.vn j k) + B.b i
/-- The gradient of the gate's projection. -/
def dsu (i : Fin 128) (k : Fin 256) : ℝ := B.dy i k * B.mixed i k * dgelu (B.su i k)
def dmix (i : Fin 128) (k : Fin 256) : ℝ := B.dy i k * gelu (B.su i k)
def dvn (j : Fin 128) (k : Fin 256) : ℝ := ∑ i, B.wm i j * B.dmix i k
def dxh (i : Fin 128) (k : Fin 256) : ℝ := B.dvn i k * B.lg k
/-- The gradient through layer norm. -/
def dvf (i : Fin 128) (k : Fin 256) : ℝ :=
  rstd (B.row i) * (B.dxh i k - mean (B.dxh i) - B.xh i k * mean (fun l => B.dxh i l * B.xh i l))
/-- The gradient of the value's projection. -/
def dsv (i : Fin 128) (k : Fin 256) : ℝ := B.dvf i k * dgelu (B.sv i k)
/-- The block's part of the mixing bias's gradient. -/
def db (i : Fin 128) : ℝ := ∑ k, B.dmix i k
/-- The block's part of the mixing weight's gradient. -/
def dw (i j : Fin 128) : ℝ := if Keep i j then ∑ k, B.dmix i k * B.vn j k else 0
/-- The block's part of layer norm's scale's gradient. -/
def dlg (k : Fin 256) : ℝ := ∑ i, B.dvn i k * B.xh i k
/-- The block's part of layer norm's shift's gradient. -/
def dlb (k : Fin 256) : ℝ := ∑ i, B.dvn i k
end Blk

/-! ## The whole call -/

/-- The arguments, as real numbers: the two projections side by side, layer norm's scale and shift, the mixing's
    weight and bias, and the incoming gradient. -/
structure Args where
  ps : Fin 4096 → Fin 2048 → ℝ
  lg : Fin 4 → Fin 256 → ℝ
  lb : Fin 4 → Fin 256 → ℝ
  w : Fin 4 → Fin 128 → Fin 128 → ℝ
  b : Fin 4 → Fin 128 → ℝ
  dy : Fin 4096 → Fin 1024 → ℝ

namespace Args
variable (A : Args)
/-- The token at position `i` of block `q`. -/
def tok (q : Fin 32) (i : Fin 128) : Fin 4096 := ⟨q * 128 + i, by omega⟩
/-- The channel `k` of group `g`. -/
def chan (g : Fin 4) (k : Fin 256) : Fin 1024 := ⟨g * 256 + k, by omega⟩
/-- Block `q` of group `g`. -/
def blk (q : Fin 32) (g : Fin 4) : Blk where
  su i k := A.ps (tok q i) ⟨chan g k, by omega⟩
  sv i k := A.ps (tok q i) ⟨1024 + chan g k, by omega⟩
  dy i k := A.dy (tok q i) (chan g k)
  lg k := A.lg g k
  lb k := A.lb g k
  w i j := A.w g i j
  b i := A.b g i
/-- The gradient of the projections: the gate's in the first 1024 channels, the value's in the others. -/
def dps (n : Fin 4096) (l : Fin 2048) : ℝ :=
  if h : (l : ℕ) < 1024 then
    (A.blk ⟨n / 128, by omega⟩ ⟨l / 256, by omega⟩).dsu ⟨n % 128, by omega⟩ ⟨l % 256, by omega⟩
  else
    (A.blk ⟨n / 128, by omega⟩ ⟨(l - 1024) / 256, by omega⟩).dsv ⟨n % 128, by omega⟩ ⟨l % 256, by omega⟩
def dlg (g : Fin 4) (k : Fin 256) : ℝ := ∑ q, (A.blk q g).dlg k
def dlb (g : Fin 4) (k : Fin 256) : ℝ := ∑ q, (A.blk q g).dlb k
def dw (g : Fin 4) (i j : Fin 128) : ℝ := ∑ q, (A.blk q g).dw i j
def db (g : Fin 4) (i : Fin 128) : ℝ := ∑ q, (A.blk q g).db i
end Args

/-! ## Extended reals that are real numbers -/

/-- A finite sum of real numbers, read in the extended reals. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem coe_ite (p : Prop) [Decidable p] (a b : ℝ) :
    (if p then (a : EReal) else (b : EReal)) = ((if p then a else b : ℝ) : EReal) := by
  split <;> rfl

theorem rsqrt_vare (v : Fin 256 → ℝ) : Ideal.rsqrt ((vare v : ℝ) : EReal) = ((rstd v : ℝ) : EReal) := by
  rw [Ideal.rsqrt_coe, if_neg (vare_pos v).not_gt, if_neg (vare_pos v).ne']; rfl

theorem div_256 (x : EReal) : Ideal.div x ((256 : ℝ) : EReal) = x * ((1 / 256 : ℝ) : EReal) :=
  Ideal.div_coe (by norm_num) x

/-! ## The constants -/

theorem w_C : Ideal.ofBits .f32 0x3F4C422A#32 = ((gC : ℝ) : EReal) := by
  unfold gC; simp [Ideal.ofBits, Ideal.ieee, -EReal.coe_mul]; norm_num
theorem w_A : Ideal.ofBits .f32 0x3D372713#32 = ((gA : ℝ) : EReal) := by
  unfold gA; simp [Ideal.ofBits, Ideal.ieee, -EReal.coe_mul]; norm_num
theorem w_eps : Ideal.ofBits .f32 0x358637BD#32 = ((gEps : ℝ) : EReal) := by
  unfold gEps; simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_neg_half : Ideal.ofBits .f32 0xBF000000#32 = ((-(1 / 2) : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_three : Ideal.ofBits .f32 0x40400000#32 = ((3 : ℝ) : EReal) := by
  simp [Ideal.ofBits, Ideal.ieee, -EReal.coe_mul]; norm_num
theorem w_256 : Ideal.ofBits .f32 0x43800000#32 = ((256 : ℝ) : EReal) := by
  simp [Ideal.ofBits, Ideal.ieee, -EReal.coe_mul]; norm_num

end Cert.Sgu
end
-- ==== Proof.Block.lean ====
module

public import proofs.«01_k».proof.Proof.Gen.KernelIdeal.Skeleton
public import proofs.«01_k».proof.Proof.Spec
public import Idealize.ShloMosaic.Lib.Pointwise

@[expose] public section

set_option maxRecDepth 16384

/-!
What the kernel's body computes for one block of 128 tokens of one group, from the vectors it loads: the values it
stores are those of `Cert.Sgu.Blk`.
-/

noncomputable section
open Idealize.ShloMosaic Idealize.ShloMosaic.TcCoe Idealize.SL.Sem
namespace Cert.KernelIdeal.Block
open Cert.KernelIdeal Cert.KernelIdeal.Gen Cert.Sgu

/-- The named constant `3 · A · C`. -/
theorem w_3ac : Named.named (F := Ideal) Cert.KernelIdeal.κ "gelu_3ac" (φ := .f32) 0x3DDB33B6#32
    = ((((3 * gA) * gC : ℝ)) : EReal) :=
  (IdealRules.named_const.ideal_named_scalar _ _ _ _ rfl).trans (by unfold gA gC; norm_num)

/-- The vectors a block's code loads are the block's real numbers. -/
structure Loads (B : Blk) (su sv dy : Vec Ideal S128x256 .bf16) (lg lb : Vec Ideal S1x1x256 .f32)
    (w : Vec Ideal S1x128x128 .f32) (b : Vec Ideal S1x128x1 .f32) : Prop where
  hsu : ∀ (i : Fin 128) (k : Fin 256), su (ix2 i k) = ((B.su i k : ℝ) : EReal)
  hsv : ∀ (i : Fin 128) (k : Fin 256), sv (ix2 i k) = ((B.sv i k : ℝ) : EReal)
  hdy : ∀ (i : Fin 128) (k : Fin 256), dy (ix2 i k) = ((B.dy i k : ℝ) : EReal)
  hlg : ∀ k : Fin 256, lg (ix3 0 0 k) = ((B.lg k : ℝ) : EReal)
  hlb : ∀ k : Fin 256, lb (ix3 0 0 k) = ((B.lb k : ℝ) : EReal)
  hw : ∀ i j : Fin 128, w (ix3 0 i j) = ((B.w i j : ℝ) : EReal)
  hb : ∀ i : Fin 128, b (ix3 0 i 0) = ((B.b i : ℝ) : EReal)

/-- The kernel's comparison of positions is `Keep`. -/
theorem select_keep {α : Type} (i j : Fin 128) (a b : α) :
    Scalar.select (IntOp.ori (IntOp.cmpi .slt (BitVec.ofNat 32 ↑j) 64#32) (IntOp.cmpi .sge (BitVec.ofNat 32 ↑i) 64#32)) a b
      = if Keep i j then a else b := by
  have h1 : ∀ j : Fin 128, IntOp.cmpi .slt (BitVec.ofNat 32 ↑j) 64#32 = if (j : ℕ) < 64 then 1#1 else 0#1 := by
    decide +kernel
  have h2 : ∀ i : Fin 128, IntOp.cmpi .sge (BitVec.ofNat 32 ↑i) 64#32 = if 64 ≤ (i : ℕ) then 1#1 else 0#1 := by
    decide +kernel
  rw [h1, h2]
  unfold Keep
  by_cases ha : (j : ℕ) < 64 <;> by_cases hb : 64 ≤ (i : ℕ) <;> simp [ha, hb, Scalar.select, IntOp.ori]

variable {B : Blk} {su sv dy : Vec Ideal S128x256 .bf16} {lg lb : Vec Ideal S1x1x256 .f32}
    {w : Vec Ideal S1x128x128 .f32} {b : Vec Ideal S1x128x1 .f32} (L : Loads B su sv dy lg lb w b)
include L

/-- Gelu of the gate's projection. -/
theorem u_at (i : Fin 128) (k : Fin 256) :
    k0_pay18 (F := Ideal) (k0_pay13 su) (k0_pay14 su) (ix2 i k) = ((gelu (B.su i k) : ℝ) : EReal) := by
  pointwise [k0_pay18, k0_pay13, k0_pay14, k0_pay12, k0_pay11, k0_pay9, L.hsu, w_C, w_A, w_half]
  simp only [← EReal.coe_one, ← EReal.coe_mul, ← EReal.coe_add, ← EReal.coe_sub, Ideal.tanh_coe, coe_sum, div_256]
  rfl

/-- Its derivative. -/
theorem du_at (i : Fin 128) (k : Fin 256) :
    k0_pay17 (F := Ideal) (k0_pay11 su) (k0_pay14 su) (k0_pay15 su) (k0_pay16 su) (ix2 i k)
      = ((dgelu (B.su i k) : ℝ) : EReal) := by
  pointwise [k0_pay17, k0_pay15, k0_pay16, k0_pay13, k0_pay14, k0_pay12, k0_pay11, k0_pay9, L.hsu, w_C, w_A, w_half, w_3ac]
  simp only [← EReal.coe_one, ← EReal.coe_mul, ← EReal.coe_add, ← EReal.coe_sub, Ideal.tanh_coe, coe_sum, div_256]
  rfl

/-- The derivative of gelu at the value's projection. -/
theorem dgv_at (i : Fin 128) (k : Fin 256) :
    k0_pay23 (F := Ideal) (k0_pay10 sv) (ix2 i k) = ((dgelu (B.sv i k) : ℝ) : EReal) := by
  pointwise [k0_pay23, k0_pay22, k0_pay21, k0_pay20, k0_pay19, k0_pay10, L.hsv, w_C, w_A, w_half, w_3ac]
  simp only [← EReal.coe_one, ← EReal.coe_mul, ← EReal.coe_add, ← EReal.coe_sub, Ideal.tanh_coe, coe_sum, div_256]
  rfl

/-- Layer norm's input less its mean. -/
theorem cen_at (i : Fin 128) (k : Fin 256) :
    k0_pay24 (F := Ideal) (k0_pay10 sv) (ix2 i k) = ((cen (B.row i) k : ℝ) : EReal) := by
  pointwise [k0_pay24, k0_pay22, k0_pay21, k0_pay20, k0_pay19, k0_pay10, L.hsv, w_C, w_A, w_half, w_256]
  simp only [← EReal.coe_one, ← EReal.coe_mul, ← EReal.coe_add, ← EReal.coe_sub, Ideal.tanh_coe, coe_sum, div_256]
  rfl

/-- The sum of the squares of what `cen_at` reads. -/
theorem sq_at (i : Fin 128) :
    k0_pay25 (F := Ideal) (k0_pay10 sv) (ix2 i 0) = ((∑ k, cen (B.row i) k * cen (B.row i) k : ℝ) : EReal) := by
  pointwise [k0_pay25, cen_at L]
  simp only [← EReal.coe_one, ← EReal.coe_mul, ← EReal.coe_add, ← EReal.coe_sub, Ideal.tanh_coe, coe_sum, div_256]

/-- One over the standard deviation. -/
theorem rstd_at (i : Fin 128) :
    k0_pay26 (F := Ideal) (k0_pay25 (k0_pay10 sv)) (ix2 i 0) = ((rstd (B.row i) : ℝ) : EReal) := by
  pointwise [k0_pay26, sq_at L, w_256, w_eps]
  simp only [← EReal.coe_one, ← EReal.coe_mul, ← EReal.coe_add, ← EReal.coe_sub, Ideal.tanh_coe, coe_sum, div_256]
  exact rsqrt_vare _

/-- The normalised row. -/
theorem xh_at (i : Fin 128) (k : Fin 256) :
    k0_pay27 (F := Ideal) (k0_pay24 (k0_pay10 sv)) (k0_pay25 (k0_pay10 sv)) (ix2 i k) = ((B.xh i k : ℝ) : EReal) := by
  pointwise [k0_pay27, cen_at L, rstd_at L]
  simp only [← EReal.coe_one, ← EReal.coe_mul, ← EReal.coe_add, ← EReal.coe_sub, Ideal.tanh_coe, coe_sum, div_256]
  rfl

/-- The normalised row, scaled and shifted. -/
theorem vn_at (i : Fin 128) (k : Fin 256) :
    k0_pay28 (F := Ideal) (k0_pay8 lg) (k0_pay24 (k0_pay10 sv)) (k0_pay25 (k0_pay10 sv)) lb (ix2 i k)
      = ((B.vn i k : ℝ) : EReal) := by
  pointwise [k0_pay28, k0_pay8, xh_at L, L.hlg, L.hlb]
  simp only [← EReal.coe_one, ← EReal.coe_mul, ← EReal.coe_add, ← EReal.coe_sub, Ideal.tanh_coe, coe_sum, div_256]
  rfl

/-- The masked mixing weight. -/
theorem wm_at (i j : Fin 128) : k0_pay7 (F := Ideal) w (ix2 i j) = ((B.wm i j : ℝ) : EReal) := by
  pointwise [k0_pay7, k0_pay6, L.hw]
  rw [select_keep, ← EReal.coe_zero, coe_ite]
  rfl

/-- What is stored as the gradient of the gate's projection. -/
theorem dsu_at (i : Fin 128) (k : Fin 256) :
    k0_pay30 (F := Ideal) (k0_pay7 w) (k0_pay8 lg) (k0_pay17 (k0_pay11 su) (k0_pay14 su) (k0_pay15 su) (k0_pay16 su))
      (k0_pay24 (k0_pay10 sv)) (k0_pay25 (k0_pay10 sv)) lb b dy (ix2 i k) = ((B.dsu i k : ℝ) : EReal) := by
  pointwise [k0_pay30, k0_pay29, vn_at L, wm_at L, du_at L, L.hb, L.hdy]
  simp only [← EReal.coe_one, ← EReal.coe_mul, ← EReal.coe_add, ← EReal.coe_sub, Ideal.tanh_coe, coe_sum, div_256]
  rfl

/-- The gradient of the mixed values. -/
theorem dmix_at (i : Fin 128) (k : Fin 256) :
    k0_pay31 (F := Ideal) (k0_pay18 (k0_pay13 su) (k0_pay14 su)) dy (ix2 i k) = ((B.dmix i k : ℝ) : EReal) := by
  pointwise [k0_pay31, k0_pay29, u_at L, L.hdy]
  simp only [← EReal.coe_one, ← EReal.coe_mul, ← EReal.coe_add, ← EReal.coe_sub, Ideal.tanh_coe, coe_sum, div_256]
  rfl

theorem dmix16_at (i : Fin 128) (k : Fin 256) :
    k0_pay32 (F := Ideal) (k0_pay18 (k0_pay13 su) (k0_pay14 su)) dy (ix2 i k) = ((B.dmix i k : ℝ) : EReal) := by
  pointwise [k0_pay32, dmix_at L]

/-- The mixing bias's gradient grows by the block's part. -/
theorem db_at (acc : Vec Ideal S1x128x1 .f32) (i : Fin 128) :
    k0_pay33 (F := Ideal) (k0_pay18 (k0_pay13 su) (k0_pay14 su)) dy acc (ix3 0 i 0)
      = acc (ix3 0 i 0) + ((B.db i : ℝ) : EReal) := by
  pointwise [k0_pay33, dmix_at L]
  simp only [← EReal.coe_one, ← EReal.coe_mul, ← EReal.coe_add, ← EReal.coe_sub, Ideal.tanh_coe, coe_sum, div_256]
  rfl

/-- The mixing weight's gradient grows by the block's part. -/
theorem dw_at (acc : Vec Ideal S1x128x128 .f32) (i j : Fin 128) :
    k0_pay34 (F := Ideal) k0_pay6
      (k0_pay28 (k0_pay8 lg) (k0_pay24 (k0_pay10 sv)) (k0_pay25 (k0_pay10 sv)) lb)
      (k0_pay32 (k0_pay18 (k0_pay13 su) (k0_pay14 su)) dy) acc (ix3 0 i j)
      = acc (ix3 0 i j) + ((B.dw i j : ℝ) : EReal) := by
  pointwise [k0_pay34, k0_pay6, vn_at L, dmix16_at L]
  rw [select_keep]
  simp only [← EReal.coe_one, ← EReal.coe_mul, ← EReal.coe_add, ← EReal.coe_sub, Ideal.tanh_coe, coe_sum, div_256]
  rw [← EReal.coe_zero, coe_ite]
  rfl

/-- The gradient of the normalised, scaled and shifted row. -/
theorem dvn_at (j : Fin 128) (k : Fin 256) :
    k0_pay35 (F := Ideal) (k0_pay7 w) (k0_pay32 (k0_pay18 (k0_pay13 su) (k0_pay14 su)) dy) (ix2 j k)
      = ((B.dvn j k : ℝ) : EReal) := by
  pointwise [k0_pay35, wm_at L, dmix16_at L]
  simp only [← EReal.coe_one, ← EReal.coe_mul, ← EReal.coe_add, ← EReal.coe_sub, Ideal.tanh_coe, coe_sum, div_256]
  rfl

/-- The gradient of layer norm's scale grows by the block's part. -/
theorem dlg_at (acc : Vec Ideal S1x1x256 .f32) (k : Fin 256) :
    k0_pay36 (F := Ideal) (k0_pay7 w) (k0_pay27 (k0_pay24 (k0_pay10 sv)) (k0_pay25 (k0_pay10 sv)))
      (k0_pay32 (k0_pay18 (k0_pay13 su) (k0_pay14 su)) dy) acc (ix3 0 0 k)
      = acc (ix3 0 0 k) + ((B.dlg k : ℝ) : EReal) := by
  pointwise [k0_pay36, dvn_at L, xh_at L]
  simp only [← EReal.coe_one, ← EReal.coe_mul, ← EReal.coe_add, ← EReal.coe_sub, Ideal.tanh_coe, coe_sum, div_256]
  rfl

/-- The gradient of layer norm's shift grows by the block's part. -/
theorem dlb_at (acc : Vec Ideal S1x1x256 .f32) (k : Fin 256) :
    k0_pay37 (F := Ideal) (k0_pay7 w) (k0_pay32 (k0_pay18 (k0_pay13 su) (k0_pay14 su)) dy) acc (ix3 0 0 k)
      = acc (ix3 0 0 k) + ((B.dlb k : ℝ) : EReal) := by
  pointwise [k0_pay37, dvn_at L]
  simp only [← EReal.coe_one, ← EReal.coe_mul, ← EReal.coe_add, ← EReal.coe_sub, Ideal.tanh_coe, coe_sum, div_256]
  rfl

/-- The gradient of the normalised row. -/
theorem dxh_at (i : Fin 128) (k : Fin 256) :
    k0_pay38 (F := Ideal) (k0_pay7 w) (k0_pay8 lg) (k0_pay32 (k0_pay18 (k0_pay13 su) (k0_pay14 su)) dy) (ix2 i k)
      = ((B.dxh i k : ℝ) : EReal) := by
  pointwise [k0_pay38, k0_pay8, dvn_at L, L.hlg]
  simp only [← EReal.coe_one, ← EReal.coe_mul, ← EReal.coe_add, ← EReal.coe_sub, Ideal.tanh_coe, coe_sum, div_256]
  rfl

theorem mdxh_at (i : Fin 128) :
    k0_pay39 (F := Ideal) (k0_pay7 w) (k0_pay8 lg) (k0_pay32 (k0_pay18 (k0_pay13 su) (k0_pay14 su)) dy) (ix2 i 0)
      = ((mean (B.dxh i) : ℝ) : EReal) := by
  pointwise [k0_pay39, dxh_at L, w_256]
  simp only [← EReal.coe_one, ← EReal.coe_mul, ← EReal.coe_add, ← EReal.coe_sub, Ideal.tanh_coe, coe_sum, div_256]
  rfl

/-- What is stored as the gradient of the value's projection. -/
theorem dsv_at (i : Fin 128) (k : Fin 256) :
    k0_pay40 (F := Ideal) (k0_pay23 (k0_pay10 sv)) (k0_pay26 (k0_pay25 (k0_pay10 sv)))
      (k0_pay27 (k0_pay24 (k0_pay10 sv)) (k0_pay25 (k0_pay10 sv)))
      (k0_pay38 (k0_pay7 w) (k0_pay8 lg) (k0_pay32 (k0_pay18 (k0_pay13 su) (k0_pay14 su)) dy))
      (k0_pay39 (k0_pay7 w) (k0_pay8 lg) (k0_pay32 (k0_pay18 (k0_pay13 su) (k0_pay14 su)) dy)) (ix2 i k)
      = ((B.dsv i k : ℝ) : EReal) := by
  pointwise [k0_pay40, dgv_at L, rstd_at L, xh_at L, dxh_at L, mdxh_at L, w_256]
  simp only [← EReal.coe_one, ← EReal.coe_mul, ← EReal.coe_add, ← EReal.coe_sub, Ideal.tanh_coe, coe_sum, div_256]
  rfl

end Cert.KernelIdeal.Block
end
-- ==== Proof.Entry.lean ====
module

public import proofs.«01_k».proof.Proof.Gen.KernelIdeal.Value
public import proofs.«01_k».proof.Proof.Block
public import Idealize.ShloMosaic.Lib.Pipeline.ValueKit
public import Idealize.ShloMosaic.Lib.Claim

@[expose] public section

set_option maxRecDepth 16384

/-!
What the body's loads read at a grid point: the real numbers of one block of one group.
-/

noncomputable section
open Idealize.ShloMosaic Idealize.ShloMosaic.TcCoe Idealize.SL.Sem
open Idealize.ShloMosaic.Pipeline (Dat)
namespace Cert.KernelIdeal.Entry
open Cert.KernelIdeal Cert.KernelIdeal.Gen Cert.Sgu

/-- The kernel's argument arrays hold the real numbers `A`. -/
structure Holds (A : Args) (m : (ℓ : Loc nD τ sig) → Buf (Elt Ideal) ℓ) (c : Dev nD) : Prop where
  ps : ∀ (n : Fin 4096) (l : Fin 2048), (m ((c : Thread nD τ).loc main_arg0) : Vec Ideal S4096x2048 .bf16) (ix2 n l) = ((A.ps n l : ℝ) : EReal)
  lg : ∀ (g : Fin 4) (k : Fin 256), (m ((c : Thread nD τ).loc main_arg1) : Vec Ideal S4x256 .f32) (ix2 g k) = ((A.lg g k : ℝ) : EReal)
  lb : ∀ (g : Fin 4) (k : Fin 256), (m ((c : Thread nD τ).loc main_arg2) : Vec Ideal S4x256 .f32) (ix2 g k) = ((A.lb g k : ℝ) : EReal)
  w : ∀ (g : Fin 4) (i j : Fin 128), (m ((c : Thread nD τ).loc main_arg3) : Vec Ideal S4x128x128 .f32) (ix3 g i j) = ((A.w g i j : ℝ) : EReal)
  b : ∀ (g : Fin 4) (i : Fin 128), (m ((c : Thread nD τ).loc main_arg4) : Vec Ideal S4x128 .f32) (ix2 g i) = ((A.b g i : ℝ) : EReal)
  dy : ∀ (n : Fin 4096) (l : Fin 1024), (m ((c : Thread nD τ).loc main_arg5) : Vec Ideal S4096x1024 .bf16) (ix2 n l) = ((A.dy n l : ℝ) : EReal)

theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] ∧ win0_6.index t = ![t.val, 0]
    ∧ win0_7.index t = ![0, 0, 0] ∧ win0_8.index t = ![0, 0, 0] ∧ win0_9.index t = ![0, 0, 0] ∧ win0_10.index t = ![0, 0, 0] :=
  (by decide +kernel : ∀ t : Fin grid0.N, _)

theorem inbA (g : Fin 4) (p : Fin 2) (a : Fin 2) : ![(p : ℕ) * 128, (g : ℕ) * 256] a + ![128, 256] a ≤ S256x2048.size a := by
  fin_cases p <;> fin_cases g <;> revert a <;> decide
theorem inbB (g : Fin 4) (p : Fin 2) (a : Fin 2) : ![(p : ℕ) * 128, 1024 + (g : ℕ) * 256] a + ![128, 256] a ≤ S256x2048.size a := by
  fin_cases p <;> fin_cases g <;> revert a <;> decide
theorem inbC (g : Fin 4) (p : Fin 2) (a : Fin 2) : ![(p : ℕ) * 128, (g : ℕ) * 256] a + ![128, 256] a ≤ S256x1024.size a := by
  fin_cases p <;> fin_cases g <;> revert a <;> decide
theorem inbD (g : Fin 4) (a : Fin 3) : ![(g : ℕ), 0, 0] a + ![1, 1, 256] a ≤ S4x1x256.size a := by
  fin_cases g <;> revert a <;> decide
theorem inbE (g : Fin 4) (a : Fin 3) : ![(g : ℕ), 0, 0] a + ![1, 128, 128] a ≤ S4x128x128.size a := by
  fin_cases g <;> revert a <;> decide
theorem inbF (g : Fin 4) (a : Fin 3) : ![(g : ℕ), 0, 0] a + ![1, 128, 1] a ≤ S4x128x1.size a := by
  fin_cases g <;> revert a <;> decide

variable {m : (ℓ : Loc nD τ sig) → Buf (Elt Ideal) ℓ} {c : Dev nD} {A : Args} (H : Holds A m c)
include H

theorem ps_at (t : Fin cfg0.N) (a : Fin 256) (l : Fin 2048) (n : Fin 4096) (hn : (n : ℕ) = t.val * 256 + a) :
    (iblk m c 0 t : Vec Ideal S256x2048 .bf16) (ix2 a l) = ((A.ps n l : ℝ) : EReal) := by
  rw [← H.ps]
  blk_ext [iblk, V, idx t]
theorem dy_at (t : Fin cfg0.N) (a : Fin 256) (l : Fin 1024) (n : Fin 4096) (hn : (n : ℕ) = t.val * 256 + a) :
    (iblk m c 5 t : Vec Ideal S256x1024 .bf16) (ix2 a l) = ((A.dy n l : ℝ) : EReal) := by
  rw [← H.dy]
  blk_ext [iblk, V, idx t]
theorem w_at (t : Fin cfg0.N) (g : Fin 4) (i j : Fin 128) :
    (iblk m c 3 t : Vec Ideal S4x128x128 .f32) (ix3 g i j) = ((A.w g i j : ℝ) : EReal) := by
  rw [← H.w]
  blk_ext [iblk, V, idx t]
theorem lg_at (t : Fin cfg0.N) (g : Fin 4) (k : Fin 256) :
    (iblk m c 1 t : Vec Ideal S4x1x256 .f32) (ix3 g 0 k) = ((A.lg g k : ℝ) : EReal) := by
  rw [← H.lg]
  blk_point [iblk, V, idx t]
theorem lb_at (t : Fin cfg0.N) (g : Fin 4) (k : Fin 256) :
    (iblk m c 2 t : Vec Ideal S4x1x256 .f32) (ix3 g 0 k) = ((A.lb g k : ℝ) : EReal) := by
  rw [← H.lb]
  blk_point [iblk, V, idx t]
theorem b_at (t : Fin cfg0.N) (g : Fin 4) (i : Fin 128) :
    (iblk m c 4 t : Vec Ideal S4x128x1 .f32) (ix3 g i 0) = ((A.b g i : ℝ) : EReal) := by
  rw [← H.b]
  blk_point [iblk, V, idx t]

/-- The loads of block `p` of group `g` at grid point `t`. -/
theorem loads (t : Fin cfg0.N) (g : Fin 4) (p : Fin 2) (q : Fin 32) (hq : (q : ℕ) = t.val * 2 + p) (r c1 c2 g' : ℕ)
    (hr : r = p * 128) (h1 : c1 = g * 256) (h2 : c2 = 1024 + g * 256) (hg : g' = g) (i0 i1 i2 i3 i4 i5 i6) :
    Block.Loads (A.blk q g)
      (View.ld (iblk m c 0 t : Vec Ideal S256x2048 .bf16) (Rect.unit (s := S256x2048) ![r, c1] ![128, 256] i0))
      (View.ld (iblk m c 0 t : Vec Ideal S256x2048 .bf16) (Rect.unit (s := S256x2048) ![r, c2] ![128, 256] i1))
      (View.ld (iblk m c 5 t : Vec Ideal S256x1024 .bf16) (Rect.unit (s := S256x1024) ![r, c1] ![128, 256] i2))
      (View.ld (iblk m c 1 t : Vec Ideal S4x1x256 .f32) (Rect.unit (s := S4x1x256) ![g', 0, 0] ![1, 1, 256] i3))
      (View.ld (iblk m c 2 t : Vec Ideal S4x1x256 .f32) (Rect.unit (s := S4x1x256) ![g', 0, 0] ![1, 1, 256] i4))
      (View.ld (iblk m c 3 t : Vec Ideal S4x128x128 .f32) (Rect.unit (s := S4x128x128) ![g', 0, 0] ![1, 128, 128] i5))
      (View.ld (iblk m c 4 t : Vec Ideal S4x128x1 .f32) (Rect.unit (s := S4x128x1) ![g', 0, 0] ![1, 128, 1] i6)) := by
  subst hr h1 h2 hg
  have hg := g.isLt
  have hp := p.isLt
  constructor
  · intro i k
    pointwise
    rw [ps_at H t _ _ (Args.tok q i) (by simp only [Args.tok]; omega)]
    rfl
  · intro i k
    pointwise
    rw [ps_at H t _ _ (Args.tok q i) (by simp only [Args.tok]; omega)]
    simp only [Args.blk, Args.chan, Nat.add_assoc]
  · intro i k
    pointwise
    rw [dy_at H t _ _ (Args.tok q i) (by simp only [Args.tok]; omega)]
    rfl
  · intro k
    pointwise
    exact lg_at H t g k
  · intro k
    pointwise
    exact lb_at H t g k
  · intro i j
    pointwise
    exact w_at H t g i j
  · intro i
    pointwise
    exact b_at H t g i

/-- The same at the group and the position themselves. -/
theorem loadsAt (t : Fin cfg0.N) (g : Fin 4) (p : Fin 2) (q : Fin 32) (hq : (q : ℕ) = t.val * 2 + p) :
    Block.Loads (A.blk q g)
      (View.ld (iblk m c 0 t : Vec Ideal S256x2048 .bf16) (Rect.unit (s := S256x2048) ![p * 128, g * 256] ![128, 256] (inbA g p)))
      (View.ld (iblk m c 0 t : Vec Ideal S256x2048 .bf16) (Rect.unit (s := S256x2048) ![p * 128, 1024 + g * 256] ![128, 256] (inbB g p)))
      (View.ld (iblk m c 5 t : Vec Ideal S256x1024 .bf16) (Rect.unit (s := S256x1024) ![p * 128, g * 256] ![128, 256] (inbC g p)))
      (View.ld (iblk m c 1 t : Vec Ideal S4x1x256 .f32) (Rect.unit (s := S4x1x256) ![g, 0, 0] ![1, 1, 256] (inbD g)))
      (View.ld (iblk m c 2 t : Vec Ideal S4x1x256 .f32) (Rect.unit (s := S4x1x256) ![g, 0, 0] ![1, 1, 256] (inbD g)))
      (View.ld (iblk m c 3 t : Vec Ideal S4x128x128 .f32) (Rect.unit (s := S4x128x128) ![g, 0, 0] ![1, 128, 128] (inbE g)))
      (View.ld (iblk m c 4 t : Vec Ideal S4x128x1 .f32) (Rect.unit (s := S4x128x1) ![g, 0, 0] ![1, 128, 1] (inbF g))) :=
  loads H t g p q hq (p * 128) (g * 256) (1024 + g * 256) g rfl rfl rfl rfl
    _ _ _ _ _ _ _
end Cert.KernelIdeal.Entry
end
-- ==== Proof.Acc.lean ====
module

public import proofs.«01_k».proof.Proof.Entry
public import Idealize.ShloMosaic.Lib.Pipeline.FrameBody
public import Idealize.ShloMosaic.Lib.Pipeline.ReadBack

@[expose] public section

set_option maxRecDepth 16384

/-!
One grid point adds to each accumulated gradient what its two blocks of tokens contribute.
-/

noncomputable section
open Idealize.ShloMosaic Idealize.ShloMosaic.TcCoe Idealize.SL.Sem
open Idealize.ShloMosaic.Pipeline (Dat)
namespace Cert.KernelIdeal.Acc
open Cert.KernelIdeal Cert.KernelIdeal.Gen Cert.Sgu Cert.KernelIdeal.Block Cert.KernelIdeal.Entry

/-- What a list of stores leaves at an index is what a read of a rectangle around that index gives. -/
theorem canon_via {Val : EltTy → Type} {sig : RefSig} {κ : Kind} {sp : Space} {s : Shape} {e : EltTy} [∀ e, Nonempty (Val e)]
    (v : View sig κ sp s e) (L : List (View.Piece Val s e)) (r : Rect s) (x : r.shape.Idx) (j : s.Idx) (h : r.emb x = j) :
    View.canon L j = v.readCov L r.toLoadRect x := by
  rw [View.readCov_eq_canon', ← h]
  rfl

variable {m : (ℓ : Loc nD τ sig) → Buf (Elt Ideal) ℓ} {c : Dev nD} {A : Args} (H : Holds A m c)
include H
omit H in
theorem zero2 (j : S4x1x256.Idx) : k0_pay2 (F := Ideal) j = 0 := Ideal.ofBits_zero .f32
omit H in
theorem zero3 (j : S4x1x256.Idx) : k0_pay3 (F := Ideal) j = 0 := Ideal.ofBits_zero .f32
omit H in
theorem zero4 (j : S4x128x128.Idx) : k0_pay4 (F := Ideal) j = 0 := Ideal.ofBits_zero .f32
omit H in
theorem zero5 (j : S4x128x1.Idx) : k0_pay5 (F := Ideal) j = 0 := Ideal.ofBits_zero .f32

theorem step7B (t : Fin cfg0.N) (h : ¬ (t : ℕ) % 16 = 0) (q0 q1 : Fin 32) (h0 : (q0 : ℕ) = t.val * 2 + (0 : Fin 2)) (h1 : (q1 : ℕ) = t.val * 2 + (1 : Fin 2))
    (g : Fin 4) (k : Fin 256) :
    (outsAt0 m c t.val t.isLt).2.1 (ix3 g 0 k)
      = (outsAt0 m c (t.val - 1) (by omega)).2.1 (ix3 g 0 k) + ((A.blk q0 g).dlg k : EReal) + ((A.blk q1 g).dlg k : EReal) := by
  rw [outsAt0_B m c t h]
  frame_open
  simp (disch := decide) only [↓ View.readCov_skip, ↓ View.readCov_cons_toLoadRect, ↓ View.readCov_fill]
  frame_out
  fin_cases g
  · refine (canon_via (ms0_7 t).view _ (Rect.unit ![0, 0, 0] ![1, 1, 256] (by decide)) (ix3 0 0 k) _ (by idx_ext)).trans ?_
    simp (disch := decide) only [↓ View.readCov_skip, ↓ View.readCov_cons_toLoadRect, ↓ View.readCov_fill]
    exact (dlg_at (loadsAt H t 0 1 q1 h1) _ k).trans (congrArg (· + _) ((dlg_at (loadsAt H t 0 0 q0 h0) _ k).trans (congrArg (· + _) (by pointwise))))
  · refine (canon_via (ms0_7 t).view _ (Rect.unit ![1, 0, 0] ![1, 1, 256] (by decide)) (ix3 0 0 k) _ (by idx_ext)).trans ?_
    simp (disch := decide) only [↓ View.readCov_skip, ↓ View.readCov_cons_toLoadRect, ↓ View.readCov_fill]
    exact (dlg_at (loadsAt H t 1 1 q1 h1) _ k).trans (congrArg (· + _) ((dlg_at (loadsAt H t 1 0 q0 h0) _ k).trans (congrArg (· + _) (by pointwise))))
  · refine (canon_via (ms0_7 t).view _ (Rect.unit ![2, 0, 0] ![1, 1, 256] (by decide)) (ix3 0 0 k) _ (by idx_ext)).trans ?_
    simp (disch := decide) only [↓ View.readCov_skip, ↓ View.readCov_cons_toLoadRect, ↓ View.readCov_fill]
    exact (dlg_at (loadsAt H t 2 1 q1 h1) _ k).trans (congrArg (· + _) ((dlg_at (loadsAt H t 2 0 q0 h0) _ k).trans (congrArg (· + _) (by pointwise))))
  · refine (canon_via (ms0_7 t).view _ (Rect.unit ![3, 0, 0] ![1, 1, 256] (by decide)) (ix3 0 0 k) _ (by idx_ext)).trans ?_
    simp (disch := decide) only [↓ View.readCov_skip, ↓ View.readCov_cons_toLoadRect, ↓ View.readCov_fill]
    exact (dlg_at (loadsAt H t 3 1 q1 h1) _ k).trans (congrArg (· + _) ((dlg_at (loadsAt H t 3 0 q0 h0) _ k).trans (congrArg (· + _) (by pointwise))))

theorem step8B (t : Fin cfg0.N) (h : ¬ (t : ℕ) % 16 = 0) (q0 q1 : Fin 32) (h0 : (q0 : ℕ) = t.val * 2 + (0 : Fin 2)) (h1 : (q1 : ℕ) = t.val * 2 + (1 : Fin 2))
    (g : Fin 4) (k : Fin 256) :
    (outsAt0 m c t.val t.isLt).2.2.1 (ix3 g 0 k)
      = (outsAt0 m c (t.val - 1) (by omega)).2.2.1 (ix3 g 0 k) + ((A.blk q0 g).dlb k : EReal) + ((A.blk q1 g).dlb k : EReal) := by
  rw [outsAt0_B m c t h]
  frame_open
  simp (disch := decide) only [↓ View.readCov_skip, ↓ View.readCov_cons_toLoadRect, ↓ View.readCov_fill]
  frame_out
  fin_cases g
  · refine (canon_via (ms0_8 t).view _ (Rect.unit ![0, 0, 0] ![1, 1, 256] (by decide)) (ix3 0 0 k) _ (by idx_ext)).trans ?_
    simp (disch := decide) only [↓ View.readCov_skip, ↓ View.readCov_cons_toLoadRect, ↓ View.readCov_fill]
    exact (dlb_at (loadsAt H t 0 1 q1 h1) _ k).trans (congrArg (· + _) ((dlb_at (loadsAt H t 0 0 q0 h0) _ k).trans (congrArg (· + _) (by pointwise))))
  · refine (canon_via (ms0_8 t).view _ (Rect.unit ![1, 0, 0] ![1, 1, 256] (by decide)) (ix3 0 0 k) _ (by idx_ext)).trans ?_
    simp (disch := decide) only [↓ View.readCov_skip, ↓ View.readCov_cons_toLoadRect, ↓ View.readCov_fill]
    exact (dlb_at (loadsAt H t 1 1 q1 h1) _ k).trans (congrArg (· + _) ((dlb_at (loadsAt H t 1 0 q0 h0) _ k).trans (congrArg (· + _) (by pointwise))))
  · refine (canon_via (ms0_8 t).view _ (Rect.unit ![2, 0, 0] ![1, 1, 256] (by decide)) (ix3 0 0 k) _ (by idx_ext)).trans ?_
    simp (disch := decide) only [↓ View.readCov_skip, ↓ View.readCov_cons_toLoadRect, ↓ View.readCov_fill]
    exact (dlb_at (loadsAt H t 2 1 q1 h1) _ k).trans (congrArg (· + _) ((dlb_at (loadsAt H t 2 0 q0 h0) _ k).trans (congrArg (· + _) (by pointwise))))
  · refine (canon_via (ms0_8 t).view _ (Rect.unit ![3, 0, 0] ![1, 1, 256] (by decide)) (ix3 0 0 k) _ (by idx_ext)).trans ?_
    simp (disch := decide) only [↓ View.readCov_skip, ↓ View.readCov_cons_toLoadRect, ↓ View.readCov_fill]
    exact (dlb_at (loadsAt H t 3 1 q1 h1) _ k).trans (congrArg (· + _) ((dlb_at (loadsAt H t 3 0 q0 h0) _ k).trans (congrArg (· + _) (by pointwise))))

theorem step9B (t : Fin cfg0.N) (h : ¬ (t : ℕ) % 16 = 0) (q0 q1 : Fin 32) (h0 : (q0 : ℕ) = t.val * 2 + (0 : Fin 2)) (h1 : (q1 : ℕ) = t.val * 2 + (1 : Fin 2))
    (g : Fin 4) (i j : Fin 128) :
    (outsAt0 m c t.val t.isLt).2.2.2.1 (ix3 g i j)
      = (outsAt0 m c (t.val - 1) (by omega)).2.2.2.1 (ix3 g i j) + ((A.blk q0 g).dw i j : EReal) + ((A.blk q1 g).dw i j : EReal) := by
  rw [outsAt0_B m c t h]
  frame_open
  simp (disch := decide) only [↓ View.readCov_skip, ↓ View.readCov_cons_toLoadRect, ↓ View.readCov_fill]
  frame_out
  fin_cases g
  · refine (canon_via (ms0_9 t).view _ (Rect.unit ![0, 0, 0] ![1, 128, 128] (by decide)) (ix3 0 i j) _ (by idx_ext)).trans ?_
    simp (disch := decide) only [↓ View.readCov_skip, ↓ View.readCov_cons_toLoadRect, ↓ View.readCov_fill]
    exact (dw_at (loadsAt H t 0 1 q1 h1) _ i j).trans (congrArg (· + _) ((dw_at (loadsAt H t 0 0 q0 h0) _ i j).trans (congrArg (· + _) (by pointwise))))
  · refine (canon_via (ms0_9 t).view _ (Rect.unit ![1, 0, 0] ![1, 128, 128] (by decide)) (ix3 0 i j) _ (by idx_ext)).trans ?_
    simp (disch := decide) only [↓ View.readCov_skip, ↓ View.readCov_cons_toLoadRect, ↓ View.readCov_fill]
    exact (dw_at (loadsAt H t 1 1 q1 h1) _ i j).trans (congrArg (· + _) ((dw_at (loadsAt H t 1 0 q0 h0) _ i j).trans (congrArg (· + _) (by pointwise))))
  · refine (canon_via (ms0_9 t).view _ (Rect.unit ![2, 0, 0] ![1, 128, 128] (by decide)) (ix3 0 i j) _ (by idx_ext)).trans ?_
    simp (disch := decide) only [↓ View.readCov_skip, ↓ View.readCov_cons_toLoadRect, ↓ View.readCov_fill]
    exact (dw_at (loadsAt H t 2 1 q1 h1) _ i j).trans (congrArg (· + _) ((dw_at (loadsAt H t 2 0 q0 h0) _ i j).trans (congrArg (· + _) (by pointwise))))
  · refine (canon_via (ms0_9 t).view _ (Rect.unit ![3, 0, 0] ![1, 128, 128] (by decide)) (ix3 0 i j) _ (by idx_ext)).trans ?_
    simp (disch := decide) only [↓ View.readCov_skip, ↓ View.readCov_cons_toLoadRect, ↓ View.readCov_fill]
    exact (dw_at (loadsAt H t 3 1 q1 h1) _ i j).trans (congrArg (· + _) ((dw_at (loadsAt H t 3 0 q0 h0) _ i j).trans (congrArg (· + _) (by pointwise))))

theorem step10B (t : Fin cfg0.N) (h : ¬ (t : ℕ) % 16 = 0) (q0 q1 : Fin 32) (h0 : (q0 : ℕ) = t.val * 2 + (0 : Fin 2)) (h1 : (q1 : ℕ) = t.val * 2 + (1 : Fin 2))
    (g : Fin 4) (i : Fin 128) :
    (outsAt0 m c t.val t.isLt).2.2.2.2 (ix3 g i 0)
      = (outsAt0 m c (t.val - 1) (by omega)).2.2.2.2 (ix3 g i 0) + ((A.blk q0 g).db i : EReal) + ((A.blk q1 g).db i : EReal) := by
  rw [outsAt0_B m c t h]
  frame_open
  simp (disch := decide) only [↓ View.readCov_skip, ↓ View.readCov_cons_toLoadRect, ↓ View.readCov_fill]
  frame_out
  fin_cases g
  · refine (canon_via (ms0_10 t).view _ (Rect.unit ![0, 0, 0] ![1, 128, 1] (by decide)) (ix3 0 i 0) _ (by idx_ext)).trans ?_
    simp (disch := decide) only [↓ View.readCov_skip, ↓ View.readCov_cons_toLoadRect, ↓ View.readCov_fill]
    exact (db_at (loadsAt H t 0 1 q1 h1) _ i).trans (congrArg (· + _) ((db_at (loadsAt H t 0 0 q0 h0) _ i).trans (congrArg (· + _) (by pointwise))))
  · refine (canon_via (ms0_10 t).view _ (Rect.unit ![1, 0, 0] ![1, 128, 1] (by decide)) (ix3 0 i 0) _ (by idx_ext)).trans ?_
    simp (disch := decide) only [↓ View.readCov_skip, ↓ View.readCov_cons_toLoadRect, ↓ View.readCov_fill]
    exact (db_at (loadsAt H t 1 1 q1 h1) _ i).trans (congrArg (· + _) ((db_at (loadsAt H t 1 0 q0 h0) _ i).trans (congrArg (· + _) (by pointwise))))
  · refine (canon_via (ms0_10 t).view _ (Rect.unit ![2, 0, 0] ![1, 128, 1] (by decide)) (ix3 0 i 0) _ (by idx_ext)).trans ?_
    simp (disch := decide) only [↓ View.readCov_skip, ↓ View.readCov_cons_toLoadRect, ↓ View.readCov_fill]
    exact (db_at (loadsAt H t 2 1 q1 h1) _ i).trans (congrArg (· + _) ((db_at (loadsAt H t 2 0 q0 h0) _ i).trans (congrArg (· + _) (by pointwise))))
  · refine (canon_via (ms0_10 t).view _ (Rect.unit ![3, 0, 0] ![1, 128, 1] (by decide)) (ix3 0 i 0) _ (by idx_ext)).trans ?_
    simp (disch := decide) only [↓ View.readCov_skip, ↓ View.readCov_cons_toLoadRect, ↓ View.readCov_fill]
    exact (db_at (loadsAt H t 3 1 q1 h1) _ i).trans (congrArg (· + _) ((db_at (loadsAt H t 3 0 q0 h0) _ i).trans (congrArg (· + _) (by pointwise))))

theorem step7A (t : Fin cfg0.N) (h : (t : ℕ) % 16 = 0) (q0 q1 : Fin 32) (h0 : (q0 : ℕ) = t.val * 2 + (0 : Fin 2)) (h1 : (q1 : ℕ) = t.val * 2 + (1 : Fin 2))
    (g : Fin 4) (k : Fin 256) :
    (outsAt0 m c t.val t.isLt).2.1 (ix3 g 0 k)
      = 0 + ((A.blk q0 g).dlg k : EReal) + ((A.blk q1 g).dlg k : EReal) := by
  rw [outsAt0_A m c t h]
  frame_open
  simp (disch := decide) only [↓ View.readCov_skip, ↓ View.readCov_cons_toLoadRect, ↓ View.readCov_fill]
  frame_out
  fin_cases g
  · refine (canon_via (ms0_7 t).view _ (Rect.unit ![0, 0, 0] ![1, 1, 256] (by decide)) (ix3 0 0 k) _ (by idx_ext)).trans ?_
    simp (disch := decide) only [↓ View.readCov_skip, ↓ View.readCov_cons_toLoadRect, ↓ View.readCov_fill]
    exact (dlg_at (loadsAt H t 0 1 q1 h1) _ k).trans (congrArg (· + _) ((dlg_at (loadsAt H t 0 0 q0 h0) _ k).trans (congrArg (· + _) (by pointwise; exact zero2 _))))
  · refine (canon_via (ms0_7 t).view _ (Rect.unit ![1, 0, 0] ![1, 1, 256] (by decide)) (ix3 0 0 k) _ (by idx_ext)).trans ?_
    simp (disch := decide) only [↓ View.readCov_skip, ↓ View.readCov_cons_toLoadRect, ↓ View.readCov_fill]
    exact (dlg_at (loadsAt H t 1 1 q1 h1) _ k).trans (congrArg (· + _) ((dlg_at (loadsAt H t 1 0 q0 h0) _ k).trans (congrArg (· + _) (by pointwise; exact zero2 _))))
  · refine (canon_via (ms0_7 t).view _ (Rect.unit ![2, 0, 0] ![1, 1, 256] (by decide)) (ix3 0 0 k) _ (by idx_ext)).trans ?_
    simp (disch := decide) only [↓ View.readCov_skip, ↓ View.readCov_cons_toLoadRect, ↓ View.readCov_fill]
    exact (dlg_at (loadsAt H t 2 1 q1 h1) _ k).trans (congrArg (· + _) ((dlg_at (loadsAt H t 2 0 q0 h0) _ k).trans (congrArg (· + _) (by pointwise; exact zero2 _))))
  · refine (canon_via (ms0_7 t).view _ (Rect.unit ![3, 0, 0] ![1, 1, 256] (by decide)) (ix3 0 0 k) _ (by idx_ext)).trans ?_
    simp (disch := decide) only [↓ View.readCov_skip, ↓ View.readCov_cons_toLoadRect, ↓ View.readCov_fill]
    exact (dlg_at (loadsAt H t 3 1 q1 h1) _ k).trans (congrArg (· + _) ((dlg_at (loadsAt H t 3 0 q0 h0) _ k).trans (congrArg (· + _) (by pointwise; exact zero2 _))))

theorem step8A (t : Fin cfg0.N) (h : (t : ℕ) % 16 = 0) (q0 q1 : Fin 32) (h0 : (q0 : ℕ) = t.val * 2 + (0 : Fin 2)) (h1 : (q1 : ℕ) = t.val * 2 + (1 : Fin 2))
    (g : Fin 4) (k : Fin 256) :
    (outsAt0 m c t.val t.isLt).2.2.1 (ix3 g 0 k)
      = 0 + ((A.blk q0 g).dlb k : EReal) + ((A.blk q1 g).dlb k : EReal) := by
  rw [outsAt0_A m c t h]
  frame_open
  simp (disch := decide) only [↓ View.readCov_skip, ↓ View.readCov_cons_toLoadRect, ↓ View.readCov_fill]
  frame_out
  fin_cases g
  · refine (canon_via (ms0_8 t).view _ (Rect.unit ![0, 0, 0] ![1, 1, 256] (by decide)) (ix3 0 0 k) _ (by idx_ext)).trans ?_
    simp (disch := decide) only [↓ View.readCov_skip, ↓ View.readCov_cons_toLoadRect, ↓ View.readCov_fill]
    exact (dlb_at (loadsAt H t 0 1 q1 h1) _ k).trans (congrArg (· + _) ((dlb_at (loadsAt H t 0 0 q0 h0) _ k).trans (congrArg (· + _) (by pointwise; exact zero3 _))))
  · refine (canon_via (ms0_8 t).view _ (Rect.unit ![1, 0, 0] ![1, 1, 256] (by decide)) (ix3 0 0 k) _ (by idx_ext)).trans ?_
    simp (disch := decide) only [↓ View.readCov_skip, ↓ View.readCov_cons_toLoadRect, ↓ View.readCov_fill]
    exact (dlb_at (loadsAt H t 1 1 q1 h1) _ k).trans (congrArg (· + _) ((dlb_at (loadsAt H t 1 0 q0 h0) _ k).trans (congrArg (· + _) (by pointwise; exact zero3 _))))
  · refine (canon_via (ms0_8 t).view _ (Rect.unit ![2, 0, 0] ![1, 1, 256] (by decide)) (ix3 0 0 k) _ (by idx_ext)).trans ?_
    simp (disch := decide) only [↓ View.readCov_skip, ↓ View.readCov_cons_toLoadRect, ↓ View.readCov_fill]
    exact (dlb_at (loadsAt H t 2 1 q1 h1) _ k).trans (congrArg (· + _) ((dlb_at (loadsAt H t 2 0 q0 h0) _ k).trans (congrArg (· + _) (by pointwise; exact zero3 _))))
  · refine (canon_via (ms0_8 t).view _ (Rect.unit ![3, 0, 0] ![1, 1, 256] (by decide)) (ix3 0 0 k) _ (by idx_ext)).trans ?_
    simp (disch := decide) only [↓ View.readCov_skip, ↓ View.readCov_cons_toLoadRect, ↓ View.readCov_fill]
    exact (dlb_at (loadsAt H t 3 1 q1 h1) _ k).trans (congrArg (· + _) ((dlb_at (loadsAt H t 3 0 q0 h0) _ k).trans (congrArg (· + _) (by pointwise; exact zero3 _))))

theorem step9A (t : Fin cfg0.N) (h : (t : ℕ) % 16 = 0) (q0 q1 : Fin 32) (h0 : (q0 : ℕ) = t.val * 2 + (0 : Fin 2)) (h1 : (q1 : ℕ) = t.val * 2 + (1 : Fin 2))
    (g : Fin 4) (i j : Fin 128) :
    (outsAt0 m c t.val t.isLt).2.2.2.1 (ix3 g i j)
      = 0 + ((A.blk q0 g).dw i j : EReal) + ((A.blk q1 g).dw i j : EReal) := by
  rw [outsAt0_A m c t h]
  frame_open
  simp (disch := decide) only [↓ View.readCov_skip, ↓ View.readCov_cons_toLoadRect, ↓ View.readCov_fill]
  frame_out
  fin_cases g
  · refine (canon_via (ms0_9 t).view _ (Rect.unit ![0, 0, 0] ![1, 128, 128] (by decide)) (ix3 0 i j) _ (by idx_ext)).trans ?_
    simp (disch := decide) only [↓ View.readCov_skip, ↓ View.readCov_cons_toLoadRect, ↓ View.readCov_fill]
    exact (dw_at (loadsAt H t 0 1 q1 h1) _ i j).trans (congrArg (· + _) ((dw_at (loadsAt H t 0 0 q0 h0) _ i j).trans (congrArg (· + _) (by pointwise; exact zero4 _))))
  · refine (canon_via (ms0_9 t).view _ (Rect.unit ![1, 0, 0] ![1, 128, 128] (by decide)) (ix3 0 i j) _ (by idx_ext)).trans ?_
    simp (disch := decide) only [↓ View.readCov_skip, ↓ View.readCov_cons_toLoadRect, ↓ View.readCov_fill]
    exact (dw_at (loadsAt H t 1 1 q1 h1) _ i j).trans (congrArg (· + _) ((dw_at (loadsAt H t 1 0 q0 h0) _ i j).trans (congrArg (· + _) (by pointwise; exact zero4 _))))
  · refine (canon_via (ms0_9 t).view _ (Rect.unit ![2, 0, 0] ![1, 128, 128] (by decide)) (ix3 0 i j) _ (by idx_ext)).trans ?_
    simp (disch := decide) only [↓ View.readCov_skip, ↓ View.readCov_cons_toLoadRect, ↓ View.readCov_fill]
    exact (dw_at (loadsAt H t 2 1 q1 h1) _ i j).trans (congrArg (· + _) ((dw_at (loadsAt H t 2 0 q0 h0) _ i j).trans (congrArg (· + _) (by pointwise; exact zero4 _))))
  · refine (canon_via (ms0_9 t).view _ (Rect.unit ![3, 0, 0] ![1, 128, 128] (by decide)) (ix3 0 i j) _ (by idx_ext)).trans ?_
    simp (disch := decide) only [↓ View.readCov_skip, ↓ View.readCov_cons_toLoadRect, ↓ View.readCov_fill]
    exact (dw_at (loadsAt H t 3 1 q1 h1) _ i j).trans (congrArg (· + _) ((dw_at (loadsAt H t 3 0 q0 h0) _ i j).trans (congrArg (· + _) (by pointwise; exact zero4 _))))

theorem step10A (t : Fin cfg0.N) (h : (t : ℕ) % 16 = 0) (q0 q1 : Fin 32) (h0 : (q0 : ℕ) = t.val * 2 + (0 : Fin 2)) (h1 : (q1 : ℕ) = t.val * 2 + (1 : Fin 2))
    (g : Fin 4) (i : Fin 128) :
    (outsAt0 m c t.val t.isLt).2.2.2.2 (ix3 g i 0)
      = 0 + ((A.blk q0 g).db i : EReal) + ((A.blk q1 g).db i : EReal) := by
  rw [outsAt0_A m c t h]
  frame_open
  simp (disch := decide) only [↓ View.readCov_skip, ↓ View.readCov_cons_toLoadRect, ↓ View.readCov_fill]
  frame_out
  fin_cases g
  · refine (canon_via (ms0_10 t).view _ (Rect.unit ![0, 0, 0] ![1, 128, 1] (by decide)) (ix3 0 i 0) _ (by idx_ext)).trans ?_
    simp (disch := decide) only [↓ View.readCov_skip, ↓ View.readCov_cons_toLoadRect, ↓ View.readCov_fill]
    exact (db_at (loadsAt H t 0 1 q1 h1) _ i).trans (congrArg (· + _) ((db_at (loadsAt H t 0 0 q0 h0) _ i).trans (congrArg (· + _) (by pointwise; exact zero5 _))))
  · refine (canon_via (ms0_10 t).view _ (Rect.unit ![1, 0, 0] ![1, 128, 1] (by decide)) (ix3 0 i 0) _ (by idx_ext)).trans ?_
    simp (disch := decide) only [↓ View.readCov_skip, ↓ View.readCov_cons_toLoadRect, ↓ View.readCov_fill]
    exact (db_at (loadsAt H t 1 1 q1 h1) _ i).trans (congrArg (· + _) ((db_at (loadsAt H t 1 0 q0 h0) _ i).trans (congrArg (· + _) (by pointwise; exact zero5 _))))
  · refine (canon_via (ms0_10 t).view _ (Rect.unit ![2, 0, 0] ![1, 128, 1] (by decide)) (ix3 0 i 0) _ (by idx_ext)).trans ?_
    simp (disch := decide) only [↓ View.readCov_skip, ↓ View.readCov_cons_toLoadRect, ↓ View.readCov_fill]
    exact (db_at (loadsAt H t 2 1 q1 h1) _ i).trans (congrArg (· + _) ((db_at (loadsAt H t 2 0 q0 h0) _ i).trans (congrArg (· + _) (by pointwise; exact zero5 _))))
  · refine (canon_via (ms0_10 t).view _ (Rect.unit ![3, 0, 0] ![1, 128, 1] (by decide)) (ix3 0 i 0) _ (by idx_ext)).trans ?_
    simp (disch := decide) only [↓ View.readCov_skip, ↓ View.readCov_cons_toLoadRect, ↓ View.readCov_fill]
    exact (db_at (loadsAt H t 3 1 q1 h1) _ i).trans (congrArg (· + _) ((db_at (loadsAt H t 3 0 q0 h0) _ i).trans (congrArg (· + _) (by pointwise; exact zero5 _))))

end Cert.KernelIdeal.Acc
end
-- ==== Proof.Arrays.lean ====
module

public import proofs.«01_k».proof.Proof.Acc

@[expose] public section

set_option maxRecDepth 16384

/-!
What the kernel's four accumulated arrays hold at the end.
-/

noncomputable section
open Idealize.ShloMosaic Idealize.ShloMosaic.TcCoe Idealize.SL.Sem
open Idealize.ShloMosaic.Pipeline (Dat)
namespace Cert.KernelIdeal.Arrays
open Cert.KernelIdeal Cert.KernelIdeal.Gen Cert.Sgu Cert.KernelIdeal.Entry

/-- A quantity that starts at nothing and grows, at each of 16 grid points, by two consecutive ones of 32 real terms ends
    as the sum of the terms. -/
theorem total (f : (n : ℕ) → n < cfg0.N → EReal) (φ : Fin 32 → ℝ)
    (hA : ∀ t : Fin cfg0.N, (t : ℕ) % 16 = 0 → ∀ q0 q1 : Fin 32, (q0 : ℕ) = t.val * 2 + (0 : Fin 2) → (q1 : ℕ) = t.val * 2 + (1 : Fin 2) →
      f t.val t.isLt = 0 + (φ q0 : EReal) + (φ q1 : EReal))
    (hB : ∀ t : Fin cfg0.N, ¬ (t : ℕ) % 16 = 0 → ∀ q0 q1 : Fin 32, (q0 : ℕ) = t.val * 2 + (0 : Fin 2) → (q1 : ℕ) = t.val * 2 + (1 : Fin 2) →
      f t.val t.isLt = f (t.val - 1) (by omega) + (φ q0 : EReal) + (φ q1 : EReal)) :
    f t0_15.val t0_15.isLt = ((∑ q, φ q : ℝ) : EReal) := by
  have hN : cfg0.N = 16 := N_0
  have e := Pipeline.eq_sum_fin_of_reset_step_last f 16 0
    (fun t => ((φ ⟨t.val * 2 + 0, by omega⟩ : ℝ) : EReal) + ((φ ⟨t.val * 2 + 1, by omega⟩ : ℝ) : EReal))
    (fun t h => (hA t h _ _ rfl rfl).trans (add_assoc _ _ _))
    (fun t h => (hB t h _ _ rfl rfl).trans (add_assoc _ _ _)) (le_of_eq hN) t0_15 rfl
  rw [e, zero_add, ← coe_sum]
  rw [← Fin.sum_mul_add_fin 16 2 (fun q : Fin 32 => ((φ q : ℝ) : EReal))]
  have : ∀ n (h : n = 16) (F : Fin n → EReal) (G : Fin 16 → EReal) (hFG : ∀ t : Fin n, F t = G ⟨t, by omega⟩), ∑ t, F t = ∑ t, G t := by
    intro n h F G hFG; subst h; exact Finset.sum_congr rfl fun t _ => hFG t
  refine this _ hN _ _ fun t => ?_
  rw [Fin.sum_univ_two]
  rfl

variable {m : (ℓ : Loc nD τ sig) → Buf (Elt Ideal) ℓ} {c : Dev nD} {A : Args} (H : Holds A m c)
include H

theorem arr7 : (dats m 0 c).arrAt 7 cfg0.N = fun y : S4x1x256.Idx => ((A.dlg (y 0) (y 2) : ℝ) : EReal) := by
  refine (dats m 0 c).arrAt_eq_of_after_last 7 t0_15 (by decide +kernel) _ fun j => ?_
  idx_vars j
  blk_simp
  obtain rfl : j1 = 0 := Subsingleton.elim _ _
  rw [after0_7]
  exact total (fun n h => (outsAt0 m c n h).2.1 _) _
    (fun t h q0 q1 h0 h1 => Acc.step7A H t h q0 q1 h0 h1 _ _) (fun t h q0 q1 h0 h1 => Acc.step7B H t h q0 q1 h0 h1 _ _)

theorem arr8 : (dats m 0 c).arrAt 8 cfg0.N = fun y : S4x1x256.Idx => ((A.dlb (y 0) (y 2) : ℝ) : EReal) := by
  refine (dats m 0 c).arrAt_eq_of_after_last 8 t0_15 (by decide +kernel) _ fun j => ?_
  idx_vars j
  blk_simp
  obtain rfl : j1 = 0 := Subsingleton.elim _ _
  rw [after0_8]
  exact total (fun n h => (outsAt0 m c n h).2.2.1 _) _
    (fun t h q0 q1 h0 h1 => Acc.step8A H t h q0 q1 h0 h1 _ _) (fun t h q0 q1 h0 h1 => Acc.step8B H t h q0 q1 h0 h1 _ _)

theorem arr9 : (dats m 0 c).arrAt 9 cfg0.N = fun y : S4x128x128.Idx => ((A.dw (y 0) (y 1) (y 2) : ℝ) : EReal) := by
  refine (dats m 0 c).arrAt_eq_of_after_last 9 t0_15 (by decide +kernel) _ fun j => ?_
  idx_vars j
  blk_simp
  rw [after0_9]
  exact total (fun n h => (outsAt0 m c n h).2.2.2.1 _) _
    (fun t h q0 q1 h0 h1 => Acc.step9A H t h q0 q1 h0 h1 _ _ _) (fun t h q0 q1 h0 h1 => Acc.step9B H t h q0 q1 h0 h1 _ _ _)

theorem arr10 : (dats m 0 c).arrAt 10 cfg0.N = fun y : S4x128x1.Idx => ((A.db (y 0) (y 1) : ℝ) : EReal) := by
  refine (dats m 0 c).arrAt_eq_of_after_last 10 t0_15 (by decide +kernel) _ fun j => ?_
  idx_vars j
  blk_simp
  obtain rfl : j2 = 0 := Subsingleton.elim _ _
  rw [after0_10]
  exact total (fun n h => (outsAt0 m c n h).2.2.2.2 _) _
    (fun t h q0 q1 h0 h1 => Acc.step10A H t h q0 q1 h0 h1 _ _) (fun t h q0 q1 h0 h1 => Acc.step10B H t h q0 q1 h0 h1 _ _)

end Cert.KernelIdeal.Arrays
end
-- ==== Proof.Tiles.lean ====
module

public import proofs.«01_k».proof.Proof.Acc

@[expose] public section

set_option maxRecDepth 16384

/-!
What the kernel's array of the projections' gradient holds at the end.
-/

noncomputable section
open Idealize.ShloMosaic Idealize.ShloMosaic.TcCoe Idealize.SL.Sem
open Idealize.ShloMosaic.Pipeline (Dat)
namespace Cert.KernelIdeal.Tiles
open Cert.KernelIdeal.Block Cert.KernelIdeal Cert.KernelIdeal.Gen Cert.Sgu Cert.KernelIdeal.Entry

variable {A : Args}
theorem dps_gate (n : Fin 4096) (l : Fin 2048) (q : Fin 32) (g : Fin 4) (i : Fin 128) (k : Fin 256)
    (hn : (n : ℕ) = q * 128 + i) (hl : (l : ℕ) = g * 256 + k) : A.dps n l = (A.blk q g).dsu i k := by
  have e : (l : ℕ) < 1024 := by omega
  have e1 : (⟨n / 128, by omega⟩ : Fin 32) = q := Fin.ext (by simp only []; omega)
  have e2 : (⟨l / 256, by omega⟩ : Fin 4) = g := Fin.ext (by simp only []; omega)
  have e3 : (⟨n % 128, by omega⟩ : Fin 128) = i := Fin.ext (by simp only []; omega)
  have e4 : (⟨l % 256, by omega⟩ : Fin 256) = k := Fin.ext (by simp only []; omega)
  rw [Args.dps, dif_pos e, e1, e2, e3, e4]

theorem dps_value (n : Fin 4096) (l : Fin 2048) (q : Fin 32) (g : Fin 4) (i : Fin 128) (k : Fin 256)
    (hn : (n : ℕ) = q * 128 + i) (hl : (l : ℕ) = 1024 + g * 256 + k) : A.dps n l = (A.blk q g).dsv i k := by
  have e : ¬ (l : ℕ) < 1024 := by omega
  have e1 : (⟨n / 128, by omega⟩ : Fin 32) = q := Fin.ext (by simp only []; omega)
  have e2 : (⟨(l - 1024) / 256, by omega⟩ : Fin 4) = g := Fin.ext (by simp only []; omega)
  have e3 : (⟨n % 128, by omega⟩ : Fin 128) = i := Fin.ext (by simp only []; omega)
  have e4 : (⟨l % 256, by omega⟩ : Fin 256) = k := Fin.ext (by simp only []; omega)
  rw [Args.dps, dif_neg e, e1, e2, e3, e4]

/-- A tile of the gate's gradient, placed. -/
theorem tile_gate (t : Fin cfg0.N) (g : Fin 4) (p : Fin 2) (X : Vec Ideal S128x256 .bf16)
    (hX : ∀ (q : Fin 32), (q : ℕ) = t.val * 2 + p → ∀ (i : Fin 128) (k : Fin 256), X (ix2 i k) = (((A.blk q g).dsu i k : ℝ) : EReal))
    (x : S128x256.Idx) (n : Fin 4096) (y0 y1 : ℕ) (l : Fin 2048) (hn : (n : ℕ) = t.val * 256 + y0) (hl : (l : ℕ) = y1)
    (h0 : y0 = p * 128 + (x 0 : Fin 128)) (h1 : y1 = g * 256 + (x 1 : Fin 256)) : X x = ((A.dps n l : ℝ) : EReal) := by
  have ht : t.val < 16 := lt_of_lt_of_eq t.isLt N_0
  idx_vars x
  rw [hX ⟨t.val * 2 + p, by omega⟩ rfl]
  congr 1
  refine (dps_gate _ _ _ _ _ _ ?_ ?_).symm
  · change y0 = p * 128 + (x0 : ℕ) at h0; change (n : ℕ) = (t.val * 2 + p) * 128 + x0; omega
  · change y1 = g * 256 + (x1 : ℕ) at h1; omega

/-- A tile of the value's gradient, placed. -/
theorem tile_value (t : Fin cfg0.N) (g : Fin 4) (p : Fin 2) (X : Vec Ideal S128x256 .bf16)
    (hX : ∀ (q : Fin 32), (q : ℕ) = t.val * 2 + p → ∀ (i : Fin 128) (k : Fin 256), X (ix2 i k) = (((A.blk q g).dsv i k : ℝ) : EReal))
    (x : S128x256.Idx) (n : Fin 4096) (y0 y1 : ℕ) (l : Fin 2048) (hn : (n : ℕ) = t.val * 256 + y0) (hl : (l : ℕ) = y1)
    (h0 : y0 = p * 128 + (x 0 : Fin 128)) (h1 : y1 = 1024 + g * 256 + (x 1 : Fin 256)) : X x = ((A.dps n l : ℝ) : EReal) := by
  have ht : t.val < 16 := lt_of_lt_of_eq t.isLt N_0
  idx_vars x
  rw [hX ⟨t.val * 2 + p, by omega⟩ rfl]
  congr 1
  refine (dps_value _ _ _ _ _ _ ?_ ?_).symm
  · change y0 = p * 128 + (x0 : ℕ) at h0; change (n : ℕ) = (t.val * 2 + p) * 128 + x0; omega
  · change y1 = 1024 + g * 256 + (x1 : ℕ) at h1; omega

variable {m : (ℓ : Loc nD τ sig) → Buf (Elt Ideal) ℓ} {c : Dev nD} (H : Holds A m c)
include H

theorem blockA (t : Fin cfg0.N) (hz : (t : ℕ) % 16 = 0) (y0 : Fin 256) (y1 : Fin 2048) (n : Fin 4096) (hn : (n : ℕ) = t.val * 256 + y0) :
    (outsAt0 m c t.val t.isLt).1 (ix2 y0 y1) = ((A.dps n y1 : ℝ) : EReal) := by
  rw [outsAt0_A m c t hz]
  frame_open
  simp (disch := decide) only [↓ View.readCov_skip, ↓ View.readCov_cons_toLoadRect, ↓ View.readCov_fill]
  frame_out
  canon_tiles x h
  · exact tile_value t 3 1 _ (fun q hq i k => dsv_at (loadsAt H t 3 1 q hq) i k) x n _ _ y1 hn rfl (h0.trans (by first | rfl | exact (Nat.zero_add _).symm)) (h1.trans (by first | rfl | exact (Nat.zero_add _).symm))
  · exact tile_gate t 3 1 _ (fun q hq i k => dsu_at (loadsAt H t 3 1 q hq) i k) x n _ _ y1 hn rfl (h0.trans (by first | rfl | exact (Nat.zero_add _).symm)) (h1.trans (by first | rfl | exact (Nat.zero_add _).symm))
  · exact tile_value t 3 0 _ (fun q hq i k => dsv_at (loadsAt H t 3 0 q hq) i k) x n _ _ y1 hn rfl (h0.trans (by first | rfl | exact (Nat.zero_add _).symm)) (h1.trans (by first | rfl | exact (Nat.zero_add _).symm))
  · exact tile_gate t 3 0 _ (fun q hq i k => dsu_at (loadsAt H t 3 0 q hq) i k) x n _ _ y1 hn rfl (h0.trans (by first | rfl | exact (Nat.zero_add _).symm)) (h1.trans (by first | rfl | exact (Nat.zero_add _).symm))
  · exact tile_value t 2 1 _ (fun q hq i k => dsv_at (loadsAt H t 2 1 q hq) i k) x n _ _ y1 hn rfl (h0.trans (by first | rfl | exact (Nat.zero_add _).symm)) (h1.trans (by first | rfl | exact (Nat.zero_add _).symm))
  · exact tile_gate t 2 1 _ (fun q hq i k => dsu_at (loadsAt H t 2 1 q hq) i k) x n _ _ y1 hn rfl (h0.trans (by first | rfl | exact (Nat.zero_add _).symm)) (h1.trans (by first | rfl | exact (Nat.zero_add _).symm))
  · exact tile_value t 2 0 _ (fun q hq i k => dsv_at (loadsAt H t 2 0 q hq) i k) x n _ _ y1 hn rfl (h0.trans (by first | rfl | exact (Nat.zero_add _).symm)) (h1.trans (by first | rfl | exact (Nat.zero_add _).symm))
  · exact tile_gate t 2 0 _ (fun q hq i k => dsu_at (loadsAt H t 2 0 q hq) i k) x n _ _ y1 hn rfl (h0.trans (by first | rfl | exact (Nat.zero_add _).symm)) (h1.trans (by first | rfl | exact (Nat.zero_add _).symm))
  · exact tile_value t 1 1 _ (fun q hq i k => dsv_at (loadsAt H t 1 1 q hq) i k) x n _ _ y1 hn rfl (h0.trans (by first | rfl | exact (Nat.zero_add _).symm)) (h1.trans (by first | rfl | exact (Nat.zero_add _).symm))
  · exact tile_gate t 1 1 _ (fun q hq i k => dsu_at (loadsAt H t 1 1 q hq) i k) x n _ _ y1 hn rfl (h0.trans (by first | rfl | exact (Nat.zero_add _).symm)) (h1.trans (by first | rfl | exact (Nat.zero_add _).symm))
  · exact tile_value t 1 0 _ (fun q hq i k => dsv_at (loadsAt H t 1 0 q hq) i k) x n _ _ y1 hn rfl (h0.trans (by first | rfl | exact (Nat.zero_add _).symm)) (h1.trans (by first | rfl | exact (Nat.zero_add _).symm))
  · exact tile_gate t 1 0 _ (fun q hq i k => dsu_at (loadsAt H t 1 0 q hq) i k) x n _ _ y1 hn rfl (h0.trans (by first | rfl | exact (Nat.zero_add _).symm)) (h1.trans (by first | rfl | exact (Nat.zero_add _).symm))
  · exact tile_value t 0 1 _ (fun q hq i k => dsv_at (loadsAt H t 0 1 q hq) i k) x n _ _ y1 hn rfl (h0.trans (by first | rfl | exact (Nat.zero_add _).symm)) (h1.trans (by first | rfl | exact (Nat.zero_add _).symm))
  · exact tile_gate t 0 1 _ (fun q hq i k => dsu_at (loadsAt H t 0 1 q hq) i k) x n _ _ y1 hn rfl (h0.trans (by first | rfl | exact (Nat.zero_add _).symm)) (h1.trans (by first | rfl | exact (Nat.zero_add _).symm))
  · exact tile_value t 0 0 _ (fun q hq i k => dsv_at (loadsAt H t 0 0 q hq) i k) x n _ _ y1 hn rfl (h0.trans (by first | rfl | exact (Nat.zero_add _).symm)) (h1.trans (by first | rfl | exact (Nat.zero_add _).symm))
  · exact tile_gate t 0 0 _ (fun q hq i k => dsu_at (loadsAt H t 0 0 q hq) i k) x n _ _ y1 hn rfl (h0.trans (by first | rfl | exact (Nat.zero_add _).symm)) (h1.trans (by first | rfl | exact (Nat.zero_add _).symm))

theorem blockB (t : Fin cfg0.N) (hz : ¬ (t : ℕ) % 16 = 0) (y0 : Fin 256) (y1 : Fin 2048) (n : Fin 4096) (hn : (n : ℕ) = t.val * 256 + y0) :
    (outsAt0 m c t.val t.isLt).1 (ix2 y0 y1) = ((A.dps n y1 : ℝ) : EReal) := by
  rw [outsAt0_B m c t hz]
  frame_open
  simp (disch := decide) only [↓ View.readCov_skip, ↓ View.readCov_cons_toLoadRect, ↓ View.readCov_fill]
  frame_out
  canon_tiles x h
  · exact tile_value t 3 1 _ (fun q hq i k => dsv_at (loadsAt H t 3 1 q hq) i k) x n _ _ y1 hn rfl (h0.trans (by first | rfl | exact (Nat.zero_add _).symm)) (h1.trans (by first | rfl | exact (Nat.zero_add _).symm))
  · exact tile_gate t 3 1 _ (fun q hq i k => dsu_at (loadsAt H t 3 1 q hq) i k) x n _ _ y1 hn rfl (h0.trans (by first | rfl | exact (Nat.zero_add _).symm)) (h1.trans (by first | rfl | exact (Nat.zero_add _).symm))
  · exact tile_value t 3 0 _ (fun q hq i k => dsv_at (loadsAt H t 3 0 q hq) i k) x n _ _ y1 hn rfl (h0.trans (by first | rfl | exact (Nat.zero_add _).symm)) (h1.trans (by first | rfl | exact (Nat.zero_add _).symm))
  · exact tile_gate t 3 0 _ (fun q hq i k => dsu_at (loadsAt H t 3 0 q hq) i k) x n _ _ y1 hn rfl (h0.trans (by first | rfl | exact (Nat.zero_add _).symm)) (h1.trans (by first | rfl | exact (Nat.zero_add _).symm))
  · exact tile_value t 2 1 _ (fun q hq i k => dsv_at (loadsAt H t 2 1 q hq) i k) x n _ _ y1 hn rfl (h0.trans (by first | rfl | exact (Nat.zero_add _).symm)) (h1.trans (by first | rfl | exact (Nat.zero_add _).symm))
  · exact tile_gate t 2 1 _ (fun q hq i k => dsu_at (loadsAt H t 2 1 q hq) i k) x n _ _ y1 hn rfl (h0.trans (by first | rfl | exact (Nat.zero_add _).symm)) (h1.trans (by first | rfl | exact (Nat.zero_add _).symm))
  · exact tile_value t 2 0 _ (fun q hq i k => dsv_at (loadsAt H t 2 0 q hq) i k) x n _ _ y1 hn rfl (h0.trans (by first | rfl | exact (Nat.zero_add _).symm)) (h1.trans (by first | rfl | exact (Nat.zero_add _).symm))
  · exact tile_gate t 2 0 _ (fun q hq i k => dsu_at (loadsAt H t 2 0 q hq) i k) x n _ _ y1 hn rfl (h0.trans (by first | rfl | exact (Nat.zero_add _).symm)) (h1.trans (by first | rfl | exact (Nat.zero_add _).symm))
  · exact tile_value t 1 1 _ (fun q hq i k => dsv_at (loadsAt H t 1 1 q hq) i k) x n _ _ y1 hn rfl (h0.trans (by first | rfl | exact (Nat.zero_add _).symm)) (h1.trans (by first | rfl | exact (Nat.zero_add _).symm))
  · exact tile_gate t 1 1 _ (fun q hq i k => dsu_at (loadsAt H t 1 1 q hq) i k) x n _ _ y1 hn rfl (h0.trans (by first | rfl | exact (Nat.zero_add _).symm)) (h1.trans (by first | rfl | exact (Nat.zero_add _).symm))
  · exact tile_value t 1 0 _ (fun q hq i k => dsv_at (loadsAt H t 1 0 q hq) i k) x n _ _ y1 hn rfl (h0.trans (by first | rfl | exact (Nat.zero_add _).symm)) (h1.trans (by first | rfl | exact (Nat.zero_add _).symm))
  · exact tile_gate t 1 0 _ (fun q hq i k => dsu_at (loadsAt H t 1 0 q hq) i k) x n _ _ y1 hn rfl (h0.trans (by first | rfl | exact (Nat.zero_add _).symm)) (h1.trans (by first | rfl | exact (Nat.zero_add _).symm))
  · exact tile_value t 0 1 _ (fun q hq i k => dsv_at (loadsAt H t 0 1 q hq) i k) x n _ _ y1 hn rfl (h0.trans (by first | rfl | exact (Nat.zero_add _).symm)) (h1.trans (by first | rfl | exact (Nat.zero_add _).symm))
  · exact tile_gate t 0 1 _ (fun q hq i k => dsu_at (loadsAt H t 0 1 q hq) i k) x n _ _ y1 hn rfl (h0.trans (by first | rfl | exact (Nat.zero_add _).symm)) (h1.trans (by first | rfl | exact (Nat.zero_add _).symm))
  · exact tile_value t 0 0 _ (fun q hq i k => dsv_at (loadsAt H t 0 0 q hq) i k) x n _ _ y1 hn rfl (h0.trans (by first | rfl | exact (Nat.zero_add _).symm)) (h1.trans (by first | rfl | exact (Nat.zero_add _).symm))
  · exact tile_gate t 0 0 _ (fun q hq i k => dsu_at (loadsAt H t 0 0 q hq) i k) x n _ _ y1 hn rfl (h0.trans (by first | rfl | exact (Nat.zero_add _).symm)) (h1.trans (by first | rfl | exact (Nat.zero_add _).symm))

theorem arr6 : (dats m 0 c).arrAt 6 cfg0.N = fun y : S4096x2048.Idx => ((A.dps (y 0) (y 1) : ℝ) : EReal) := by
  refine (dats m 0 c).arrAt_eq_of_covers 6 _ (by decide +kernel) fun t hf y => ?_
  idx_vars y
  blk_simp
  have ht : t.val < 16 := lt_of_lt_of_eq t.isLt N_0
  have e0 : (win0_6.blk t).view.emb (ix2 y0 y1) 0 = (⟨t.val * 256 + y0, by omega⟩ : Fin 4096) := by
    apply Fin.ext
    blk_simp [idx t]
  have e1 : (win0_6.blk t).view.emb (ix2 y0 y1) 1 = y1 := by
    apply Fin.ext
    blk_simp [idx t]
  rw [after0_6, e0, e1]
  by_cases hz : (t : ℕ) % 16 = 0
  · exact blockA H t hz y0 y1 _ rfl
  · exact blockB H t hz y0 y1 _ rfl
end Cert.KernelIdeal.Tiles
end
-- ==== Proof.RefFwd.lean ====
module

public import proofs.«01_k».proof.Proof.Gen.ReferenceIdeal.Run
public import proofs.«01_k».proof.Proof.Spec
public import Idealize.ShloMosaic.Lib.Pointwise

@[expose] public section

set_option maxRecDepth 16384

/-!
What the reference's forward values are: gelu, layer norm, the masked mixing.
-/

noncomputable section
open Idealize.ShloMosaic Idealize.ShloMosaic.TcCoe Idealize.SL.Sem
namespace Cert.ReferenceIdeal.Fwd
open Cert.ReferenceIdeal Cert.ReferenceIdeal.Gen Cert.ReferenceIdeal.Value Cert.Sgu

/-- The reference's arguments hold the real numbers `A`. -/
structure Holds (A : Args) (V0 : Valuation τ sig (Elt Ideal)) : Prop where
  ps : ∀ (n : Fin 4096) (l : Fin 2048), (V0 (Proc.devRef .tc main_arg0) : Vec Ideal S4096x2048 .bf16) (ix2 n l) = ((A.ps n l : ℝ) : EReal)
  lg : ∀ (g : Fin 4) (k : Fin 256), (V0 (Proc.devRef .tc main_arg1) : Vec Ideal S4x256 .f32) (ix2 g k) = ((A.lg g k : ℝ) : EReal)
  lb : ∀ (g : Fin 4) (k : Fin 256), (V0 (Proc.devRef .tc main_arg2) : Vec Ideal S4x256 .f32) (ix2 g k) = ((A.lb g k : ℝ) : EReal)
  w : ∀ (g : Fin 4) (i j : Fin 128), (V0 (Proc.devRef .tc main_arg3) : Vec Ideal S4x128x128 .f32) (ix3 g i j) = ((A.w g i j : ℝ) : EReal)
  b : ∀ (g : Fin 4) (i : Fin 128), (V0 (Proc.devRef .tc main_arg4) : Vec Ideal S4x128 .f32) (ix2 g i) = ((A.b g i : ℝ) : EReal)
  dy : ∀ (n : Fin 4096) (l : Fin 1024), (V0 (Proc.devRef .tc main_arg5) : Vec Ideal S4096x1024 .bf16) (ix2 n l) = ((A.dy n l : ℝ) : EReal)

/-- The argument of the reference's `tanh`, which sums before it scales. -/
theorem gt_eq (x : ℝ) : Real.tanh (gC * (x + gA * (x * x * x))) = gt x := by
  unfold gt; congr 1; ring

/-- The reference's quotient by 64, rounded towards minus infinity. -/
def half (x : BitVec 32) : BitVec 32 :=
  Scalar.select
    (IntOp.andi
      (IntOp.cmpi CmpIPredicate.ne (if x = 0 then 0 else if x.msb = true then -1 else 1 : BitVec 32)
        (if (64#32 : BitVec 32) = 0 then 0 else if BitVec.msb (64#32 : BitVec 32) = true then -1 else 1 : BitVec 32))
      (IntOp.cmpi CmpIPredicate.ne (IntOp.remsi ArithUnit.host x 64#32) 0#32))
    (IntOp.subi (IntOp.divsi ArithUnit.host x 64#32) 1#32) (IntOp.divsi ArithUnit.host x 64#32)

theorem half_ofNat : ∀ i : Fin 128, half (BitVec.ofNat 32 i) = BitVec.ofNat 32 ((i : ℕ) / 64) := by decide +kernel

theorem tok_div (q : Fin 32) (i : Fin 128) (h) : (⟨(Args.tok q i : ℕ) / 128, h⟩ : Fin 32) = q :=
  Fin.ext (by simp only [Args.tok]; omega)
theorem tok_mod (q : Fin 32) (i : Fin 128) (h) : (⟨(Args.tok q i : ℕ) % 128, h⟩ : Fin 128) = i :=
  Fin.ext (by simp only [Args.tok]; omega)
theorem chan_div (g : Fin 4) (k : Fin 256) (h) : (⟨(Args.chan g k : ℕ) / 256, h⟩ : Fin 4) = g :=
  Fin.ext (by simp only [Args.chan]; omega)
theorem chan_mod (g : Fin 4) (k : Fin 256) (h) : (⟨(Args.chan g k : ℕ) % 256, h⟩ : Fin 256) = k :=
  Fin.ext (by simp only [Args.chan]; omega)

variable {A : Args} {V0 : Valuation τ sig (Elt Ideal)} (H : Holds A V0)
include H
variable (q : Fin 32) (i : Fin 128) (g : Fin 4) (k : Fin 256)

theorem v3_at : res_main_v3 V0 (ix3 0 (Args.tok q i) (Args.chan g k)) = (((A.blk q g).su i k : ℝ) : EReal) := by
  pointwise [res_main_v3, res_main_v0, H.ps]
  rfl
theorem v4_at : res_main_v4 V0 (ix3 0 (Args.tok q i) (Args.chan g k)) = (((A.blk q g).sv i k : ℝ) : EReal) := by
  pointwise [res_main_v4, res_main_v0, H.ps]
  rfl
theorem v15_at : res_main_v15 V0 (ix3 0 (Args.tok q i) (Args.chan g k)) = ((gt ((A.blk q g).su i k) : ℝ) : EReal) := by
  pointwise [res_main_v15, v3_at H, w_C, w_A]
  simp only [← EReal.coe_one, ← EReal.coe_mul, ← EReal.coe_add, ← EReal.coe_sub, Ideal.tanh_coe, gt_eq]
theorem v36_at : res_main_v36 V0 (ix3 0 (Args.tok q i) (Args.chan g k)) = ((gt ((A.blk q g).sv i k) : ℝ) : EReal) := by
  pointwise [res_main_v36, v4_at H, w_C, w_A]
  simp only [← EReal.coe_one, ← EReal.coe_mul, ← EReal.coe_add, ← EReal.coe_sub, Ideal.tanh_coe, gt_eq]
theorem v24_at : res_main_v24 V0 (ix3 0 (Args.tok q i) (Args.chan g k)) = ((1 / 2 * (1 + gt ((A.blk q g).su i k)) : ℝ) : EReal) := by
  pointwise [res_main_v24, v15_at H, w_half]
  simp only [← EReal.coe_one, ← EReal.coe_mul, ← EReal.coe_add, ← EReal.coe_sub]
theorem v45_at : res_main_v45 V0 (ix3 0 (Args.tok q i) (Args.chan g k)) = ((1 / 2 * (1 + gt ((A.blk q g).sv i k)) : ℝ) : EReal) := by
  pointwise [res_main_v45, v36_at H, w_half]
  simp only [← EReal.coe_one, ← EReal.coe_mul, ← EReal.coe_add, ← EReal.coe_sub]
theorem v25_at : res_main_v25 V0 (ix3 0 (Args.tok q i) (Args.chan g k)) = ((gelu ((A.blk q g).su i k) : ℝ) : EReal) := by
  pointwise [res_main_v25, v24_at H, v3_at H]
  rw [← EReal.coe_mul]; unfold gelu; congr 1; ring
theorem v47_at : res_main_v47 V0 (ix4 0 (Args.tok q i) g k) = (((A.blk q g).row i k : ℝ) : EReal) := by
  pointwise [res_main_v47]
  refine (congrArg₂ (fun a b : EReal => a * b) (v4_at H q i g k) (v45_at H q i g k)).trans ?_
  rw [← EReal.coe_mul]; unfold Blk.row gelu; congr 1; ring
theorem v51_at : res_main_v51 V0 (ix4 0 (Args.tok q i) g 0) = ((mean ((A.blk q g).row i) : ℝ) : EReal) := by
  pointwise [res_main_v51, v47_at H, w_256]
  simp only [coe_sum, div_256, ← EReal.coe_mul]
  rfl
theorem v53_at : res_main_v53 V0 (ix4 0 (Args.tok q i) g k) = ((cen ((A.blk q g).row i) k : ℝ) : EReal) := by
  pointwise [res_main_v53, v47_at H, v51_at H]
  rw [← EReal.coe_sub]; rfl
theorem v62_at : res_main_v62 V0 (ix4 0 (Args.tok q i) g k) = ((cen ((A.blk q g).row i) k : ℝ) : EReal) := by
  pointwise [res_main_v62, v47_at H, v51_at H]
  rw [← EReal.coe_sub]; rfl
theorem v64_at : res_main_v64 V0 (ix4 0 (Args.tok q i) g 0) = ((vare ((A.blk q g).row i) : ℝ) : EReal) := by
  pointwise [res_main_v64, v53_at H, w_256, w_eps]
  simp only [coe_sum, div_256, ← EReal.coe_mul, ← EReal.coe_add]
  rfl
theorem v65_at : res_main_v65 V0 (ix4 0 (Args.tok q i) g 0) = ((rstd ((A.blk q g).row i) : ℝ) : EReal) := by
  pointwise [res_main_v65, v64_at H]
  exact rsqrt_vare _
theorem v70_at : res_main_v70 V0 (ix4 0 (Args.tok q i) g k) = (((A.blk q g).xh i k : ℝ) : EReal) := by
  pointwise [res_main_v70, v62_at H, v65_at H]
  rw [← EReal.coe_mul]; rfl
theorem v77_at : res_main_v77 V0 (ix5 0 q i g k) = (((A.blk q g).vn i k : ℝ) : EReal) := by
  pointwise [res_main_v77, res_main_v71, H.lg, H.lb]
  refine (congrArg (fun a : EReal => a * ((A.lg g k : ℝ) : EReal) + ((A.lb g k : ℝ) : EReal)) (v70_at H q i g k)).trans ?_
  rw [← EReal.coe_mul, ← EReal.coe_add]
  rfl
theorem v87_1_at (j : Fin 128) : res_main_v87_1 V0 (ix3 g i j) = if Keep i j then 1#1 else 0#1 := by
  pointwise [res_main_v87_1, res_main_v79, res_main_v78, res_main_v81, res_main_call0_v0, res_main_call1_v0, res_main_call0_v2, res_main_call1_v2]
  change IntOp.cmpi .sle (half (BitVec.ofNat 32 j)) (half (BitVec.ofNat 32 i)) = _
  rw [half_ofNat, half_ofNat]
  unfold Keep
  revert i j
  decide +kernel
theorem v87_0_at (j : Fin 128) : res_main_v87_0 V0 (ix3 g i j) = (((A.blk q g).wm i j : ℝ) : EReal) := by
  pointwise [res_main_v87_0, v87_1_at H, H.w, id]
  unfold Blk.wm
  by_cases h : Keep i j
  · simp only [h, if_true]; rfl
  · simp only [h, if_false]; exact (show Scalar.select 0#1 _ (0 : EReal) = 0 from rfl).trans EReal.coe_zero.symm
theorem v95_at : res_main_v95 V0 (ix3 0 (Args.tok q i) (Args.chan g k)) = (((A.blk q g).mixed i k : ℝ) : EReal) := by
  pointwise [res_main_v95]
  simp only [tok_div, tok_mod, chan_div, chan_mod, v77_at H, v87_0_at H q, H.b, ← EReal.coe_mul, coe_sum, ← EReal.coe_add]
  unfold Blk.mixed
  simp only [mul_comm]
  rfl
end Cert.ReferenceIdeal.Fwd
end
-- ==== Proof.RefBwd.lean ====
module

public import proofs.«01_k».proof.Proof.RefFwd

@[expose] public section

set_option maxRecDepth 16384

/-!
What the reference's backward values are, up to the gradients of gelu's two arguments.
-/

noncomputable section
open Idealize.ShloMosaic Idealize.ShloMosaic.TcCoe Idealize.SL.Sem
namespace Cert.ReferenceIdeal.Bwd
open Cert.ReferenceIdeal Cert.ReferenceIdeal.Gen Cert.ReferenceIdeal.Value Cert.Sgu Cert.ReferenceIdeal.Fwd

/-- A host sum at an index, along any family of source indices that are those which drop to it. -/
theorem reduceAdd_of {s t u : Shape} {axes : List (Fin s.rank)} {K : Type} [Fintype K] (x : FVec Ideal s .f32) (init : u.Idx → Ideal .f32)
    (h : s.ReducesTo axes t) (hu : 0 < u.numel) (j : t.Idx) (emb : K → s.Idx) (inj : Function.Injective emb)
    (fib : ∀ i, h.drop i = j ↔ ∃ k, emb k = i) :
    (Host.reduceAdd x init h hu j : EReal) = init (Shape.Idx.first hu) + ∑ k, (x (emb k) : EReal) :=
  congrArg (fun z : EReal => init (Shape.Idx.first hu) + z) (Finset.sum_filter_eq_sum_of_fiber _ emb inj fib _)

/-- The sum over the two axes of extent one of a [1, 4096, 4, 1] array. -/
theorem reduce03 (x : FVec Ideal S1x4096x4x1 .f32) (h : S1x4096x4x1.ReducesTo [0, 3] S4096x4) (hu) (n : Fin 4096) (g : Fin 4) :
    (Host.reduceAdd x (constant S_ .f32 0x00000000#32) h hu (ix2 n g) : EReal) = x (ix4 0 n g 0) := by
  rw [reduceAdd_of x _ h hu (ix2 n g) (fun _ : Unit => ix4 0 n g 0) (fun _ _ _ => rfl)]
  · rw [Finset.univ_unique, Finset.sum_singleton]
    exact (congrArg (· + _) (Ideal.ofBits_zero .f32)).trans (zero_add _)
  · intro i
    idx_vars i
    constructor
    · intro e
      refine ⟨(), ?_⟩
      have e0 : i1 = n := Fin.ext (congrArg Fin.val (congrFun e 0))
      have e1 : i2 = g := Fin.ext (congrArg Fin.val (congrFun e 1))
      rw [e0, e1, Subsingleton.elim i0 0, Subsingleton.elim i3 0]
    · rintro ⟨_, e⟩
      have e0 : n = i1 := congrFun e 1
      have e1 : g = i2 := congrFun e 2
      rw [e0, e1]
      funext b
      apply Fin.ext
      match b with
      | ⟨0, _⟩ => rfl
      | ⟨1, _⟩ => rfl

theorem div_coe (a b : ℝ) (hb : b ≠ 0) : Ideal.div (a : EReal) (b : EReal) = ((a / b : ℝ) : EReal) := by
  rw [Ideal.div_coe hb, ← EReal.coe_mul]; congr 1; ring

/-- The gradient through layer norm, as the reference adds it up: the part through the normalised value, the part
    through the variance and the part through the mean. -/
theorem norm_grad (v d : Fin 256 → ℝ) (k : Fin 256) :
    d k * rstd v + (∑ l, cen v l * d l) * (-(1 / 2) * (rstd v / vare v)) * (1 / 256) * (2 * cen v k)
      + (∑ x, -(d x * rstd v) + ∑ x, -((∑ l, cen v l * d l) * (-(1 / 2) * (rstd v / vare v)) * (1 / 256) * (2 * cen v x))) * (1 / 256)
    = rstd v * (d k - mean d - xhat v k * mean (fun l => d l * xhat v l)) := by
  have h0 : ∑ x, -((∑ l, cen v l * d l) * (-(1 / 2) * (rstd v / vare v)) * (1 / 256) * (2 * cen v x)) = 0 := by
    rw [Finset.sum_neg_distrib, ← Finset.mul_sum, ← Finset.mul_sum, sum_cen]; ring
  have h1 : ∑ x, -(d x * rstd v) = -((∑ x, d x) * rstd v) := by
    rw [Finset.sum_neg_distrib, Finset.sum_mul]
  have h2 : ∑ l, d l * xhat v l = (∑ l, cen v l * d l) * rstd v := by
    rw [Finset.sum_mul]
    exact Finset.sum_congr rfl fun l _ => by unfold xhat; ring
  rw [h0, h1]
  unfold mean
  rw [h2]
  have h3 := rstd_sq v
  unfold xhat
  rw [div_eq_mul_inv (rstd v) (vare v), ← h3]
  ring

variable {A : Args} {V0 : Valuation τ sig (Elt Ideal)} (H : Holds A V0)
include H
variable (q : Fin 32) (i : Fin 128) (g : Fin 4) (k : Fin 256)

theorem v99_at : res_main_v99 V0 (ix3 0 (Args.tok q i) (Args.chan g k)) = (((A.blk q g).dy i k : ℝ) : EReal) := by
  pointwise [res_main_v99, H.dy]
  rfl
theorem v101_at : res_main_v101 V0 (ix3 0 (Args.tok q i) (Args.chan g k))
    = (((A.blk q g).dy i k * (A.blk q g).mixed i k : ℝ) : EReal) := by
  pointwise [res_main_v101, v99_at H, v95_at H]
  rw [← EReal.coe_mul]
theorem v102_at : res_main_v102 V0 (ix5 0 q i g k) = (((A.blk q g).dmix i k : ℝ) : EReal) := by
  pointwise [res_main_v102]
  refine (congrArg₂ (fun a b : EReal => a * b) (v25_at H q i g k) (v99_at H q i g k)).trans ?_
  rw [← EReal.coe_mul, mul_comm]; rfl
theorem v109_at : res_main_v109 V0 (ix5 g 0 q k i) = (((A.blk q g).dmix i k : ℝ) : EReal) := by
  pointwise [res_main_v109, v102_at H]
theorem v114_at : res_main_v114 V0 (ix4 0 (Args.tok q i) g k) = (((A.blk q g).dvn i k : ℝ) : EReal) := by
  pointwise [res_main_v114]
  simp only [tok_div, tok_mod, v109_at H, v87_0_at H q, ← EReal.coe_mul, coe_sum]
  unfold Blk.dvn
  simp only [mul_comm]
theorem v122_at : res_main_v122 V0 (ix4 0 (Args.tok q i) g k) = (((A.blk q g).dxh i k : ℝ) : EReal) := by
  pointwise [res_main_v122, res_main_v71, v114_at H, H.lg]
  rw [← EReal.coe_mul]; rfl
theorem v128_at : res_main_v128 V0 (ix4 0 (Args.tok q i) g k)
    = (((A.blk q g).dxh i k * rstd ((A.blk q g).row i) : ℝ) : EReal) := by
  pointwise [res_main_v128, v122_at H, v65_at H]
  rw [← EReal.coe_mul]
/-- The variance's gradient, spread over its row. -/
theorem v138_at : res_main_v138 V0 (ix4 0 (Args.tok q i) g k)
    = ((((∑ l, cen ((A.blk q g).row i) l * (A.blk q g).dxh i l)
        * (-(1 / 2) * (rstd ((A.blk q g).row i) / vare ((A.blk q g).row i))) * (1 / 256))
        * (2 * cen ((A.blk q g).row i) k) : ℝ) : EReal) := by
  pointwise [res_main_v138, reduce03, v62_at H, v122_at H, v65_at H, v64_at H, v53_at H, w_two, w_neg_half, w_256]
  simp only [div_coe _ _ (vare_pos _).ne', div_256, ← EReal.coe_mul, coe_sum]
theorem v150_at : res_main_v150 V0 (ix3 0 (Args.tok q i) (Args.chan g k)) = (((A.blk q g).dvf i k : ℝ) : EReal) := by
  pointwise [res_main_v150, reduce03]
  simp only [chan_div, chan_mod]
  pointwise [v128_at H, v138_at H, w_256]
  simp only [← EReal.coe_neg, ← EReal.coe_mul, coe_sum, ← EReal.coe_add, div_256]
  congr 1
  exact norm_grad _ _ k
end Cert.ReferenceIdeal.Bwd
end
-- ==== Proof.RefOut.lean ====
module

public import proofs.«01_k».proof.Proof.RefBwd
public import Idealize.ShloMosaic.Lib.Pipeline.ValueKit.Acc

@[expose] public section

set_option maxRecDepth 16384

/-!
What the reference's results are.
-/

noncomputable section
open Idealize.ShloMosaic Idealize.ShloMosaic.TcCoe Idealize.SL.Sem
namespace Cert.ReferenceIdeal.Out
open Cert.ReferenceIdeal Cert.ReferenceIdeal.Gen Cert.ReferenceIdeal.Value Cert.Sgu Cert.ReferenceIdeal.Fwd Cert.ReferenceIdeal.Bwd

variable {A : Args} {V0 : Valuation τ sig (Elt Ideal)} (H : Holds A V0)
include H
variable (q : Fin 32) (i : Fin 128) (g : Fin 4) (k : Fin 256)

theorem v157_at : res_main_v157 V0 (ix3 0 (Args.tok q i) (Args.chan g k))
    = ((gC * ((1 / 2 * ((A.blk q g).sv i k * (A.blk q g).dvf i k)) * ((1 + gt ((A.blk q g).sv i k)) * (1 - gt ((A.blk q g).sv i k)))) : ℝ) : EReal) := by
  pointwise [res_main_v157, v4_at H, v150_at H, v36_at H, w_half, w_C]
  simp only [← EReal.coe_one, ← EReal.coe_mul, ← EReal.coe_add, ← EReal.coe_sub]
theorem v169_at : res_main_v169 V0 (ix3 0 (Args.tok q i) (Args.chan g k))
    = ((gC * ((1 / 2 * ((A.blk q g).su i k * ((A.blk q g).dy i k * (A.blk q g).mixed i k))) * ((1 + gt ((A.blk q g).su i k)) * (1 - gt ((A.blk q g).su i k)))) : ℝ) : EReal) := by
  pointwise [res_main_v169, v3_at H, v101_at H, v15_at H, w_half, w_C]
  simp only [← EReal.coe_one, ← EReal.coe_mul, ← EReal.coe_add, ← EReal.coe_sub]

omit H in
/-- Gelu's gradient as the reference adds it up. -/
theorem gelu_grad (x y : ℝ) :
    y * (1 / 2 * (1 + gt x)) + gC * (1 / 2 * (x * y) * ((1 + gt x) * (1 - gt x)))
      + gA * (gC * (1 / 2 * (x * y) * ((1 + gt x) * (1 - gt x)))) * (3 * (x * x)) = y * dgelu x := by
  unfold dgelu; ring

theorem gate_at (h : S1x4096x1024.ReducesTo [0] S4096x1024) (hu) :
    (Host.reduceAdd (addf (addf (mulf (res_main_v101 V0) (res_main_v24 V0)) (res_main_v169 V0)) (mulf (mulf (broadcastInDim S1x4096x1024 ![] bcast_S_S1x4096x1024 (constant S_ .f32 0x3D372713#32)) (res_main_v169 V0)) (mulf (broadcastInDim S1x4096x1024 ![] bcast_S_S1x4096x1024 (constant S_ .f32 0x40400000#32)) (mulf (res_main_v3 V0) (res_main_v3 V0)))) : FVec Ideal S1x4096x1024 .f32) (constant S_ .f32 0x00000000#32) h hu (ix2 (Args.tok q i) (Args.chan g k)) : EReal)
      = (((A.blk q g).dsu i k : ℝ) : EReal) := by
  pointwise [w_A, w_three]
  refine (Fin.sum_univ_one _).trans ?_
  rw [v101_at H, v24_at H, v169_at H, v3_at H]
  simp only [← EReal.coe_mul, ← EReal.coe_add, gelu_grad]
  rfl
theorem value_at (h : S1x4096x1024.ReducesTo [0] S4096x1024) (hu) :
    (Host.reduceAdd (addf (addf (mulf (res_main_v150 V0) (res_main_v45 V0)) (res_main_v157 V0)) (mulf (mulf (broadcastInDim S1x4096x1024 ![] bcast_S_S1x4096x1024 (constant S_ .f32 0x3D372713#32)) (res_main_v157 V0)) (mulf (broadcastInDim S1x4096x1024 ![] bcast_S_S1x4096x1024 (constant S_ .f32 0x40400000#32)) (mulf (res_main_v4 V0) (res_main_v4 V0)))) : FVec Ideal S1x4096x1024 .f32) (constant S_ .f32 0x00000000#32) h hu (ix2 (Args.tok q i) (Args.chan g k)) : EReal)
      = (((A.blk q g).dsv i k : ℝ) : EReal) := by
  pointwise [w_A, w_three]
  refine (Fin.sum_univ_one _).trans ?_
  rw [v150_at H, v45_at H, v157_at H, v4_at H]
  simp only [← EReal.coe_mul, ← EReal.coe_add, gelu_grad]
  rfl

omit H in
/-- A sum over the tokens, block by block. -/
theorem sum_tok (f : Fin 4096 → EReal) : ∑ n, f n = ∑ q : Fin 32, ∑ i : Fin 128, f (Args.tok q i) :=
  (Fin.sum_mul_add_fin 32 128 f).symm

omit H in
/-- The sum over the first two axes, of extent one, of a [1, 1, 4, 256] array. -/
theorem reduce01 (x : FVec Ideal S1x1x4x256 .f32) (h : S1x1x4x256.ReducesTo [0, 1] S4x256) (hu) (g : Fin 4) (k : Fin 256) :
    (Host.reduceAdd x (constant S_ .f32 0x00000000#32) h hu (ix2 g k) : EReal) = x (ix4 0 0 g k) := by
  rw [reduceAdd_of x _ h hu (ix2 g k) (fun _ : Unit => ix4 0 0 g k) (fun _ _ _ => rfl)]
  · rw [Finset.univ_unique, Finset.sum_singleton]
    exact (congrArg (· + _) (Ideal.ofBits_zero .f32)).trans (zero_add _)
  · intro i
    idx_vars i
    constructor
    · intro e
      refine ⟨(), ?_⟩
      have e0 : i2 = g := Fin.ext (congrArg Fin.val (congrFun e 0))
      have e1 : i3 = k := Fin.ext (congrArg Fin.val (congrFun e 1))
      rw [e0, e1, Subsingleton.elim i0 0, Subsingleton.elim i1 0]
    · rintro ⟨_, e⟩
      have e0 : g = i2 := congrFun e 2
      have e1 : k = i3 := congrFun e 3
      rw [e0, e1]
      funext b
      apply Fin.ext
      match b with
      | ⟨0, _⟩ => rfl
      | ⟨1, _⟩ => rfl

omit H in
/-- The sum over the three axes of extent one of a [1, 1, 128, 4, 1] array. -/
theorem reduce014 (x : FVec Ideal S1x1x128x4x1 .f32) (h : S1x1x128x4x1.ReducesTo [0, 1, 4] S128x4) (hu) (i : Fin 128) (g : Fin 4) :
    (Host.reduceAdd x (constant S_ .f32 0x00000000#32) h hu (ix2 i g) : EReal) = x (ix5 0 0 i g 0) := by
  rw [reduceAdd_of x _ h hu (ix2 i g) (fun _ : Unit => ix5 0 0 i g 0) (fun _ _ _ => rfl)]
  · rw [Finset.univ_unique, Finset.sum_singleton]
    exact (congrArg (· + _) (Ideal.ofBits_zero .f32)).trans (zero_add _)
  · intro j
    idx_vars j
    constructor
    · intro e
      refine ⟨(), ?_⟩
      have e0 : j2 = i := Fin.ext (congrArg Fin.val (congrFun e 0))
      have e1 : j3 = g := Fin.ext (congrArg Fin.val (congrFun e 1))
      rw [e0, e1, Subsingleton.elim j0 0, Subsingleton.elim j1 0, Subsingleton.elim j4 0]
    · rintro ⟨_, e⟩
      have e0 : i = j2 := congrFun e 2
      have e1 : g = j3 := congrFun e 3
      rw [e0, e1]
      funext b
      apply Fin.ext
      match b with
      | ⟨0, _⟩ => rfl
      | ⟨1, _⟩ => rfl

omit H in
/-- The sum over the blocks and the channels of a [1, 32, 128, 4, 256] array. -/
theorem reduce14 (x : FVec Ideal S1x32x128x4x256 .f32) (h : S1x32x128x4x256.ReducesTo [1, 4] S1x128x4) (hu) (i : Fin 128) (g : Fin 4) :
    (Host.reduceAdd x (constant S_ .f32 0x00000000#32) h hu (ix3 0 i g) : EReal) = ∑ q : Fin 32, ∑ k : Fin 256, (x (ix5 0 q i g k) : EReal) := by
  rw [reduceAdd_of x _ h hu (ix3 0 i g) (fun p : Fin 32 × Fin 256 => ix5 0 p.1 i g p.2)
    (fun _ _ e => Prod.ext (congrFun e 1) (congrFun e 4))]
  · rw [Fintype.sum_prod_type]
    exact (congrArg (· + _) (Ideal.ofBits_zero .f32)).trans (zero_add _)
  · intro j
    idx_vars j
    constructor
    · intro e
      refine ⟨(j1, j4), ?_⟩
      have e0 : j2 = i := Fin.ext (congrArg Fin.val (congrFun e 1))
      have e1 : j3 = g := Fin.ext (congrArg Fin.val (congrFun e 2))
      rw [e0, e1, Subsingleton.elim j0 0]
    · rintro ⟨_, e⟩
      have e0 : i = j2 := congrFun e 2
      have e1 : g = j3 := congrFun e 3
      rw [e0, e1]
      funext b
      apply Fin.ext
      match b with
      | ⟨0, _⟩ => exact congrArg Fin.val (Subsingleton.elim (j0 : Fin 1) 0)
      | ⟨1, _⟩ => rfl
      | ⟨2, _⟩ => rfl

theorem dlg_at : (shapeCast S4x1x256 (Host.reduceAdd (shapeCast S1x1x4x256 (Host.reduceAdd (mulf (res_main_v70 V0) (res_main_v114 V0) : FVec Ideal S1x4096x4x256 .f32) (constant S_ .f32 0x00000000#32) reducesTo_S1x4096x4x256_S1x4x256_d1 h_S_ : FVec Ideal S1x4x256 .f32) shapeCasts_S1x4x256_S1x1x4x256) (constant S_ .f32 0x00000000#32) reducesTo_S1x1x4x256_S4x256_d0_1 h_S_ : FVec Ideal S4x256 .f32) shapeCasts_S4x256_S4x1x256 : FVec Ideal S4x1x256 .f32) (ix3 g 0 k) = ((A.dlg g k : ℝ) : EReal) := by
  pointwise [reduce01]
  rw [sum_tok]
  simp only [v70_at H, v114_at H, ← EReal.coe_mul, coe_sum]
  unfold Args.dlg Blk.dlg
  simp only [mul_comm]
theorem dlb_at : (shapeCast S4x1x256 (Host.reduceAdd (shapeCast S1x1x4x256 (Host.reduceAdd (res_main_v114 V0 : FVec Ideal S1x4096x4x256 .f32) (constant S_ .f32 0x00000000#32) reducesTo_S1x4096x4x256_S1x4x256_d1 h_S_ : FVec Ideal S1x4x256 .f32) shapeCasts_S1x4x256_S1x1x4x256) (constant S_ .f32 0x00000000#32) reducesTo_S1x1x4x256_S4x256_d0_1 h_S_ : FVec Ideal S4x256 .f32) shapeCasts_S4x256_S4x1x256 : FVec Ideal S4x1x256 .f32) (ix3 g 0 k) = ((A.dlb g k : ℝ) : EReal) := by
  pointwise [reduce01]
  rw [sum_tok]
  simp only [v114_at H, coe_sum]
  rfl
theorem db_at : (shapeCast S4x128x1 (transpose S4x128 [1, 0] (Host.reduceAdd (broadcastInDim S128x4x1 ![0, 1] bcast_S128x4_S128x4x1_0_1 (Host.reduceAdd (shapeCast S1x1x128x4x1 (Host.reduceAdd (res_main_v102 V0 : FVec Ideal S1x32x128x4x256 .f32) (constant S_ .f32 0x00000000#32) reducesTo_S1x32x128x4x256_S1x128x4_d1_4 h_S_ : FVec Ideal S1x128x4 .f32) shapeCasts_S1x128x4_S1x1x128x4x1) (constant S_ .f32 0x00000000#32) reducesTo_S1x1x128x4x1_S128x4_d0_1_4 h_S_)) (constant S_ .f32 0x00000000#32) reducesTo_S128x4x1_S128x4_d2 h_S_) transposes_S128x4_S4x128_1_0) shapeCasts_S4x128_S4x128x1 : FVec Ideal S4x128x1 .f32) (ix3 g i 0) = ((A.db g i : ℝ) : EReal) := by
  pointwise [reduce014, reduce14]
  refine (Fin.sum_univ_one _).trans ?_
  simp only [v102_at H, coe_sum]
  rfl

omit H in
/-- The contraction's index: the batch, the block and the channel. -/
def ci (a : Fin 1) (q : Fin 32) (k : Fin 256) : dot_S4x1x32x256x128_S1x32x128x4x256_S4x128x128_123_014_4_2_0_3.contr.Idx := fun p =>
  match p with
  | ⟨0, _⟩ => a
  | ⟨1, _⟩ => q
  | ⟨2, _⟩ => k
  | ⟨n + 3, h⟩ => absurd (a := n + 3 < 3) h (by omega)

omit H in
def ciEquiv : (Fin 1 × Fin 32 × Fin 256) ≃ dot_S4x1x32x256x128_S1x32x128x4x256_S4x128x128_123_014_4_2_0_3.contr.Idx where
  toFun p := ci p.1 p.2.1 p.2.2
  invFun x := ((x ⟨0, by decide⟩ : Fin 1), (x ⟨1, by decide⟩ : Fin 32), (x ⟨2, by decide⟩ : Fin 256))
  left_inv p := rfl
  right_inv x := by
    funext p
    match p with
    | ⟨0, _⟩ => rfl
    | ⟨1, _⟩ => rfl
    | ⟨2, _⟩ => rfl
    | ⟨n + 3, h⟩ => exact absurd (a := n + 3 < 3) h (by omega)

omit H in
theorem lhs_ci (a : Fin 1) (q : Fin 32) (k : Fin 256) (j : Fin 128) :
    dot_S4x1x32x256x128_S1x32x128x4x256_S4x128x128_123_014_4_2_0_3.lhsIdx (ix3 g i j) (ci a q k) = ix5 g a q k i := by
  funext p
  match p with
  | ⟨0, _⟩ => rfl
  | ⟨1, _⟩ => rfl
  | ⟨2, _⟩ => rfl
  | ⟨3, _⟩ => rfl
  | ⟨4, _⟩ => rfl

omit H in
theorem rhs_ci (a : Fin 1) (q : Fin 32) (k : Fin 256) (j : Fin 128) :
    dot_S4x1x32x256x128_S1x32x128x4x256_S4x128x128_123_014_4_2_0_3.rhsIdx (ix3 g i j) (ci a q k) = ix5 a q j g k := by
  funext p
  match p with
  | ⟨0, _⟩ => rfl
  | ⟨1, _⟩ => rfl
  | ⟨2, _⟩ => rfl
  | ⟨3, _⟩ => rfl
  | ⟨4, _⟩ => rfl

omit H in
theorem dot_at (l : FVec Ideal S4x1x32x256x128 .f32) (r : FVec Ideal S1x32x128x4x256 .f32) (j : Fin 128) :
    (Ideal.matmul dot_S4x1x32x256x128_S1x32x128x4x256_S4x128x128_123_014_4_2_0_3 l r (fun _ => 0) (ix3 g i j) : EReal)
      = ∑ q : Fin 32, ∑ k : Fin 256, (l (ix5 g 0 q k i) : EReal) * r (ix5 0 q j g k) := by
  refine (show _ = (0 : EReal) + ∑ x : dot_S4x1x32x256x128_S1x32x128x4x256_S4x128x128_123_014_4_2_0_3.contr.Idx,
    (l (dot_S4x1x32x256x128_S1x32x128x4x256_S4x128x128_123_014_4_2_0_3.lhsIdx (ix3 g i j) x) : EReal)
      * r (dot_S4x1x32x256x128_S1x32x128x4x256_S4x128x128_123_014_4_2_0_3.rhsIdx (ix3 g i j) x) from rfl).trans ?_
  rw [zero_add, ← Equiv.sum_comp ciEquiv, Fintype.sum_prod_type, Fin.sum_univ_one, Fintype.sum_prod_type]
  refine Finset.sum_congr rfl fun q _ => Finset.sum_congr rfl fun k _ => ?_
  exact congrArg₂ (fun a b : EReal => a * b) (congrArg l (lhs_ci i g 0 q k j)) (congrArg r (rhs_ci i g 0 q k j))

theorem dw_at (j : Fin 128) : (select (res_main_v87_1 V0) (Host.dotGeneral (φ₁ := .f32) (φ₂ := .f32) dot_S4x1x32x256x128_S1x32x128x4x256_S4x128x128_123_014_4_2_0_3 none (res_main_v109 V0 : FVec Ideal S4x1x32x256x128 .f32) (res_main_v77 V0 : FVec Ideal S1x32x128x4x256 .f32)) (broadcastInDim S4x128x128 ![] bcast_S_S4x128x128 (constant S_ .f32 0x00000000#32)) : FVec Ideal S4x128x128 .f32) (ix3 g i j) = ((A.dw g i j : ℝ) : EReal) := by
  pointwise [v87_1_at H]
  rw [dot_at]
  simp only [v109_at H, v77_at H, ← EReal.coe_mul, coe_sum]
  unfold Args.dw Blk.dw
  by_cases h : Keep i j
  · simp only [h, if_true]; rfl
  · simp only [h, if_false, Finset.sum_const_zero]; exact (show Scalar.select 0#1 _ (0 : EReal) = 0 from rfl).trans EReal.coe_zero.symm

/-- The gradient of the projections as the reference leaves it: the gate's beside the value's. -/
theorem dps_at (n : Fin 4096) (l : Fin 2048) (X Y : FVec Ideal S4096x1024 .f32)
    (hX : ∀ q i g k, (X (ix2 (Args.tok q i) (Args.chan g k)) : EReal) = (((A.blk q g).dsu i k : ℝ) : EReal))
    (hY : ∀ q i g k, (Y (ix2 (Args.tok q i) (Args.chan g k)) : EReal) = (((A.blk q g).dsv i k : ℝ) : EReal)) :
    (truncf .bf16 (concatenate S4096x2048 1 [⟨S4096x1024, X⟩, ⟨S4096x1024, Y⟩] concatenates_S4096x1024_S4096x1024_S4096x2048_d1 : FVec Ideal S4096x2048 .f32) bitsLt_bf16_f32 (ix2 n l) : EReal) = ((A.dps n l : ℝ) : EReal) := by
  pointwise []
  have en : n = Args.tok ⟨n / 128, by omega⟩ ⟨n % 128, by omega⟩ := Fin.ext (by simp only [Args.tok]; omega)
  by_cases h : (l : ℕ) < 1024
  · rw [dif_pos h, Args.dps, dif_pos h, ← hX]
    refine congrArg₂ (fun a b => X (ix2 a b)) en (Fin.ext ?_)
    simp only [Args.chan]; omega
  · rw [dif_neg h, Args.dps, dif_neg h, ← hY]
    refine congrArg₂ (fun a b => Y (ix2 a b)) en (Fin.ext ?_)
    simp only [Args.chan]; omega

theorem dps_eq : (truncf .bf16 (concatenate S4096x2048 1 [⟨S4096x1024, (Host.reduceAdd (addf (addf (mulf (res_main_v101 V0) (res_main_v24 V0)) (res_main_v169 V0)) (mulf (mulf (broadcastInDim S1x4096x1024 ![] bcast_S_S1x4096x1024 (constant S_ .f32 0x3D372713#32)) (res_main_v169 V0)) (mulf (broadcastInDim S1x4096x1024 ![] bcast_S_S1x4096x1024 (constant S_ .f32 0x40400000#32)) (mulf (res_main_v3 V0) (res_main_v3 V0)))) : FVec Ideal S1x4096x1024 .f32) (constant S_ .f32 0x00000000#32) reducesTo_S1x4096x1024_S4096x1024_d0 h_S_)⟩, ⟨S4096x1024, (Host.reduceAdd (addf (addf (mulf (res_main_v150 V0) (res_main_v45 V0)) (res_main_v157 V0)) (mulf (mulf (broadcastInDim S1x4096x1024 ![] bcast_S_S1x4096x1024 (constant S_ .f32 0x3D372713#32)) (res_main_v157 V0)) (mulf (broadcastInDim S1x4096x1024 ![] bcast_S_S1x4096x1024 (constant S_ .f32 0x40400000#32)) (mulf (res_main_v4 V0) (res_main_v4 V0)))) : FVec Ideal S1x4096x1024 .f32) (constant S_ .f32 0x00000000#32) reducesTo_S1x4096x1024_S4096x1024_d0 h_S_)⟩] concatenates_S4096x1024_S4096x1024_S4096x2048_d1 : FVec Ideal S4096x2048 .f32) bitsLt_bf16_f32 : FVec Ideal S4096x2048 .bf16)
    = fun y : S4096x2048.Idx => ((A.dps (y 0) (y 1) : ℝ) : EReal) := by
  funext y
  idx_vars y
  exact dps_at H _ _ _ _ (fun q i g k => gate_at H q i g k _ _) (fun q i g k => value_at H q i g k _ _)

theorem dlg_eq : (shapeCast S4x1x256 (Host.reduceAdd (shapeCast S1x1x4x256 (Host.reduceAdd (mulf (res_main_v70 V0) (res_main_v114 V0) : FVec Ideal S1x4096x4x256 .f32) (constant S_ .f32 0x00000000#32) reducesTo_S1x4096x4x256_S1x4x256_d1 h_S_ : FVec Ideal S1x4x256 .f32) shapeCasts_S1x4x256_S1x1x4x256) (constant S_ .f32 0x00000000#32) reducesTo_S1x1x4x256_S4x256_d0_1 h_S_ : FVec Ideal S4x256 .f32) shapeCasts_S4x256_S4x1x256 : FVec Ideal S4x1x256 .f32)
    = fun y : S4x1x256.Idx => ((A.dlg (y 0) (y 2) : ℝ) : EReal) := by
  funext y
  idx_vars y
  obtain rfl : y1 = 0 := Subsingleton.elim _ _
  exact dlg_at H y0 y2

theorem dlb_eq : (shapeCast S4x1x256 (Host.reduceAdd (shapeCast S1x1x4x256 (Host.reduceAdd (res_main_v114 V0 : FVec Ideal S1x4096x4x256 .f32) (constant S_ .f32 0x00000000#32) reducesTo_S1x4096x4x256_S1x4x256_d1 h_S_ : FVec Ideal S1x4x256 .f32) shapeCasts_S1x4x256_S1x1x4x256) (constant S_ .f32 0x00000000#32) reducesTo_S1x1x4x256_S4x256_d0_1 h_S_ : FVec Ideal S4x256 .f32) shapeCasts_S4x256_S4x1x256 : FVec Ideal S4x1x256 .f32)
    = fun y : S4x1x256.Idx => ((A.dlb (y 0) (y 2) : ℝ) : EReal) := by
  funext y
  idx_vars y
  obtain rfl : y1 = 0 := Subsingleton.elim _ _
  exact dlb_at H y0 y2

theorem dw_eq : (select (res_main_v87_1 V0) (Host.dotGeneral (φ₁ := .f32) (φ₂ := .f32) dot_S4x1x32x256x128_S1x32x128x4x256_S4x128x128_123_014_4_2_0_3 none (res_main_v109 V0 : FVec Ideal S4x1x32x256x128 .f32) (res_main_v77 V0 : FVec Ideal S1x32x128x4x256 .f32)) (broadcastInDim S4x128x128 ![] bcast_S_S4x128x128 (constant S_ .f32 0x00000000#32)) : FVec Ideal S4x128x128 .f32)
    = fun y : S4x128x128.Idx => ((A.dw (y 0) (y 1) (y 2) : ℝ) : EReal) := by
  funext y
  idx_vars y
  exact dw_at H y1 y0 y2

theorem db_eq : (shapeCast S4x128x1 (transpose S4x128 [1, 0] (Host.reduceAdd (broadcastInDim S128x4x1 ![0, 1] bcast_S128x4_S128x4x1_0_1 (Host.reduceAdd (shapeCast S1x1x128x4x1 (Host.reduceAdd (res_main_v102 V0 : FVec Ideal S1x32x128x4x256 .f32) (constant S_ .f32 0x00000000#32) reducesTo_S1x32x128x4x256_S1x128x4_d1_4 h_S_ : FVec Ideal S1x128x4 .f32) shapeCasts_S1x128x4_S1x1x128x4x1) (constant S_ .f32 0x00000000#32) reducesTo_S1x1x128x4x1_S128x4_d0_1_4 h_S_)) (constant S_ .f32 0x00000000#32) reducesTo_S128x4x1_S128x4_d2 h_S_) transposes_S128x4_S4x128_1_0) shapeCasts_S4x128_S4x128x1 : FVec Ideal S4x128x1 .f32)
    = fun y : S4x128x1.Idx => ((A.db (y 0) (y 1) : ℝ) : EReal) := by
  funext y
  idx_vars y
  obtain rfl : y2 = 0 := Subsingleton.elim _ _
  exact db_at H y1 y0
end Cert.ReferenceIdeal.Out
end
-- ==== Proof.Finite.lean ====
module

public import proofs.«01_k».proof.Proof.Entry
public import proofs.«01_k».proof.Proof.RefFwd
public import proofs.«01_k».proof.Proof.Gen.Pre_finite
public import proofs.«01_k».proof.Defs

@[expose] public section

set_option maxRecDepth 16384

/-!
Arguments whose entries are finite are real numbers.
-/

noncomputable section
open Idealize.ShloMosaic Idealize.ShloMosaic.TcCoe Idealize.SL.Sem
namespace Cert.Finite
open Cert.Sgu

/-- A value whose size is below infinity is a real number. -/
theorem real_of {x : EReal} (h : (FloatOps.cmpf (F := Ideal) (φ := .f32) .olt (FloatOps.absf (F := Ideal) (φ := .f32) x) (Ideal.ofBits .f32 0x7F800000#32) : BitVec 1) = 1#1) :
    x = ((x.toReal : ℝ) : EReal) := by
  have w : Ideal.ofBits .f32 0x7F800000#32 = ⊤ := by simp [Ideal.ofBits, Ideal.ieee]
  rw [w] at h
  induction x with
  | bot => exact absurd h (by simp [FloatOps.cmpf, FloatOps.absf, Ideal.cmp])
  | top => exact absurd h (by simp [FloatOps.cmpf, FloatOps.absf, Ideal.cmp])
  | coe r => rfl

/-- The real numbers the kernel's arguments hold. -/
def args (m : (ℓ : Loc Cert.KernelIdeal.nD Cert.KernelIdeal.τ Cert.KernelIdeal.sig) → Buf (Elt Ideal) ℓ) (c : Dev Cert.KernelIdeal.nD) : Args where
  ps n l := EReal.toReal ((m ((c : Thread Cert.KernelIdeal.nD Cert.KernelIdeal.τ).loc Cert.KernelIdeal.main_arg0) : Vec Ideal Cert.KernelIdeal.S4096x2048 .bf16) (ix2 n l))
  lg g k := EReal.toReal ((m ((c : Thread Cert.KernelIdeal.nD Cert.KernelIdeal.τ).loc Cert.KernelIdeal.main_arg1) : Vec Ideal Cert.KernelIdeal.S4x256 .f32) (ix2 g k))
  lb g k := EReal.toReal ((m ((c : Thread Cert.KernelIdeal.nD Cert.KernelIdeal.τ).loc Cert.KernelIdeal.main_arg2) : Vec Ideal Cert.KernelIdeal.S4x256 .f32) (ix2 g k))
  w g i j := EReal.toReal ((m ((c : Thread Cert.KernelIdeal.nD Cert.KernelIdeal.τ).loc Cert.KernelIdeal.main_arg3) : Vec Ideal Cert.KernelIdeal.S4x128x128 .f32) (ix3 g i j))
  b g i := EReal.toReal ((m ((c : Thread Cert.KernelIdeal.nD Cert.KernelIdeal.τ).loc Cert.KernelIdeal.main_arg4) : Vec Ideal Cert.KernelIdeal.S4x128 .f32) (ix2 g i))
  dy n l := EReal.toReal ((m ((c : Thread Cert.KernelIdeal.nD Cert.KernelIdeal.τ).loc Cert.KernelIdeal.main_arg5) : Vec Ideal Cert.KernelIdeal.S4096x1024 .bf16) (ix2 n l))

theorem holds (m : (ℓ : Loc Cert.KernelIdeal.nD Cert.KernelIdeal.τ Cert.KernelIdeal.sig) → Buf (Elt Ideal) ℓ)
    (hpre : Cert.Pre_KernelIdeal_finite m) (c : Dev Cert.KernelIdeal.nD) : Cert.KernelIdeal.Entry.Holds (args m c) m c := by
  obtain ⟨h0, h1, h2, h3, h4, h5⟩ := hpre c
  exact
  { ps := fun n l => real_of (congrFun h0 (ix2 n l))
    lg := fun g k => real_of (congrFun h1 (ix2 g k))
    lb := fun g k => real_of (congrFun h2 (ix2 g k))
    w := fun g i j => real_of (congrFun h3 (ix3 g i j))
    b := fun g i => real_of (congrFun h4 (ix2 g i))
    dy := fun n l => real_of (congrFun h5 (ix2 n l)) }

/-- The reference's arguments hold the same real numbers. -/
theorem ref_holds (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (A : Args)
    (H : Cert.KernelIdeal.Entry.Holds A m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Fwd.Holds A (StableHlo.launchContents m' c) where
  ps n l := (congrFun e0 (ix2 n l)).trans (H.ps n l)
  lg g k := (congrFun e1 (ix2 g k)).trans (H.lg g k)
  lb g k := (congrFun e2 (ix2 g k)).trans (H.lb g k)
  w g i j := (congrFun e3 (ix3 g i j)).trans (H.w g i j)
  b g i := (congrFun e4 (ix2 g i)).trans (H.b g i)
  dy n l := (congrFun e5 (ix2 n l)).trans (H.dy n l)
end Cert.Finite
end
-- ==== Proof.Common.lean ====
module

public import Idealize.ShloMosaic.Lib.Pipeline.ValueKit
public import Idealize.ShloMosaic.Lib.Pipeline.ValueKit.Acc
public import Idealize.ShloMosaic.Lib.Pipeline.FrameBody
public import Idealize.ShloMosaic.Lib.Pipeline.ReadBack
public import Idealize.ShloMosaic.Lib.Pointwise
public import Idealize.ShloMosaic.Lib.Claim

@[expose] public section

set_option maxRecDepth 16384

/-!
Facts several of the kernels' proofs use.
-/

noncomputable section
open Idealize.ShloMosaic Idealize.ShloMosaic.TcCoe Idealize.SL.Sem
open Idealize.ShloMosaic.Pipeline (Dat)
namespace Cert.Common

/-- What a list of stores leaves at an index is what a read of a rectangle around that index gives. -/
theorem canon_of_read {Val : EltTy → Type} {sig : RefSig} {κ : Kind} {sp : Space} {s : Shape} {e : EltTy} [∀ e, Nonempty (Val e)]
    (v : View sig κ sp s e) (L : List (View.Piece Val s e)) (r : Rect s) (x : r.shape.Idx) (j : s.Idx) (h : r.emb x = j) :
    View.canon L j = v.readCov L r.toLoadRect x := by
  rw [View.readCov_eq_canon', ← h]
  rfl

end Cert.Common
end
-- ==== Proof.Sigmoid.lean ====
module

public import proofs.«01_k».proof.Proof.Spec

@[expose] public section

/-!
The sigmoid over the real numbers, as the kernels and the references compute it, and sums of products of real
numbers.
-/

noncomputable section
open Idealize.ShloMosaic

namespace Cert.Common
open Cert.Sgu

/-- The sigmoid. -/
def sigm (x : ℝ) : ℝ := (1 + Real.exp (-x))⁻¹

theorem sigm_tanh (x : ℝ) : 1 / 2 * Real.tanh (1 / 2 * x) + 1 / 2 = sigm x := by
  have e : Real.exp (-x) = Real.exp (-(1 / 2 * x)) * Real.exp (-(1 / 2 * x)) := by rw [← Real.exp_add]; congr 1; ring
  have e1 : Real.exp (1 / 2 * x) * Real.exp (-(1 / 2 * x)) = 1 := by rw [← Real.exp_add]; simp
  have p := Real.exp_pos (1 / 2 * x)
  have q := Real.exp_pos (-(1 / 2 * x))
  rw [Real.tanh_eq_sinh_div_cosh, Real.sinh_eq, Real.cosh_eq, sigm, e]
  generalize Real.exp (1 / 2 * x) = a at *
  generalize Real.exp (-(1 / 2 * x)) = b at *
  have s : a + b ≠ 0 := by positivity
  have s' : 1 + b * b ≠ 0 := by positivity
  field_simp
  linear_combination (2 * b) * e1

theorem b_half : Ideal.ofBits .bf16 0x3F00#16 = ((1 / 2 : ℝ) : EReal) := by
  simp [Ideal.ofBits, Ideal.ieee, -EReal.coe_mul]; norm_num
theorem b_one : Ideal.ofBits .bf16 0x3F80#16 = ((1 : ℝ) : EReal) := by
  simp [Ideal.ofBits, Ideal.ieee, -EReal.coe_mul]; norm_num
theorem w_one : Ideal.ofBits .f32 0x3F800000#32 = ((1 : ℝ) : EReal) := by
  simp [Ideal.ofBits, Ideal.ieee, -EReal.coe_mul]; norm_num

/-- The kernels' sigmoid, from the hyperbolic tangent. -/
theorem sigm_kernel (x : ℝ) : Ideal.ofBits .bf16 0x3F00#16 * Ideal.tanh (Ideal.ofBits .bf16 0x3F00#16 * (x : EReal))
    + Ideal.ofBits .bf16 0x3F00#16 = ((sigm x : ℝ) : EReal) := by
  rw [b_half, ← EReal.coe_mul, Ideal.tanh_coe, ← EReal.coe_mul, ← EReal.coe_add, sigm_tanh]

theorem sigm_kernel32 (x : ℝ) : Ideal.ofBits .f32 0x3F000000#32 * Ideal.tanh (Ideal.ofBits .f32 0x3F000000#32 * (x : EReal))
    + Ideal.ofBits .f32 0x3F000000#32 = ((sigm x : ℝ) : EReal) := by
  rw [w_half, ← EReal.coe_mul, Ideal.tanh_coe, ← EReal.coe_mul, ← EReal.coe_add, sigm_tanh]

/-- The references' sigmoid, from the exponential. -/
theorem sigm_ref (x : ℝ) : Ideal.div (1 : EReal) (1 + Ideal.exp (-(x : EReal))) = ((sigm x : ℝ) : EReal) := by
  have p : 1 + Real.exp (-x) ≠ 0 := by have := Real.exp_pos (-x); positivity
  rw [← EReal.coe_neg, Ideal.exp_coe, ← EReal.coe_one, ← EReal.coe_add, Ideal.div_coe p, ← EReal.coe_mul, sigm, one_div, one_mul]

theorem coe_dot {n : ℕ} (f g : Fin n → ℝ) : ∑ k, ((f k : ℝ) : EReal) * ((g k : ℝ) : EReal) = ((∑ k, f k * g k : ℝ) : EReal) := by
  rw [← coe_sum]; exact Finset.sum_congr rfl fun k _ => (EReal.coe_mul _ _).symm

end Cert.Common
end
-- ==== Proof.RmsNorm.lean ====
module

public import proofs.«01_k».proof.Proof.Sigmoid

@[expose] public section

/-!
The gradient of root-mean-square normalisation over the real numbers, for rows of 1024 entries, and the two spellings
of it: the kernels' and the references'.
-/

noncomputable section
open Idealize.ShloMosaic

namespace Cert.Rms
open Cert.Sgu Cert.Common

/-- The mean of a row's squares and the small number added to it. -/
def ms (x : Fin 1024 → ℝ) : ℝ := (∑ k, x k * x k) * (1 / 1024) + gEps
/-- One over the root of `ms`. -/
def rr (x : Fin 1024 → ℝ) : ℝ := (Real.sqrt (ms x))⁻¹
/-- The gradient with respect to the row `x`, `d` the gradient of the normalised row. -/
def dnorm (x d : Fin 1024 → ℝ) (k : Fin 1024) : ℝ := rr x * (d k - x k * rr x * ((∑ l, d l * (x l * rr x)) * (1 / 1024)))

theorem ms_pos (x : Fin 1024 → ℝ) : 0 < ms x := by
  have h : 0 ≤ ∑ k, x k * x k := Finset.sum_nonneg fun k _ => mul_self_nonneg _
  unfold ms gEps
  positivity

theorem rr_sq (x : Fin 1024 → ℝ) : rr x * rr x = (ms x)⁻¹ := by
  unfold rr
  rw [← mul_inv, Real.mul_self_sqrt (ms_pos x).le]

theorem w_1024 : Ideal.ofBits .f32 0x44800000#32 = ((1024 : ℝ) : EReal) := by
  simp [Ideal.ofBits, Ideal.ieee, -EReal.coe_mul]; norm_num

theorem div_1024 (x : ℝ) : Ideal.div (x : EReal) (Ideal.ofBits .f32 0x44800000#32) = ((x * (1 / 1024) : ℝ) : EReal) := by
  rw [w_1024, Ideal.div_coe (by norm_num), ← EReal.coe_mul]

section
variable (X : Fin 1024 → EReal) (x : Fin 1024 → ℝ) (hX : ∀ k, X k = ((x k : ℝ) : EReal))
include hX

theorem coe_ms : Ideal.div (∑ k, X k * X k) (Ideal.ofBits .f32 0x44800000#32) + Ideal.ofBits .f32 0x358637BD#32 = ((ms x : ℝ) : EReal) := by
  rw [Finset.sum_congr rfl (fun k _ => congrArg₂ (fun p q : EReal => p * q) (hX k) (hX k)), coe_dot, div_1024, w_eps, ← EReal.coe_add]
  rfl

theorem coe_rr : Ideal.rsqrt (Ideal.div (∑ k, X k * X k) (Ideal.ofBits .f32 0x44800000#32) + Ideal.ofBits .f32 0x358637BD#32) = ((rr x : ℝ) : EReal) := by
  rw [coe_ms X x hX, Ideal.rsqrt_coe, if_neg (ms_pos x).not_gt, if_neg (ms_pos x).ne']; rfl

variable (D : Fin 1024 → EReal) (d : Fin 1024 → ℝ) (hD : ∀ k, D k = ((d k : ℝ) : EReal))
include hD

theorem coe_hat (k : Fin 1024) : X k * Ideal.rsqrt (Ideal.div (∑ k, X k * X k) (Ideal.ofBits .f32 0x44800000#32) + Ideal.ofBits .f32 0x358637BD#32)
    = ((x k * rr x : ℝ) : EReal) := by
  rw [coe_rr X x hX, hX k, ← EReal.coe_mul]

/-- The kernels' spelling. -/
theorem kernel_val (k : Fin 1024) :
    Ideal.rsqrt (Ideal.div (∑ k, X k * X k) (Ideal.ofBits .f32 0x44800000#32) + Ideal.ofBits .f32 0x358637BD#32)
      * (D k - X k * Ideal.rsqrt (Ideal.div (∑ k, X k * X k) (Ideal.ofBits .f32 0x44800000#32) + Ideal.ofBits .f32 0x358637BD#32)
        * Ideal.div (∑ l, D l * (X l * Ideal.rsqrt (Ideal.div (∑ k, X k * X k) (Ideal.ofBits .f32 0x44800000#32) + Ideal.ofBits .f32 0x358637BD#32)))
          (Ideal.ofBits .f32 0x44800000#32)) = ((dnorm x d k : ℝ) : EReal) := by
  rw [Finset.sum_congr rfl (fun l _ => congrArg₂ (fun p q : EReal => p * q) (hD l) (coe_hat X x hX D d hD l)), coe_dot, div_1024,
    coe_hat X x hX D d hD k, coe_rr X x hX, hD k, ← EReal.coe_mul, ← EReal.coe_sub, ← EReal.coe_mul]
  rfl

/-- The references' spelling, from the derivative of the inverse root. -/
theorem ref_val (k : Fin 1024) :
    D k * Ideal.rsqrt (Ideal.div (∑ k, X k * X k) (Ideal.ofBits .f32 0x44800000#32) + Ideal.ofBits .f32 0x358637BD#32)
      + X k * (∑ _ : Fin 1, Ideal.div ((∑ l, X l * D l) * (Ideal.ofBits .f32 0xBF000000#32
        * Ideal.div (Ideal.rsqrt (Ideal.div (∑ k, X k * X k) (Ideal.ofBits .f32 0x44800000#32) + Ideal.ofBits .f32 0x358637BD#32))
          (Ideal.div (∑ k, X k * X k) (Ideal.ofBits .f32 0x44800000#32) + Ideal.ofBits .f32 0x358637BD#32))) (Ideal.ofBits .f32 0x44800000#32))
      + (∑ _ : Fin 1, Ideal.div ((∑ l, X l * D l) * (Ideal.ofBits .f32 0xBF000000#32
        * Ideal.div (Ideal.rsqrt (Ideal.div (∑ k, X k * X k) (Ideal.ofBits .f32 0x44800000#32) + Ideal.ofBits .f32 0x358637BD#32))
          (Ideal.div (∑ k, X k * X k) (Ideal.ofBits .f32 0x44800000#32) + Ideal.ofBits .f32 0x358637BD#32))) (Ideal.ofBits .f32 0x44800000#32)) * X k
      = ((dnorm x d k : ℝ) : EReal) := by
  rw [Finset.sum_congr rfl (fun l _ => congrArg₂ (fun p q : EReal => p * q) (hX l) (hD l)), coe_dot,
    coe_rr X x hX, coe_ms X x hX, Ideal.div_coe (ms_pos x).ne', w_neg_half, Fin.sum_univ_one, hX k, hD k,
    ← EReal.coe_mul, ← EReal.coe_mul, ← EReal.coe_mul, ← EReal.coe_mul, div_1024, ← EReal.coe_mul, ← EReal.coe_mul,
    ← EReal.coe_add, ← EReal.coe_add]
  refine congrArg _ ?_
  have e : ∑ l, d l * (x l * rr x) = (∑ l, x l * d l) * rr x := by
    rw [Finset.sum_mul]; exact Finset.sum_congr rfl fun l _ => by ring
  rw [dnorm, e, one_div (ms x), ← rr_sq]
  ring
end

/-- A number added in front of a sum of three, as the references write it. -/
theorem add_ref_val {a p q r : EReal} {b s : ℝ} (ha : a = ((b : ℝ) : EReal)) (h : p + q + r = ((s : ℝ) : EReal)) :
    a + p + q + r = ((b + s : ℝ) : EReal) := by
  rw [add_assoc, add_assoc, ← add_assoc p, h, ha, ← EReal.coe_add]

/-- The gradient of the scale, at one token. -/
def dscale (x d : Fin 1024 → ℝ) (k : Fin 1024) : ℝ := d k * (x k * rr x)

end Cert.Rms
end
-- ==== Proof.InBwd.lean ====
module

public import proofs.«01_k».proof.Proof.Gen.Kernel2Ideal.Value
public import proofs.«01_k».proof.Proof.Common
public import proofs.«01_k».proof.Proof.RmsNorm

@[expose] public section

set_option maxRecDepth 16384

/-!
The gradient through the input projections and the first norm: what one tile of 512 tokens computes.
-/

noncomputable section
open Idealize.ShloMosaic Idealize.ShloMosaic.TcCoe Idealize.SL.Sem
open Idealize.ShloMosaic.Pipeline (Dat)
namespace Cert.Kernel2Ideal.Val
open Cert.Common Cert.Kernel2Ideal Cert.Kernel2Ideal.Gen

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![t.val, 0] ∧ win0_9.index t = ![0, 0] :=
  (by decide +kernel : ∀ t : Fin grid0.N, _)

/-- A sum over the 7184 columns of the four projections, cut into the four. -/
theorem sum_cut {M : Type} [AddCommMonoid M] (f : Fin 7184 → M) :
    ∑ l, f l = ∑ k : Fin 3072, f ⟨k, by omega⟩ + ∑ k : Fin 16, f ⟨3072 + k, by omega⟩ + ∑ k : Fin 2048, f ⟨3088 + k, by omega⟩
      + ∑ k : Fin 2048, f ⟨5136 + k, by omega⟩ := by
  rw [Fin.sum_univ_add (a := 3072 + 16 + 2048) (b := 2048) f, Fin.sum_univ_add (a := 3072 + 16) (b := 2048),
    Fin.sum_univ_add (a := 3072) (b := 16)]
  rfl

/-- The arguments as real numbers: the four gradients side by side, the weights, the layer's input, the gradient that
    goes past the layer, and the norm's scale. -/
structure Args where
  pa : Fin 4096 → Fin 3072 → ℝ
  low : Fin 4096 → Fin 16 → ℝ
  ps : Fin 4096 → Fin 2048 → ℝ
  pg : Fin 4096 → Fin 2048 → ℝ
  w : Fin 1024 → Fin 7184 → ℝ
  x : Fin 4096 → Fin 1024 → ℝ
  dx1 : Fin 4096 → Fin 1024 → ℝ
  g : Fin 1024 → ℝ

namespace Args
variable (A : Args)
/-- The gradient of the normalised input. -/
def da (n : Fin 4096) (j : Fin 1024) : ℝ :=
  ∑ k, A.pa n k * A.w j ⟨k, by omega⟩ + ∑ k, A.low n k * A.w j ⟨3072 + k, by omega⟩ + ∑ k, A.ps n k * A.w j ⟨3088 + k, by omega⟩
    + ∑ k, A.pg n k * A.w j ⟨5136 + k, by omega⟩
/-- The gradient of the layer's input. -/
def dx (n : Fin 4096) (j : Fin 1024) : ℝ := A.dx1 n j + Rms.dnorm (A.x n) (fun l => A.da n l * A.g l) j
/-- One token's part of the gradient of the norm's scale. -/
def dgp (n : Fin 4096) (j : Fin 1024) : ℝ := Rms.dscale (A.x n) (A.da n) j
def dg (j : Fin 1024) : ℝ := ∑ n, A.dgp n j
end Args

variable {m : (ℓ : Loc nD τ sig) → Buf (Elt Ideal) ℓ} {c : Dev nD}

/-- The arrays of the arguments. -/
abbrev pa (m : (ℓ : Loc nD τ sig) → Buf (Elt Ideal) ℓ) (c : Dev nD) : FVec Ideal S4096x3072 .bf16 := m ((c : Thread nD τ).loc main_arg0)
abbrev low (m : (ℓ : Loc nD τ sig) → Buf (Elt Ideal) ℓ) (c : Dev nD) : FVec Ideal S4096x16 .bf16 := m ((c : Thread nD τ).loc main_arg1)
abbrev ps (m : (ℓ : Loc nD τ sig) → Buf (Elt Ideal) ℓ) (c : Dev nD) : FVec Ideal S4096x2048 .bf16 := m ((c : Thread nD τ).loc main_arg2)
abbrev pg (m : (ℓ : Loc nD τ sig) → Buf (Elt Ideal) ℓ) (c : Dev nD) : FVec Ideal S4096x2048 .bf16 := m ((c : Thread nD τ).loc main_arg3)
abbrev w (m : (ℓ : Loc nD τ sig) → Buf (Elt Ideal) ℓ) (c : Dev nD) : FVec Ideal S1024x7184 .f32 := m ((c : Thread nD τ).loc main_arg4)
abbrev x (m : (ℓ : Loc nD τ sig) → Buf (Elt Ideal) ℓ) (c : Dev nD) : FVec Ideal S4096x1024 .f32 := m ((c : Thread nD τ).loc main_arg5)
abbrev dx1 (m : (ℓ : Loc nD τ sig) → Buf (Elt Ideal) ℓ) (c : Dev nD) : FVec Ideal S4096x1024 .f32 := m ((c : Thread nD τ).loc main_arg6)
abbrev g (m : (ℓ : Loc nD τ sig) → Buf (Elt Ideal) ℓ) (c : Dev nD) : FVec Ideal S1024 .f32 := m ((c : Thread nD τ).loc main_arg7)

/-- The arrays hold the real numbers. -/
structure Holds (A : Args) (m : (ℓ : Loc nD τ sig) → Buf (Elt Ideal) ℓ) (c : Dev nD) : Prop where
  pa : ∀ n k, pa m c (ix2 n k) = ((A.pa n k : ℝ) : EReal)
  low : ∀ n k, low m c (ix2 n k) = ((A.low n k : ℝ) : EReal)
  ps : ∀ n k, ps m c (ix2 n k) = ((A.ps n k : ℝ) : EReal)
  pg : ∀ n k, pg m c (ix2 n k) = ((A.pg n k : ℝ) : EReal)
  w : ∀ j l, w m c (ix2 j l) = ((A.w j l : ℝ) : EReal)
  x : ∀ n k, x m c (ix2 n k) = ((A.x n k : ℝ) : EReal)
  dx1 : ∀ n k, dx1 m c (ix2 n k) = ((A.dx1 n k : ℝ) : EReal)
  g : ∀ k, g m c (ix1 k) = ((A.g k : ℝ) : EReal)

/-! ## The arrays the host prepares -/

theorem V_v0 : (V m c main_v0 : FVec Ideal S4096x128 .bf16) = pad S4096x128 ![0, 0] ![0, 112] ![0, 0] (low m c)
    (sitofp (F := Ideal) .bf16 (constantI S_ 32 0#32)) pads_S4096x16_S4096x128_000_01120 h_S_ := by
  unfold_abbrev_sides
  simp only [List.flatten_cons, List.flatten_nil, List.append_nil, List.cons_append, List.nil_append]
  after_results
  rfl
theorem V_v2 : (V m c main_v2 : FVec Ideal S7184x1024 .bf16)
    = truncf .bf16 (transpose S7184x1024 [1, 0] (w m c) transposes_S1024x7184_S7184x1024_1_0) bitsLt_bf16_f32 := by
  unfold_abbrev_sides
  simp only [List.flatten_cons, List.flatten_nil, List.append_nil, List.cons_append, List.nil_append]
  after_results
theorem V_v3 : (V m c main_v3 : FVec Ideal S1x1024 .f32) = shapeCast S1x1024 (g m c) shapeCasts_S1024_S1x1024 := by
  unfold_abbrev_sides
  simp only [List.flatten_cons, List.flatten_nil, List.append_nil, List.cons_append, List.nil_append]
  after_results
  rfl

/-- The tile's arrays, as real numbers. -/
structure Tile (A : Args) (r : Fin 512 → Fin 4096) (v0 : FVec Ideal S512x3072 .bf16) (v1 : FVec Ideal S512x128 .bf16) (v2 v3 : FVec Ideal S512x2048 .bf16)
    (v4 : FVec Ideal S7184x1024 .bf16) (v5 v6 : FVec Ideal S512x1024 .f32) (v7 : FVec Ideal S1x1024 .f32) : Prop where
  pa : ∀ i k, v0 (ix2 i k) = ((A.pa (r i) k : ℝ) : EReal)
  low : ∀ i (k : Fin 128), v1 (ix2 i k) = if h : (k : ℕ) < 16 then ((A.low (r i) ⟨k, h⟩ : ℝ) : EReal) else (0 : EReal)
  ps : ∀ i k, v2 (ix2 i k) = ((A.ps (r i) k : ℝ) : EReal)
  pg : ∀ i k, v3 (ix2 i k) = ((A.pg (r i) k : ℝ) : EReal)
  w : ∀ l j, v4 (ix2 l j) = ((A.w j l : ℝ) : EReal)
  x : ∀ i k, v5 (ix2 i k) = ((A.x (r i) k : ℝ) : EReal)
  dx1 : ∀ i k, v6 (ix2 i k) = ((A.dx1 (r i) k : ℝ) : EReal)
  g : ∀ k, v7 (ix2 0 k) = ((A.g k : ℝ) : EReal)

/-- The tokens of tile `t`. -/
def row (t : Fin cfg0.N) (i : Fin 512) : Fin 4096 := ⟨t.val * 512 + i, by have : t.val < 8 := lt_of_lt_of_eq t.isLt N_0; omega⟩

theorem tile {A : Args} (H : Holds A m c) (t : Fin cfg0.N) : Tile A (row t) (iblk m c 0 t) (iblk m c 1 t) (iblk m c 2 t) (iblk m c 3 t) (iblk m c 4 t)
    (iblk m c 5 t) (iblk m c 6 t) (iblk m c 7 t) where
  pa i k := by
    refine Eq.trans ?_ (H.pa (row t i) k)
    blk_ext [iblk, V, idx t, row]
  low i k := by
    refine Eq.trans (b := (V m c main_v0 : FVec Ideal S4096x128 .bf16) (ix2 (row t i) k)) (by blk_ext [iblk, idx t, row]) ?_
    rw [V_v0]
    pointwise
    split
    · exact H.low _ _
    · show (((0#32 : BitVec 32).toInt : ℝ) : EReal) = 0
      simp
  ps i k := by
    refine Eq.trans ?_ (H.ps (row t i) k)
    blk_ext [iblk, V, idx t, row]
  pg i k := by
    refine Eq.trans ?_ (H.pg (row t i) k)
    blk_ext [iblk, V, idx t, row]
  w l j := by
    refine Eq.trans (b := (V m c main_v2 : FVec Ideal S7184x1024 .bf16) (ix2 l j)) (by blk_ext [iblk, idx t]) ?_
    rw [V_v2]
    pointwise
    exact H.w _ _
  x i k := by
    refine Eq.trans ?_ (H.x (row t i) k)
    blk_ext [iblk, V, idx t, row]
  dx1 i k := by
    refine Eq.trans ?_ (H.dx1 (row t i) k)
    blk_ext [iblk, V, idx t, row]
  g k := by
    refine Eq.trans (b := (V m c main_v3 : FVec Ideal S1x1024 .f32) (ix2 0 k)) (by blk_ext [iblk, idx t]) ?_
    rw [V_v3]
    pointwise
    exact H.g _

/-! ## What a tile computes -/

section
variable {A : Args} {r : Fin 512 → Fin 4096} {v0 : FVec Ideal S512x3072 .bf16} {v1 : FVec Ideal S512x128 .bf16} {v2 v3 : FVec Ideal S512x2048 .bf16}
  {v4 : FVec Ideal S7184x1024 .bf16} {v5 v6 : FVec Ideal S512x1024 .f32} {v7 : FVec Ideal S1x1024 .f32} (T : Tile A r v0 v1 v2 v3 v4 v5 v6 v7)
include T

/-- The columns added to the second gradient are zero and add nothing. -/
theorem low_sum (i : Fin 512) (j : Fin 1024) : ∑ k : Fin 128, (v1 (ix2 i k) : EReal) * v4 (ix2 (⟨3072 + k, by omega⟩ : Fin 7184) j)
    = ((∑ k, A.low (r i) k * A.w j ⟨3072 + k, by omega⟩ : ℝ) : EReal) := by
  rw [Finset.sum_congr rfl (fun k _ => congrArg₂ (fun p q : EReal => p * q) (T.low i k) (T.w _ j)), Fin.sum_univ_add (a := 16) (b := 112), ← coe_dot]
  refine (congrArg₂ (fun p q : EReal => p + q) (Finset.sum_congr rfl fun k _ => ?_) (Finset.sum_eq_zero fun k _ => ?_)).trans (add_zero _)
  · rw [dif_pos (by simp)]; rfl
  · rw [dif_neg (by simp), zero_mul]

theorem da_val (i : Fin 512) (j : Fin 1024) : (∑ k : Fin 3072, (v0 (ix2 i k) : EReal) * v4 (ix2 (⟨k, by omega⟩ : Fin 7184) j) + ∑ k : Fin 128, (v1 (ix2 i k) : EReal) * v4 (ix2 (⟨3072 + k, by omega⟩ : Fin 7184) j)
        + ∑ k : Fin 2048, (v2 (ix2 i k) : EReal) * v4 (ix2 (⟨3088 + k, by omega⟩ : Fin 7184) j) + ∑ k : Fin 2048, (v3 (ix2 i k) : EReal) * v4 (ix2 (⟨5136 + k, by omega⟩ : Fin 7184) j)) = ((A.da (r i) j : ℝ) : EReal) := by
  rw [low_sum T, Finset.sum_congr rfl (fun k _ => congrArg₂ (fun p q : EReal => p * q) (T.pa i k) (T.w _ j)),
    Finset.sum_congr rfl (fun k _ => congrArg₂ (fun p q : EReal => p * q) (T.ps i k) (T.w _ j)),
    Finset.sum_congr rfl (fun k _ => congrArg₂ (fun p q : EReal => p * q) (T.pg i k) (T.w _ j)), coe_dot, coe_dot, coe_dot,
    ← EReal.coe_add, ← EReal.coe_add, ← EReal.coe_add]
  rfl

/-- One entry of the gradient of the layer's input. -/
theorem dx_val (i : Fin 512) (j : Fin 1024) :
    (v6 (ix2 i j) : EReal) + Ideal.rsqrt (Ideal.div (∑ k, (v5 (ix2 i k) : EReal) * v5 (ix2 i k)) (Ideal.ofBits .f32 0x44800000#32) + Ideal.ofBits .f32 0x358637BD#32)
      * ((∑ k : Fin 3072, (v0 (ix2 i k) : EReal) * v4 (ix2 (⟨k, by omega⟩ : Fin 7184) j) + ∑ k : Fin 128, (v1 (ix2 i k) : EReal) * v4 (ix2 (⟨3072 + k, by omega⟩ : Fin 7184) j)
        + ∑ k : Fin 2048, (v2 (ix2 i k) : EReal) * v4 (ix2 (⟨3088 + k, by omega⟩ : Fin 7184) j) + ∑ k : Fin 2048, (v3 (ix2 i k) : EReal) * v4 (ix2 (⟨5136 + k, by omega⟩ : Fin 7184) j)) * v7 (ix2 0 j)
        - v5 (ix2 i j) * Ideal.rsqrt (Ideal.div (∑ k, (v5 (ix2 i k) : EReal) * v5 (ix2 i k)) (Ideal.ofBits .f32 0x44800000#32) + Ideal.ofBits .f32 0x358637BD#32)
          * Ideal.div (∑ l : Fin 1024, (∑ k : Fin 3072, (v0 (ix2 i k) : EReal) * v4 (ix2 (⟨k, by omega⟩ : Fin 7184) l) + ∑ k : Fin 128, (v1 (ix2 i k) : EReal) * v4 (ix2 (⟨3072 + k, by omega⟩ : Fin 7184) l)
        + ∑ k : Fin 2048, (v2 (ix2 i k) : EReal) * v4 (ix2 (⟨3088 + k, by omega⟩ : Fin 7184) l) + ∑ k : Fin 2048, (v3 (ix2 i k) : EReal) * v4 (ix2 (⟨5136 + k, by omega⟩ : Fin 7184) l)) * v7 (ix2 0 l)
            * (v5 (ix2 i l) * Ideal.rsqrt (Ideal.div (∑ k, (v5 (ix2 i k) : EReal) * v5 (ix2 i k)) (Ideal.ofBits .f32 0x44800000#32) + Ideal.ofBits .f32 0x358637BD#32)))
            (Ideal.ofBits .f32 0x44800000#32)) = ((A.dx (r i) j : ℝ) : EReal) := by
  rw [T.dx1 i j, Rms.kernel_val (fun k => v5 (ix2 i k)) (A.x (r i)) (T.x i) (fun l => (∑ k : Fin 3072, (v0 (ix2 i k) : EReal) * v4 (ix2 (⟨k, by omega⟩ : Fin 7184) l) + ∑ k : Fin 128, (v1 (ix2 i k) : EReal) * v4 (ix2 (⟨3072 + k, by omega⟩ : Fin 7184) l)
        + ∑ k : Fin 2048, (v2 (ix2 i k) : EReal) * v4 (ix2 (⟨3088 + k, by omega⟩ : Fin 7184) l) + ∑ k : Fin 2048, (v3 (ix2 i k) : EReal) * v4 (ix2 (⟨5136 + k, by omega⟩ : Fin 7184) l)) * v7 (ix2 0 l))
    (fun l => A.da (r i) l * A.g l) (fun l => by rw [da_val T i l, T.g l, ← EReal.coe_mul]) j, ← EReal.coe_add]
  rfl

/-- One token's part of the gradient of the norm's scale. -/
theorem dgp_val (i : Fin 512) (j : Fin 1024) : (∑ k : Fin 3072, (v0 (ix2 i k) : EReal) * v4 (ix2 (⟨k, by omega⟩ : Fin 7184) j) + ∑ k : Fin 128, (v1 (ix2 i k) : EReal) * v4 (ix2 (⟨3072 + k, by omega⟩ : Fin 7184) j)
        + ∑ k : Fin 2048, (v2 (ix2 i k) : EReal) * v4 (ix2 (⟨3088 + k, by omega⟩ : Fin 7184) j) + ∑ k : Fin 2048, (v3 (ix2 i k) : EReal) * v4 (ix2 (⟨5136 + k, by omega⟩ : Fin 7184) j)) * (v5 (ix2 i j) * Ideal.rsqrt (Ideal.div (∑ k, (v5 (ix2 i k) : EReal) * v5 (ix2 i k)) (Ideal.ofBits .f32 0x44800000#32) + Ideal.ofBits .f32 0x358637BD#32))
    = ((A.dgp (r i) j : ℝ) : EReal) := by
  rw [da_val T i j, Rms.coe_hat (fun k => v5 (ix2 i k)) (A.x (r i)) (T.x i) (fun k => v5 (ix2 i k)) (A.x (r i)) (T.x i) j, ← EReal.coe_mul]
  rfl
end

variable {A : Args} (H : Holds A m c)
include H

theorem dx_block (t : Fin cfg0.N) (i : Fin 512) (j : Fin 1024) :
    (outsAt0 m c t.val t.isLt).1 (ix2 i j) = ((A.dx (row t i) j : ℝ) : EReal) := by
  by_cases h : t.val % 8 = 0
  · rw [outsAt0_A m c t h (by have : t.val < 8 := lt_of_lt_of_eq t.isLt N_0; omega)]
    frame_open
    simp (disch := decide) only [↓ View.readCov_skip, ↓ View.readCov_cons_toLoadRect, ↓ View.readCov_fill]
    frame_out
    pointwise [k0_pay2, k0_pay5, k0_pay6, k0_pay7]
    exact dx_val (tile H t) i j
  · rw [outsAt0_B m c t h (by omega)]
    frame_open
    simp (disch := decide) only [↓ View.readCov_skip, ↓ View.readCov_cons_toLoadRect, ↓ View.readCov_fill]
    frame_out
    pointwise [k0_pay2, k0_pay5, k0_pay6, k0_pay7]
    exact dx_val (tile H t) i j

theorem dg_first (t : Fin cfg0.N) (h : t.val % 8 = 0) (j : Fin 1024) :
    ((outsAt0 m c t.val t.isLt).2 (ix2 0 j) : EReal) = ((∑ i, A.dgp (row t i) j : ℝ) : EReal) := by
  rw [outsAt0_A m c t h (by have : t.val < 8 := lt_of_lt_of_eq t.isLt N_0; omega)]
  frame_open
  simp (disch := decide) only [↓ View.readCov_skip, ↓ View.readCov_cons_toLoadRect, ↓ View.readCov_fill]
  frame_out
  pointwise [k0_pay1, k0_pay3, k0_pay5, k0_pay6, k0_pay7]
  rw [← Sgu.coe_sum]
  exact Finset.sum_congr rfl fun i _ => dgp_val (tile H t) i j

theorem dg_next (t : Fin cfg0.N) (h : ¬t.val % 8 = 0) (j : Fin 1024) :
    ((outsAt0 m c t.val t.isLt).2 (ix2 0 j) : EReal) = (outsAt0 m c (t.val - 1) (by omega)).2 (ix2 0 j) + ((∑ i, A.dgp (row t i) j : ℝ) : EReal) := by
  rw [outsAt0_B m c t h (by omega)]
  frame_open
  simp (disch := decide) only [↓ View.readCov_skip, ↓ View.readCov_cons_toLoadRect, ↓ View.readCov_fill]
  frame_out
  pointwise [k0_pay1, k0_pay4, k0_pay5, k0_pay6, k0_pay7]
  rw [← Sgu.coe_sum]
  refine congrArg₂ (fun p q : EReal => p + q) rfl ?_
  exact Finset.sum_congr rfl fun i _ => dgp_val (tile H t) i j

theorem dg_sum (t : Fin cfg0.N) (h : t.val % 8 = 7) (j : Fin 1024) :
    ((outsAt0 m c t.val t.isLt).2 (ix2 0 j) : EReal) = ((A.dg j : ℝ) : EReal) := by
  have hN : t.val < 8 := lt_of_lt_of_eq t.isLt N_0
  have s := Pipeline.eq_sum_fin_of_reset_step_of_flush (fun n hn => ((outsAt0 m c n hn).2 (ix2 0 j) : EReal)) 8 0
    (fun t => ((∑ i, A.dgp (row t i) j : ℝ) : EReal)) (fun t h0 => (dg_first H t h0 j).trans (zero_add _).symm) (fun t h0 => dg_next H t h0 j) t h
  refine s.trans ?_
  rw [zero_add, Sgu.coe_sum, Args.dg, ← Fin.sum_mul_add_fin 8 512 (fun n : Fin 4096 => A.dgp n j)]
  refine congrArg _ (Finset.sum_congr rfl fun q _ => Finset.sum_congr rfl fun k _ => congrArg (fun n => A.dgp n j) (Fin.ext ?_))
  simp only [row]
  omega

theorem arr_dx : (dats m 0 c).arrAt 8 cfg0.N = fun y : S4096x1024.Idx => ((A.dx (y 0) (y 1) : ℝ) : EReal) := by
  refine (dats m 0 c).arrAt_eq_of_covers 8 _ (by decide +kernel) fun t hf y => ?_
  idx_vars y
  blk_simp
  have e0 : (win0_8.blk t).view.emb (ix2 y0 y1) 0 = row t y0 := by
    apply Fin.ext
    blk_simp [idx t, row]
  have e1 : (win0_8.blk t).view.emb (ix2 y0 y1) 1 = y1 := by
    apply Fin.ext
    blk_simp [idx t]
  rw [after0_8, e0, e1]
  exact dx_block H t y0 y1

theorem arr_dg : (dats m 0 c).arrAt 9 cfg0.N = fun y : S1x1024.Idx => ((A.dg (y 1) : ℝ) : EReal) := by
  refine (dats m 0 c).arrAt_eq_of_covers 9 _ (by decide +kernel) fun t hf y => ?_
  idx_vars y
  have h7 : t.val % 8 = 7 := (by decide +kernel : ∀ t : Fin cfg0.N, (cfg0.win 9).flush t = true → t.val % 8 = 7) t hf
  blk_simp
  have e1 : (win0_9.blk t).view.emb (ix2 y0 y1) 1 = y1 := by
    apply Fin.ext
    blk_simp [idx t]
  rw [after0_9, e1]
  obtain rfl : y0 = 0 := Fin.eq_zero _
  exact dg_sum H t h7 y1

end Cert.Kernel2Ideal.Val
end
-- ==== Proof.PreFacts.lean ====
module

public import proofs.«01_k».proof.Pre_finite2
public import proofs.«01_k».proof.Pre_finite3
public import proofs.«01_k».proof.Pre_finite5
public import proofs.«01_k».proof.Pre_finite6
public import proofs.«01_k».proof.Pre_finite10

@[expose] public section

set_option maxRecDepth 16384

/-!
The side conditions of the five further preconditions.
-/

noncomputable section
open Idealize.ShloMosaic
namespace Cert.PreFacts

instance finite2 : Cert.Pre_finite2.Facts := ⟨by decide, by decide, by decide, by decide, by decide, by decide, by decide⟩
instance finite3 : Cert.Pre_finite3.Facts := ⟨by decide, by decide, by decide, by decide, by decide⟩
instance finite5 : Cert.Pre_finite5.Facts := ⟨by decide, by decide, by decide, by decide⟩
instance finite10 : Cert.Pre_finite10.Facts := ⟨by decide, by decide, by decide, by decide, by decide⟩
instance finite6 : Cert.Pre_finite6.Facts := ⟨by decide, by decide, by decide, by decide⟩

end Cert.PreFacts
end
-- ==== Proof.InBwdValue.lean ====
module

public import proofs.«01_k».proof.Defs
public import proofs.«01_k».proof.Proof.InBwd
public import proofs.«01_k».proof.Proof.PreFacts
public import proofs.«01_k».proof.Proof.Finite
public import proofs.«01_k».proof.Proof.Gen.Reference2Ideal.Run

@[expose] public section

set_option maxRecDepth 16384

/-!
The gradient through the input projections: the reference's arrays, and the equation.
-/

noncomputable section
open Idealize.ShloMosaic Idealize.ShloMosaic.TcCoe Idealize.SL.Sem
namespace Cert.Reference2Ideal.Val
open Cert.Kernel2Ideal.Val (Args sum_cut)
open Cert.Common Cert.Reference2Ideal Cert.Reference2Ideal.Gen

/-- The arrays of the reference's arguments. -/
abbrev pa (m : (ℓ : Loc nD τ sig) → Buf (Elt Ideal) ℓ) (c : Dev nD) : FVec Ideal S4096x3072 .bf16 := m ((c.tc : Thread nD τ).loc main_arg0)
abbrev low (m : (ℓ : Loc nD τ sig) → Buf (Elt Ideal) ℓ) (c : Dev nD) : FVec Ideal S4096x16 .bf16 := m ((c.tc : Thread nD τ).loc main_arg1)
abbrev ps (m : (ℓ : Loc nD τ sig) → Buf (Elt Ideal) ℓ) (c : Dev nD) : FVec Ideal S4096x2048 .bf16 := m ((c.tc : Thread nD τ).loc main_arg2)
abbrev pg (m : (ℓ : Loc nD τ sig) → Buf (Elt Ideal) ℓ) (c : Dev nD) : FVec Ideal S4096x2048 .bf16 := m ((c.tc : Thread nD τ).loc main_arg3)
abbrev w (m : (ℓ : Loc nD τ sig) → Buf (Elt Ideal) ℓ) (c : Dev nD) : FVec Ideal S1024x7184 .f32 := m ((c.tc : Thread nD τ).loc main_arg4)
abbrev x (m : (ℓ : Loc nD τ sig) → Buf (Elt Ideal) ℓ) (c : Dev nD) : FVec Ideal S4096x1024 .f32 := m ((c.tc : Thread nD τ).loc main_arg5)
abbrev dx1 (m : (ℓ : Loc nD τ sig) → Buf (Elt Ideal) ℓ) (c : Dev nD) : FVec Ideal S4096x1024 .f32 := m ((c.tc : Thread nD τ).loc main_arg6)
abbrev g (m : (ℓ : Loc nD τ sig) → Buf (Elt Ideal) ℓ) (c : Dev nD) : FVec Ideal S1024 .f32 := m ((c.tc : Thread nD τ).loc main_arg7)

/-- The reference's arguments hold the real numbers. -/
structure Holds (A : Args) (m : (ℓ : Loc nD τ sig) → Buf (Elt Ideal) ℓ) (c : Dev nD) : Prop where
  pa : ∀ n k, pa m c (ix2 n k) = ((A.pa n k : ℝ) : EReal)
  low : ∀ n k, low m c (ix2 n k) = ((A.low n k : ℝ) : EReal)
  ps : ∀ n k, ps m c (ix2 n k) = ((A.ps n k : ℝ) : EReal)
  pg : ∀ n k, pg m c (ix2 n k) = ((A.pg n k : ℝ) : EReal)
  w : ∀ n k, w m c (ix2 n k) = ((A.w n k : ℝ) : EReal)
  x : ∀ n k, x m c (ix2 n k) = ((A.x n k : ℝ) : EReal)
  dx1 : ∀ n k, dx1 m c (ix2 n k) = ((A.dx1 n k : ℝ) : EReal)
  g : ∀ k, g m c (ix1 k) = ((A.g k : ℝ) : EReal)

/-- The four gradients side by side. -/
def cat (A : Args) (n : Fin 4096) (l : Fin 7184) : ℝ :=
  if h : (l : ℕ) < 3072 then A.pa n ⟨l, h⟩ else if h1 : (l : ℕ) - 3072 < 16 then A.low n ⟨l - 3072, h1⟩
    else if h2 : (l : ℕ) - 3072 - 16 < 2048 then A.ps n ⟨l - 3072 - 16, h2⟩ else A.pg n ⟨l - 3072 - 16 - 2048, by omega⟩

theorem cat_sum (A : Args) (n : Fin 4096) (j : Fin 1024) : ∑ l, cat A n l * A.w j l = A.da n j := by
  rw [sum_cut]
  refine congrArg₂ (· + ·) (congrArg₂ (· + ·) (congrArg₂ (· + ·) ?_ ?_) ?_) ?_
  · refine Finset.sum_congr rfl fun k _ => congrArg (· * _) ?_
    rw [cat, dif_pos (by simp only []; omega)]
  · refine Finset.sum_congr rfl fun k _ => congrArg (· * _) ?_
    rw [cat, dif_neg (by simp only []; omega), dif_pos (by simp only []; omega)]
    exact congrArg _ (Fin.ext (by simp only []; omega))
  · refine Finset.sum_congr rfl fun k _ => congrArg (· * _) ?_
    rw [cat, dif_neg (by simp only []; omega), dif_neg (by simp only []; omega), dif_pos (by simp only []; omega)]
    exact congrArg _ (Fin.ext (by simp only []; omega))
  · refine Finset.sum_congr rfl fun k _ => congrArg (· * _) ?_
    rw [cat, dif_neg (by simp only []; omega), dif_neg (by simp only []; omega), dif_neg (by simp only []; omega)]
    exact congrArg _ (Fin.ext (by simp only []; omega))

variable {m : (ℓ : Loc nD τ sig) → Buf (Elt Ideal) ℓ} {c : Dev nD} {A : Args} (H : Holds A m c)
include H

/-- The product of the four gradients with the weights. -/
theorem da_at (n : Fin 4096) (j : Fin 1024) : ∑ l : Fin 7184,
      (if h : (l : ℕ) < 3072 then (pa m c (ix2 n ⟨l, h⟩) : EReal)
        else if h1 : (l : ℕ) - 3072 < 16 then low m c (ix2 n ⟨l - 3072, h1⟩)
        else if h2 : (l : ℕ) - 3072 - 16 < 2048 then ps m c (ix2 n ⟨l - 3072 - 16, h2⟩)
        else pg m c (ix2 n ⟨l - 3072 - 16 - 2048, by omega⟩))
      * w m c (ix2 j l) = ((A.da n j : ℝ) : EReal) := by
  rw [← cat_sum, ← coe_dot]
  refine Finset.sum_congr rfl fun l _ => congrArg₂ (fun p q : EReal => p * q) ?_ (H.w j l)
  unfold cat
  split
  · exact H.pa _ _
  split
  · exact H.low _ _
  split
  · exact H.ps _ _
  · exact H.pg _ _

theorem dx_at (n : Fin 4096) (k : Fin 1024) : (Cert.Reference2Ideal.Value.res_main_v43 (F := Ideal) m c (ix2 n k) : EReal) = ((A.dx n k : ℝ) : EReal) := by
  unfold Cert.Reference2Ideal.Value.res_main_v43
  pointwise
  refine (congrArg₂ (fun p q : EReal => p + q) (H.dx1 n k) (Rms.ref_val (fun k => x m c (ix2 n k)) (A.x n) (H.x n) _
    (fun l => A.da n l * A.g l) (fun l => (congrArg₂ (fun p q : EReal => p * q) (da_at H n l) (H.g l)).trans (EReal.coe_mul _ _).symm) k)).trans ?_
  rw [← EReal.coe_add]
  rfl

theorem dg_at (y0 : Fin 1) (k : Fin 1024) : ((shapeCast _ (Host.reduceAdd (shapeCast S1x1024 (Host.reduceAdd (mulf (mulf (x m c) (broadcastInDim S4096x1024 ![0, 1] bcast_S4096x1_S4096x1024_0_1 (Host.rsqrt (addf (Host.divf (broadcastInDim S4096x1 ![0] bcast_S4096_S4096x1_0 (Host.reduceAdd (mulf (x m c) (x m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x7184_S1024x7184_S4096x1024_1_1_0_0_n_n none ((concatenate S4096x7184 1 [⟨S4096x3072, ((extf .f32 (pa m c) bitsLt_bf16_f32) : FVec Ideal S4096x3072 .f32)⟩, ⟨S4096x16, ((extf .f32 (low m c) bitsLt_bf16_f32) : FVec Ideal S4096x16 .f32)⟩, ⟨S4096x2048, ((extf .f32 (ps m c) bitsLt_bf16_f32) : FVec Ideal S4096x2048 .f32)⟩, ⟨S4096x2048, ((extf .f32 (pg m c) bitsLt_bf16_f32) : FVec Ideal S4096x2048 .f32)⟩] concatenates_S4096x3072_S4096x16_S4096x2048_S4096x2048_S4096x7184_d1 : FVec Ideal S4096x7184 .f32)) (w m c))) (constant S_ .f32 0x00000000#32) reducesTo_S4096x1024_S1024_d0 h_S_) shapeCasts_S1024_S1x1024) (constant S_ .f32 0x00000000#32) reducesTo_S1x1024_S1024_d0 h_S_) shapeCasts_S1024_S1x1024 : FVec Ideal S1x1024 .f32) (ix2 y0 k) : EReal) = ((A.dg k : ℝ) : EReal) := by
  pointwise
  rw [Fin.sum_univ_one, Args.dg, ← Sgu.coe_sum]
  refine Finset.sum_congr rfl fun n _ => ?_
  refine (congrArg₂ (fun p q : EReal => p * q) (Rms.coe_hat (fun k => x m c (ix2 n k)) (A.x n) (H.x n) _ _ (H.x n) k) (da_at H n k)).trans ?_
  rw [← EReal.coe_mul, mul_comm]
  rfl
end Cert.Reference2Ideal.Val

namespace Cert.Kernel2Ideal.Val
open Cert.Kernel2Ideal Cert.Kernel2Ideal.Gen

/-- The real numbers the kernel's arguments hold. -/
def args (m : (ℓ : Loc nD τ sig) → Buf (Elt Ideal) ℓ) (c : Dev nD) : Args where
  pa n k := EReal.toReal (pa m c (ix2 n k))
  low n k := EReal.toReal (low m c (ix2 n k))
  ps n k := EReal.toReal (ps m c (ix2 n k))
  pg n k := EReal.toReal (pg m c (ix2 n k))
  w n k := EReal.toReal (w m c (ix2 n k))
  x n k := EReal.toReal (x m c (ix2 n k))
  dx1 n k := EReal.toReal (dx1 m c (ix2 n k))
  g k := EReal.toReal (g m c (ix1 k))

theorem holds (m : (ℓ : Loc nD τ sig) → Buf (Elt Ideal) ℓ) (h : Cert.Pre_Kernel2Ideal_finite2 m) (c : Dev nD) : Holds (args m c) m c := by
  obtain ⟨h0, h1, h2, h3, h4, h5, h6, h7⟩ := h c
  exact
  { pa := fun n k => Finite.real_of (congrFun h0 (ix2 n k))
    low := fun n k => Finite.real_of (congrFun h1 (ix2 n k))
    ps := fun n k => Finite.real_of (congrFun h2 (ix2 n k))
    pg := fun n k => Finite.real_of (congrFun h3 (ix2 n k))
    w := fun n k => Finite.real_of (congrFun h4 (ix2 n k))
    x := fun n k => Finite.real_of (congrFun h5 (ix2 n k))
    dx1 := fun n k => Finite.real_of (congrFun h6 (ix2 n k))
    g := fun k => Finite.real_of (congrFun h7 (ix1 k)) }

/-- The two gradients. -/
def outDx (A : Args) : FVec Ideal S4096x1024 .f32 := fun y => ((A.dx (y 0) (y 1) : ℝ) : EReal)
def outDg (A : Args) : FVec Ideal S1x1024 .f32 := fun y => ((A.dg (y 1) : ℝ) : EReal)

theorem value : Cert.algebraic_Kernel2Ideal_Reference2Ideal_pre_finite2 := by
  intro m ρ m' ρ' hpre hagree
  refine ⟨fun c => outDx (args m c), fun c => outDg (args m c), ?_, ?_⟩
  · refine (θ_run (defs (F := Ideal)) _ _).mono (fun r h c => ?_) (Cert.Kernel2Ideal.Value.run_blocks m ρ)
    exact ⟨(h c).1.trans (arr_dx (holds m hpre c)), (h c).2.1.trans (arr_dg (holds m hpre c)), (h c).2.2⟩
  · refine (θ_run (Reference2Ideal.defs (F := Ideal)) _ _).mono (fun r h c => ?_) (Reference2Ideal.Value.run m' ρ')
    obtain ⟨e0, e1, e2, e3, e4, e5, e6, e7⟩ := hagree c
    have H := holds m hpre c
    have H' : Cert.Reference2Ideal.Val.Holds (args m c) m' c :=
    { pa := fun n k => (congrFun e0 (ix2 n k)).trans (H.pa n k)
      low := fun n k => (congrFun e1 (ix2 n k)).trans (H.low n k)
      ps := fun n k => (congrFun e2 (ix2 n k)).trans (H.ps n k)
      pg := fun n k => (congrFun e3 (ix2 n k)).trans (H.pg n k)
      w := fun n k => (congrFun e4 (ix2 n k)).trans (H.w n k)
      x := fun n k => (congrFun e5 (ix2 n k)).trans (H.x n k)
      dx1 := fun n k => (congrFun e6 (ix2 n k)).trans (H.dx1 n k)
      g := fun k => (congrFun e7 (ix1 k)).trans (H.g k) }
    refine ⟨(h c).1.trans ?_, (h c).2.1.trans ?_, (h c).2.2⟩
    · funext y
      idx_vars y
      exact Cert.Reference2Ideal.Val.dx_at H' _ _
    · funext y
      idx_vars y
      exact Cert.Reference2Ideal.Val.dg_at H' _ _
end Cert.Kernel2Ideal.Val
end
-- ==== Proof.FfnBwd.lean ====
module

public import proofs.«01_k».proof.Proof.Gen.Kernel3Ideal.Value
public import proofs.«01_k».proof.Proof.Common
public import proofs.«01_k».proof.Proof.RmsNorm

@[expose] public section

set_option maxRecDepth 16384

/-!
The gradient through the feed-forward's input and the two norms before it: what the kernel leaves in its arrays.
-/

noncomputable section
open Idealize.ShloMosaic Idealize.ShloMosaic.TcCoe Idealize.SL.Sem
open Idealize.ShloMosaic.Pipeline (Dat)
namespace Cert.Kernel3Ideal.Val
open Cert.Common Cert.Kernel3Ideal Cert.Kernel3Ideal.Gen

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- The arguments as real numbers: the gradient of the gated product's input, the weights, the gradient that goes past the
    feed-forward, the layer's input, the mixer's output, and the scales of the two norms. -/
structure Args where
  dgu : Fin 4096 → Fin 5632 → ℝ
  w : Fin 1024 → Fin 5632 → ℝ
  dx2 : Fin 4096 → Fin 1024 → ℝ
  x : Fin 4096 → Fin 1024 → ℝ
  mix : Fin 4096 → Fin 1024 → ℝ
  g3 : Fin 1024 → ℝ
  g2 : Fin 1024 → ℝ

namespace Args
variable (A : Args)
/-- The feed-forward's input before its norm. -/
def x1 (n : Fin 4096) (k : Fin 1024) : ℝ := A.x n k + A.mix n k * Rms.rr (A.mix n) * A.g2 k
/-- The gradient of the normalised input. -/
def dh (n : Fin 4096) (k : Fin 1024) : ℝ := ∑ l, A.dgu n l * A.w k l
/-- The gradient of the feed-forward's input, which is also the gradient of the layer's input that goes past the mixer. -/
def dx (n : Fin 4096) (k : Fin 1024) : ℝ := A.dx2 n k + Rms.dnorm (A.x1 n) (fun l => A.dh n l * A.g3 l) k
/-- The gradient of the mixer's output. -/
def dmix (n : Fin 4096) (k : Fin 1024) : ℝ := Rms.dnorm (A.mix n) (fun l => A.dx n l * A.g2 l) k
/-- One token's part of the gradients of the two scales, and the gradients. -/
def dg3p (n : Fin 4096) (k : Fin 1024) : ℝ := Rms.dscale (A.x1 n) (A.dh n) k
def dg2p (n : Fin 4096) (k : Fin 1024) : ℝ := Rms.dscale (A.mix n) (A.dx n) k
def dg3 (k : Fin 1024) : ℝ := ∑ n, A.dg3p n k
def dg2 (k : Fin 1024) : ℝ := ∑ n, A.dg2p n k
end Args

variable {m : (ℓ : Loc nD τ sig) → Buf (Elt Ideal) ℓ} {c : Dev nD}

/-- The arrays of the arguments. -/
abbrev dgu (m : (ℓ : Loc nD τ sig) → Buf (Elt Ideal) ℓ) (c : Dev nD) : FVec Ideal S4096x5632 .bf16 := m ((c : Thread nD τ).loc main_arg0)
abbrev w (m : (ℓ : Loc nD τ sig) → Buf (Elt Ideal) ℓ) (c : Dev nD) : FVec Ideal S1024x5632 .f32 := m ((c : Thread nD τ).loc main_arg1)
abbrev dx2 (m : (ℓ : Loc nD τ sig) → Buf (Elt Ideal) ℓ) (c : Dev nD) : FVec Ideal S4096x1024 .f32 := m ((c : Thread nD τ).loc main_arg2)
abbrev x (m : (ℓ : Loc nD τ sig) → Buf (Elt Ideal) ℓ) (c : Dev nD) : FVec Ideal S4096x1024 .f32 := m ((c : Thread nD τ).loc main_arg3)
abbrev mix (m : (ℓ : Loc nD τ sig) → Buf (Elt Ideal) ℓ) (c : Dev nD) : FVec Ideal S4096x1024 .f32 := m ((c : Thread nD τ).loc main_arg4)
abbrev g3 (m : (ℓ : Loc nD τ sig) → Buf (Elt Ideal) ℓ) (c : Dev nD) : FVec Ideal S1024 .f32 := m ((c : Thread nD τ).loc main_arg5)
abbrev g2 (m : (ℓ : Loc nD τ sig) → Buf (Elt Ideal) ℓ) (c : Dev nD) : FVec Ideal S1024 .f32 := m ((c : Thread nD τ).loc main_arg6)

/-- The arrays hold the real numbers. -/
structure Holds (A : Args) (m : (ℓ : Loc nD τ sig) → Buf (Elt Ideal) ℓ) (c : Dev nD) : Prop where
  dgu : ∀ i k, dgu m c (ix2 i k) = ((A.dgu i k : ℝ) : EReal)
  w : ∀ i k, w m c (ix2 i k) = ((A.w i k : ℝ) : EReal)
  dx2 : ∀ i k, dx2 m c (ix2 i k) = ((A.dx2 i k : ℝ) : EReal)
  x : ∀ i k, x m c (ix2 i k) = ((A.x i k : ℝ) : EReal)
  mix : ∀ i k, mix m c (ix2 i k) = ((A.mix i k : ℝ) : EReal)
  g3 : ∀ k, g3 m c (ix1 k) = ((A.g3 k : ℝ) : EReal)
  g2 : ∀ k, g2 m c (ix1 k) = ((A.g2 k : ℝ) : EReal)

/-! ## The arrays the host prepares -/

theorem V_v13 : (V m c main_v13 : FVec Ideal S4096x1024 .f32) = (addf (x m c) (mulf (mulf (mix m c) (broadcastInDim S4096x1024 ![0, 1] bcast_S4096x1_S4096x1024_0_1 (Host.rsqrt (addf (Host.divf (broadcastInDim S4096x1 ![0] bcast_S4096_S4096x1_0 (Host.reduceAdd (mulf (mix m c) (mix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (g2 m c))))) := by
  unfold_abbrev_sides
  try simp only [List.flatten_cons, List.flatten_nil, List.append_nil, List.cons_append, List.nil_append]
  after_results

theorem V_v15 : (V m c main_v15 : FVec Ideal S5632x1024 .bf16)
    = truncf .bf16 (transpose S5632x1024 [1, 0] (w m c) transposes_S1024x5632_S5632x1024_1_0) bitsLt_bf16_f32 := by
  unfold_abbrev_sides
  try simp only [List.flatten_cons, List.flatten_nil, List.append_nil, List.cons_append, List.nil_append]
  after_results

theorem V_v16 : (V m c main_v16 : FVec Ideal S1x1024 .f32) = shapeCast S1x1024 (g3 m c) shapeCasts_S1024_S1x1024 := by
  unfold_abbrev_sides
  try simp only [List.flatten_cons, List.flatten_nil, List.append_nil, List.cons_append, List.nil_append]
  after_results
  rfl
theorem V_v17 : (V m c main_v17 : FVec Ideal S1x1024 .f32) = shapeCast S1x1024 (g2 m c) shapeCasts_S1024_S1x1024 := by
  unfold_abbrev_sides
  try simp only [List.flatten_cons, List.flatten_nil, List.append_nil, List.cons_append, List.nil_append]
  after_results
  rfl

/-- The tile's arrays, as real numbers; `r` are the tile's tokens. -/
structure Tile (A : Args) (r : Fin 512 → Fin 4096) (v0 : FVec Ideal S512x5632 .bf16) (v1 : FVec Ideal S5632x1024 .bf16) (v2 v3 v4 : FVec Ideal S512x1024 .f32) (v5 v6 : FVec Ideal S1x1024 .f32) : Prop where
  dgu : ∀ i k, v0 (ix2 i k) = ((A.dgu (r i) k : ℝ) : EReal)
  w : ∀ k j, v1 (ix2 k j) = ((A.w j k : ℝ) : EReal)
  dx2 : ∀ i k, v2 (ix2 i k) = ((A.dx2 (r i) k : ℝ) : EReal)
  x1 : ∀ i k, v3 (ix2 i k) = ((A.x1 (r i) k : ℝ) : EReal)
  mix : ∀ i k, v4 (ix2 i k) = ((A.mix (r i) k : ℝ) : EReal)
  g3 : ∀ k, v5 (ix2 0 k) = ((A.g3 k : ℝ) : EReal)
  g2 : ∀ k, v6 (ix2 0 k) = ((A.g2 k : ℝ) : EReal)

/-- The tokens of tile `t`. -/
def row (t : Fin cfg0.N) (i : Fin 512) : Fin 4096 := ⟨t.val * 512 + i, by have : t.val < 8 := lt_of_lt_of_eq t.isLt N_0; omega⟩

theorem tile {A : Args} (H : Holds A m c) (t : Fin cfg0.N) : Tile A (row t) (iblk m c 0 t) (iblk m c 1 t) (iblk m c 2 t) (iblk m c 3 t) (iblk m c 4 t) (iblk m c 5 t) (iblk m c 6 t) where
  dgu i k := by
    refine Eq.trans ?_ (H.dgu (row t i) k)
    blk_ext [iblk, V, idx t, row]
  w k j := by
    refine Eq.trans (b := (V m c main_v15 : FVec Ideal S5632x1024 .bf16) (ix2 k j)) (by blk_ext [iblk, idx t]) ?_
    rw [V_v15]
    pointwise
    exact H.w _ _
  dx2 i k := by
    refine Eq.trans ?_ (H.dx2 (row t i) k)
    blk_ext [iblk, V, idx t, row]
  x1 i k := by
    refine Eq.trans (b := (V m c main_v13 : FVec Ideal S4096x1024 .f32) (ix2 (row t i) k)) (by blk_ext [iblk, idx t, row]) ?_
    rw [V_v13]
    pointwise
    refine (congrArg₂ (fun p q : EReal => p + q) (H.x _ k) (congrArg₂ (fun p q : EReal => p * q)
      (Rms.coe_hat (fun k => mix m c (ix2 (row t i) k)) (A.mix (row t i)) (H.mix (row t i)) _ _ (H.mix (row t i)) k) (H.g2 k))).trans ?_
    rw [← EReal.coe_mul, ← EReal.coe_add]
    rfl
  mix i k := by
    refine Eq.trans ?_ (H.mix (row t i) k)
    blk_ext [iblk, V, idx t, row]
  g3 k := by
    refine Eq.trans (b := (V m c main_v16 : FVec Ideal S1x1024 .f32) (ix2 0 k)) (by blk_ext [iblk, idx t]) ?_
    rw [V_v16]
    pointwise
    exact H.g3 _
  g2 k := by
    refine Eq.trans (b := (V m c main_v17 : FVec Ideal S1x1024 .f32) (ix2 0 k)) (by blk_ext [iblk, idx t]) ?_
    rw [V_v17]
    pointwise
    exact H.g2 _

/-! ## What a tile computes -/

section
variable {A : Args} {r : Fin 512 → Fin 4096} {v0 : FVec Ideal S512x5632 .bf16} {v1 : FVec Ideal S5632x1024 .bf16} {v2 v3 v4 : FVec Ideal S512x1024 .f32} {v5 v6 : FVec Ideal S1x1024 .f32} (T : Tile A r v0 v1 v2 v3 v4 v5 v6)
include T

theorem dh_val (i : Fin 512) (j : Fin 1024) : (∑ q, (v0 (ix2 i q) : EReal) * v1 (ix2 q j)) = ((A.dh (r i) j : ℝ) : EReal) :=
  (Finset.sum_congr rfl fun k _ => congrArg₂ (fun p q : EReal => p * q) (T.dgu i k) (T.w k j)).trans (coe_dot _ _)

theorem dx_val (i : Fin 512) (j : Fin 1024) : ((v2 (ix2 i j) : EReal) + Ideal.rsqrt (Ideal.div (∑ k, (v3 (ix2 i k) : EReal) * v3 (ix2 i k)) (Ideal.ofBits .f32 0x44800000#32) + Ideal.ofBits .f32 0x358637BD#32)
      * ((∑ q, (v0 (ix2 i q) : EReal) * v1 (ix2 q j)) * v5 (ix2 0 j) - v3 (ix2 i j) * Ideal.rsqrt (Ideal.div (∑ k, (v3 (ix2 i k) : EReal) * v3 (ix2 i k)) (Ideal.ofBits .f32 0x44800000#32) + Ideal.ofBits .f32 0x358637BD#32)
        * Ideal.div (∑ l : Fin 1024, (∑ q, (v0 (ix2 i q) : EReal) * v1 (ix2 q l)) * v5 (ix2 0 l) * (v3 (ix2 i l) * Ideal.rsqrt (Ideal.div (∑ k, (v3 (ix2 i k) : EReal) * v3 (ix2 i k)) (Ideal.ofBits .f32 0x44800000#32) + Ideal.ofBits .f32 0x358637BD#32))) (Ideal.ofBits .f32 0x44800000#32))) = ((A.dx (r i) j : ℝ) : EReal) := by
  rw [T.dx2 i j, Rms.kernel_val (fun k => v3 (ix2 i k)) (A.x1 (r i)) (T.x1 i) (fun l => (∑ q, (v0 (ix2 i q) : EReal) * v1 (ix2 q l)) * v5 (ix2 0 l))
    (fun l => A.dh (r i) l * A.g3 l) (fun l => by rw [dh_val T i l, T.g3 l, ← EReal.coe_mul]) j, ← EReal.coe_add]
  rfl

theorem dmix_val (i : Fin 512) (j : Fin 1024) : Ideal.rsqrt (Ideal.div (∑ k, (v4 (ix2 i k) : EReal) * v4 (ix2 i k)) (Ideal.ofBits .f32 0x44800000#32) + Ideal.ofBits .f32 0x358637BD#32)
      * (((v2 (ix2 i j) : EReal) + Ideal.rsqrt (Ideal.div (∑ k, (v3 (ix2 i k) : EReal) * v3 (ix2 i k)) (Ideal.ofBits .f32 0x44800000#32) + Ideal.ofBits .f32 0x358637BD#32)
      * ((∑ q, (v0 (ix2 i q) : EReal) * v1 (ix2 q j)) * v5 (ix2 0 j) - v3 (ix2 i j) * Ideal.rsqrt (Ideal.div (∑ k, (v3 (ix2 i k) : EReal) * v3 (ix2 i k)) (Ideal.ofBits .f32 0x44800000#32) + Ideal.ofBits .f32 0x358637BD#32)
        * Ideal.div (∑ l : Fin 1024, (∑ q, (v0 (ix2 i q) : EReal) * v1 (ix2 q l)) * v5 (ix2 0 l) * (v3 (ix2 i l) * Ideal.rsqrt (Ideal.div (∑ k, (v3 (ix2 i k) : EReal) * v3 (ix2 i k)) (Ideal.ofBits .f32 0x44800000#32) + Ideal.ofBits .f32 0x358637BD#32))) (Ideal.ofBits .f32 0x44800000#32))) * v6 (ix2 0 j) - v4 (ix2 i j) * Ideal.rsqrt (Ideal.div (∑ k, (v4 (ix2 i k) : EReal) * v4 (ix2 i k)) (Ideal.ofBits .f32 0x44800000#32) + Ideal.ofBits .f32 0x358637BD#32)
        * Ideal.div (∑ e : Fin 1024, ((v2 (ix2 i e) : EReal) + Ideal.rsqrt (Ideal.div (∑ k, (v3 (ix2 i k) : EReal) * v3 (ix2 i k)) (Ideal.ofBits .f32 0x44800000#32) + Ideal.ofBits .f32 0x358637BD#32)
      * ((∑ q, (v0 (ix2 i q) : EReal) * v1 (ix2 q e)) * v5 (ix2 0 e) - v3 (ix2 i e) * Ideal.rsqrt (Ideal.div (∑ k, (v3 (ix2 i k) : EReal) * v3 (ix2 i k)) (Ideal.ofBits .f32 0x44800000#32) + Ideal.ofBits .f32 0x358637BD#32)
        * Ideal.div (∑ l : Fin 1024, (∑ q, (v0 (ix2 i q) : EReal) * v1 (ix2 q l)) * v5 (ix2 0 l) * (v3 (ix2 i l) * Ideal.rsqrt (Ideal.div (∑ k, (v3 (ix2 i k) : EReal) * v3 (ix2 i k)) (Ideal.ofBits .f32 0x44800000#32) + Ideal.ofBits .f32 0x358637BD#32))) (Ideal.ofBits .f32 0x44800000#32))) * v6 (ix2 0 e) * (v4 (ix2 i e) * Ideal.rsqrt (Ideal.div (∑ k, (v4 (ix2 i k) : EReal) * v4 (ix2 i k)) (Ideal.ofBits .f32 0x44800000#32) + Ideal.ofBits .f32 0x358637BD#32))) (Ideal.ofBits .f32 0x44800000#32)) = ((A.dmix (r i) j : ℝ) : EReal) :=
  Rms.kernel_val (fun k => v4 (ix2 i k)) (A.mix (r i)) (T.mix i) _ (fun l => A.dx (r i) l * A.g2 l)
    (fun l => (congrArg₂ (fun p q : EReal => p * q) (dx_val T i l) (T.g2 l)).trans (EReal.coe_mul _ _).symm) j

theorem dg3p_val (i : Fin 512) (j : Fin 1024) : (∑ q, (v0 (ix2 i q) : EReal) * v1 (ix2 q j)) * (v3 (ix2 i j) * Ideal.rsqrt (Ideal.div (∑ k, (v3 (ix2 i k) : EReal) * v3 (ix2 i k)) (Ideal.ofBits .f32 0x44800000#32) + Ideal.ofBits .f32 0x358637BD#32))
    = ((A.dg3p (r i) j : ℝ) : EReal) := by
  rw [dh_val T i j, Rms.coe_hat (fun k => v3 (ix2 i k)) (A.x1 (r i)) (T.x1 i) _ _ (T.x1 i) j, ← EReal.coe_mul]
  rfl

theorem dg2p_val (i : Fin 512) (j : Fin 1024) : ((v2 (ix2 i j) : EReal) + Ideal.rsqrt (Ideal.div (∑ k, (v3 (ix2 i k) : EReal) * v3 (ix2 i k)) (Ideal.ofBits .f32 0x44800000#32) + Ideal.ofBits .f32 0x358637BD#32)
      * ((∑ q, (v0 (ix2 i q) : EReal) * v1 (ix2 q j)) * v5 (ix2 0 j) - v3 (ix2 i j) * Ideal.rsqrt (Ideal.div (∑ k, (v3 (ix2 i k) : EReal) * v3 (ix2 i k)) (Ideal.ofBits .f32 0x44800000#32) + Ideal.ofBits .f32 0x358637BD#32)
        * Ideal.div (∑ l : Fin 1024, (∑ q, (v0 (ix2 i q) : EReal) * v1 (ix2 q l)) * v5 (ix2 0 l) * (v3 (ix2 i l) * Ideal.rsqrt (Ideal.div (∑ k, (v3 (ix2 i k) : EReal) * v3 (ix2 i k)) (Ideal.ofBits .f32 0x44800000#32) + Ideal.ofBits .f32 0x358637BD#32))) (Ideal.ofBits .f32 0x44800000#32))) * (v4 (ix2 i j) * Ideal.rsqrt (Ideal.div (∑ k, (v4 (ix2 i k) : EReal) * v4 (ix2 i k)) (Ideal.ofBits .f32 0x44800000#32) + Ideal.ofBits .f32 0x358637BD#32))
    = ((A.dg2p (r i) j : ℝ) : EReal) :=
  (congrArg₂ (fun p q : EReal => p * q) (dx_val T i j) (Rms.coe_hat (fun k => v4 (ix2 i k)) (A.mix (r i)) (T.mix i) _ _ (T.mix i) j)).trans
    (EReal.coe_mul _ _).symm

omit T in
/-- A sum over a tile's rows from the sums over its two halves. -/
theorem halves (f : Fin 512 → ℝ) (p q : Fin 256 → EReal) (hp : ∀ k : Fin 256, p k = ((f ⟨k, by omega⟩ : ℝ) : EReal))
    (hq : ∀ k : Fin 256, q k = ((f ⟨256 + k, by omega⟩ : ℝ) : EReal)) : ∑ k, p k + ∑ k, q k = ((∑ i, f i : ℝ) : EReal) := by
  rw [Finset.sum_congr rfl (fun k _ => hp k), Finset.sum_congr rfl (fun k _ => hq k), Sgu.coe_sum, Sgu.coe_sum, ← EReal.coe_add,
    Fin.sum_univ_add (a := 256) (b := 256) f]
  rfl
end

variable {A : Args} (H : Holds A m c)
include H

theorem dx_block (t : Fin cfg0.N) (y0 : Fin 512) (y1 : Fin 1024) :
    ((outsAt0 m c t.val t.isLt).1 (ix2 y0 y1) : EReal) = ((A.dx (row t y0) y1 : ℝ) : EReal) := by
  have hN : t.val < 8 := lt_of_lt_of_eq t.isLt N_0
  by_cases h : t.val % 8 = 0
  · rw [outsAt0_A m c t h (by omega) h (by omega)]
    frame_open
    frame_out
    canon_tiles x h using (View.cover_of_tiledBy _ ![256, 1024] (by sl_kernel_rfl) _)
    all_goals
      idx_vars x
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
      rw [show y1 = x1 from Fin.ext h1]
    · rw [show y0 = ⟨256 + x0, by omega⟩ from Fin.ext h0]
      exact dx_val (tile H t) ⟨256 + x0, by omega⟩ x1
    · rw [show y0 = ⟨x0, by omega⟩ from Fin.ext h0]
      exact dx_val (tile H t) ⟨x0, by omega⟩ x1
  · rw [outsAt0_B m c t h (by omega) h (by omega)]
    frame_open
    frame_out
    canon_tiles x h using (View.cover_of_tiledBy _ ![256, 1024] (by sl_kernel_rfl) _)
    all_goals
      idx_vars x
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
      rw [show y1 = x1 from Fin.ext h1]
    · rw [show y0 = ⟨256 + x0, by omega⟩ from Fin.ext h0]
      exact dx_val (tile H t) ⟨256 + x0, by omega⟩ x1
    · rw [show y0 = ⟨x0, by omega⟩ from Fin.ext h0]
      exact dx_val (tile H t) ⟨x0, by omega⟩ x1

theorem dmix_block (t : Fin cfg0.N) (y0 : Fin 512) (y1 : Fin 1024) :
    ((outsAt0 m c t.val t.isLt).2.1 (ix2 y0 y1) : EReal) = ((A.dmix (row t y0) y1 : ℝ) : EReal) := by
  have hN : t.val < 8 := lt_of_lt_of_eq t.isLt N_0
  by_cases h : t.val % 8 = 0
  · rw [outsAt0_A m c t h (by omega) h (by omega)]
    frame_open
    frame_out
    canon_tiles x h using (View.cover_of_tiledBy _ ![256, 1024] (by sl_kernel_rfl) _)
    all_goals
      idx_vars x
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
      rw [show y1 = x1 from Fin.ext h1]
    · rw [show y0 = ⟨256 + x0, by omega⟩ from Fin.ext h0]
      exact dmix_val (tile H t) ⟨256 + x0, by omega⟩ x1
    · rw [show y0 = ⟨x0, by omega⟩ from Fin.ext h0]
      exact dmix_val (tile H t) ⟨x0, by omega⟩ x1
  · rw [outsAt0_B m c t h (by omega) h (by omega)]
    frame_open
    frame_out
    canon_tiles x h using (View.cover_of_tiledBy _ ![256, 1024] (by sl_kernel_rfl) _)
    all_goals
      idx_vars x
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
      rw [show y1 = x1 from Fin.ext h1]
    · rw [show y0 = ⟨256 + x0, by omega⟩ from Fin.ext h0]
      exact dmix_val (tile H t) ⟨256 + x0, by omega⟩ x1
    · rw [show y0 = ⟨x0, by omega⟩ from Fin.ext h0]
      exact dmix_val (tile H t) ⟨x0, by omega⟩ x1

theorem dg3_first (t : Fin cfg0.N) (h : t.val % 8 = 0) (j : Fin 1024) :
    ((outsAt0 m c t.val t.isLt).2.2.1 (ix2 0 j) : EReal) = ((∑ i, A.dg3p (row t i) j : ℝ) : EReal) := by
  have hN : t.val < 8 := lt_of_lt_of_eq t.isLt N_0
  rw [outsAt0_A m c t h (by omega) h (by omega)]
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  exact halves (fun i => A.dg3p (row t i) j) _ _ (fun k => dg3p_val (tile H t) ⟨k, by omega⟩ j) (fun k => dg3p_val (tile H t) ⟨256 + k, by omega⟩ j)

theorem dg3_next (t : Fin cfg0.N) (h : ¬t.val % 8 = 0) (j : Fin 1024) :
    ((outsAt0 m c t.val t.isLt).2.2.1 (ix2 0 j) : EReal) = (outsAt0 m c (t.val - 1) (by omega)).2.2.1 (ix2 0 j) + ((∑ i, A.dg3p (row t i) j : ℝ) : EReal) := by
  have hN : t.val < 8 := lt_of_lt_of_eq t.isLt N_0
  rw [outsAt0_B m c t h (by omega) h (by omega)]
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  refine congrArg₂ (fun p q : EReal => p + q) rfl ?_
  exact halves (fun i => A.dg3p (row t i) j) _ _ (fun k => dg3p_val (tile H t) ⟨k, by omega⟩ j) (fun k => dg3p_val (tile H t) ⟨256 + k, by omega⟩ j)

theorem dg3_sum (t : Fin cfg0.N) (h : t.val % 8 = 7) (j : Fin 1024) :
    ((outsAt0 m c t.val t.isLt).2.2.1 (ix2 0 j) : EReal) = ((A.dg3 j : ℝ) : EReal) := by
  have hN : t.val < 8 := lt_of_lt_of_eq t.isLt N_0
  have s := Pipeline.eq_sum_fin_of_reset_step_of_flush (fun n hn => ((outsAt0 m c n hn).2.2.1 (ix2 0 j) : EReal)) 8 0
    (fun t => ((∑ i, A.dg3p (row t i) j : ℝ) : EReal)) (fun t h0 => (dg3_first H t h0 j).trans (zero_add _).symm) (fun t h0 => dg3_next H t h0 j) t h
  refine s.trans ?_
  rw [zero_add, Sgu.coe_sum, Args.dg3, ← Fin.sum_mul_add_fin 8 512 (fun n : Fin 4096 => A.dg3p n j)]
  refine congrArg _ (Finset.sum_congr rfl fun q _ => Finset.sum_congr rfl fun k _ => congrArg (fun n => A.dg3p n j) (Fin.ext ?_))
  simp only [row]
  omega

theorem dg2_first (t : Fin cfg0.N) (h : t.val % 8 = 0) (j : Fin 1024) :
    ((outsAt0 m c t.val t.isLt).2.2.2 (ix2 0 j) : EReal) = ((∑ i, A.dg2p (row t i) j : ℝ) : EReal) := by
  have hN : t.val < 8 := lt_of_lt_of_eq t.isLt N_0
  rw [outsAt0_A m c t h (by omega) h (by omega)]
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  exact halves (fun i => A.dg2p (row t i) j) _ _ (fun k => dg2p_val (tile H t) ⟨k, by omega⟩ j) (fun k => dg2p_val (tile H t) ⟨256 + k, by omega⟩ j)

theorem dg2_next (t : Fin cfg0.N) (h : ¬t.val % 8 = 0) (j : Fin 1024) :
    ((outsAt0 m c t.val t.isLt).2.2.2 (ix2 0 j) : EReal) = (outsAt0 m c (t.val - 1) (by omega)).2.2.2 (ix2 0 j) + ((∑ i, A.dg2p (row t i) j : ℝ) : EReal) := by
  have hN : t.val < 8 := lt_of_lt_of_eq t.isLt N_0
  rw [outsAt0_B m c t h (by omega) h (by omega)]
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  refine congrArg₂ (fun p q : EReal => p + q) rfl ?_
  exact halves (fun i => A.dg2p (row t i) j) _ _ (fun k => dg2p_val (tile H t) ⟨k, by omega⟩ j) (fun k => dg2p_val (tile H t) ⟨256 + k, by omega⟩ j)

theorem dg2_sum (t : Fin cfg0.N) (h : t.val % 8 = 7) (j : Fin 1024) :
    ((outsAt0 m c t.val t.isLt).2.2.2 (ix2 0 j) : EReal) = ((A.dg2 j : ℝ) : EReal) := by
  have hN : t.val < 8 := lt_of_lt_of_eq t.isLt N_0
  have s := Pipeline.eq_sum_fin_of_reset_step_of_flush (fun n hn => ((outsAt0 m c n hn).2.2.2 (ix2 0 j) : EReal)) 8 0
    (fun t => ((∑ i, A.dg2p (row t i) j : ℝ) : EReal)) (fun t h0 => (dg2_first H t h0 j).trans (zero_add _).symm) (fun t h0 => dg2_next H t h0 j) t h
  refine s.trans ?_
  rw [zero_add, Sgu.coe_sum, Args.dg2, ← Fin.sum_mul_add_fin 8 512 (fun n : Fin 4096 => A.dg2p n j)]
  refine congrArg _ (Finset.sum_congr rfl fun q _ => Finset.sum_congr rfl fun k _ => congrArg (fun n => A.dg2p n j) (Fin.ext ?_))
  simp only [row]
  omega

theorem arr_dx : (dats m 0 c).arrAt 7 cfg0.N = fun y : S4096x1024.Idx => ((A.dx (y 0) (y 1) : ℝ) : EReal) := by
  refine (dats m 0 c).arrAt_eq_of_covers 7 _ (by decide +kernel) fun t hf y => ?_
  idx_vars y
  blk_simp
  have e0 : (win0_7.blk t).view.emb (ix2 y0 y1) 0 = row t y0 := by
    apply Fin.ext
    blk_simp [idx t, row]
  have e1 : (win0_7.blk t).view.emb (ix2 y0 y1) 1 = y1 := by
    apply Fin.ext
    blk_simp [idx t]
  rw [after0_7, e0, e1]
  exact dx_block H t y0 y1

theorem arr_dmix : (dats m 0 c).arrAt 8 cfg0.N = fun y : S4096x1024.Idx => ((A.dmix (y 0) (y 1) : ℝ) : EReal) := by
  refine (dats m 0 c).arrAt_eq_of_covers 8 _ (by decide +kernel) fun t hf y => ?_
  idx_vars y
  blk_simp
  have e0 : (win0_8.blk t).view.emb (ix2 y0 y1) 0 = row t y0 := by
    apply Fin.ext
    blk_simp [idx t, row]
  have e1 : (win0_8.blk t).view.emb (ix2 y0 y1) 1 = y1 := by
    apply Fin.ext
    blk_simp [idx t]
  rw [after0_8, e0, e1]
  exact dmix_block H t y0 y1

theorem arr_dg3 : (dats m 0 c).arrAt 9 cfg0.N = fun y : S1x1024.Idx => ((A.dg3 (y 1) : ℝ) : EReal) := by
  refine (dats m 0 c).arrAt_eq_of_covers 9 _ (by decide +kernel) fun t hf y => ?_
  idx_vars y
  have h7 : t.val % 8 = 7 := (by decide +kernel : ∀ t : Fin cfg0.N, (cfg0.win 9).flush t = true → t.val % 8 = 7) t hf
  blk_simp
  have e1 : (win0_9.blk t).view.emb (ix2 y0 y1) 1 = y1 := by
    apply Fin.ext
    blk_simp [idx t]
  rw [after0_9, e1]
  obtain rfl : y0 = 0 := Fin.eq_zero _
  exact dg3_sum H t h7 y1

theorem arr_dg2 : (dats m 0 c).arrAt 10 cfg0.N = fun y : S1x1024.Idx => ((A.dg2 (y 1) : ℝ) : EReal) := by
  refine (dats m 0 c).arrAt_eq_of_covers 10 _ (by decide +kernel) fun t hf y => ?_
  idx_vars y
  have h7 : t.val % 8 = 7 := (by decide +kernel : ∀ t : Fin cfg0.N, (cfg0.win 10).flush t = true → t.val % 8 = 7) t hf
  blk_simp
  have e1 : (win0_10.blk t).view.emb (ix2 y0 y1) 1 = y1 := by
    apply Fin.ext
    blk_simp [idx t]
  rw [after0_10, e1]
  obtain rfl : y0 = 0 := Fin.eq_zero _
  exact dg2_sum H t h7 y1

end Cert.Kernel3Ideal.Val
end
-- ==== Proof.FfnBwdValue.lean ====
module

public import proofs.«01_k».proof.Defs
public import proofs.«01_k».proof.Proof.FfnBwd
public import proofs.«01_k».proof.Proof.PreFacts
public import proofs.«01_k».proof.Proof.Finite
public import proofs.«01_k».proof.Proof.Gen.Reference3Ideal.Run

@[expose] public section

set_option maxRecDepth 16384

/-!
The gradient through the feed-forward's input: the reference's arrays, and the equation.
-/

noncomputable section
open Idealize.ShloMosaic Idealize.ShloMosaic.TcCoe Idealize.SL.Sem
namespace Cert.Reference3Ideal.Val
open Cert.Kernel3Ideal.Val (Args)
open Cert.Common Cert.Reference3Ideal Cert.Reference3Ideal.Gen

/-- The arrays of the reference's arguments. -/
abbrev dgu (m : (ℓ : Loc nD τ sig) → Buf (Elt Ideal) ℓ) (c : Dev nD) : FVec Ideal S4096x5632 .bf16 := m ((c : Thread nD τ).loc main_arg0)
abbrev w (m : (ℓ : Loc nD τ sig) → Buf (Elt Ideal) ℓ) (c : Dev nD) : FVec Ideal S1024x5632 .f32 := m ((c : Thread nD τ).loc main_arg1)
abbrev dx2 (m : (ℓ : Loc nD τ sig) → Buf (Elt Ideal) ℓ) (c : Dev nD) : FVec Ideal S4096x1024 .f32 := m ((c : Thread nD τ).loc main_arg2)
abbrev x (m : (ℓ : Loc nD τ sig) → Buf (Elt Ideal) ℓ) (c : Dev nD) : FVec Ideal S4096x1024 .f32 := m ((c : Thread nD τ).loc main_arg3)
abbrev mix (m : (ℓ : Loc nD τ sig) → Buf (Elt Ideal) ℓ) (c : Dev nD) : FVec Ideal S4096x1024 .f32 := m ((c : Thread nD τ).loc main_arg4)
abbrev g3 (m : (ℓ : Loc nD τ sig) → Buf (Elt Ideal) ℓ) (c : Dev nD) : FVec Ideal S1024 .f32 := m ((c : Thread nD τ).loc main_arg5)
abbrev g2 (m : (ℓ : Loc nD τ sig) → Buf (Elt Ideal) ℓ) (c : Dev nD) : FVec Ideal S1024 .f32 := m ((c : Thread nD τ).loc main_arg6)

/-- The reference's arguments hold the real numbers. -/
structure Holds (A : Args) (m : (ℓ : Loc nD τ sig) → Buf (Elt Ideal) ℓ) (c : Dev nD) : Prop where
  dgu : ∀ i k, dgu m c (ix2 i k) = ((A.dgu i k : ℝ) : EReal)
  w : ∀ i k, w m c (ix2 i k) = ((A.w i k : ℝ) : EReal)
  dx2 : ∀ i k, dx2 m c (ix2 i k) = ((A.dx2 i k : ℝ) : EReal)
  x : ∀ i k, x m c (ix2 i k) = ((A.x i k : ℝ) : EReal)
  mix : ∀ i k, mix m c (ix2 i k) = ((A.mix i k : ℝ) : EReal)
  g3 : ∀ k, g3 m c (ix1 k) = ((A.g3 k : ℝ) : EReal)
  g2 : ∀ k, g2 m c (ix1 k) = ((A.g2 k : ℝ) : EReal)

variable {m : (ℓ : Loc nD τ sig) → Buf (Elt Ideal) ℓ} {c : Dev nD}

/-- The gradient of the input, which two other results go through. -/
abbrev dxr (m : (ℓ : Loc nD τ sig) → Buf (Elt Ideal) ℓ) (c : Dev nD) : FVec Ideal S4096x1024 .f32 := Cert.Reference3Ideal.Value.res_main_v56 (F := Ideal) m c

theorem dmix_eq : (Cert.Reference3Ideal.Value.res_main_v78 (F := Ideal) m c : FVec Ideal S4096x1024 .bf16) = truncf .bf16 (addf (addf (mulf (mulf (shapeCast S4096x1024 (dxr m c) shapeCasts_S4096x1024_S4096x1024) (broadcastInDim S4096x1024 ![0, 1] bcast_S1x1024_S4096x1024_0_1 (broadcastInDim S1x1024 ![1] bcast_S1024_S1x1024_1 (g2 m c)))) (broadcastInDim S4096x1024 ![0, 1] bcast_S4096x1_S4096x1024_0_1 (Host.rsqrt (addf (Host.divf (broadcastInDim S4096x1 ![0] bcast_S4096_S4096x1_0 (Host.reduceAdd (mulf (mix m c) (mix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (mix m c) (broadcastInDim S4096x1024 ![0] bcast_S4096_S4096x1024_0 (Host.reduceAdd (Host.divf (mulf (shapeCast S4096x1 (Host.reduceAdd (mulf (mix m c) (mulf (shapeCast S4096x1024 (dxr m c) shapeCasts_S4096x1024_S4096x1024) (broadcastInDim S4096x1024 ![0, 1] bcast_S1x1024_S4096x1024_0_1 (broadcastInDim S1x1024 ![1] bcast_S1024_S1x1024_1 (g2 m c))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (mix m c) (mix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (mix m c) (mix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf (mix m c) (mulf (shapeCast S4096x1024 (dxr m c) shapeCasts_S4096x1024_S4096x1024) (broadcastInDim S4096x1024 ![0, 1] bcast_S1x1024_S4096x1024_0_1 (broadcastInDim S1x1024 ![1] bcast_S1024_S1x1024_1 (g2 m c))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (mix m c) (mix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (mix m c) (mix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (mix m c))) bitsLt_bf16_f32 := rfl

theorem dg2_eq : (Cert.Reference3Ideal.Value.res_main_v80 (F := Ideal) m c : FVec Ideal S1x1024 .f32) = shapeCast S1x1024 (Host.reduceAdd (shapeCast S1x1024 (Host.reduceAdd (mulf (mulf (mix m c) (broadcastInDim S4096x1024 ![0, 1] bcast_S4096x1_S4096x1024_0_1 (Host.rsqrt (addf (Host.divf (broadcastInDim S4096x1 ![0] bcast_S4096_S4096x1_0 (Host.reduceAdd (mulf (mix m c) (mix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (shapeCast S4096x1024 (dxr m c) shapeCasts_S4096x1024_S4096x1024)) (constant S_ .f32 0x00000000#32) reducesTo_S4096x1024_S1024_d0 h_S_) shapeCasts_S1024_S1x1024) (constant S_ .f32 0x00000000#32) reducesTo_S1x1024_S1024_d0 h_S_) shapeCasts_S1024_S1x1024 := rfl

variable {A : Args} (H : Holds A m c)
include H

theorem x1_at (n : Fin 4096) (k : Fin 1024) : (x m c (ix2 n k) : EReal) + mix m c (ix2 n k) * Ideal.rsqrt (Ideal.div (∑ k, (mix m c (ix2 n k) : EReal) * mix m c (ix2 n k))
    (Ideal.ofBits .f32 0x44800000#32) + Ideal.ofBits .f32 0x358637BD#32) * g2 m c (ix1 k) = ((A.x1 n k : ℝ) : EReal) := by
  refine (congrArg₂ (fun p q : EReal => p + q) (H.x n k) (congrArg₂ (fun p q : EReal => p * q)
    (Rms.coe_hat (fun k => mix m c (ix2 n k)) (A.mix n) (H.mix n) _ _ (H.mix n) k) (H.g2 k))).trans ?_
  rw [← EReal.coe_mul, ← EReal.coe_add]
  rfl

theorem dh_at (n : Fin 4096) (k : Fin 1024) : ∑ l, (dgu m c (ix2 n l) : EReal) * w m c (ix2 k l) = ((A.dh n k : ℝ) : EReal) :=
  (Finset.sum_congr rfl fun l _ => congrArg₂ (fun p q : EReal => p * q) (H.dgu n l) (H.w k l)).trans (coe_dot _ _)

theorem dx_at (n : Fin 4096) (k : Fin 1024) : (dxr m c (ix2 n k) : EReal) = ((A.dx n k : ℝ) : EReal) := by
  unfold dxr Cert.Reference3Ideal.Value.res_main_v56
  pointwise
  exact Rms.add_ref_val (H.dx2 n k) (Rms.ref_val _ (A.x1 n) (x1_at H n) _ (fun l => A.dh n l * A.g3 l)
    (fun l => (congrArg₂ (fun p q : EReal => p * q) (dh_at H n l) (H.g3 l)).trans (EReal.coe_mul _ _).symm) k)

theorem dmix_at (n : Fin 4096) (k : Fin 1024) : ((Cert.Reference3Ideal.Value.res_main_v78 (F := Ideal) m c : FVec Ideal S4096x1024 .bf16) (ix2 n k) : EReal)
    = ((A.dmix n k : ℝ) : EReal) := by
  rw [dmix_eq]
  pointwise
  exact Rms.ref_val _ (A.mix n) (H.mix n) _ (fun l => A.dx n l * A.g2 l)
    (fun l => (congrArg₂ (fun p q : EReal => p * q) (dx_at H n l) (H.g2 l)).trans (EReal.coe_mul _ _).symm) k

theorem dg2_at (y0 : Fin 1) (k : Fin 1024) : ((Cert.Reference3Ideal.Value.res_main_v80 (F := Ideal) m c : FVec Ideal S1x1024 .f32) (ix2 y0 k) : EReal) = ((A.dg2 k : ℝ) : EReal) := by
  rw [dg2_eq]
  pointwise
  refine (Fin.sum_univ_one (M := EReal) _).trans ?_
  rw [Kernel3Ideal.Val.Args.dg2, ← Sgu.coe_sum]
  refine Finset.sum_congr (M := EReal) rfl fun n _ => ?_
  refine (congrArg₂ (fun p q : EReal => p * q) (Rms.coe_hat (fun k => mix m c (ix2 n k)) (A.mix n) (H.mix n) _ _ (H.mix n) k) (dx_at H n k)).trans ?_
  rw [← EReal.coe_mul, mul_comm]
  rfl

theorem dg3_at (y0 : Fin 1) (k : Fin 1024) : ((shapeCast _ (Host.reduceAdd (shapeCast S1x1024 (Host.reduceAdd (mulf (mulf (addf (x m c) (mulf (mulf (mix m c) (broadcastInDim S4096x1024 ![0, 1] bcast_S4096x1_S4096x1024_0_1 (Host.rsqrt (addf (Host.divf (broadcastInDim S4096x1 ![0] bcast_S4096_S4096x1_0 (Host.reduceAdd (mulf (mix m c) (mix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (g2 m c))))) (broadcastInDim S4096x1024 ![0, 1] bcast_S4096x1_S4096x1024_0_1 (Host.rsqrt (addf (Host.divf (broadcastInDim S4096x1 ![0] bcast_S4096_S4096x1_0 (Host.reduceAdd (mulf (addf (x m c) (mulf (mulf (mix m c) (broadcastInDim S4096x1024 ![0, 1] bcast_S4096x1_S4096x1024_0_1 (Host.rsqrt (addf (Host.divf (broadcastInDim S4096x1 ![0] bcast_S4096_S4096x1_0 (Host.reduceAdd (mulf (mix m c) (mix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (g2 m c))))) (addf (x m c) (mulf (mulf (mix m c) (broadcastInDim S4096x1024 ![0, 1] bcast_S4096x1_S4096x1024_0_1 (Host.rsqrt (addf (Host.divf (broadcastInDim S4096x1 ![0] bcast_S4096_S4096x1_0 (Host.reduceAdd (mulf (mix m c) (mix m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (g2 m c)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x5632_S1024x5632_S4096x1024_1_1_0_0_n_n none (extf .f32 (dgu m c) bitsLt_bf16_f32) (w m c))) (constant S_ .f32 0x00000000#32) reducesTo_S4096x1024_S1024_d0 h_S_) shapeCasts_S1024_S1x1024) (constant S_ .f32 0x00000000#32) reducesTo_S1x1024_S1024_d0 h_S_) shapeCasts_S1024_S1x1024 : FVec Ideal S1x1024 .f32) (ix2 y0 k) : EReal) = ((A.dg3 k : ℝ) : EReal) := by
  pointwise
  rw [Fin.sum_univ_one, Kernel3Ideal.Val.Args.dg3, ← Sgu.coe_sum]
  refine Finset.sum_congr rfl fun n _ => ?_
  refine (congrArg₂ (fun p q : EReal => p * q) (Rms.coe_hat _ (A.x1 n) (x1_at H n) _ _ (x1_at H n) k) (dh_at H n k)).trans ?_
  rw [← EReal.coe_mul, mul_comm]
  rfl
end Cert.Reference3Ideal.Val

namespace Cert.Kernel3Ideal.Val
open Cert.Kernel3Ideal Cert.Kernel3Ideal.Gen

/-- The real numbers the kernel's arguments hold. -/
def args (m : (ℓ : Loc nD τ sig) → Buf (Elt Ideal) ℓ) (c : Dev nD) : Args where
  dgu i k := EReal.toReal (dgu m c (ix2 i k))
  w i k := EReal.toReal (w m c (ix2 i k))
  dx2 i k := EReal.toReal (dx2 m c (ix2 i k))
  x i k := EReal.toReal (x m c (ix2 i k))
  mix i k := EReal.toReal (mix m c (ix2 i k))
  g3 k := EReal.toReal (g3 m c (ix1 k))
  g2 k := EReal.toReal (g2 m c (ix1 k))

theorem holds (m : (ℓ : Loc nD τ sig) → Buf (Elt Ideal) ℓ) (h : Cert.Pre_Kernel3Ideal_finite3 m) (c : Dev nD) : Holds (args m c) m c := by
  obtain ⟨h0, h1, h2, h3, h4, h5, h6⟩ := h c
  exact
  { dgu := fun i k => Finite.real_of (congrFun h0 (ix2 i k))
    w := fun i k => Finite.real_of (congrFun h1 (ix2 i k))
    dx2 := fun i k => Finite.real_of (congrFun h2 (ix2 i k))
    x := fun i k => Finite.real_of (congrFun h3 (ix2 i k))
    mix := fun i k => Finite.real_of (congrFun h4 (ix2 i k))
    g3 := fun k => Finite.real_of (congrFun h5 (ix1 k))
    g2 := fun k => Finite.real_of (congrFun h6 (ix1 k))}

/-- The gradients. -/
def outDx (A : Args) : FVec Ideal S4096x1024 .f32 := fun y => ((A.dx (y 0) (y 1) : ℝ) : EReal)
def outDmix (A : Args) : FVec Ideal S4096x1024 .bf16 := fun y => ((A.dmix (y 0) (y 1) : ℝ) : EReal)
def outDg3 (A : Args) : FVec Ideal S1x1024 .f32 := fun y => ((A.dg3 (y 1) : ℝ) : EReal)
def outDg2 (A : Args) : FVec Ideal S1x1024 .f32 := fun y => ((A.dg2 (y 1) : ℝ) : EReal)

theorem value : Cert.algebraic_Kernel3Ideal_Reference3Ideal_pre_finite3 := by
  intro m ρ m' ρ' hpre hagree
  refine ⟨fun c => outDx (args m c), fun c => outDmix (args m c), fun c => outDg3 (args m c), fun c => outDg2 (args m c), ?_, ?_⟩
  · refine (θ_run (defs (F := Ideal)) _ _).mono (fun r h c => ?_) (Cert.Kernel3Ideal.Value.run_blocks m ρ)
    have H := holds m hpre c
    exact ⟨(h c).1.trans (arr_dx H), (h c).2.1.trans (arr_dmix H), (h c).2.2.1.trans (arr_dg3 H), (h c).2.2.2.1.trans (arr_dg2 H), (h c).2.2.2.2⟩
  · refine (θ_run (Reference3Ideal.defs (F := Ideal)) _ _).mono (fun r h c => ?_) (Reference3Ideal.Value.run m' ρ')
    obtain ⟨e0, e1, e2, e3, e4, e5, e6⟩ := hagree c
    have H := holds m hpre c
    have H' : Cert.Reference3Ideal.Val.Holds (args m c) m' c :=
    { dgu := fun i k => (congrFun e0 (ix2 i k)).trans (H.dgu i k)
      w := fun i k => (congrFun e1 (ix2 i k)).trans (H.w i k)
      dx2 := fun i k => (congrFun e2 (ix2 i k)).trans (H.dx2 i k)
      x := fun i k => (congrFun e3 (ix2 i k)).trans (H.x i k)
      mix := fun i k => (congrFun e4 (ix2 i k)).trans (H.mix i k)
      g3 := fun k => (congrFun e5 (ix1 k)).trans (H.g3 k)
      g2 := fun k => (congrFun e6 (ix1 k)).trans (H.g2 k)}
    refine ⟨(h c).1.trans ?_, (h c).2.1.trans ?_, (h c).2.2.1.trans ?_, (h c).2.2.2.1.trans ?_, (h c).2.2.2.2⟩
    · funext y
      idx_vars y
      exact Cert.Reference3Ideal.Val.dx_at H' _ _
    · funext y
      idx_vars y
      exact Cert.Reference3Ideal.Val.dmix_at H' _ _
    · funext y
      idx_vars y
      exact Cert.Reference3Ideal.Val.dg3_at H' _ _
    · funext y
      idx_vars y
      exact Cert.Reference3Ideal.Val.dg2_at H' _ _
end Cert.Kernel3Ideal.Val
end
-- ==== Proof.InGrad.lean ====
module

public import proofs.«01_k».proof.Proof.Gen.Kernel4Ideal.Value
public import proofs.«01_k».proof.Proof.Common

@[expose] public section

set_option maxRecDepth 16384

/-!
The gradient of the feed-forward's input weights: the kernel adds up, over eight tiles of 512 tokens, the products of
the two arrays of activations.
-/

noncomputable section
open Idealize.ShloMosaic Idealize.ShloMosaic.TcCoe Idealize.SL.Sem
open Idealize.ShloMosaic.Pipeline (Dat)
namespace Cert.Kernel4Ideal.Val
open Cert.Common Cert.Kernel4Ideal Cert.Kernel4Ideal.Gen

theorem idx : ∀ t : Fin cfg0.N, win0_0.index t = ![t.val % 8, 0] ∧ win0_1.index t = ![t.val % 8, t.val / 8]
    ∧ win0_2.index t = ![t.val / 8, 0] :=
  (by decide +kernel : ∀ t : Fin grid0.N, _)

/-- What one tile of tokens contributes to entry (a, b): `x` the activations of the tile, `g` the gradient's. -/
def tile (x : FVec Ideal S512x1024 .bf16) (g : FVec Ideal S512x2816 .bf16) (a : Fin 2816) (b : Fin 1024) : EReal :=
  ∑ k : Fin 512, (g (ix2 k a) : EReal) * x (ix2 k b)

theorem zero_at (j : S2816x1024.Idx) : k0_pay2 (F := Ideal) j = 0 := Ideal.ofBits_zero .f32

theorem first_tile (x : FVec Ideal S512x1024 .bf16) (g : FVec Ideal S512x2816 .bf16) (z : S2816x1024.Idx) (a a' : Fin 2816) (b : Fin 1024)
    (h : a' = a) : (k0_pay2 (F := Ideal) z : EReal) + ∑ k : Fin 512, (g (ix2 k a') : EReal) * x (ix2 k b) = tile x g a b := by
  subst h
  exact (congrArg (fun p : EReal => p + _) (zero_at z)).trans (zero_add _)

variable {m : (ℓ : Loc nD τ sig) → Buf (Elt Ideal) ℓ} {c : Dev nD}

theorem stepB (t : Fin cfg0.N) (h0 : ¬ t.val % 8 = 0) (h1 : ¬ t.val % 8 = 7) (a : Fin 2816) (b : Fin 1024) :
    ((outsAt0 m c t.val t.isLt).2 (ix2 a b) : EReal)
      = (outsAt0 m c (t.val - 1) (by omega)).2 (ix2 a b) + tile (iblk m c 0 t) (iblk m c 1 t) a b := by
  rw [outsAt0_B m c t h0 h1]
  frame_open
  simp (disch := decide) only [↓ View.readCov_skip, ↓ View.readCov_cons_toLoadRect, ↓ View.readCov_fill]
  frame_out
  canon_tiles x h using (View.cover_of_tiledBy _ ![256, 1024] (by sl_kernel_rfl) _)
  all_goals
    idx_vars x
    pointwise [k0_pay3, k0_pay4, k0_pay5]
    refine congrArg₂ (fun p q : EReal => p + q) ((congrFun (Memref.IsWhole.read_unread _ _) _).trans ?_) ?_
    · exact congrArg _ ((ix2_inj ..).2 ⟨Fin.ext h0.symm, Fin.ext h1.symm⟩)
    · refine Finset.sum_congr rfl fun k _ => congrArg₂ (fun p q : EReal => p * q) ?_ ?_
      · exact congrArg (fun q => (iblk m c 1 t : Vec Ideal S512x2816 .bf16) (ix2 k q)) (Fin.ext h0.symm)
      · exact congrArg (fun q => (iblk m c 0 t : Vec Ideal S512x1024 .bf16) (ix2 k q)) (Fin.ext h1.symm)

theorem stepC (t : Fin cfg0.N) (h0 : ¬ t.val % 8 = 0) (h1 : t.val % 8 = 7) (a : Fin 2816) (b : Fin 1024) :
    ((outsAt0 m c t.val t.isLt).2 (ix2 a b) : EReal)
      = (outsAt0 m c (t.val - 1) (by omega)).2 (ix2 a b) + tile (iblk m c 0 t) (iblk m c 1 t) a b := by
  rw [outsAt0_C m c t h0 h1]
  frame_open
  simp (disch := decide) only [↓ View.readCov_skip, ↓ View.readCov_cons_toLoadRect, ↓ View.readCov_fill]
  frame_out
  canon_tiles x h using (View.cover_of_tiledBy _ ![256, 1024] (by sl_kernel_rfl) _)
  all_goals
    idx_vars x
    pointwise [k0_pay3, k0_pay4, k0_pay5]
    refine congrArg₂ (fun p q : EReal => p + q) ((congrFun (Memref.IsWhole.read_unread _ _) _).trans ?_) ?_
    · exact congrArg _ ((ix2_inj ..).2 ⟨Fin.ext h0.symm, Fin.ext h1.symm⟩)
    · refine Finset.sum_congr rfl fun k _ => congrArg₂ (fun p q : EReal => p * q) ?_ ?_
      · exact congrArg (fun q => (iblk m c 1 t : Vec Ideal S512x2816 .bf16) (ix2 k q)) (Fin.ext h0.symm)
      · exact congrArg (fun q => (iblk m c 0 t : Vec Ideal S512x1024 .bf16) (ix2 k q)) (Fin.ext h1.symm)

set_option maxHeartbeats 1000000 in
theorem stepA (t : Fin cfg0.N) (h0 : t.val % 8 = 0) (h1 : ¬ t.val % 8 = 7) (a : Fin 2816) (b : Fin 1024) :
    ((outsAt0 m c t.val t.isLt).2 (ix2 a b) : EReal)
      = tile (iblk m c 0 t) (iblk m c 1 t) a b := by
  rw [outsAt0_A m c t h0 h1]
  frame_open
  simp (disch := decide) only [↓ View.readCov_skip, ↓ View.readCov_cons_toLoadRect, ↓ View.readCov_fill]
  frame_out
  by_cases ha : a.val < 1024
  · refine (canon_of_read (Val := Elt Ideal) VS0_0 _ (Rect.unit ![0, 0] ![1024, 1024] inb_S2816x1024_S1024x1024_0_0) (ix2 ⟨a, ha⟩ b) _ (by idx_ext)).trans ?_
    simp (disch := decide) only [↓ View.readCov_skip, ↓ View.readCov_cons_toLoadRect, ↓ View.readCov_fill]
    pointwise [k0_pay3]
    exact first_tile (iblk m c 0 t) (iblk m c 1 t) _ a a b rfl
  by_cases hb : a.val < 2048
  · refine (canon_of_read (Val := Elt Ideal) VS0_0 _ (Rect.unit ![1024, 0] ![1024, 1024] inb_S2816x1024_S1024x1024_1024_0) (ix2 ⟨a - 1024, by omega⟩ b) _ (by idx_ext)).trans ?_
    simp (disch := decide) only [↓ View.readCov_skip, ↓ View.readCov_cons_toLoadRect, ↓ View.readCov_fill]
    pointwise [k0_pay4]
    refine first_tile (iblk m c 0 t) (iblk m c 1 t) _ a _ b ?_
    exact Fin.ext (Nat.add_sub_of_le (by omega : 1024 ≤ a.val))
  · refine (canon_of_read (Val := Elt Ideal) VS0_0 _ (Rect.unit ![2048, 0] ![768, 1024] inb_S2816x1024_S768x1024_2048_0) (ix2 ⟨a - 2048, by omega⟩ b) _ (by idx_ext)).trans ?_
    simp (disch := decide) only [↓ View.readCov_skip, ↓ View.readCov_cons_toLoadRect, ↓ View.readCov_fill]
    pointwise [k0_pay5]
    refine first_tile (iblk m c 0 t) (iblk m c 1 t) _ a _ b ?_
    exact Fin.ext (Nat.add_sub_of_le (by omega : 2048 ≤ a.val))

theorem outC (t : Fin cfg0.N) (h0 : ¬ t.val % 8 = 0) (h1 : t.val % 8 = 7) (a : Fin 2816) (b : Fin 1024) :
    ((outsAt0 m c t.val t.isLt).1 (ix2 a b) : EReal) = (outsAt0 m c t.val t.isLt).2 (ix2 a b)  := by
  rw [outsAt0_C m c t h0 h1]
  frame_open
  simp (disch := decide) only [↓ View.readCov_skip, ↓ View.readCov_cons_toLoadRect, ↓ View.readCov_fill]
  frame_out
  rw [View.readCov_eq_canon']
  pointwise [k0_pay1]

/-- The arrays of the two arguments. -/
abbrev h (m : (ℓ : Loc nD τ sig) → Buf (Elt Ideal) ℓ) (c : Dev nD) : FVec Ideal S4096x1024 .bf16 := m ((c : Thread nD τ).loc main_arg0)
abbrev dgu (m : (ℓ : Loc nD τ sig) → Buf (Elt Ideal) ℓ) (c : Dev nD) : FVec Ideal S4096x5632 .bf16 := m ((c : Thread nD τ).loc main_arg1)

theorem h_at (t : Fin cfg0.N) (k : Fin 512) (b : Fin 1024) (n : Fin 4096) (hn : (n : ℕ) = t.val % 8 * 512 + k) :
    (iblk m c 0 t : Vec Ideal S512x1024 .bf16) (ix2 k b) = h m c (ix2 n b) := by
  blk_ext [iblk, V, idx t]
theorem dgu_at (t : Fin cfg0.N) (k : Fin 512) (a : Fin 2816) (n : Fin 4096) (e : Fin 5632) (hn : (n : ℕ) = t.val % 8 * 512 + k)
    (he : (e : ℕ) = t.val / 8 * 2816 + a) :
    (iblk m c 1 t : Vec Ideal S512x2816 .bf16) (ix2 k a) = dgu m c (ix2 n e) := by
  blk_ext [iblk, V, idx t]

/-- The scratch at the end of one half: the whole sum over the tokens. -/
theorem sum_at (t : Fin cfg0.N) (h1 : t.val % 8 = 7) (a : Fin 2816) (b : Fin 1024) (e : Fin 5632) (he : (e : ℕ) = t.val / 8 * 2816 + a) :
    ((outsAt0 m c t.val t.isLt).2 (ix2 a b) : EReal) = ∑ n : Fin 4096, (dgu m c (ix2 n e) : EReal) * h m c (ix2 n b) := by
  have hN : t.val < 16 := lt_of_lt_of_eq t.isLt N_0
  have s := Pipeline.eq_sum_fin_of_reset_step_of_flush (fun n hn => ((outsAt0 m c n hn).2 (ix2 a b) : EReal)) 8 0
    (fun t => tile (iblk m c 0 t) (iblk m c 1 t) a b) (fun t h0 => (stepA t h0 (by omega) a b).trans (zero_add _).symm)
    (fun t h0 => by
      by_cases h1 : t.val % 8 = 7
      · exact stepC t h0 h1 a b
      · exact stepB t h0 h1 a b) t h1
  refine s.trans ?_
  rw [zero_add, ← Fin.sum_mul_add_fin 8 512 (fun n : Fin 4096 => (dgu m c (ix2 n e) : EReal) * h m c (ix2 n b))]
  refine Finset.sum_congr rfl fun q _ => Finset.sum_congr rfl fun k _ => congrArg₂ (fun p q : EReal => p * q) ?_ ?_
  · exact dgu_at _ _ _ _ _ (by simp only []; omega) (by simp only []; omega)
  · exact h_at _ _ _ _ (by simp only []; omega)

theorem arr : (dats m 0 c).arrAt 2 cfg0.N
    = fun y : S5632x1024.Idx => ∑ n : Fin 4096, (dgu m c (ix2 n (y 0)) : EReal) * h m c (ix2 n (y 1)) := by
  refine (dats m 0 c).arrAt_eq_of_covers 2 _ (by decide +kernel) fun t hf y => ?_
  idx_vars y
  have hN : t.val < 16 := lt_of_lt_of_eq t.isLt N_0
  have h7 : t.val % 8 = 7 := (by decide +kernel : ∀ t : Fin cfg0.N, (cfg0.win 2).flush t = true → t.val % 8 = 7) t hf
  blk_simp
  have e0 : (win0_2.blk t).view.emb (ix2 y0 y1) 0 = (⟨t.val / 8 * 2816 + y0, by omega⟩ : Fin 5632) := by
    apply Fin.ext
    blk_simp [idx t]
  have e1 : (win0_2.blk t).view.emb (ix2 y0 y1) 1 = y1 := by
    apply Fin.ext
    blk_simp [idx t]
  rw [after0_2, e0, e1]
  exact (outC t (by omega) h7 y0 y1).trans (sum_at t h7 y0 y1 _ rfl)

end Cert.Kernel4Ideal.Val
end
-- ==== Proof.InGradValue.lean ====
module

public import proofs.«01_k».proof.Defs
public import proofs.«01_k».proof.Proof.InGrad
public import proofs.«01_k».proof.Proof.Gen.Reference4Ideal.Run

@[expose] public section

set_option maxRecDepth 16384

/-!
The gradient of the feed-forward's input weights: the kernel's array is the reference's.
-/

noncomputable section
open Idealize.ShloMosaic Idealize.ShloMosaic.TcCoe Idealize.SL.Sem
namespace Cert.Kernel4Ideal.Val

/-- The reference's array, entry by entry. -/
theorem ref_at (x : FVec Ideal Reference4Ideal.S4096x1024 .bf16) (g : FVec Ideal Reference4Ideal.S4096x5632 .bf16) (a : Fin 5632) (b : Fin 1024)
    (hb : FTy.bits .bf16 < FTy.bits .f32) (h1 : Reference4Ideal.S5632x1024.Transposes [1, 0] Reference4Ideal.S1024x5632)
    (h2 : Reference4Ideal.S1024x5632.Transposes [1, 0] Reference4Ideal.S5632x1024) :
    (truncf .bf16 (transpose Reference4Ideal.S5632x1024 [1, 0] (transpose Reference4Ideal.S1024x5632 [1, 0]
      (Host.dotGeneral (φ₁ := .f32) (φ₂ := .f32) Reference4Ideal.dot_S4096x5632_S4096x1024_S5632x1024_0_0_1_1_n_n none
        (extf .f32 g hb) (extf .f32 x hb)) h1) h2) hb (ix2 a b) : EReal) = ∑ n : Fin 4096, (g (ix2 n a) : EReal) * x (ix2 n b) := by
  pointwise

/-- The gradient. -/
def dw (x : FVec Ideal S4096x1024 .bf16) (g : FVec Ideal S4096x5632 .bf16) : FVec Ideal S5632x1024 .bf16 :=
  fun y => (∑ n : Fin 4096, (g (ix2 n (y 0)) : EReal) * x (ix2 n (y 1)) : EReal)

theorem value : Cert.algebraic_Kernel4Ideal_Reference4Ideal := by
  intro m ρ m' ρ' _ hagree
  refine ⟨fun c => dw (h m c) (dgu m c), ?_, ?_⟩
  · refine (θ_run (defs (F := Ideal)) _ _).mono (fun r h c => ?_) (Cert.Kernel4Ideal.Value.run_blocks m ρ)
    exact ⟨(h c).1.trans arr, (h c).2⟩
  · refine (θ_run (Reference4Ideal.defs (F := Ideal)) _ _).mono (fun r h c => ?_) (Reference4Ideal.Value.run m' ρ')
    obtain ⟨e0, e1⟩ := hagree c
    refine ⟨(h c).1.trans ?_, (h c).2⟩
    rw [e0, e1]
    funext y
    idx_vars y
    exact ref_at _ _ _ _ _ _ _

end Cert.Kernel4Ideal.Val
end
-- ==== Proof.OutBwd.lean ====
module

public import proofs.«01_k».proof.Proof.Gen.Kernel5Ideal.Value
public import proofs.«01_k».proof.Proof.Common
public import proofs.«01_k».proof.Proof.Sigmoid

@[expose] public section

set_option maxRecDepth 16384

/-!
The gradient through the gated feed-forward: what the kernel leaves in its array.
-/

noncomputable section
open Idealize.ShloMosaic Idealize.ShloMosaic.TcCoe Idealize.SL.Sem
open Idealize.ShloMosaic.Pipeline (Dat)
namespace Cert.Kernel5Ideal.Val
open Cert.Common Cert.Kernel5Ideal Cert.Kernel5Ideal.Gen

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable {m : (ℓ : Loc nD τ sig) → Buf (Elt Ideal) ℓ} {c : Dev nD}

/-- The arrays of the three arguments. -/
abbrev dy (m : (ℓ : Loc nD τ sig) → Buf (Elt Ideal) ℓ) (c : Dev nD) : FVec Ideal S4096x1024 .bf16 := m ((c : Thread nD τ).loc main_arg0)
abbrev w (m : (ℓ : Loc nD τ sig) → Buf (Elt Ideal) ℓ) (c : Dev nD) : FVec Ideal S2816x1024 .f32 := m ((c : Thread nD τ).loc main_arg1)
abbrev gu (m : (ℓ : Loc nD τ sig) → Buf (Elt Ideal) ℓ) (c : Dev nD) : FVec Ideal S4096x5632 .bf16 := m ((c : Thread nD τ).loc main_arg2)

/-- The arguments as real numbers. -/
structure Args where
  dy : Fin 4096 → Fin 1024 → ℝ
  w : Fin 2816 → Fin 1024 → ℝ
  gu : Fin 4096 → Fin 5632 → ℝ

namespace Args
variable (A : Args)
/-- The gradient of the gated product. -/
def dz (n : Fin 4096) (f : Fin 2816) : ℝ := ∑ k, A.dy n k * A.w f k
def gate (n : Fin 4096) (f : Fin 2816) : ℝ := A.gu n ⟨f, by omega⟩
def up (n : Fin 4096) (f : Fin 2816) : ℝ := A.gu n ⟨2816 + f, by omega⟩
/-- The gradient of the gate. -/
def dgate (n : Fin 4096) (f : Fin 2816) : ℝ := A.dz n f * A.up n f * sigm (A.gate n f) * (1 + A.gate n f * (1 - sigm (A.gate n f)))
/-- The gradient of what the gate multiplies. -/
def dup (n : Fin 4096) (f : Fin 2816) : ℝ := A.dz n f * A.gate n f * sigm (A.gate n f)
def dgu (n : Fin 4096) (l : Fin 5632) : ℝ :=
  if h : (l : ℕ) < 2816 then A.dgate n ⟨l, h⟩ else A.dup n ⟨l - 2816, by omega⟩
theorem dgu_gate (n : Fin 4096) (l : Fin 5632) (f : Fin 2816) (h : (l : ℕ) = f) : A.dgu n l = A.dgate n f := by
  rw [dgu, dif_pos (by omega)]; congr 1; exact Fin.ext h
theorem dgu_up (n : Fin 4096) (l : Fin 5632) (f : Fin 2816) (h : (l : ℕ) = 2816 + f) : A.dgu n l = A.dup n f := by
  rw [dgu, dif_neg (by omega)]; congr 1; apply Fin.ext; simp only []; omega
end Args

/-- The arrays hold the real numbers. -/
structure Holds (A : Args) (m : (ℓ : Loc nD τ sig) → Buf (Elt Ideal) ℓ) (c : Dev nD) : Prop where
  dy : ∀ n k, dy m c (ix2 n k) = ((A.dy n k : ℝ) : EReal)
  w : ∀ f k, w m c (ix2 f k) = ((A.w f k : ℝ) : EReal)
  gu : ∀ n l, gu m c (ix2 n l) = ((A.gu n l : ℝ) : EReal)

/-- One entry of a tile of the gradient of what the gate multiplies, `d`, `w`, `g` a tile's arrays. -/
theorem dup_val (d w : Fin 1024 → EReal) (g : EReal) (A : Args) (n : Fin 4096) (f : Fin 2816) (hd : ∀ k, d k = ((A.dy n k : ℝ) : EReal))
    (hw : ∀ k, w k = ((A.w f k : ℝ) : EReal)) (hg : g = ((A.gate n f : ℝ) : EReal)) :
    (∑ k, d k * w k) * g * (Ideal.ofBits .bf16 0x3F00#16 * Ideal.tanh (Ideal.ofBits .bf16 0x3F00#16 * g) + Ideal.ofBits .bf16 0x3F00#16)
      = ((A.dup n f : ℝ) : EReal) := by
  rw [Finset.sum_congr rfl (fun k _ => congrArg₂ (fun p q : EReal => p * q) (hd k) (hw k)), coe_dot, hg, sigm_kernel, ← EReal.coe_mul, ← EReal.coe_mul]
  rfl

/-- One entry of a tile of the gradient of the gate. -/
theorem dgate_val (d w : Fin 1024 → EReal) (g u : EReal) (A : Args) (n : Fin 4096) (f : Fin 2816) (hd : ∀ k, d k = ((A.dy n k : ℝ) : EReal))
    (hw : ∀ k, w k = ((A.w f k : ℝ) : EReal)) (hg : g = ((A.gate n f : ℝ) : EReal)) (hu : u = ((A.up n f : ℝ) : EReal)) :
    (∑ k, d k * w k) * u * (Ideal.ofBits .bf16 0x3F00#16 * Ideal.tanh (Ideal.ofBits .bf16 0x3F00#16 * g) + Ideal.ofBits .bf16 0x3F00#16)
      * (1 + g * (1 - (Ideal.ofBits .bf16 0x3F00#16 * Ideal.tanh (Ideal.ofBits .bf16 0x3F00#16 * g) + Ideal.ofBits .bf16 0x3F00#16)))
      = ((A.dgate n f : ℝ) : EReal) := by
  rw [Finset.sum_congr rfl (fun k _ => congrArg₂ (fun p q : EReal => p * q) (hd k) (hw k)), coe_dot, hg, hu, sigm_kernel, ← EReal.coe_one,
    ← EReal.coe_sub, ← EReal.coe_mul, ← EReal.coe_mul, ← EReal.coe_mul, ← EReal.coe_add, ← EReal.coe_mul]
  rfl

/-- The same over a tile's arrays. -/
theorem dup_at (A : Args) (X : FVec Ideal S512x1024 .bf16) (W : FVec Ideal S2816x1024 .bf16) (G : FVec Ideal S512x5632 .bf16) (x0 : Fin 512)
    (y1 : Fin 5632) (n : Fin 4096) (f : Fin 2816) (l : Fin 5632) (h1 : (y1 : ℕ) = 2816 + f)
    (hX : ∀ k, X (ix2 x0 k) = ((A.dy n k : ℝ) : EReal)) (hW : ∀ k, W (ix2 f k) = ((A.w f k : ℝ) : EReal)) (hg : G (ix2 x0 l) = ((A.gate n f : ℝ) : EReal)) :
    (∑ k, (X (ix2 x0 k) : EReal) * W (ix2 f k)) * G (ix2 x0 l)
      * (Ideal.ofBits .bf16 0x3F00#16 * Ideal.tanh (Ideal.ofBits .bf16 0x3F00#16 * G (ix2 x0 l)) + Ideal.ofBits .bf16 0x3F00#16)
      = ((A.dgu n y1 : ℝ) : EReal) := by
  rw [A.dgu_up n y1 f h1]
  exact dup_val _ _ _ A n f hX hW hg

theorem dgate_at (A : Args) (X : FVec Ideal S512x1024 .bf16) (W : FVec Ideal S2816x1024 .bf16) (G : FVec Ideal S512x5632 .bf16) (x0 : Fin 512)
    (y1 : Fin 5632) (n : Fin 4096) (f : Fin 2816) (l l' : Fin 5632) (h1 : (y1 : ℕ) = f)
    (hX : ∀ k, X (ix2 x0 k) = ((A.dy n k : ℝ) : EReal)) (hW : ∀ k, W (ix2 f k) = ((A.w f k : ℝ) : EReal)) (hg : G (ix2 x0 l) = ((A.gate n f : ℝ) : EReal))
    (hu : G (ix2 x0 l') = ((A.up n f : ℝ) : EReal)) :
    (∑ k, (X (ix2 x0 k) : EReal) * W (ix2 f k)) * G (ix2 x0 l')
      * (Ideal.ofBits .bf16 0x3F00#16 * Ideal.tanh (Ideal.ofBits .bf16 0x3F00#16 * G (ix2 x0 l)) + Ideal.ofBits .bf16 0x3F00#16)
      * (1 + G (ix2 x0 l) * (1 - (Ideal.ofBits .bf16 0x3F00#16 * Ideal.tanh (Ideal.ofBits .bf16 0x3F00#16 * G (ix2 x0 l)) + Ideal.ofBits .bf16 0x3F00#16)))
      = ((A.dgu n y1 : ℝ) : EReal) := by
  rw [A.dgu_gate n y1 f h1]
  exact dgate_val _ _ _ _ A n f hX hW hg hu

variable {A : Args} (H : Holds A m c)
include H

theorem dy_at (t : Fin cfg0.N) (i : Fin 512) (k : Fin 1024) (n : Fin 4096) (hn : (n : ℕ) = t.val * 512 + i) :
    (iblk m c 0 t : Vec Ideal S512x1024 .bf16) (ix2 i k) = ((A.dy n k : ℝ) : EReal) := by
  refine Eq.trans ?_ (H.dy n k)
  blk_ext [iblk, V, idx t]
theorem w_at (t : Fin cfg0.N) (f f' : Fin 2816) (k : Fin 1024) (h : f' = f) :
    (iblk m c 1 t : Vec Ideal S2816x1024 .bf16) (ix2 f' k) = ((A.w f k : ℝ) : EReal) := by
  subst h
  refine Eq.trans ?_ (H.w f' k)
  blk_ext [iblk, V, idx t]
theorem gate_at (t : Fin cfg0.N) (i : Fin 512) (l : Fin 5632) (n : Fin 4096) (f : Fin 2816) (hn : (n : ℕ) = t.val * 512 + i) (hl : (l : ℕ) = f) :
    (iblk m c 2 t : Vec Ideal S512x5632 .bf16) (ix2 i l) = ((A.gate n f : ℝ) : EReal) := by
  refine Eq.trans ?_ (H.gu n ⟨f, by omega⟩)
  blk_ext [iblk, V, idx t]
theorem up_at (t : Fin cfg0.N) (i : Fin 512) (l : Fin 5632) (n : Fin 4096) (f : Fin 2816) (hn : (n : ℕ) = t.val * 512 + i) (hl : (l : ℕ) = 2816 + f) :
    (iblk m c 2 t : Vec Ideal S512x5632 .bf16) (ix2 i l) = ((A.up n f : ℝ) : EReal) := by
  refine Eq.trans ?_ (H.gu n ⟨2816 + f, by omega⟩)
  blk_ext [iblk, V, idx t]

theorem block (t : Fin cfg0.N) (y0 : Fin 512) (y1 : Fin 5632) (n : Fin 4096) (hn : (n : ℕ) = t.val * 512 + y0) :
    outsAt0 m c t (ix2 y0 y1) = ((A.dgu n y1 : ℝ) : EReal) := by
  unfold outsAt0
  frame_open
  simp (disch := decide) only [↓ View.readCov_skip, ↓ View.readCov_cons_toLoadRect, ↓ View.readCov_fill]
  frame_out
  canon_tiles x h using (View.cover_of_tiledBy _ ![512, 256] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14]
  · exact dup_at A (iblk m c 0 t) (iblk m c 1 t) (iblk m c 2 t) x0 y1 n ⟨2048 + x1, by omega⟩ ⟨2048 + x1, by omega⟩ (by simp only []; omega)
      (fun k => dy_at H t _ k n (by omega)) (fun k => w_at H t _ _ k rfl) (gate_at H t _ _ n _ (by omega) rfl)
  · exact dgate_at A (iblk m c 0 t) (iblk m c 1 t) (iblk m c 2 t) x0 y1 n ⟨2048 + x1, by omega⟩ ⟨2048 + x1, by omega⟩ ⟨4864 + x1, by omega⟩ (by simp only []; omega)
      (fun k => dy_at H t _ k n (by omega)) (fun k => w_at H t _ _ k rfl) (gate_at H t _ _ n _ (by omega) rfl)
      (up_at H t _ _ n _ (by omega) (by simp only []; omega))
  · exact dup_at A (iblk m c 0 t) (iblk m c 1 t) (iblk m c 2 t) x0 y1 n ⟨1024 + x1, by omega⟩ ⟨1024 + x1, by omega⟩ (by simp only []; omega)
      (fun k => dy_at H t _ k n (by omega)) (fun k => w_at H t _ _ k rfl) (gate_at H t _ _ n _ (by omega) rfl)
  · exact dgate_at A (iblk m c 0 t) (iblk m c 1 t) (iblk m c 2 t) x0 y1 n ⟨1024 + x1, by omega⟩ ⟨1024 + x1, by omega⟩ ⟨3840 + x1, by omega⟩ (by simp only []; omega)
      (fun k => dy_at H t _ k n (by omega)) (fun k => w_at H t _ _ k rfl) (gate_at H t _ _ n _ (by omega) rfl)
      (up_at H t _ _ n _ (by omega) (by simp only []; omega))
  · exact dup_at A (iblk m c 0 t) (iblk m c 1 t) (iblk m c 2 t) x0 y1 n ⟨x1, by omega⟩ ⟨x1, by omega⟩ (by simp only []; omega)
      (fun k => dy_at H t _ k n (by omega)) (fun k => w_at H t _ _ k rfl) (gate_at H t _ _ n _ (by omega) rfl)
  · exact dgate_at A (iblk m c 0 t) (iblk m c 1 t) (iblk m c 2 t) x0 y1 n ⟨x1, by omega⟩ ⟨x1, by omega⟩ ⟨2816 + x1, by omega⟩ (by simp only []; omega)
      (fun k => dy_at H t _ k n (by omega)) (fun k => w_at H t _ _ k rfl) (gate_at H t _ _ n _ (by omega) rfl)
      (up_at H t _ _ n _ (by omega) rfl)

theorem arr : (dats m 0 c).arrAt 3 cfg0.N = fun y : S4096x5632.Idx => ((A.dgu (y 0) (y 1) : ℝ) : EReal) := by
  refine (dats m 0 c).arrAt_eq_of_covers 3 _ (by decide +kernel) fun t hf y => ?_
  idx_vars y
  blk_simp
  have ht : t.val < 8 := lt_of_lt_of_eq t.isLt N_0
  have e0 : (win0_3.blk t).view.emb (ix2 y0 y1) 0 = (⟨t.val * 512 + y0, by omega⟩ : Fin 4096) := by
    apply Fin.ext
    blk_simp [idx t]
  have e1 : (win0_3.blk t).view.emb (ix2 y0 y1) 1 = y1 := by
    apply Fin.ext
    blk_simp [idx t]
  rw [after0_3, e0, e1]
  exact block H t y0 y1 _ rfl

end Cert.Kernel5Ideal.Val
end
-- ==== Proof.OutBwdValue.lean ====
module

public import proofs.«01_k».proof.Defs
public import proofs.«01_k».proof.Proof.OutBwd
public import proofs.«01_k».proof.Proof.PreFacts
public import proofs.«01_k».proof.Proof.Finite
public import proofs.«01_k».proof.Proof.Gen.Reference5Ideal.Run

@[expose] public section

set_option maxRecDepth 16384

/-!
The feed-forward's gradient: the reference's array, and the equation.
-/

noncomputable section
open Idealize.ShloMosaic Idealize.ShloMosaic.TcCoe Idealize.SL.Sem
namespace Cert.Kernel5Ideal.Ref
open Cert.Common Cert.Kernel5Ideal.Val Cert.Reference5Ideal Cert.Reference5Ideal.Gen

/-- The reference's array holds the gradient. -/
theorem ref_at (A : Args) (d : FVec Ideal S4096x1024 .bf16) (w : FVec Ideal S2816x1024 .f32) (g : FVec Ideal S4096x5632 .bf16)
    (hd : ∀ n k, d (ix2 n k) = ((A.dy n k : ℝ) : EReal)) (hw : ∀ f k, w (ix2 f k) = ((A.w f k : ℝ) : EReal)) (hg : ∀ n l, g (ix2 n l) = ((A.gu n l : ℝ) : EReal)) (n : Fin 4096) (l : Fin 5632) :
    (truncf .bf16 (concatenate S4096x5632 1 [⟨S4096x2816, (addf (mulf (mulf (Host.dotGeneral dot_S4096x1024_S2816x1024_S4096x2816_1_1_0_0_n_n none (extf .f32 d bitsLt_bf16_f32) w) (extractStridedSlice S4096x2816 ![0, 2816] (extf .f32 g bitsLt_bf16_f32) slices_S4096x5632_S4096x2816_0_2816)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (extf .f32 g bitsLt_bf16_f32) slices_S4096x5632_S4096x2816_0_0)))))) (mulf (mulf (extractStridedSlice S4096x2816 ![0, 0] (extf .f32 g bitsLt_bf16_f32) slices_S4096x5632_S4096x2816_0_0) (mulf (Host.dotGeneral dot_S4096x1024_S2816x1024_S4096x2816_1_1_0_0_n_n none (extf .f32 d bitsLt_bf16_f32) w) (extractStridedSlice S4096x2816 ![0, 2816] (extf .f32 g bitsLt_bf16_f32) slices_S4096x5632_S4096x2816_0_2816))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (extf .f32 g bitsLt_bf16_f32) slices_S4096x5632_S4096x2816_0_0))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (extf .f32 g bitsLt_bf16_f32) slices_S4096x5632_S4096x2816_0_0)))))))))⟩, ⟨S4096x2816, (mulf (mulf (extractStridedSlice S4096x2816 ![0, 0] (extf .f32 g bitsLt_bf16_f32) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (extf .f32 g bitsLt_bf16_f32) slices_S4096x5632_S4096x2816_0_0)))))) (Host.dotGeneral dot_S4096x1024_S2816x1024_S4096x2816_1_1_0_0_n_n none (extf .f32 d bitsLt_bf16_f32) w))⟩] concatenates_S4096x2816_S4096x2816_S4096x5632_d1) bitsLt_bf16_f32 : FVec Ideal S4096x5632 .bf16) (ix2 n l) = ((A.dgu n l : ℝ) : EReal) := by
  pointwise
  split
  · rename_i h
    rw [A.dgu_gate n l ⟨l, h⟩ rfl]
    simp only [hd, hw, hg, coe_dot, sigm_ref]
    rw [← EReal.coe_one, ← EReal.coe_sub, ← EReal.coe_mul, ← EReal.coe_mul, ← EReal.coe_mul, ← EReal.coe_mul, ← EReal.coe_mul, ← EReal.coe_add]
    refine congrArg _ ?_
    simp only [Args.dgate, Args.dz, Args.gate, Args.up]
    ring
  · rename_i h
    rw [A.dgu_up n l ⟨l - 2816, by omega⟩ (by simp only []; omega)]
    simp only [hd, hw, hg, coe_dot, sigm_ref]
    rw [← EReal.coe_mul, ← EReal.coe_mul]
    refine congrArg _ ?_
    simp only [Args.dup, Args.dz, Args.gate, Args.up]
    ring
end Cert.Kernel5Ideal.Ref

namespace Cert.Kernel5Ideal.Val
open Cert.Kernel5Ideal Cert.Kernel5Ideal.Gen

/-- The real numbers the kernel's arguments hold. -/
def args (m : (ℓ : Loc nD τ sig) → Buf (Elt Ideal) ℓ) (c : Dev nD) : Args where
  dy n k := EReal.toReal (dy m c (ix2 n k))
  w f k := EReal.toReal (w m c (ix2 f k))
  gu n l := EReal.toReal (gu m c (ix2 n l))

theorem holds (m : (ℓ : Loc nD τ sig) → Buf (Elt Ideal) ℓ) (h : Cert.Pre_Kernel5Ideal_finite5 m) (c : Dev nD) : Holds (args m c) m c := by
  obtain ⟨h0, h1, h2⟩ := h c
  exact
  { dy := fun n k => Finite.real_of (congrFun h0 (ix2 n k))
    w := fun f k => Finite.real_of (congrFun h1 (ix2 f k))
    gu := fun n l => Finite.real_of (congrFun h2 (ix2 n l)) }

/-- The gradient. -/
def out (A : Args) : FVec Ideal S4096x5632 .bf16 := fun y => ((A.dgu (y 0) (y 1) : ℝ) : EReal)

theorem value : Cert.algebraic_Kernel5Ideal_Reference5Ideal_pre_finite5 := by
  intro m ρ m' ρ' hpre hagree
  refine ⟨fun c => out (args m c), ?_, ?_⟩
  · refine (θ_run (defs (F := Ideal)) _ _).mono (fun r h c => ?_) (Cert.Kernel5Ideal.Value.run_blocks m ρ)
    exact ⟨(h c).1.trans (arr (holds m hpre c)), (h c).2⟩
  · refine (θ_run (Reference5Ideal.defs (F := Ideal)) _ _).mono (fun r h c => ?_) (Reference5Ideal.Value.run m' ρ')
    obtain ⟨e0, e1, e2⟩ := hagree c
    refine ⟨(h c).1.trans ?_, (h c).2⟩
    rw [e0, e1, e2]
    funext y
    idx_vars y
    have H := holds m hpre c
    exact Cert.Kernel5Ideal.Ref.ref_at _ _ _ _ H.dy H.w H.gu _ _
end Cert.Kernel5Ideal.Val
end
-- ==== Proof.MixBwd.lean ====
module

public import proofs.«01_k».proof.Proof.Gen.Kernel6Ideal.Value
public import proofs.«01_k».proof.Proof.Common
public import proofs.«01_k».proof.Proof.Sigmoid

@[expose] public section

set_option maxRecDepth 16384

/-!
The gradient through the merge of the two branches: what the kernel leaves in its arrays.
-/

noncomputable section
open Idealize.ShloMosaic Idealize.ShloMosaic.TcCoe Idealize.SL.Sem
open Idealize.ShloMosaic.Pipeline (Dat)
namespace Cert.Kernel6Ideal.Val
open Cert.Common Cert.Kernel6Ideal Cert.Kernel6Ideal.Gen

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The arguments as real numbers: the gradient of the mixer's output, the two branches, the gates' inputs, and the weights. -/
structure Args where
  dmix : Fin 4096 → Fin 1024 → ℝ
  yg : Fin 4096 → Fin 1024 → ℝ
  ys : Fin 4096 → Fin 1024 → ℝ
  pg : Fin 4096 → Fin 2048 → ℝ
  wo : Fin 1024 → Fin 1024 → ℝ
  wbg : Fin 1024 → Fin 1024 → ℝ
  wbs : Fin 1024 → Fin 1024 → ℝ

namespace Args
variable (A : Args)
/-- The gradient of the merged branches. -/
def dm (n : Fin 4096) (j : Fin 1024) : ℝ := ∑ k, A.dmix n k * A.wo j k
/-- The two gates. -/
def s1 (n : Fin 4096) (j : Fin 1024) : ℝ := sigm (A.pg n ⟨j, by omega⟩)
def s2 (n : Fin 4096) (j : Fin 1024) : ℝ := sigm (A.pg n ⟨1024 + j, by omega⟩)
/-- The two branches' products. -/
def t1 (n : Fin 4096) (j : Fin 1024) : ℝ := ∑ k, A.yg n k * A.wbg k j
def t2 (n : Fin 4096) (j : Fin 1024) : ℝ := ∑ k, A.ys n k * A.wbs k j
/-- The gradients of the two products. -/
def dt1 (n : Fin 4096) (j : Fin 1024) : ℝ := A.dm n j * A.s1 n j
def dt2 (n : Fin 4096) (j : Fin 1024) : ℝ := A.dm n j * A.s2 n j
/-- The gradients of the gates' inputs. -/
def dp1 (n : Fin 4096) (j : Fin 1024) : ℝ := A.dm n j * A.t1 n j * A.s1 n j * (1 - A.s1 n j)
def dp2 (n : Fin 4096) (j : Fin 1024) : ℝ := A.dm n j * A.t2 n j * A.s2 n j * (1 - A.s2 n j)
def dpg (n : Fin 4096) (l : Fin 2048) : ℝ := if h : (l : ℕ) < 1024 then A.dp1 n ⟨l, h⟩ else A.dp2 n ⟨l - 1024, by omega⟩
/-- The gradients of the two branches. -/
def dyg (n : Fin 4096) (j : Fin 1024) : ℝ := ∑ k, A.dt1 n k * A.wbg j k
def dys (n : Fin 4096) (j : Fin 1024) : ℝ := ∑ k, A.dt2 n k * A.wbs j k
theorem dpg_1 (n : Fin 4096) (l : Fin 2048) (j : Fin 1024) (h : (l : ℕ) = j) : A.dpg n l = A.dp1 n j := by
  rw [dpg, dif_pos (by omega)]; congr 1; exact Fin.ext h
theorem dpg_2 (n : Fin 4096) (l : Fin 2048) (j : Fin 1024) (h : (l : ℕ) = 1024 + j) : A.dpg n l = A.dp2 n j := by
  rw [dpg, dif_neg (by omega)]; congr 1; apply Fin.ext; simp only []; omega
end Args

variable {m : (ℓ : Loc nD τ sig) → Buf (Elt Ideal) ℓ} {c : Dev nD}

/-- The arrays of the arguments. -/
abbrev dmix (m : (ℓ : Loc nD τ sig) → Buf (Elt Ideal) ℓ) (c : Dev nD) : FVec Ideal S4096x1024 .bf16 := m ((c : Thread nD τ).loc main_arg0)
abbrev yg (m : (ℓ : Loc nD τ sig) → Buf (Elt Ideal) ℓ) (c : Dev nD) : FVec Ideal S4096x1024 .bf16 := m ((c : Thread nD τ).loc main_arg1)
abbrev ys (m : (ℓ : Loc nD τ sig) → Buf (Elt Ideal) ℓ) (c : Dev nD) : FVec Ideal S4096x1024 .bf16 := m ((c : Thread nD τ).loc main_arg2)
abbrev pg (m : (ℓ : Loc nD τ sig) → Buf (Elt Ideal) ℓ) (c : Dev nD) : FVec Ideal S4096x2048 .bf16 := m ((c : Thread nD τ).loc main_arg3)
abbrev wo (m : (ℓ : Loc nD τ sig) → Buf (Elt Ideal) ℓ) (c : Dev nD) : FVec Ideal S1024x1024 .f32 := m ((c : Thread nD τ).loc main_arg4)
abbrev wbg (m : (ℓ : Loc nD τ sig) → Buf (Elt Ideal) ℓ) (c : Dev nD) : FVec Ideal S1024x1024 .f32 := m ((c : Thread nD τ).loc main_arg5)
abbrev wbs (m : (ℓ : Loc nD τ sig) → Buf (Elt Ideal) ℓ) (c : Dev nD) : FVec Ideal S1024x1024 .f32 := m ((c : Thread nD τ).loc main_arg6)

/-- The arrays hold the real numbers. -/
structure Holds (A : Args) (m : (ℓ : Loc nD τ sig) → Buf (Elt Ideal) ℓ) (c : Dev nD) : Prop where
  dmix : ∀ i k, dmix m c (ix2 i k) = ((A.dmix i k : ℝ) : EReal)
  yg : ∀ i k, yg m c (ix2 i k) = ((A.yg i k : ℝ) : EReal)
  ys : ∀ i k, ys m c (ix2 i k) = ((A.ys i k : ℝ) : EReal)
  pg : ∀ i k, pg m c (ix2 i k) = ((A.pg i k : ℝ) : EReal)
  wo : ∀ i k, wo m c (ix2 i k) = ((A.wo i k : ℝ) : EReal)
  wbg : ∀ i k, wbg m c (ix2 i k) = ((A.wbg i k : ℝ) : EReal)
  wbs : ∀ i k, wbs m c (ix2 i k) = ((A.wbs i k : ℝ) : EReal)

/-! ## The two products the host prepares -/

theorem V_v4 : (V m c main_v4 : FVec Ideal S4096x1024 .bf16) = truncf .bf16 (Host.dotGeneral dot_S4096x1024_S1024x1024_S4096x1024_1_0_0_1_n_n none
    (extf .f32 (yg m c) bitsLt_bf16_f32) (wbg m c)) bitsLt_bf16_f32 := by
  unfold_abbrev_sides
  after_results
theorem V_v5 : (V m c main_v5 : FVec Ideal S4096x1024 .bf16) = truncf .bf16 (Host.dotGeneral dot_S4096x1024_S1024x1024_S4096x1024_1_0_0_1_n_n none
    (extf .f32 (ys m c) bitsLt_bf16_f32) (wbs m c)) bitsLt_bf16_f32 := by
  unfold_abbrev_sides
  after_results

/-- The tile's arrays, as real numbers; `r` are the tile's tokens. -/
structure Tile (A : Args) (r : Fin 512 → Fin 4096) (v0 v1 v2 : FVec Ideal S512x1024 .bf16) (v3 : FVec Ideal S512x2048 .bf16) (v4 v5 v6 : FVec Ideal S1024x1024 .bf16) : Prop where
  dmix : ∀ i k, v0 (ix2 i k) = ((A.dmix (r i) k : ℝ) : EReal)
  t1 : ∀ i k, v1 (ix2 i k) = ((A.t1 (r i) k : ℝ) : EReal)
  t2 : ∀ i k, v2 (ix2 i k) = ((A.t2 (r i) k : ℝ) : EReal)
  pg : ∀ i k, v3 (ix2 i k) = ((A.pg (r i) k : ℝ) : EReal)
  wo : ∀ j k, v4 (ix2 j k) = ((A.wo j k : ℝ) : EReal)
  wbg : ∀ j k, v5 (ix2 j k) = ((A.wbg j k : ℝ) : EReal)
  wbs : ∀ j k, v6 (ix2 j k) = ((A.wbs j k : ℝ) : EReal)

/-- The tokens of tile `t`. -/
def row (t : Fin cfg0.N) (i : Fin 512) : Fin 4096 := ⟨t.val * 512 + i, by have : t.val < 8 := lt_of_lt_of_eq t.isLt N_0; omega⟩

theorem tile {A : Args} (H : Holds A m c) (t : Fin cfg0.N) : Tile A (row t) (iblk m c 0 t) (iblk m c 1 t) (iblk m c 2 t) (iblk m c 3 t) (iblk m c 4 t)
    (iblk m c 5 t) (iblk m c 6 t) where
  dmix i k := by
    refine Eq.trans ?_ (H.dmix (row t i) k)
    blk_ext [iblk, V, idx t, row]
  t1 i k := by
    refine Eq.trans (b := (V m c main_v4 : FVec Ideal S4096x1024 .bf16) (ix2 (row t i) k)) (by blk_ext [iblk, idx t, row]) ?_
    rw [V_v4]
    pointwise
    exact (Finset.sum_congr rfl fun l _ => congrArg₂ (fun p q : EReal => p * q) (H.yg _ l) (H.wbg l _)).trans (coe_dot _ _)
  t2 i k := by
    refine Eq.trans (b := (V m c main_v5 : FVec Ideal S4096x1024 .bf16) (ix2 (row t i) k)) (by blk_ext [iblk, idx t, row]) ?_
    rw [V_v5]
    pointwise
    exact (Finset.sum_congr rfl fun l _ => congrArg₂ (fun p q : EReal => p * q) (H.ys _ l) (H.wbs l _)).trans (coe_dot _ _)
  pg i k := by
    refine Eq.trans ?_ (H.pg (row t i) k)
    blk_ext [iblk, V, idx t, row]
  wo j k := by
    refine Eq.trans ?_ (H.wo j k)
    blk_ext [iblk, V, idx t]
  wbg j k := by
    refine Eq.trans ?_ (H.wbg j k)
    blk_ext [iblk, V, idx t]
  wbs j k := by
    refine Eq.trans ?_ (H.wbs j k)
    blk_ext [iblk, V, idx t]

/-! ## What a tile computes -/

section
variable {A : Args} {r : Fin 512 → Fin 4096} {v0 v1 v2 : FVec Ideal S512x1024 .bf16} {v3 : FVec Ideal S512x2048 .bf16} {v4 v5 v6 : FVec Ideal S1024x1024 .bf16} (T : Tile A r v0 v1 v2 v3 v4 v5 v6)
include T

theorem dm_val (i : Fin 512) (j : Fin 1024) : ∑ k, (v0 (ix2 i k) : EReal) * v4 (ix2 j k) = ((A.dm (r i) j : ℝ) : EReal) :=
  (Finset.sum_congr rfl fun k _ => congrArg₂ (fun p q : EReal => p * q) (T.dmix i k) (T.wo j k)).trans (coe_dot _ _)

theorem dt1_val (i : Fin 512) (j : Fin 1024) : (∑ k, (v0 (ix2 i k) : EReal) * v4 (ix2 j k)) * (Ideal.ofBits .f32 0x3F000000#32 * Ideal.tanh (Ideal.ofBits .f32 0x3F000000#32 * v3 (ix2 i (⟨j, by omega⟩ : Fin 2048))) + Ideal.ofBits .f32 0x3F000000#32)
    = ((A.dt1 (r i) j : ℝ) : EReal) := by
  rw [dm_val T i j, T.pg, sigm_kernel32, ← EReal.coe_mul]
  rfl
theorem dp1_val (i : Fin 512) (j : Fin 1024) : (∑ k, (v0 (ix2 i k) : EReal) * v4 (ix2 j k)) * v1 (ix2 i j) * (Ideal.ofBits .f32 0x3F000000#32 * Ideal.tanh (Ideal.ofBits .f32 0x3F000000#32 * v3 (ix2 i (⟨j, by omega⟩ : Fin 2048))) + Ideal.ofBits .f32 0x3F000000#32)
    * (1 - (Ideal.ofBits .f32 0x3F000000#32 * Ideal.tanh (Ideal.ofBits .f32 0x3F000000#32 * v3 (ix2 i (⟨j, by omega⟩ : Fin 2048))) + Ideal.ofBits .f32 0x3F000000#32)) = ((A.dp1 (r i) j : ℝ) : EReal) := by
  rw [dm_val T i j, T.pg, sigm_kernel32, T.t1, ← EReal.coe_one, ← EReal.coe_sub, ← EReal.coe_mul, ← EReal.coe_mul, ← EReal.coe_mul]
  rfl
theorem dyg_val (i : Fin 512) (j : Fin 1024) : ∑ k : Fin 1024, (∑ l, (v0 (ix2 i l) : EReal) * v4 (ix2 k l)) * (Ideal.ofBits .f32 0x3F000000#32 * Ideal.tanh (Ideal.ofBits .f32 0x3F000000#32 * v3 (ix2 i (⟨k, by omega⟩ : Fin 2048))) + Ideal.ofBits .f32 0x3F000000#32)
    * v5 (ix2 j k) = ((A.dyg (r i) j : ℝ) : EReal) :=
  (Finset.sum_congr rfl fun k _ => congrArg₂ (fun p q : EReal => p * q) (dt1_val T i k) (T.wbg j k)).trans (coe_dot _ _)

theorem dt2_val (i : Fin 512) (j : Fin 1024) : (∑ k, (v0 (ix2 i k) : EReal) * v4 (ix2 j k)) * (Ideal.ofBits .f32 0x3F000000#32 * Ideal.tanh (Ideal.ofBits .f32 0x3F000000#32 * v3 (ix2 i (⟨1024 + j, by omega⟩ : Fin 2048))) + Ideal.ofBits .f32 0x3F000000#32)
    = ((A.dt2 (r i) j : ℝ) : EReal) := by
  rw [dm_val T i j, T.pg, sigm_kernel32, ← EReal.coe_mul]
  rfl
theorem dp2_val (i : Fin 512) (j : Fin 1024) : (∑ k, (v0 (ix2 i k) : EReal) * v4 (ix2 j k)) * v2 (ix2 i j) * (Ideal.ofBits .f32 0x3F000000#32 * Ideal.tanh (Ideal.ofBits .f32 0x3F000000#32 * v3 (ix2 i (⟨1024 + j, by omega⟩ : Fin 2048))) + Ideal.ofBits .f32 0x3F000000#32)
    * (1 - (Ideal.ofBits .f32 0x3F000000#32 * Ideal.tanh (Ideal.ofBits .f32 0x3F000000#32 * v3 (ix2 i (⟨1024 + j, by omega⟩ : Fin 2048))) + Ideal.ofBits .f32 0x3F000000#32)) = ((A.dp2 (r i) j : ℝ) : EReal) := by
  rw [dm_val T i j, T.pg, sigm_kernel32, T.t2, ← EReal.coe_one, ← EReal.coe_sub, ← EReal.coe_mul, ← EReal.coe_mul, ← EReal.coe_mul]
  rfl
theorem dys_val (i : Fin 512) (j : Fin 1024) : ∑ k : Fin 1024, (∑ l, (v0 (ix2 i l) : EReal) * v4 (ix2 k l)) * (Ideal.ofBits .f32 0x3F000000#32 * Ideal.tanh (Ideal.ofBits .f32 0x3F000000#32 * v3 (ix2 i (⟨1024 + k, by omega⟩ : Fin 2048))) + Ideal.ofBits .f32 0x3F000000#32)
    * v6 (ix2 j k) = ((A.dys (r i) j : ℝ) : EReal) :=
  (Finset.sum_congr rfl fun k _ => congrArg₂ (fun p q : EReal => p * q) (dt2_val T i k) (T.wbs j k)).trans (coe_dot _ _)
end

variable {A : Args} (H : Holds A m c)
include H

theorem dt1_block (t : Fin cfg0.N) (y0 : Fin 512) (y1 : Fin 1024) :
    (out0_7 (iblk m c 0 t) (iblk m c 1 t) (iblk m c 2 t) (iblk m c 3 t) (iblk m c 4 t) (iblk m c 5 t) (iblk m c 6 t) (ix2 y0 y1) : EReal) = ((A.dt1 (row t y0) y1 : ℝ) : EReal) := by
  unfold out0_7
  frame_open
  frame_out
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [show y1 = x1 from Fin.ext h1]
  · rw [show y0 = ⟨256 + x0, by omega⟩ from Fin.ext h0]
    exact dt1_val (tile H t) ⟨256 + x0, by omega⟩ x1
  · rw [show y0 = ⟨x0, by omega⟩ from Fin.ext h0]
    exact dt1_val (tile H t) ⟨x0, by omega⟩ x1
theorem dt2_block (t : Fin cfg0.N) (y0 : Fin 512) (y1 : Fin 1024) :
    (out0_8 (iblk m c 0 t) (iblk m c 1 t) (iblk m c 2 t) (iblk m c 3 t) (iblk m c 4 t) (iblk m c 5 t) (iblk m c 6 t) (ix2 y0 y1) : EReal) = ((A.dt2 (row t y0) y1 : ℝ) : EReal) := by
  unfold out0_8
  frame_open
  frame_out
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [show y1 = x1 from Fin.ext h1]
  · rw [show y0 = ⟨256 + x0, by omega⟩ from Fin.ext h0]
    exact dt2_val (tile H t) ⟨256 + x0, by omega⟩ x1
  · rw [show y0 = ⟨x0, by omega⟩ from Fin.ext h0]
    exact dt2_val (tile H t) ⟨x0, by omega⟩ x1
theorem dyg_block (t : Fin cfg0.N) (y0 : Fin 512) (y1 : Fin 1024) :
    (out0_10 (iblk m c 0 t) (iblk m c 1 t) (iblk m c 2 t) (iblk m c 3 t) (iblk m c 4 t) (iblk m c 5 t) (iblk m c 6 t) (ix2 y0 y1) : EReal) = ((A.dyg (row t y0) y1 : ℝ) : EReal) := by
  unfold out0_10
  frame_open
  frame_out
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [show y1 = x1 from Fin.ext h1]
  · rw [show y0 = ⟨256 + x0, by omega⟩ from Fin.ext h0]
    exact dyg_val (tile H t) ⟨256 + x0, by omega⟩ x1
  · rw [show y0 = ⟨x0, by omega⟩ from Fin.ext h0]
    exact dyg_val (tile H t) ⟨x0, by omega⟩ x1
theorem dys_block (t : Fin cfg0.N) (y0 : Fin 512) (y1 : Fin 1024) :
    (out0_11 (iblk m c 0 t) (iblk m c 1 t) (iblk m c 2 t) (iblk m c 3 t) (iblk m c 4 t) (iblk m c 5 t) (iblk m c 6 t) (ix2 y0 y1) : EReal) = ((A.dys (row t y0) y1 : ℝ) : EReal) := by
  unfold out0_11
  frame_open
  frame_out
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    rw [show y1 = x1 from Fin.ext h1]
  · rw [show y0 = ⟨256 + x0, by omega⟩ from Fin.ext h0]
    exact dys_val (tile H t) ⟨256 + x0, by omega⟩ x1
  · rw [show y0 = ⟨x0, by omega⟩ from Fin.ext h0]
    exact dys_val (tile H t) ⟨x0, by omega⟩ x1
theorem dpg_block (t : Fin cfg0.N) (y0 : Fin 512) (y1 : Fin 2048) :
    (out0_9 (iblk m c 0 t) (iblk m c 1 t) (iblk m c 2 t) (iblk m c 3 t) (iblk m c 4 t) (iblk m c 5 t) (iblk m c 6 t) (ix2 y0 y1) : EReal) = ((A.dpg (row t y0) y1 : ℝ) : EReal) := by
  unfold out0_9
  frame_open
  frame_out
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
  · rw [show y0 = ⟨256 + x0, by omega⟩ from Fin.ext h0]
    rw [A.dpg_2 _ y1 x1 h1]
    exact dp2_val (tile H t) ⟨256 + x0, by omega⟩ x1
  · rw [show y0 = ⟨256 + x0, by omega⟩ from Fin.ext h0]
    rw [A.dpg_1 _ y1 x1 h1]
    exact dp1_val (tile H t) ⟨256 + x0, by omega⟩ x1
  · rw [show y0 = ⟨x0, by omega⟩ from Fin.ext h0]
    rw [A.dpg_2 _ y1 x1 h1]
    exact dp2_val (tile H t) ⟨x0, by omega⟩ x1
  · rw [show y0 = ⟨x0, by omega⟩ from Fin.ext h0]
    rw [A.dpg_1 _ y1 x1 h1]
    exact dp1_val (tile H t) ⟨x0, by omega⟩ x1

theorem arr_dt1 : (dats m 0 c).arrAt 7 cfg0.N = fun y : S4096x1024.Idx => ((A.dt1 (y 0) (y 1) : ℝ) : EReal) := by
  refine (dats m 0 c).arrAt_eq_of_covers 7 _ (by decide +kernel) fun t hf y => ?_
  idx_vars y
  blk_simp
  have e0 : (win0_7.blk t).view.emb (ix2 y0 y1) 0 = row t y0 := by
    apply Fin.ext
    blk_simp [idx t, row]
  have e1 : (win0_7.blk t).view.emb (ix2 y0 y1) 1 = y1 := by
    apply Fin.ext
    blk_simp [idx t]
  rw [after0_7, e0, e1]
  exact dt1_block H t y0 y1
theorem arr_dt2 : (dats m 0 c).arrAt 8 cfg0.N = fun y : S4096x1024.Idx => ((A.dt2 (y 0) (y 1) : ℝ) : EReal) := by
  refine (dats m 0 c).arrAt_eq_of_covers 8 _ (by decide +kernel) fun t hf y => ?_
  idx_vars y
  blk_simp
  have e0 : (win0_8.blk t).view.emb (ix2 y0 y1) 0 = row t y0 := by
    apply Fin.ext
    blk_simp [idx t, row]
  have e1 : (win0_8.blk t).view.emb (ix2 y0 y1) 1 = y1 := by
    apply Fin.ext
    blk_simp [idx t]
  rw [after0_8, e0, e1]
  exact dt2_block H t y0 y1
theorem arr_dpg : (dats m 0 c).arrAt 9 cfg0.N = fun y : S4096x2048.Idx => ((A.dpg (y 0) (y 1) : ℝ) : EReal) := by
  refine (dats m 0 c).arrAt_eq_of_covers 9 _ (by decide +kernel) fun t hf y => ?_
  idx_vars y
  blk_simp
  have e0 : (win0_9.blk t).view.emb (ix2 y0 y1) 0 = row t y0 := by
    apply Fin.ext
    blk_simp [idx t, row]
  have e1 : (win0_9.blk t).view.emb (ix2 y0 y1) 1 = y1 := by
    apply Fin.ext
    blk_simp [idx t]
  rw [after0_9, e0, e1]
  exact dpg_block H t y0 y1
theorem arr_dyg : (dats m 0 c).arrAt 10 cfg0.N = fun y : S4096x1024.Idx => ((A.dyg (y 0) (y 1) : ℝ) : EReal) := by
  refine (dats m 0 c).arrAt_eq_of_covers 10 _ (by decide +kernel) fun t hf y => ?_
  idx_vars y
  blk_simp
  have e0 : (win0_10.blk t).view.emb (ix2 y0 y1) 0 = row t y0 := by
    apply Fin.ext
    blk_simp [idx t, row]
  have e1 : (win0_10.blk t).view.emb (ix2 y0 y1) 1 = y1 := by
    apply Fin.ext
    blk_simp [idx t]
  rw [after0_10, e0, e1]
  exact dyg_block H t y0 y1
theorem arr_dys : (dats m 0 c).arrAt 11 cfg0.N = fun y : S4096x1024.Idx => ((A.dys (y 0) (y 1) : ℝ) : EReal) := by
  refine (dats m 0 c).arrAt_eq_of_covers 11 _ (by decide +kernel) fun t hf y => ?_
  idx_vars y
  blk_simp
  have e0 : (win0_11.blk t).view.emb (ix2 y0 y1) 0 = row t y0 := by
    apply Fin.ext
    blk_simp [idx t, row]
  have e1 : (win0_11.blk t).view.emb (ix2 y0 y1) 1 = y1 := by
    apply Fin.ext
    blk_simp [idx t]
  rw [after0_11, e0, e1]
  exact dys_block H t y0 y1
end Cert.Kernel6Ideal.Val
end
-- ==== Proof.MixBwdValue.lean ====
module

public import proofs.«01_k».proof.Defs
public import proofs.«01_k».proof.Proof.MixBwd
public import proofs.«01_k».proof.Proof.PreFacts
public import proofs.«01_k».proof.Proof.Finite
public import proofs.«01_k».proof.Proof.Gen.Reference6Ideal.Run

@[expose] public section

set_option maxRecDepth 16384

/-!
The merge's gradient: the reference's arrays, and the equation.
-/

noncomputable section
open Idealize.ShloMosaic Idealize.ShloMosaic.TcCoe Idealize.SL.Sem
namespace Cert.Reference6Ideal.Val
open Cert.Kernel6Ideal.Val (Args)
open Cert.Common Cert.Reference6Ideal Cert.Reference6Ideal.Gen

/-- The arrays of the reference's arguments. -/
abbrev dmix (m : (ℓ : Loc nD τ sig) → Buf (Elt Ideal) ℓ) (c : Dev nD) : FVec Ideal S4096x1024 .bf16 := m ((c : Thread nD τ).loc main_arg0)
abbrev yg (m : (ℓ : Loc nD τ sig) → Buf (Elt Ideal) ℓ) (c : Dev nD) : FVec Ideal S4096x1024 .bf16 := m ((c : Thread nD τ).loc main_arg1)
abbrev ys (m : (ℓ : Loc nD τ sig) → Buf (Elt Ideal) ℓ) (c : Dev nD) : FVec Ideal S4096x1024 .bf16 := m ((c : Thread nD τ).loc main_arg2)
abbrev pg (m : (ℓ : Loc nD τ sig) → Buf (Elt Ideal) ℓ) (c : Dev nD) : FVec Ideal S4096x2048 .bf16 := m ((c : Thread nD τ).loc main_arg3)
abbrev wo (m : (ℓ : Loc nD τ sig) → Buf (Elt Ideal) ℓ) (c : Dev nD) : FVec Ideal S1024x1024 .f32 := m ((c : Thread nD τ).loc main_arg4)
abbrev wbg (m : (ℓ : Loc nD τ sig) → Buf (Elt Ideal) ℓ) (c : Dev nD) : FVec Ideal S1024x1024 .f32 := m ((c : Thread nD τ).loc main_arg5)
abbrev wbs (m : (ℓ : Loc nD τ sig) → Buf (Elt Ideal) ℓ) (c : Dev nD) : FVec Ideal S1024x1024 .f32 := m ((c : Thread nD τ).loc main_arg6)

/-- The reference's arguments hold the real numbers. -/
structure Holds (A : Args) (m : (ℓ : Loc nD τ sig) → Buf (Elt Ideal) ℓ) (c : Dev nD) : Prop where
  dmix : ∀ i k, dmix m c (ix2 i k) = ((A.dmix i k : ℝ) : EReal)
  yg : ∀ i k, yg m c (ix2 i k) = ((A.yg i k : ℝ) : EReal)
  ys : ∀ i k, ys m c (ix2 i k) = ((A.ys i k : ℝ) : EReal)
  pg : ∀ i k, pg m c (ix2 i k) = ((A.pg i k : ℝ) : EReal)
  wo : ∀ i k, wo m c (ix2 i k) = ((A.wo i k : ℝ) : EReal)
  wbg : ∀ i k, wbg m c (ix2 i k) = ((A.wbg i k : ℝ) : EReal)
  wbs : ∀ i k, wbs m c (ix2 i k) = ((A.wbs i k : ℝ) : EReal)

variable {m : (ℓ : Loc nD τ sig) → Buf (Elt Ideal) ℓ} {c : Dev nD} {A : Args} (H : Holds A m c)
include H

theorem dm_at (n : Fin 4096) (j : Fin 1024) : ∑ k, (dmix m c (ix2 n k) : EReal) * wo m c (ix2 j k) = ((A.dm n j : ℝ) : EReal) :=
  (Finset.sum_congr rfl fun k _ => congrArg₂ (fun p q : EReal => p * q) (H.dmix n k) (H.wo j k)).trans (coe_dot _ _)

theorem gate1_at (n : Fin 4096) (j : Fin 1024) : Ideal.div 1 (1 + Ideal.exp (-(pg m c (ix2 n (⟨j, by omega⟩ : Fin 2048)) : EReal))) = ((A.s1 n j : ℝ) : EReal) := by
  rw [H.pg, sigm_ref]
  rfl
theorem t1_at (n : Fin 4096) (j : Fin 1024) : ∑ k, (yg m c (ix2 n k) : EReal) * wbg m c (ix2 k j) = ((A.t1 n j : ℝ) : EReal) :=
  (Finset.sum_congr rfl fun k _ => congrArg₂ (fun p q : EReal => p * q) (H.yg n k) (H.wbg k j)).trans (coe_dot _ _)
theorem gated1_at (n : Fin 4096) (j : Fin 1024) : Ideal.div 1 (1 + Ideal.exp (-(pg m c (ix2 n (⟨j, by omega⟩ : Fin 2048)) : EReal))) * (∑ k, (dmix m c (ix2 n k) : EReal) * wo m c (ix2 j k)) = ((A.dt1 n j : ℝ) : EReal) := by
  rw [gate1_at H, dm_at H, ← EReal.coe_mul, mul_comm]
  rfl
theorem slope1_at (n : Fin 4096) (j : Fin 1024) : (∑ k, (dmix m c (ix2 n k) : EReal) * wo m c (ix2 j k)) * (∑ k, (yg m c (ix2 n k) : EReal) * wbg m c (ix2 k j))
    * (Ideal.div 1 (1 + Ideal.exp (-(pg m c (ix2 n (⟨j, by omega⟩ : Fin 2048)) : EReal))) * (1 - Ideal.div 1 (1 + Ideal.exp (-(pg m c (ix2 n (⟨j, by omega⟩ : Fin 2048)) : EReal))))) = ((A.dp1 n j : ℝ) : EReal) := by
  rw [gate1_at H, dm_at H, t1_at H, ← EReal.coe_one, ← EReal.coe_sub, ← EReal.coe_mul, ← EReal.coe_mul, ← EReal.coe_mul, ← mul_assoc]
  rfl

theorem gate2_at (n : Fin 4096) (j : Fin 1024) : Ideal.div 1 (1 + Ideal.exp (-(pg m c (ix2 n (⟨1024 + j, by omega⟩ : Fin 2048)) : EReal))) = ((A.s2 n j : ℝ) : EReal) := by
  rw [H.pg, sigm_ref]
  rfl
theorem t2_at (n : Fin 4096) (j : Fin 1024) : ∑ k, (ys m c (ix2 n k) : EReal) * wbs m c (ix2 k j) = ((A.t2 n j : ℝ) : EReal) :=
  (Finset.sum_congr rfl fun k _ => congrArg₂ (fun p q : EReal => p * q) (H.ys n k) (H.wbs k j)).trans (coe_dot _ _)
theorem gated2_at (n : Fin 4096) (j : Fin 1024) : Ideal.div 1 (1 + Ideal.exp (-(pg m c (ix2 n (⟨1024 + j, by omega⟩ : Fin 2048)) : EReal))) * (∑ k, (dmix m c (ix2 n k) : EReal) * wo m c (ix2 j k)) = ((A.dt2 n j : ℝ) : EReal) := by
  rw [gate2_at H, dm_at H, ← EReal.coe_mul, mul_comm]
  rfl
theorem slope2_at (n : Fin 4096) (j : Fin 1024) : (∑ k, (dmix m c (ix2 n k) : EReal) * wo m c (ix2 j k)) * (∑ k, (ys m c (ix2 n k) : EReal) * wbs m c (ix2 k j))
    * (Ideal.div 1 (1 + Ideal.exp (-(pg m c (ix2 n (⟨1024 + j, by omega⟩ : Fin 2048)) : EReal))) * (1 - Ideal.div 1 (1 + Ideal.exp (-(pg m c (ix2 n (⟨1024 + j, by omega⟩ : Fin 2048)) : EReal))))) = ((A.dp2 n j : ℝ) : EReal) := by
  rw [gate2_at H, dm_at H, t2_at H, ← EReal.coe_one, ← EReal.coe_sub, ← EReal.coe_mul, ← EReal.coe_mul, ← EReal.coe_mul, ← mul_assoc]
  rfl

theorem dt1_at (n : Fin 4096) (j : Fin 1024) : ((truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 (pg m c) bitsLt_bf16_f32) slices_S4096x2048_S4096x1024_0_0))))) (Host.dotGeneral dot_S4096x1024_S1024x1024_S4096x1024_1_1_0_0_n_n none (extf .f32 (dmix m c) bitsLt_bf16_f32) (wo m c))) bitsLt_bf16_f32 : FVec Ideal S4096x1024 .bf16) (ix2 n j) : EReal) = ((A.dt1 n j : ℝ) : EReal) := by
  pointwise
  exact gated1_at H n j

theorem dt2_at (n : Fin 4096) (j : Fin 1024) : ((truncf .bf16 (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 (pg m c) bitsLt_bf16_f32) slices_S4096x2048_S4096x1024_0_1024))))) (Host.dotGeneral dot_S4096x1024_S1024x1024_S4096x1024_1_1_0_0_n_n none (extf .f32 (dmix m c) bitsLt_bf16_f32) (wo m c))) bitsLt_bf16_f32 : FVec Ideal S4096x1024 .bf16) (ix2 n j) : EReal) = ((A.dt2 n j : ℝ) : EReal) := by
  pointwise
  exact gated2_at H n j

theorem dpg_at (n : Fin 4096) (l : Fin 2048) : ((truncf .bf16 (concatenate S4096x2048 1 [⟨S4096x1024, (mulf (mulf (Host.dotGeneral dot_S4096x1024_S1024x1024_S4096x1024_1_1_0_0_n_n none (extf .f32 (dmix m c) bitsLt_bf16_f32) (wo m c)) (Host.dotGeneral dot_S4096x1024_S1024x1024_S4096x1024_1_0_0_1_n_n none (extf .f32 (yg m c) bitsLt_bf16_f32) (wbg m c))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 (pg m c) bitsLt_bf16_f32) slices_S4096x2048_S4096x1024_0_0))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 (pg m c) bitsLt_bf16_f32) slices_S4096x2048_S4096x1024_0_0))))))))⟩, ⟨S4096x1024, (mulf (mulf (Host.dotGeneral dot_S4096x1024_S1024x1024_S4096x1024_1_1_0_0_n_n none (extf .f32 (dmix m c) bitsLt_bf16_f32) (wo m c)) (Host.dotGeneral dot_S4096x1024_S1024x1024_S4096x1024_1_0_0_1_n_n none (extf .f32 (ys m c) bitsLt_bf16_f32) (wbs m c))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 (pg m c) bitsLt_bf16_f32) slices_S4096x2048_S4096x1024_0_1024))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 (pg m c) bitsLt_bf16_f32) slices_S4096x2048_S4096x1024_0_1024))))))))⟩] concatenates_S4096x1024_S4096x1024_S4096x2048_d1) bitsLt_bf16_f32 : FVec Ideal S4096x2048 .bf16) (ix2 n l) : EReal) = ((A.dpg n l : ℝ) : EReal) := by
  pointwise
  unfold Kernel6Ideal.Val.Args.dpg
  split
  · exact slope1_at H n _
  · exact slope2_at H n _

theorem dyg_at (n : Fin 4096) (j : Fin 1024) : ((truncf .bf16 (Host.dotGeneral dot_S4096x1024_S1024x1024_S4096x1024_1_1_0_0_n_n none (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 (pg m c) bitsLt_bf16_f32) slices_S4096x2048_S4096x1024_0_0))))) (Host.dotGeneral dot_S4096x1024_S1024x1024_S4096x1024_1_1_0_0_n_n none (extf .f32 (dmix m c) bitsLt_bf16_f32) (wo m c))) (wbg m c)) bitsLt_bf16_f32 : FVec Ideal S4096x1024 .bf16) (ix2 n j) : EReal) = ((A.dyg n j : ℝ) : EReal) := by
  pointwise
  exact (Finset.sum_congr rfl fun k _ => congrArg₂ (fun p q : EReal => p * q) (gated1_at H n k) (H.wbg j k)).trans (coe_dot _ _)

theorem dys_at (n : Fin 4096) (j : Fin 1024) : ((truncf .bf16 (Host.dotGeneral dot_S4096x1024_S1024x1024_S4096x1024_1_1_0_0_n_n none (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 (pg m c) bitsLt_bf16_f32) slices_S4096x2048_S4096x1024_0_1024))))) (Host.dotGeneral dot_S4096x1024_S1024x1024_S4096x1024_1_1_0_0_n_n none (extf .f32 (dmix m c) bitsLt_bf16_f32) (wo m c))) (wbs m c)) bitsLt_bf16_f32 : FVec Ideal S4096x1024 .bf16) (ix2 n j) : EReal) = ((A.dys n j : ℝ) : EReal) := by
  pointwise
  exact (Finset.sum_congr rfl fun k _ => congrArg₂ (fun p q : EReal => p * q) (gated2_at H n k) (H.wbs j k)).trans (coe_dot _ _)
end Cert.Reference6Ideal.Val

namespace Cert.Kernel6Ideal.Val
open Cert.Kernel6Ideal Cert.Kernel6Ideal.Gen

/-- The real numbers the kernel's arguments hold. -/
def args (m : (ℓ : Loc nD τ sig) → Buf (Elt Ideal) ℓ) (c : Dev nD) : Args where
  dmix i k := EReal.toReal (dmix m c (ix2 i k))
  yg i k := EReal.toReal (yg m c (ix2 i k))
  ys i k := EReal.toReal (ys m c (ix2 i k))
  pg i k := EReal.toReal (pg m c (ix2 i k))
  wo i k := EReal.toReal (wo m c (ix2 i k))
  wbg i k := EReal.toReal (wbg m c (ix2 i k))
  wbs i k := EReal.toReal (wbs m c (ix2 i k))

theorem holds (m : (ℓ : Loc nD τ sig) → Buf (Elt Ideal) ℓ) (h : Cert.Pre_Kernel6Ideal_finite6 m) (c : Dev nD) : Holds (args m c) m c := by
  obtain ⟨h0, h1, h2, h3, h4, h5, h6⟩ := h c
  exact
  { dmix := fun n k => Finite.real_of (congrFun h0 (ix2 n k))
    yg := fun n k => Finite.real_of (congrFun h1 (ix2 n k))
    ys := fun n k => Finite.real_of (congrFun h2 (ix2 n k))
    pg := fun n k => Finite.real_of (congrFun h3 (ix2 n k))
    wo := fun n k => Finite.real_of (congrFun h4 (ix2 n k))
    wbg := fun n k => Finite.real_of (congrFun h5 (ix2 n k))
    wbs := fun n k => Finite.real_of (congrFun h6 (ix2 n k))}

/-- The gradients. -/
def out_dt1 (A : Args) : FVec Ideal S4096x1024 .bf16 := fun y => ((A.dt1 (y 0) (y 1) : ℝ) : EReal)
def out_dt2 (A : Args) : FVec Ideal S4096x1024 .bf16 := fun y => ((A.dt2 (y 0) (y 1) : ℝ) : EReal)
def out_dpg (A : Args) : FVec Ideal S4096x2048 .bf16 := fun y => ((A.dpg (y 0) (y 1) : ℝ) : EReal)
def out_dyg (A : Args) : FVec Ideal S4096x1024 .bf16 := fun y => ((A.dyg (y 0) (y 1) : ℝ) : EReal)
def out_dys (A : Args) : FVec Ideal S4096x1024 .bf16 := fun y => ((A.dys (y 0) (y 1) : ℝ) : EReal)

theorem value : Cert.algebraic_Kernel6Ideal_Reference6Ideal_pre_finite6 := by
  intro m ρ m' ρ' hpre hagree
  refine ⟨fun c => out_dt1 (args m c), fun c => out_dt2 (args m c), fun c => out_dpg (args m c), fun c => out_dyg (args m c), fun c => out_dys (args m c), ?_, ?_⟩
  · refine (θ_run (defs (F := Ideal)) _ _).mono (fun r h c => ?_) (Cert.Kernel6Ideal.Value.run_blocks m ρ)
    have H := holds m hpre c
    exact ⟨(h c).1.trans (arr_dt1 H), (h c).2.1.trans (arr_dt2 H), (h c).2.2.1.trans (arr_dpg H), (h c).2.2.2.1.trans (arr_dyg H), (h c).2.2.2.2.1.trans (arr_dys H), (h c).2.2.2.2.2⟩
  · refine (θ_run (Reference6Ideal.defs (F := Ideal)) _ _).mono (fun r h c => ?_) (Reference6Ideal.Value.run m' ρ')
    obtain ⟨e0, e1, e2, e3, e4, e5, e6⟩ := hagree c
    have H := holds m hpre c
    have H' : Cert.Reference6Ideal.Val.Holds (args m c) m' c :=
    { dmix := fun n k => (congrFun e0 (ix2 n k)).trans (H.dmix n k)
      yg := fun n k => (congrFun e1 (ix2 n k)).trans (H.yg n k)
      ys := fun n k => (congrFun e2 (ix2 n k)).trans (H.ys n k)
      pg := fun n k => (congrFun e3 (ix2 n k)).trans (H.pg n k)
      wo := fun n k => (congrFun e4 (ix2 n k)).trans (H.wo n k)
      wbg := fun n k => (congrFun e5 (ix2 n k)).trans (H.wbg n k)
      wbs := fun n k => (congrFun e6 (ix2 n k)).trans (H.wbs n k)}
    refine ⟨(h c).1.trans ?_, (h c).2.1.trans ?_, (h c).2.2.1.trans ?_, (h c).2.2.2.1.trans ?_, (h c).2.2.2.2.1.trans ?_, (h c).2.2.2.2.2⟩
    · funext y
      idx_vars y
      exact Cert.Reference6Ideal.Val.dt1_at H' _ _
    · funext y
      idx_vars y
      exact Cert.Reference6Ideal.Val.dt2_at H' _ _
    · funext y
      idx_vars y
      exact Cert.Reference6Ideal.Val.dpg_at H' _ _
    · funext y
      idx_vars y
      exact Cert.Reference6Ideal.Val.dyg_at H' _ _
    · funext y
      idx_vars y
      exact Cert.Reference6Ideal.Val.dys_at H' _ _
end Cert.Kernel6Ideal.Val
end
-- ==== Proof.OutGrad.lean ====
module

public import proofs.«01_k».proof.Proof.Gen.Kernel7Ideal.Value
public import proofs.«01_k».proof.Proof.Common

@[expose] public section

set_option maxRecDepth 16384

/-!
The gradient of the feed-forward's output weights: the kernel adds up, over eight tiles of 512 tokens, the products of
the activations and the gradient.
-/

noncomputable section
open Idealize.ShloMosaic Idealize.ShloMosaic.TcCoe Idealize.SL.Sem
open Idealize.ShloMosaic.Pipeline (Dat)
namespace Cert.Kernel7Ideal.Val
open Cert.Common Cert.Kernel7Ideal Cert.Kernel7Ideal.Gen

theorem idx : ∀ t : Fin cfg0.N, win0_0.index t = ![t.val, 0] ∧ win0_1.index t = ![t.val, 0] ∧ win0_2.index t = ![0, 0] :=
  (by decide +kernel : ∀ t : Fin grid0.N, _)

/-- What one tile of tokens contributes to entry (a, b): `x` the gradient of the tile, `g` the activations. -/
def tile (x : FVec Ideal S512x1024 .bf16) (g : FVec Ideal S512x2816 .bf16) (a : Fin 2816) (b : Fin 1024) : EReal :=
  ∑ k : Fin 512, (g (ix2 k a) : EReal) * x (ix2 k b)

theorem zero_at (j : S2816x1024.Idx) : k0_pay2 (F := Ideal) j = 0 := Ideal.ofBits_zero .f32

theorem first_tile (x : FVec Ideal S512x1024 .bf16) (g : FVec Ideal S512x2816 .bf16) (z : S2816x1024.Idx) (a a' : Fin 2816) (b : Fin 1024)
    (h : a' = a) : (k0_pay2 (F := Ideal) z : EReal) + ∑ k : Fin 512, (g (ix2 k a') : EReal) * x (ix2 k b) = tile x g a b := by
  subst h
  exact (congrArg (fun p : EReal => p + _) (zero_at z)).trans (zero_add _)

variable {m : (ℓ : Loc nD τ sig) → Buf (Elt Ideal) ℓ} {c : Dev nD}

theorem stepB (t : Fin cfg0.N) (h0 : ¬ t.val % 8 = 0) (h1 : ¬ t.val % 8 = 7) (a : Fin 2816) (b : Fin 1024) :
    ((outsAt0 m c t.val t.isLt).2 (ix2 a b) : EReal)
      = (outsAt0 m c (t.val - 1) (by omega)).2 (ix2 a b) + tile (iblk m c 1 t) (iblk m c 0 t) a b := by
  rw [outsAt0_B m c t h0 h1]
  frame_open
  simp (disch := decide) only [↓ View.readCov_skip, ↓ View.readCov_cons_toLoadRect, ↓ View.readCov_fill]
  frame_out
  canon_tiles x h using (View.cover_of_tiledBy _ ![256, 1024] (by sl_kernel_rfl) _)
  all_goals
    idx_vars x
    pointwise [k0_pay3, k0_pay4, k0_pay5]
    refine congrArg₂ (fun p q : EReal => p + q) ((congrFun (Memref.IsWhole.read_unread _ _) _).trans ?_) ?_
    · exact congrArg _ ((ix2_inj ..).2 ⟨Fin.ext h0.symm, Fin.ext h1.symm⟩)
    · refine Finset.sum_congr rfl fun k _ => congrArg₂ (fun p q : EReal => p * q) ?_ ?_
      · exact congrArg (fun q => (iblk m c 0 t : Vec Ideal S512x2816 .bf16) (ix2 k q)) (Fin.ext h0.symm)
      · exact congrArg (fun q => (iblk m c 1 t : Vec Ideal S512x1024 .bf16) (ix2 k q)) (Fin.ext h1.symm)

theorem stepC (t : Fin cfg0.N) (h0 : ¬ t.val % 8 = 0) (h1 : t.val % 8 = 7) (a : Fin 2816) (b : Fin 1024) :
    ((outsAt0 m c t.val t.isLt).2 (ix2 a b) : EReal)
      = (outsAt0 m c (t.val - 1) (by omega)).2 (ix2 a b) + tile (iblk m c 1 t) (iblk m c 0 t) a b := by
  rw [outsAt0_C m c t h0 h1]
  frame_open
  simp (disch := decide) only [↓ View.readCov_skip, ↓ View.readCov_cons_toLoadRect, ↓ View.readCov_fill]
  frame_out
  canon_tiles x h using (View.cover_of_tiledBy _ ![256, 1024] (by sl_kernel_rfl) _)
  all_goals
    idx_vars x
    pointwise [k0_pay3, k0_pay4, k0_pay5]
    refine congrArg₂ (fun p q : EReal => p + q) ((congrFun (Memref.IsWhole.read_unread _ _) _).trans ?_) ?_
    · exact congrArg _ ((ix2_inj ..).2 ⟨Fin.ext h0.symm, Fin.ext h1.symm⟩)
    · refine Finset.sum_congr rfl fun k _ => congrArg₂ (fun p q : EReal => p * q) ?_ ?_
      · exact congrArg (fun q => (iblk m c 0 t : Vec Ideal S512x2816 .bf16) (ix2 k q)) (Fin.ext h0.symm)
      · exact congrArg (fun q => (iblk m c 1 t : Vec Ideal S512x1024 .bf16) (ix2 k q)) (Fin.ext h1.symm)

set_option maxHeartbeats 1000000 in
theorem stepA (t : Fin cfg0.N) (h0 : t.val % 8 = 0) (h1 : ¬ t.val % 8 = 7) (a : Fin 2816) (b : Fin 1024) :
    ((outsAt0 m c t.val t.isLt).2 (ix2 a b) : EReal)
      = tile (iblk m c 1 t) (iblk m c 0 t) a b := by
  rw [outsAt0_A m c t h0 h1]
  frame_open
  simp (disch := decide) only [↓ View.readCov_skip, ↓ View.readCov_cons_toLoadRect, ↓ View.readCov_fill]
  frame_out
  by_cases ha : a.val < 1024
  · refine (canon_of_read (Val := Elt Ideal) VS0_0 _ (Rect.unit ![0, 0] ![1024, 1024] inb_S2816x1024_S1024x1024_0_0) (ix2 ⟨a, ha⟩ b) _ (by idx_ext)).trans ?_
    simp (disch := decide) only [↓ View.readCov_skip, ↓ View.readCov_cons_toLoadRect, ↓ View.readCov_fill]
    pointwise [k0_pay3]
    exact first_tile (iblk m c 1 t) (iblk m c 0 t) _ a a b rfl
  by_cases hb : a.val < 2048
  · refine (canon_of_read (Val := Elt Ideal) VS0_0 _ (Rect.unit ![1024, 0] ![1024, 1024] inb_S2816x1024_S1024x1024_1024_0) (ix2 ⟨a - 1024, by omega⟩ b) _ (by idx_ext)).trans ?_
    simp (disch := decide) only [↓ View.readCov_skip, ↓ View.readCov_cons_toLoadRect, ↓ View.readCov_fill]
    pointwise [k0_pay4]
    refine first_tile (iblk m c 1 t) (iblk m c 0 t) _ a _ b ?_
    exact Fin.ext (Nat.add_sub_of_le (by omega : 1024 ≤ a.val))
  · refine (canon_of_read (Val := Elt Ideal) VS0_0 _ (Rect.unit ![2048, 0] ![768, 1024] inb_S2816x1024_S768x1024_2048_0) (ix2 ⟨a - 2048, by omega⟩ b) _ (by idx_ext)).trans ?_
    simp (disch := decide) only [↓ View.readCov_skip, ↓ View.readCov_cons_toLoadRect, ↓ View.readCov_fill]
    pointwise [k0_pay5]
    refine first_tile (iblk m c 1 t) (iblk m c 0 t) _ a _ b ?_
    exact Fin.ext (Nat.add_sub_of_le (by omega : 2048 ≤ a.val))

theorem outC (t : Fin cfg0.N) (h0 : ¬ t.val % 8 = 0) (h1 : t.val % 8 = 7) (a : Fin 2816) (b : Fin 1024) :
    ((outsAt0 m c t.val t.isLt).1 (ix2 a b) : EReal) = (outsAt0 m c t.val t.isLt).2 (ix2 a b)  := by
  rw [outsAt0_C m c t h0 h1]
  frame_open
  simp (disch := decide) only [↓ View.readCov_skip, ↓ View.readCov_cons_toLoadRect, ↓ View.readCov_fill]
  frame_out
  rw [View.readCov_eq_canon']
  pointwise [k0_pay1]

/-- The arrays of the two arguments. -/
abbrev z (m : (ℓ : Loc nD τ sig) → Buf (Elt Ideal) ℓ) (c : Dev nD) : FVec Ideal S4096x2816 .bf16 := m ((c : Thread nD τ).loc main_arg0)
abbrev dy (m : (ℓ : Loc nD τ sig) → Buf (Elt Ideal) ℓ) (c : Dev nD) : FVec Ideal S4096x1024 .bf16 := m ((c : Thread nD τ).loc main_arg1)

theorem z_at (t : Fin cfg0.N) (k : Fin 512) (a : Fin 2816) (n : Fin 4096) (hn : (n : ℕ) = t.val * 512 + k) :
    (iblk m c 0 t : Vec Ideal S512x2816 .bf16) (ix2 k a) = z m c (ix2 n a) := by
  blk_ext [iblk, V, idx t]
theorem dy_at (t : Fin cfg0.N) (k : Fin 512) (b : Fin 1024) (n : Fin 4096) (hn : (n : ℕ) = t.val * 512 + k) :
    (iblk m c 1 t : Vec Ideal S512x1024 .bf16) (ix2 k b) = dy m c (ix2 n b) := by
  blk_ext [iblk, V, idx t]

/-- The scratch at the end: the whole sum over the tokens. -/
theorem sum_at (t : Fin cfg0.N) (h1 : t.val % 8 = 7) (a : Fin 2816) (b : Fin 1024) :
    ((outsAt0 m c t.val t.isLt).2 (ix2 a b) : EReal) = ∑ n : Fin 4096, (z m c (ix2 n a) : EReal) * dy m c (ix2 n b) := by
  have hN : t.val < 8 := lt_of_lt_of_eq t.isLt N_0
  have s := Pipeline.eq_sum_fin_of_reset_step_of_flush (fun n hn => ((outsAt0 m c n hn).2 (ix2 a b) : EReal)) 8 0
    (fun t => tile (iblk m c 1 t) (iblk m c 0 t) a b) (fun t h0 => (stepA t h0 (by omega) a b).trans (zero_add _).symm)
    (fun t h0 => by
      by_cases h1 : t.val % 8 = 7
      · exact stepC t h0 h1 a b
      · exact stepB t h0 h1 a b) t h1
  refine s.trans ?_
  rw [zero_add, ← Fin.sum_mul_add_fin 8 512 (fun n : Fin 4096 => (z m c (ix2 n a) : EReal) * dy m c (ix2 n b))]
  refine Finset.sum_congr rfl fun q _ => Finset.sum_congr rfl fun k _ => congrArg₂ (fun p q : EReal => p * q) ?_ ?_
  · exact z_at _ _ _ _ (by simp only []; omega)
  · exact dy_at _ _ _ _ (by simp only []; omega)

theorem arr : (dats m 0 c).arrAt 2 cfg0.N
    = fun y : S2816x1024.Idx => ∑ n : Fin 4096, (z m c (ix2 n (y 0)) : EReal) * dy m c (ix2 n (y 1)) := by
  refine (dats m 0 c).arrAt_eq_of_covers 2 _ (by decide +kernel) fun t hf y => ?_
  idx_vars y
  have hN : t.val < 8 := lt_of_lt_of_eq t.isLt N_0
  have h7 : t.val % 8 = 7 := (by decide +kernel : ∀ t : Fin cfg0.N, (cfg0.win 2).flush t = true → t.val % 8 = 7) t hf
  blk_simp
  have e0 : (win0_2.blk t).view.emb (ix2 y0 y1) 0 = y0 := by
    apply Fin.ext
    blk_simp [idx t]
  have e1 : (win0_2.blk t).view.emb (ix2 y0 y1) 1 = y1 := by
    apply Fin.ext
    blk_simp [idx t]
  rw [after0_2, e0, e1]
  exact (outC t (by omega) h7 y0 y1).trans (sum_at t h7 y0 y1)

end Cert.Kernel7Ideal.Val
end
-- ==== Proof.OutGradValue.lean ====
module

public import proofs.«01_k».proof.Defs
public import proofs.«01_k».proof.Proof.OutGrad
public import proofs.«01_k».proof.Proof.Gen.Reference7Ideal.Run

@[expose] public section

set_option maxRecDepth 16384

/-!
The gradient of the feed-forward's output weights: the kernel's array is the reference's.
-/

noncomputable section
open Idealize.ShloMosaic Idealize.ShloMosaic.TcCoe Idealize.SL.Sem
namespace Cert.Kernel7Ideal.Val

/-- The reference's array, entry by entry. -/
theorem ref_at (x : FVec Ideal Reference7Ideal.S4096x2816 .bf16) (g : FVec Ideal Reference7Ideal.S4096x1024 .bf16) (a : Fin 2816) (b : Fin 1024)
    (hb : FTy.bits .bf16 < FTy.bits .f32) (h1 : Reference7Ideal.S1024x2816.Transposes [1, 0] Reference7Ideal.S2816x1024) :
    (truncf .bf16 (transpose Reference7Ideal.S2816x1024 [1, 0]
      (Host.dotGeneral (φ₁ := .f32) (φ₂ := .f32) Reference7Ideal.dot_S4096x1024_S4096x2816_S1024x2816_0_0_1_1_n_n none
        (extf .f32 g hb) (extf .f32 x hb)) h1) hb (ix2 a b) : EReal) = ∑ n : Fin 4096, (x (ix2 n a) : EReal) * g (ix2 n b) := by
  pointwise
  exact Finset.sum_congr rfl fun n _ => mul_comm (G := EReal) _ _

/-- The gradient. -/
def dw (x : FVec Ideal S4096x2816 .bf16) (g : FVec Ideal S4096x1024 .bf16) : FVec Ideal S2816x1024 .bf16 :=
  fun y => (∑ n : Fin 4096, (x (ix2 n (y 0)) : EReal) * g (ix2 n (y 1)) : EReal)

theorem value : Cert.algebraic_Kernel7Ideal_Reference7Ideal := by
  intro m ρ m' ρ' _ hagree
  refine ⟨fun c => dw (z m c) (dy m c), ?_, ?_⟩
  · refine (θ_run (defs (F := Ideal)) _ _).mono (fun r h c => ?_) (Cert.Kernel7Ideal.Value.run_blocks m ρ)
    exact ⟨(h c).1.trans arr, (h c).2⟩
  · refine (θ_run (Reference7Ideal.defs (F := Ideal)) _ _).mono (fun r h c => ?_) (Reference7Ideal.Value.run m' ρ')
    obtain ⟨e0, e1⟩ := hagree c
    refine ⟨(h c).1.trans ?_, (h c).2⟩
    rw [e0, e1]
    funext y
    idx_vars y
    exact ref_at _ _ _ _ _ _

end Cert.Kernel7Ideal.Val
end
-- ==== Proof.TokenSum.lean ====
module

public import proofs.«01_k».proof.Proof.Common

@[expose] public section

/-!
A sum over the 4096 tokens, accumulated in eight tiles of 512.
-/

noncomputable section
open Idealize.ShloMosaic

namespace Cert.Common

/-- Token `k` of tile `t`. -/
def tok {N : ℕ} (hN : N = 8) (t : Fin N) (k : Fin 512) : Fin 4096 := ⟨t.val * 512 + k, by omega⟩

/-- An accumulator that starts at the first tile's sum and grows by each tile's holds the whole sum at the last. -/
theorem sum_tokens {N : ℕ} (hN : N = 8) (acc : (n : ℕ) → n < N → EReal) (p : Fin 4096 → EReal)
    (first : ∀ t : Fin N, t.val % 8 = 0 → acc t.val t.isLt = ∑ k, p (tok hN t k))
    (next : ∀ t : Fin N, ¬ t.val % 8 = 0 → acc t.val t.isLt = acc (t.val - 1) (by omega) + ∑ k, p (tok hN t k))
    (t : Fin N) (h7 : t.val % 8 = 7) : acc t.val t.isLt = ∑ n, p n := by
  have hN' : t.val < 8 := by omega
  have s := Pipeline.eq_sum_fin_of_reset_step_of_flush acc 8 0 (fun t => ∑ k, p (tok hN t k))
    (fun t h0 => (first t h0).trans (zero_add _).symm) (fun t h0 => next t h0) t h7
  refine s.trans ?_
  rw [zero_add, ← Fin.sum_mul_add_fin 8 512 p]
  refine Finset.sum_congr rfl fun q _ => Finset.sum_congr rfl fun k _ => congrArg p (Fin.ext ?_)
  simp only [tok]
  omega

end Cert.Common
end
-- ==== Proof.MixGrad.lean ====
module

public import proofs.«01_k».proof.Proof.Gen.Kernel8Ideal.Value
public import proofs.«01_k».proof.Proof.TokenSum

@[expose] public section

set_option maxRecDepth 16384

/-!
The gradients of the mixer's three output-side weights: the kernel adds up, over eight tiles of 512 tokens, the products of
each weight's input and the gradient of its output.
-/

noncomputable section
open Idealize.ShloMosaic Idealize.ShloMosaic.TcCoe Idealize.SL.Sem
open Idealize.ShloMosaic.Pipeline (Dat)
namespace Cert.Kernel8Ideal.Val
open Cert.Common Cert.Kernel8Ideal Cert.Kernel8Ideal.Gen

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

variable {m : (ℓ : Loc nD τ sig) → Buf (Elt Ideal) ℓ} {c : Dev nD}

/-- The arrays of the arguments. -/
abbrev merged (m : (ℓ : Loc nD τ sig) → Buf (Elt Ideal) ℓ) (c : Dev nD) : FVec Ideal S4096x1024 .bf16 := m ((c : Thread nD τ).loc main_arg0)
abbrev dmix (m : (ℓ : Loc nD τ sig) → Buf (Elt Ideal) ℓ) (c : Dev nD) : FVec Ideal S4096x1024 .bf16 := m ((c : Thread nD τ).loc main_arg1)
abbrev yg (m : (ℓ : Loc nD τ sig) → Buf (Elt Ideal) ℓ) (c : Dev nD) : FVec Ideal S4096x1024 .bf16 := m ((c : Thread nD τ).loc main_arg2)
abbrev dt1 (m : (ℓ : Loc nD τ sig) → Buf (Elt Ideal) ℓ) (c : Dev nD) : FVec Ideal S4096x1024 .bf16 := m ((c : Thread nD τ).loc main_arg3)
abbrev ys (m : (ℓ : Loc nD τ sig) → Buf (Elt Ideal) ℓ) (c : Dev nD) : FVec Ideal S4096x1024 .bf16 := m ((c : Thread nD τ).loc main_arg4)
abbrev dt2 (m : (ℓ : Loc nD τ sig) → Buf (Elt Ideal) ℓ) (c : Dev nD) : FVec Ideal S4096x1024 .bf16 := m ((c : Thread nD τ).loc main_arg5)

theorem merged_at (t : Fin cfg0.N) (k : Fin 512) (j : Fin 1024) : (iblk m c 0 t : Vec Ideal S512x1024 .bf16) (ix2 k j) = merged m c (ix2 (tok N_0 t k) j) := by
  blk_ext [iblk, V, idx t, tok]
theorem dmix_at (t : Fin cfg0.N) (k : Fin 512) (j : Fin 1024) : (iblk m c 1 t : Vec Ideal S512x1024 .bf16) (ix2 k j) = dmix m c (ix2 (tok N_0 t k) j) := by
  blk_ext [iblk, V, idx t, tok]
theorem yg_at (t : Fin cfg0.N) (k : Fin 512) (j : Fin 1024) : (iblk m c 2 t : Vec Ideal S512x1024 .bf16) (ix2 k j) = yg m c (ix2 (tok N_0 t k) j) := by
  blk_ext [iblk, V, idx t, tok]
theorem dt1_at (t : Fin cfg0.N) (k : Fin 512) (j : Fin 1024) : (iblk m c 3 t : Vec Ideal S512x1024 .bf16) (ix2 k j) = dt1 m c (ix2 (tok N_0 t k) j) := by
  blk_ext [iblk, V, idx t, tok]
theorem ys_at (t : Fin cfg0.N) (k : Fin 512) (j : Fin 1024) : (iblk m c 4 t : Vec Ideal S512x1024 .bf16) (ix2 k j) = ys m c (ix2 (tok N_0 t k) j) := by
  blk_ext [iblk, V, idx t, tok]
theorem dt2_at (t : Fin cfg0.N) (k : Fin 512) (j : Fin 1024) : (iblk m c 5 t : Vec Ideal S512x1024 .bf16) (ix2 k j) = dt2 m c (ix2 (tok N_0 t k) j) := by
  blk_ext [iblk, V, idx t, tok]

/-- The product of two arrays over the tokens. -/
def prod (x : FVec Ideal S4096x1024 .bf16) (y : FVec Ideal S4096x1024 .bf16) (a : Fin 1024) (b : Fin 1024) : EReal :=
  ∑ n : Fin 4096, (x (ix2 n a) : EReal) * y (ix2 n b)

/-- A tile's part of it. -/
def part (x : FVec Ideal S4096x1024 .bf16) (y : FVec Ideal S4096x1024 .bf16) (t : Fin cfg0.N) (a : Fin 1024) (b : Fin 1024) : EReal :=
  ∑ k : Fin 512, (x (ix2 (tok N_0 t k) a) : EReal) * y (ix2 (tok N_0 t k) b)

theorem part_val (t : Fin cfg0.N) (X : FVec Ideal S512x1024 .bf16) (Y : FVec Ideal S512x1024 .bf16) (x : FVec Ideal S4096x1024 .bf16)
    (y : FVec Ideal S4096x1024 .bf16) (hX : ∀ k j, X (ix2 k j) = x (ix2 (tok N_0 t k) j)) (hY : ∀ k j, Y (ix2 k j) = y (ix2 (tok N_0 t k) j))
    (a a' : Fin 1024) (b b' : Fin 1024) (ha : (a : ℕ) = a') (hb : (b : ℕ) = b') :
    ∑ k : Fin 512, (X (ix2 k a') : EReal) * Y (ix2 k b') = part x y t a b := by
  rw [show a = a' from Fin.ext ha, show b = b' from Fin.ext hb]
  exact Finset.sum_congr rfl fun k _ => congrArg₂ (fun p q : EReal => p * q) (hX k _) (hY k _)

theorem stepA (t : Fin cfg0.N) (h0 : t.val % 8 = 0) (h1 : ¬ t.val % 8 = 7) (a : Fin 1024) (b : Fin 1024) :
    ((outsAt0 m c t.val t.isLt).2.2.2.1 (ix2 a b) : EReal) = part (merged m c) (dmix m c) t a b
    ∧ ((outsAt0 m c t.val t.isLt).2.2.2.2.1 (ix2 a b) : EReal) = part (yg m c) (dt1 m c) t a b
    ∧ ((outsAt0 m c t.val t.isLt).2.2.2.2.2 (ix2 a b) : EReal) = part (ys m c) (dt2 m c) t a b := by
  rw [outsAt0_A m c t h0 h1]
  refine ⟨?_, ?_, ?_⟩
  all_goals
    frame_open
    try simp (disch := decide) only [↓ View.readCov_skip, ↓ View.readCov_cons_toLoadRect, ↓ View.readCov_fill]
    frame_out
    pointwise [k0_pay1, k0_pay2, k0_pay3, k0_pay4, k0_pay5, k0_pay6, k0_pay7, k0_pay8, k0_pay9]
  · exact part_val t (iblk m c 0 t) (iblk m c 1 t) (merged m c) (dmix m c) (merged_at t) (dmix_at t) a a b b rfl rfl
  · exact part_val t (iblk m c 2 t) (iblk m c 3 t) (yg m c) (dt1 m c) (yg_at t) (dt1_at t) a a b b rfl rfl
  · exact part_val t (iblk m c 4 t) (iblk m c 5 t) (ys m c) (dt2 m c) (ys_at t) (dt2_at t) a a b b rfl rfl

theorem stepB (t : Fin cfg0.N) (h0 : ¬ t.val % 8 = 0) (h1 : ¬ t.val % 8 = 7) (a : Fin 1024) (b : Fin 1024) :
    ((outsAt0 m c t.val t.isLt).2.2.2.1 (ix2 a b) : EReal) = (outsAt0 m c (t.val - 1) (by omega)).2.2.2.1 (ix2 a b) + part (merged m c) (dmix m c) t a b
    ∧ ((outsAt0 m c t.val t.isLt).2.2.2.2.1 (ix2 a b) : EReal) = (outsAt0 m c (t.val - 1) (by omega)).2.2.2.2.1 (ix2 a b) + part (yg m c) (dt1 m c) t a b
    ∧ ((outsAt0 m c t.val t.isLt).2.2.2.2.2 (ix2 a b) : EReal) = (outsAt0 m c (t.val - 1) (by omega)).2.2.2.2.2 (ix2 a b) + part (ys m c) (dt2 m c) t a b := by
  rw [outsAt0_B m c t h0 h1]
  refine ⟨?_, ?_, ?_⟩
  all_goals
    frame_open
    try simp (disch := decide) only [↓ View.readCov_skip, ↓ View.readCov_cons_toLoadRect, ↓ View.readCov_fill]
    frame_out
    pointwise [k0_pay1, k0_pay2, k0_pay3, k0_pay4, k0_pay5, k0_pay6, k0_pay7, k0_pay8, k0_pay9]
  · exact congrArg₂ (fun p q : EReal => p + q) (congrFun (Memref.IsWhole.read_unread _ _) _) (part_val t (iblk m c 0 t) (iblk m c 1 t) (merged m c) (dmix m c) (merged_at t) (dmix_at t) a a b b rfl rfl)
  · exact congrArg₂ (fun p q : EReal => p + q) (congrFun (Memref.IsWhole.read_unread _ _) _) (part_val t (iblk m c 2 t) (iblk m c 3 t) (yg m c) (dt1 m c) (yg_at t) (dt1_at t) a a b b rfl rfl)
  · exact congrArg₂ (fun p q : EReal => p + q) (congrFun (Memref.IsWhole.read_unread _ _) _) (part_val t (iblk m c 4 t) (iblk m c 5 t) (ys m c) (dt2 m c) (ys_at t) (dt2_at t) a a b b rfl rfl)

theorem stepC (t : Fin cfg0.N) (h0 : ¬ t.val % 8 = 0) (h1 : t.val % 8 = 7) (a : Fin 1024) (b : Fin 1024) :
    ((outsAt0 m c t.val t.isLt).2.2.2.1 (ix2 a b) : EReal) = (outsAt0 m c (t.val - 1) (by omega)).2.2.2.1 (ix2 a b) + part (merged m c) (dmix m c) t a b
    ∧ ((outsAt0 m c t.val t.isLt).2.2.2.2.1 (ix2 a b) : EReal) = (outsAt0 m c (t.val - 1) (by omega)).2.2.2.2.1 (ix2 a b) + part (yg m c) (dt1 m c) t a b
    ∧ ((outsAt0 m c t.val t.isLt).2.2.2.2.2 (ix2 a b) : EReal) = (outsAt0 m c (t.val - 1) (by omega)).2.2.2.2.2 (ix2 a b) + part (ys m c) (dt2 m c) t a b := by
  rw [outsAt0_C m c t h0 h1]
  refine ⟨?_, ?_, ?_⟩
  all_goals
    frame_open
    try simp (disch := decide) only [↓ View.readCov_skip, ↓ View.readCov_cons_toLoadRect, ↓ View.readCov_fill]
    frame_out
    pointwise [k0_pay1, k0_pay2, k0_pay3, k0_pay4, k0_pay5, k0_pay6, k0_pay7, k0_pay8, k0_pay9]
  · exact congrArg₂ (fun p q : EReal => p + q) (congrFun (Memref.IsWhole.read_unread _ _) _) (part_val t (iblk m c 0 t) (iblk m c 1 t) (merged m c) (dmix m c) (merged_at t) (dmix_at t) a a b b rfl rfl)
  · exact congrArg₂ (fun p q : EReal => p + q) (congrFun (Memref.IsWhole.read_unread _ _) _) (part_val t (iblk m c 2 t) (iblk m c 3 t) (yg m c) (dt1 m c) (yg_at t) (dt1_at t) a a b b rfl rfl)
  · exact congrArg₂ (fun p q : EReal => p + q) (congrFun (Memref.IsWhole.read_unread _ _) _) (part_val t (iblk m c 4 t) (iblk m c 5 t) (ys m c) (dt2 m c) (ys_at t) (dt2_at t) a a b b rfl rfl)

theorem outC (t : Fin cfg0.N) (h0 : ¬ t.val % 8 = 0) (h1 : t.val % 8 = 7) (a : Fin 1024) (b : Fin 1024) :
    ((outsAt0 m c t.val t.isLt).1 (ix2 a b) : EReal) = (outsAt0 m c t.val t.isLt).2.2.2.1 (ix2 a b)
    ∧ ((outsAt0 m c t.val t.isLt).2.1 (ix2 a b) : EReal) = (outsAt0 m c t.val t.isLt).2.2.2.2.1 (ix2 a b)
    ∧ ((outsAt0 m c t.val t.isLt).2.2.1 (ix2 a b) : EReal) = (outsAt0 m c t.val t.isLt).2.2.2.2.2 (ix2 a b) := by
  rw [outsAt0_C m c t h0 h1]
  refine ⟨?_, ?_, ?_⟩
  all_goals
    frame_open
    try simp (disch := decide) only [↓ View.readCov_skip, ↓ View.readCov_cons_toLoadRect, ↓ View.readCov_fill]
    frame_out
    pointwise [k0_pay1, k0_pay2, k0_pay3, k0_pay4, k0_pay5, k0_pay6, k0_pay7, k0_pay8, k0_pay9]

theorem sum_out (t : Fin cfg0.N) (h7 : t.val % 8 = 7) (a : Fin 1024) (b : Fin 1024) :
    ((outsAt0 m c t.val t.isLt).2.2.2.1 (ix2 a b) : EReal) = prod (merged m c) (dmix m c) a b :=
  sum_tokens N_0 (fun n hn => (outsAt0 m c n hn).2.2.2.1 (ix2 a b)) (fun n => (merged m c (ix2 n a) : EReal) * dmix m c (ix2 n b))
    (fun t h0 => (stepA t h0 (by omega) a b).1)
    (fun t h0 => by
      by_cases h1 : t.val % 8 = 7
      · exact (stepC t h0 h1 a b).1
      · exact (stepB t h0 h1 a b).1) t h7
theorem sum_gla (t : Fin cfg0.N) (h7 : t.val % 8 = 7) (a : Fin 1024) (b : Fin 1024) :
    ((outsAt0 m c t.val t.isLt).2.2.2.2.1 (ix2 a b) : EReal) = prod (yg m c) (dt1 m c) a b :=
  sum_tokens N_0 (fun n hn => (outsAt0 m c n hn).2.2.2.2.1 (ix2 a b)) (fun n => (yg m c (ix2 n a) : EReal) * dt1 m c (ix2 n b))
    (fun t h0 => (stepA t h0 (by omega) a b).2.1)
    (fun t h0 => by
      by_cases h1 : t.val % 8 = 7
      · exact (stepC t h0 h1 a b).2.1
      · exact (stepB t h0 h1 a b).2.1) t h7
theorem sum_sgu (t : Fin cfg0.N) (h7 : t.val % 8 = 7) (a : Fin 1024) (b : Fin 1024) :
    ((outsAt0 m c t.val t.isLt).2.2.2.2.2 (ix2 a b) : EReal) = prod (ys m c) (dt2 m c) a b :=
  sum_tokens N_0 (fun n hn => (outsAt0 m c n hn).2.2.2.2.2 (ix2 a b)) (fun n => (ys m c (ix2 n a) : EReal) * dt2 m c (ix2 n b))
    (fun t h0 => (stepA t h0 (by omega) a b).2.2)
    (fun t h0 => by
      by_cases h1 : t.val % 8 = 7
      · exact (stepC t h0 h1 a b).2.2
      · exact (stepB t h0 h1 a b).2.2) t h7

theorem arr_out : (dats m 0 c).arrAt 6 cfg0.N = fun y : S1024x1024.Idx => prod (merged m c) (dmix m c) (y 0) (y 1) := by
  refine (dats m 0 c).arrAt_eq_of_covers 6 _ (by decide +kernel) fun t hf y => ?_
  idx_vars y
  have h7 : t.val % 8 = 7 := (by decide +kernel : ∀ t : Fin cfg0.N, (cfg0.win 6).flush t = true → t.val % 8 = 7) t hf
  blk_simp
  have e0 : (win0_6.blk t).view.emb (ix2 y0 y1) 0 = y0 := by
    apply Fin.ext
    blk_simp [idx t]
  have e1 : (win0_6.blk t).view.emb (ix2 y0 y1) 1 = y1 := by
    apply Fin.ext
    blk_simp [idx t]
  rw [after0_6, e0, e1]
  exact (outC t (by omega) h7 y0 y1).1.trans (sum_out t h7 y0 y1)

theorem arr_gla : (dats m 0 c).arrAt 7 cfg0.N = fun y : S1024x1024.Idx => prod (yg m c) (dt1 m c) (y 0) (y 1) := by
  refine (dats m 0 c).arrAt_eq_of_covers 7 _ (by decide +kernel) fun t hf y => ?_
  idx_vars y
  have h7 : t.val % 8 = 7 := (by decide +kernel : ∀ t : Fin cfg0.N, (cfg0.win 7).flush t = true → t.val % 8 = 7) t hf
  blk_simp
  have e0 : (win0_7.blk t).view.emb (ix2 y0 y1) 0 = y0 := by
    apply Fin.ext
    blk_simp [idx t]
  have e1 : (win0_7.blk t).view.emb (ix2 y0 y1) 1 = y1 := by
    apply Fin.ext
    blk_simp [idx t]
  rw [after0_7, e0, e1]
  exact (outC t (by omega) h7 y0 y1).2.1.trans (sum_gla t h7 y0 y1)

theorem arr_sgu : (dats m 0 c).arrAt 8 cfg0.N = fun y : S1024x1024.Idx => prod (ys m c) (dt2 m c) (y 0) (y 1) := by
  refine (dats m 0 c).arrAt_eq_of_covers 8 _ (by decide +kernel) fun t hf y => ?_
  idx_vars y
  have h7 : t.val % 8 = 7 := (by decide +kernel : ∀ t : Fin cfg0.N, (cfg0.win 8).flush t = true → t.val % 8 = 7) t hf
  blk_simp
  have e0 : (win0_8.blk t).view.emb (ix2 y0 y1) 0 = y0 := by
    apply Fin.ext
    blk_simp [idx t]
  have e1 : (win0_8.blk t).view.emb (ix2 y0 y1) 1 = y1 := by
    apply Fin.ext
    blk_simp [idx t]
  rw [after0_8, e0, e1]
  exact (outC t (by omega) h7 y0 y1).2.2.trans (sum_sgu t h7 y0 y1)

end Cert.Kernel8Ideal.Val
end
-- ==== Proof.MixGradValue.lean ====
module

public import proofs.«01_k».proof.Defs
public import proofs.«01_k».proof.Proof.MixGrad
public import proofs.«01_k».proof.Proof.Gen.Reference8Ideal.Run

@[expose] public section

set_option maxRecDepth 16384

/-!
The gradients of the mixer's weights: the kernel's arrays are the reference's.
-/

noncomputable section
open Idealize.ShloMosaic Idealize.ShloMosaic.TcCoe Idealize.SL.Sem
namespace Cert.Kernel8Ideal.Val

/-- A reference's array, entry by entry. -/
theorem ref_at (x : FVec Ideal Reference8Ideal.S4096x1024 .bf16) (g : FVec Ideal Reference8Ideal.S4096x1024 .bf16) (a : Fin 1024) (b : Fin 1024)
    (hb : FTy.bits .bf16 < FTy.bits .f32) (h1 : Reference8Ideal.S1024x1024.Transposes [1, 0] Reference8Ideal.S1024x1024) :
    (truncf .bf16 (transpose Reference8Ideal.S1024x1024 [1, 0]
      (Host.dotGeneral (φ₁ := .f32) (φ₂ := .f32) Reference8Ideal.dot_S4096x1024_S4096x1024_S1024x1024_0_0_1_1_n_n none
        (extf .f32 g hb) (extf .f32 x hb)) h1) hb (ix2 a b) : EReal) = prod x g a b := by
  pointwise
  exact Finset.sum_congr rfl fun n _ => mul_comm (G := EReal) _ _

/-- A gradient. -/
def dw (x : FVec Ideal S4096x1024 .bf16) (g : FVec Ideal S4096x1024 .bf16) : FVec Ideal S1024x1024 .bf16 := fun y => prod x g (y 0) (y 1)

theorem value : Cert.algebraic_Kernel8Ideal_Reference8Ideal := by
  intro m ρ m' ρ' _ hagree
  refine ⟨fun c => dw (merged m c) (dmix m c), fun c => dw (yg m c) (dt1 m c), fun c => dw (ys m c) (dt2 m c), ?_, ?_⟩
  · refine (θ_run (defs (F := Ideal)) _ _).mono (fun r h c => ?_) (Cert.Kernel8Ideal.Value.run_blocks m ρ)
    exact ⟨(h c).1.trans arr_out, (h c).2.1.trans arr_gla, (h c).2.2.1.trans arr_sgu, (h c).2.2.2⟩
  · refine (θ_run (Reference8Ideal.defs (F := Ideal)) _ _).mono (fun r h c => ?_) (Reference8Ideal.Value.run m' ρ')
    obtain ⟨e0, e1, e2, e3, e4, e5⟩ := hagree c
    refine ⟨(h c).1.trans ?_, (h c).2.1.trans ?_, (h c).2.2.1.trans ?_, (h c).2.2.2⟩
    · rw [e0, e1]
      funext y
      idx_vars y
      exact ref_at _ _ _ _ _ _
    · rw [e2, e3]
      funext y
      idx_vars y
      exact ref_at _ _ _ _ _ _
    · rw [e4, e5]
      funext y
      idx_vars y
      exact ref_at _ _ _ _ _ _

end Cert.Kernel8Ideal.Val
end
-- ==== Proof.SguGrad.lean ====
module

public import proofs.«01_k».proof.Proof.Gen.Kernel9Ideal.Value
public import proofs.«01_k».proof.Proof.TokenSum

@[expose] public section

set_option maxRecDepth 16384

/-!
The gradients of two blocks of the input weights: the kernel adds up, over eight tiles of 512 tokens, the products of the
gradients and the normalised input.
-/

noncomputable section
open Idealize.ShloMosaic Idealize.ShloMosaic.TcCoe Idealize.SL.Sem
open Idealize.ShloMosaic.Pipeline (Dat)
namespace Cert.Kernel9Ideal.Val
open Cert.Common Cert.Kernel9Ideal Cert.Kernel9Ideal.Gen

theorem idx : ∀ t : Fin cfg0.N, win0_0.index t = ![t.val, 0] ∧ win0_1.index t = ![t.val, 0] ∧ win0_2.index t = ![t.val, 0]
    ∧ win0_3.index t = ![0, 0] ∧ win0_4.index t = ![0, 0] :=
  (by decide +kernel : ∀ t : Fin grid0.N, _)

variable {m : (ℓ : Loc nD τ sig) → Buf (Elt Ideal) ℓ} {c : Dev nD}

/-- The arrays of the arguments. -/
abbrev act (m : (ℓ : Loc nD τ sig) → Buf (Elt Ideal) ℓ) (c : Dev nD) : FVec Ideal S4096x1024 .bf16 := m ((c : Thread nD τ).loc main_arg0)
abbrev dps (m : (ℓ : Loc nD τ sig) → Buf (Elt Ideal) ℓ) (c : Dev nD) : FVec Ideal S4096x2048 .bf16 := m ((c : Thread nD τ).loc main_arg1)
abbrev dpg (m : (ℓ : Loc nD τ sig) → Buf (Elt Ideal) ℓ) (c : Dev nD) : FVec Ideal S4096x2048 .bf16 := m ((c : Thread nD τ).loc main_arg2)

theorem act_at (t : Fin cfg0.N) (k : Fin 512) (j : Fin 1024) : (iblk m c 0 t : Vec Ideal S512x1024 .bf16) (ix2 k j) = act m c (ix2 (tok N_0 t k) j) := by
  blk_ext [iblk, V, idx t, tok]
theorem dps_at (t : Fin cfg0.N) (k : Fin 512) (j : Fin 2048) : (iblk m c 1 t : Vec Ideal S512x2048 .bf16) (ix2 k j) = dps m c (ix2 (tok N_0 t k) j) := by
  blk_ext [iblk, V, idx t, tok]
theorem dpg_at (t : Fin cfg0.N) (k : Fin 512) (j : Fin 2048) : (iblk m c 2 t : Vec Ideal S512x2048 .bf16) (ix2 k j) = dpg m c (ix2 (tok N_0 t k) j) := by
  blk_ext [iblk, V, idx t, tok]

/-- The product of two arrays over the tokens. -/
def prod (x : FVec Ideal S4096x2048 .bf16) (y : FVec Ideal S4096x1024 .bf16) (a : Fin 2048) (b : Fin 1024) : EReal :=
  ∑ n : Fin 4096, (x (ix2 n a) : EReal) * y (ix2 n b)

/-- A tile's part of it. -/
def part (x : FVec Ideal S4096x2048 .bf16) (y : FVec Ideal S4096x1024 .bf16) (t : Fin cfg0.N) (a : Fin 2048) (b : Fin 1024) : EReal :=
  ∑ k : Fin 512, (x (ix2 (tok N_0 t k) a) : EReal) * y (ix2 (tok N_0 t k) b)

theorem part_val (t : Fin cfg0.N) (X : FVec Ideal S512x2048 .bf16) (Y : FVec Ideal S512x1024 .bf16) (x : FVec Ideal S4096x2048 .bf16)
    (y : FVec Ideal S4096x1024 .bf16) (hX : ∀ k j, X (ix2 k j) = x (ix2 (tok N_0 t k) j)) (hY : ∀ k j, Y (ix2 k j) = y (ix2 (tok N_0 t k) j))
    (a a' : Fin 2048) (b b' : Fin 1024) (ha : (a : ℕ) = a') (hb : (b : ℕ) = b') :
    ∑ k : Fin 512, (X (ix2 k a') : EReal) * Y (ix2 k b') = part x y t a b := by
  rw [show a = a' from Fin.ext ha, show b = b' from Fin.ext hb]
  exact Finset.sum_congr rfl fun k _ => congrArg₂ (fun p q : EReal => p * q) (hX k _) (hY k _)

set_option maxHeartbeats 1000000 in
theorem stepA (t : Fin cfg0.N) (h0 : t.val % 8 = 0) (h1 : ¬ t.val % 8 = 7) (a : Fin 2048) (b : Fin 1024) :
    ((outsAt0 m c t.val t.isLt).2.2.1 (ix2 a b) : EReal) = part (dps m c) (act m c) t a b
    ∧ ((outsAt0 m c t.val t.isLt).2.2.2 (ix2 a b) : EReal) = part (dpg m c) (act m c) t a b := by
  rw [outsAt0_A m c t h0 h1]
  refine ⟨?_, ?_⟩
  all_goals
    frame_open
    simp (disch := decide) only [↓ View.readCov_skip, ↓ View.readCov_cons_toLoadRect, ↓ View.readCov_fill]
    frame_out
    by_cases ha : a.val < 1024
  · refine (canon_of_read (Val := Elt Ideal) VS0_0 _ (Rect.unit ![0, 0] ![1024, 1024] inb_S2048x1024_S1024x1024_0_0) (ix2 ⟨a, ha⟩ b) _ (by idx_ext)).trans ?_
    simp (disch := decide) only [↓ View.readCov_skip, ↓ View.readCov_cons_toLoadRect, ↓ View.readCov_fill]
    pointwise [k0_pay1, k0_pay2, k0_pay3, k0_pay4, k0_pay5, k0_pay6, k0_pay7, k0_pay8]
    exact part_val t (iblk m c 1 t) (iblk m c 0 t) (dps m c) (act m c) (dps_at t) (act_at t) a a b b rfl rfl
  · refine (canon_of_read (Val := Elt Ideal) VS0_0 _ (Rect.unit ![1024, 0] ![1024, 1024] inb_S2048x1024_S1024x1024_1024_0) (ix2 ⟨a - 1024, by omega⟩ b) _ (by idx_ext)).trans ?_
    simp (disch := decide) only [↓ View.readCov_skip, ↓ View.readCov_cons_toLoadRect, ↓ View.readCov_fill]
    pointwise [k0_pay1, k0_pay2, k0_pay3, k0_pay4, k0_pay5, k0_pay6, k0_pay7, k0_pay8]
    exact part_val t (iblk m c 1 t) (iblk m c 0 t) (dps m c) (act m c) (dps_at t) (act_at t) a ⟨1024 + (a - 1024), by omega⟩ b b (Nat.add_sub_of_le (by omega : 1024 ≤ a.val)).symm rfl
  · refine (canon_of_read (Val := Elt Ideal) VS0_1 _ (Rect.unit ![0, 0] ![1024, 1024] inb_S2048x1024_S1024x1024_0_0) (ix2 ⟨a, ha⟩ b) _ (by idx_ext)).trans ?_
    simp (disch := decide) only [↓ View.readCov_skip, ↓ View.readCov_cons_toLoadRect, ↓ View.readCov_fill]
    pointwise [k0_pay1, k0_pay2, k0_pay3, k0_pay4, k0_pay5, k0_pay6, k0_pay7, k0_pay8]
    exact part_val t (iblk m c 2 t) (iblk m c 0 t) (dpg m c) (act m c) (dpg_at t) (act_at t) a a b b rfl rfl
  · refine (canon_of_read (Val := Elt Ideal) VS0_1 _ (Rect.unit ![1024, 0] ![1024, 1024] inb_S2048x1024_S1024x1024_1024_0) (ix2 ⟨a - 1024, by omega⟩ b) _ (by idx_ext)).trans ?_
    simp (disch := decide) only [↓ View.readCov_skip, ↓ View.readCov_cons_toLoadRect, ↓ View.readCov_fill]
    pointwise [k0_pay1, k0_pay2, k0_pay3, k0_pay4, k0_pay5, k0_pay6, k0_pay7, k0_pay8]
    exact part_val t (iblk m c 2 t) (iblk m c 0 t) (dpg m c) (act m c) (dpg_at t) (act_at t) a ⟨1024 + (a - 1024), by omega⟩ b b (Nat.add_sub_of_le (by omega : 1024 ≤ a.val)).symm rfl

theorem stepB (t : Fin cfg0.N) (h0 : ¬ t.val % 8 = 0) (h1 : ¬ t.val % 8 = 7) (a : Fin 2048) (b : Fin 1024) :
    ((outsAt0 m c t.val t.isLt).2.2.1 (ix2 a b) : EReal) = (outsAt0 m c (t.val - 1) (by omega)).2.2.1 (ix2 a b) + part (dps m c) (act m c) t a b
    ∧ ((outsAt0 m c t.val t.isLt).2.2.2 (ix2 a b) : EReal) = (outsAt0 m c (t.val - 1) (by omega)).2.2.2 (ix2 a b) + part (dpg m c) (act m c) t a b := by
  rw [outsAt0_B m c t h0 h1]
  refine ⟨?_, ?_⟩
  all_goals
    frame_open
    simp (disch := decide) only [↓ View.readCov_skip, ↓ View.readCov_cons_toLoadRect, ↓ View.readCov_fill]
    frame_out
    canon_tiles x h using (View.cover_of_tiledBy _ ![1024, 1024] (by sl_kernel_rfl) _)
  all_goals
    idx_vars x
    pointwise [k0_pay1, k0_pay2, k0_pay3, k0_pay4, k0_pay5, k0_pay6, k0_pay7, k0_pay8]
    refine congrArg₂ (fun p q : EReal => p + q) ((congrFun (Memref.IsWhole.read_unread _ _) _).trans
      (congrArg _ ((ix2_inj ..).2 ⟨Fin.ext h0.symm, Fin.ext h1.symm⟩))) ?_
  · exact part_val t (iblk m c 1 t) (iblk m c 0 t) (dps m c) (act m c) (dps_at t) (act_at t) a ⟨1024 + x0, by omega⟩ b x1 h0 h1
  · exact part_val t (iblk m c 1 t) (iblk m c 0 t) (dps m c) (act m c) (dps_at t) (act_at t) a ⟨x0, by omega⟩ b x1 h0 h1
  · exact part_val t (iblk m c 2 t) (iblk m c 0 t) (dpg m c) (act m c) (dpg_at t) (act_at t) a ⟨1024 + x0, by omega⟩ b x1 h0 h1
  · exact part_val t (iblk m c 2 t) (iblk m c 0 t) (dpg m c) (act m c) (dpg_at t) (act_at t) a ⟨x0, by omega⟩ b x1 h0 h1

theorem stepC (t : Fin cfg0.N) (h0 : ¬ t.val % 8 = 0) (h1 : t.val % 8 = 7) (a : Fin 2048) (b : Fin 1024) :
    ((outsAt0 m c t.val t.isLt).2.2.1 (ix2 a b) : EReal) = (outsAt0 m c (t.val - 1) (by omega)).2.2.1 (ix2 a b) + part (dps m c) (act m c) t a b
    ∧ ((outsAt0 m c t.val t.isLt).2.2.2 (ix2 a b) : EReal) = (outsAt0 m c (t.val - 1) (by omega)).2.2.2 (ix2 a b) + part (dpg m c) (act m c) t a b := by
  rw [outsAt0_C m c t h0 h1]
  refine ⟨?_, ?_⟩
  all_goals
    frame_open
    simp (disch := decide) only [↓ View.readCov_skip, ↓ View.readCov_cons_toLoadRect, ↓ View.readCov_fill]
    frame_out
    canon_tiles x h using (View.cover_of_tiledBy _ ![1024, 1024] (by sl_kernel_rfl) _)
  all_goals
    idx_vars x
    pointwise [k0_pay1, k0_pay2, k0_pay3, k0_pay4, k0_pay5, k0_pay6, k0_pay7, k0_pay8]
    refine congrArg₂ (fun p q : EReal => p + q) ((congrFun (Memref.IsWhole.read_unread _ _) _).trans
      (congrArg _ ((ix2_inj ..).2 ⟨Fin.ext h0.symm, Fin.ext h1.symm⟩))) ?_
  · exact part_val t (iblk m c 1 t) (iblk m c 0 t) (dps m c) (act m c) (dps_at t) (act_at t) a ⟨1024 + x0, by omega⟩ b x1 h0 h1
  · exact part_val t (iblk m c 1 t) (iblk m c 0 t) (dps m c) (act m c) (dps_at t) (act_at t) a ⟨x0, by omega⟩ b x1 h0 h1
  · exact part_val t (iblk m c 2 t) (iblk m c 0 t) (dpg m c) (act m c) (dpg_at t) (act_at t) a ⟨1024 + x0, by omega⟩ b x1 h0 h1
  · exact part_val t (iblk m c 2 t) (iblk m c 0 t) (dpg m c) (act m c) (dpg_at t) (act_at t) a ⟨x0, by omega⟩ b x1 h0 h1

theorem outC (t : Fin cfg0.N) (h0 : ¬ t.val % 8 = 0) (h1 : t.val % 8 = 7) (a : Fin 2048) (b : Fin 1024) :
    ((outsAt0 m c t.val t.isLt).1 (ix2 a b) : EReal) = (outsAt0 m c t.val t.isLt).2.2.1 (ix2 a b)
    ∧ ((outsAt0 m c t.val t.isLt).2.1 (ix2 a b) : EReal) = (outsAt0 m c t.val t.isLt).2.2.2 (ix2 a b) := by
  rw [outsAt0_C m c t h0 h1]
  refine ⟨?_, ?_⟩
  all_goals
    frame_open
    try simp (disch := decide) only [↓ View.readCov_skip, ↓ View.readCov_cons_toLoadRect, ↓ View.readCov_fill]
    frame_out
    rw [View.readCov_eq_canon']
    pointwise [k0_pay1, k0_pay2, k0_pay3, k0_pay4, k0_pay5, k0_pay6, k0_pay7, k0_pay8]

theorem sum_s (t : Fin cfg0.N) (h7 : t.val % 8 = 7) (a : Fin 2048) (b : Fin 1024) :
    ((outsAt0 m c t.val t.isLt).2.2.1 (ix2 a b) : EReal) = prod (dps m c) (act m c) a b :=
  sum_tokens N_0 (fun n hn => (outsAt0 m c n hn).2.2.1 (ix2 a b)) (fun n => (dps m c (ix2 n a) : EReal) * act m c (ix2 n b))
    (fun t h0 => (stepA t h0 (by omega) a b).1)
    (fun t h0 => by
      by_cases h1 : t.val % 8 = 7
      · exact (stepC t h0 h1 a b).1
      · exact (stepB t h0 h1 a b).1) t h7
theorem sum_g (t : Fin cfg0.N) (h7 : t.val % 8 = 7) (a : Fin 2048) (b : Fin 1024) :
    ((outsAt0 m c t.val t.isLt).2.2.2 (ix2 a b) : EReal) = prod (dpg m c) (act m c) a b :=
  sum_tokens N_0 (fun n hn => (outsAt0 m c n hn).2.2.2 (ix2 a b)) (fun n => (dpg m c (ix2 n a) : EReal) * act m c (ix2 n b))
    (fun t h0 => (stepA t h0 (by omega) a b).2)
    (fun t h0 => by
      by_cases h1 : t.val % 8 = 7
      · exact (stepC t h0 h1 a b).2
      · exact (stepB t h0 h1 a b).2) t h7

theorem arr_s : (dats m 0 c).arrAt 3 cfg0.N = fun y : S2048x1024.Idx => prod (dps m c) (act m c) (y 0) (y 1) := by
  refine (dats m 0 c).arrAt_eq_of_covers 3 _ (by decide +kernel) fun t hf y => ?_
  idx_vars y
  have h7 : t.val % 8 = 7 := (by decide +kernel : ∀ t : Fin cfg0.N, (cfg0.win 3).flush t = true → t.val % 8 = 7) t hf
  blk_simp
  have e0 : (win0_3.blk t).view.emb (ix2 y0 y1) 0 = y0 := by
    apply Fin.ext
    blk_simp [idx t]
  have e1 : (win0_3.blk t).view.emb (ix2 y0 y1) 1 = y1 := by
    apply Fin.ext
    blk_simp [idx t]
  rw [after0_3, e0, e1]
  exact (outC t (by omega) h7 y0 y1).1.trans (sum_s t h7 y0 y1)

theorem arr_g : (dats m 0 c).arrAt 4 cfg0.N = fun y : S2048x1024.Idx => prod (dpg m c) (act m c) (y 0) (y 1) := by
  refine (dats m 0 c).arrAt_eq_of_covers 4 _ (by decide +kernel) fun t hf y => ?_
  idx_vars y
  have h7 : t.val % 8 = 7 := (by decide +kernel : ∀ t : Fin cfg0.N, (cfg0.win 4).flush t = true → t.val % 8 = 7) t hf
  blk_simp
  have e0 : (win0_4.blk t).view.emb (ix2 y0 y1) 0 = y0 := by
    apply Fin.ext
    blk_simp [idx t]
  have e1 : (win0_4.blk t).view.emb (ix2 y0 y1) 1 = y1 := by
    apply Fin.ext
    blk_simp [idx t]
  rw [after0_4, e0, e1]
  exact (outC t (by omega) h7 y0 y1).2.trans (sum_g t h7 y0 y1)

end Cert.Kernel9Ideal.Val
end
-- ==== Proof.SguGradValue.lean ====
module

public import proofs.«01_k».proof.Defs
public import proofs.«01_k».proof.Proof.SguGrad
public import proofs.«01_k».proof.Proof.Gen.Reference9Ideal.Run

@[expose] public section

set_option maxRecDepth 16384

/-!
The gradients of two blocks of the input weights: the kernel's arrays are the reference's.
-/

noncomputable section
open Idealize.ShloMosaic Idealize.ShloMosaic.TcCoe Idealize.SL.Sem
namespace Cert.Kernel9Ideal.Val

/-- A reference's array, entry by entry. -/
theorem ref_at (x : FVec Ideal Reference9Ideal.S4096x2048 .bf16) (g : FVec Ideal Reference9Ideal.S4096x1024 .bf16) (a : Fin 2048) (b : Fin 1024)
    (hb : FTy.bits .bf16 < FTy.bits .f32) (h1 : Reference9Ideal.S2048x1024.Transposes [1, 0] Reference9Ideal.S1024x2048)
    (h2 : Reference9Ideal.S1024x2048.Transposes [1, 0] Reference9Ideal.S2048x1024) :
    (truncf .bf16 (transpose Reference9Ideal.S2048x1024 [1, 0] (transpose Reference9Ideal.S1024x2048 [1, 0]
      (Host.dotGeneral (φ₁ := .f32) (φ₂ := .f32) Reference9Ideal.dot_S4096x2048_S4096x1024_S2048x1024_0_0_1_1_n_n none
        (extf .f32 x hb) (extf .f32 g hb)) h1) h2) hb (ix2 a b) : EReal) = prod x g a b := by
  pointwise
  rfl

/-- A gradient. -/
def dw (x : FVec Ideal S4096x2048 .bf16) (g : FVec Ideal S4096x1024 .bf16) : FVec Ideal S2048x1024 .bf16 := fun y => prod x g (y 0) (y 1)

theorem value : Cert.algebraic_Kernel9Ideal_Reference9Ideal := by
  intro m ρ m' ρ' _ hagree
  refine ⟨fun c => dw (dps m c) (act m c), fun c => dw (dpg m c) (act m c), ?_, ?_⟩
  · refine (θ_run (defs (F := Ideal)) _ _).mono (fun r h c => ?_) (Cert.Kernel9Ideal.Value.run_blocks m ρ)
    exact ⟨(h c).1.trans arr_s, (h c).2.1.trans arr_g, (h c).2.2⟩
  · refine (θ_run (Reference9Ideal.defs (F := Ideal)) _ _).mono (fun r h c => ?_) (Reference9Ideal.Value.run m' ρ')
    obtain ⟨e0, e1, e2⟩ := hagree c
    refine ⟨(h c).1.trans ?_, (h c).2.1.trans ?_, (h c).2.2⟩
    · rw [e1, e0]
      funext y
      idx_vars y
      exact ref_at _ _ _ _ _ _ _
    · rw [e2, e0]
      funext y
      idx_vars y
      exact ref_at _ _ _ _ _ _ _

end Cert.Kernel9Ideal.Val
end
-- ==== Proof.OutLoss.lean ====
module

public import proofs.«01_k».proof.Proof.Gen.Kernel10Ideal.Value
public import proofs.«01_k».proof.Proof.Common
public import proofs.«01_k».proof.Proof.RmsNorm

@[expose] public section

set_option maxRecDepth 16384

/-!
The end of the step's forward half and the start of its backward half: the feed-forward's output, its norm, the loss and
its gradients. What the kernel leaves in its arrays.
-/

noncomputable section
open Idealize.ShloMosaic Idealize.ShloMosaic.TcCoe Idealize.SL.Sem
open Idealize.ShloMosaic.Pipeline (Dat)
namespace Cert.Kernel10Ideal.Val
open Cert.Common Cert.Kernel10Ideal Cert.Kernel10Ideal.Gen

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] :=
  (by decide +kernel : ∀ t : Fin grid0.N, _)

/-- The arguments as real numbers: the gated product, the output weights, the residual stream, the target and the scale of the
    norm. -/
structure Args where
  z : Fin 4096 → Fin 2816 → ℝ
  w : Fin 2816 → Fin 1024 → ℝ
  x1 : Fin 4096 → Fin 1024 → ℝ
  tg : Fin 4096 → Fin 1024 → ℝ
  g4 : Fin 1024 → ℝ

namespace Args
variable (A : Args)
/-- The feed-forward's output. -/
def y (n : Fin 4096) (k : Fin 1024) : ℝ := ∑ l, A.z n l * A.w l k
/-- The difference of the step's output and the target. -/
def err (n : Fin 4096) (k : Fin 1024) : ℝ := A.x1 n k + A.y n k * Rms.rr (A.y n) * A.g4 k - A.tg n k
/-- One token's part of the loss before the half, and the loss. -/
def lossp (n : Fin 4096) : ℝ := (∑ k, A.err n k * A.err n k) * (1 / 1024)
def loss : ℝ := 1 / 2 * ∑ n, A.lossp n
/-- The gradient of the step's output. -/
def dx2 (n : Fin 4096) (k : Fin 1024) : ℝ := A.err n k * (1 / 1024)
/-- The gradient of the feed-forward's output. -/
def dy (n : Fin 4096) (k : Fin 1024) : ℝ := Rms.dnorm (A.y n) (fun l => A.dx2 n l * A.g4 l) k
/-- One token's part of the gradient of the scale, and the gradient. -/
def dg4p (n : Fin 4096) (k : Fin 1024) : ℝ := Rms.dscale (A.y n) (A.dx2 n) k
def dg4 (k : Fin 1024) : ℝ := ∑ n, A.dg4p n k
end Args

variable {m : (ℓ : Loc nD τ sig) → Buf (Elt Ideal) ℓ} {c : Dev nD}

/-- The arrays of the arguments. -/
abbrev z (m : (ℓ : Loc nD τ sig) → Buf (Elt Ideal) ℓ) (c : Dev nD) : FVec Ideal S4096x2816 .bf16 := m ((c : Thread nD τ).loc main_arg0)
abbrev w (m : (ℓ : Loc nD τ sig) → Buf (Elt Ideal) ℓ) (c : Dev nD) : FVec Ideal S2816x1024 .f32 := m ((c : Thread nD τ).loc main_arg1)
abbrev x1 (m : (ℓ : Loc nD τ sig) → Buf (Elt Ideal) ℓ) (c : Dev nD) : FVec Ideal S4096x1024 .f32 := m ((c : Thread nD τ).loc main_arg2)
abbrev tg (m : (ℓ : Loc nD τ sig) → Buf (Elt Ideal) ℓ) (c : Dev nD) : FVec Ideal S4096x1024 .f32 := m ((c : Thread nD τ).loc main_arg3)
abbrev g4 (m : (ℓ : Loc nD τ sig) → Buf (Elt Ideal) ℓ) (c : Dev nD) : FVec Ideal S1024 .f32 := m ((c : Thread nD τ).loc main_arg4)

/-- The arrays hold the real numbers. -/
structure Holds (A : Args) (m : (ℓ : Loc nD τ sig) → Buf (Elt Ideal) ℓ) (c : Dev nD) : Prop where
  z : ∀ i k, z m c (ix2 i k) = ((A.z i k : ℝ) : EReal)
  w : ∀ i k, w m c (ix2 i k) = ((A.w i k : ℝ) : EReal)
  x1 : ∀ i k, x1 m c (ix2 i k) = ((A.x1 i k : ℝ) : EReal)
  tg : ∀ i k, tg m c (ix2 i k) = ((A.tg i k : ℝ) : EReal)
  g4 : ∀ k, g4 m c (ix1 k) = ((A.g4 k : ℝ) : EReal)

/-! ## The arrays the host prepares -/

theorem V_v0 : (V m c main_v0 : FVec Ideal S2816x1024 .bf16) = truncf .bf16 (w m c) bitsLt_bf16_f32 := by
  unfold_abbrev_sides
  try simp only [List.flatten_cons, List.flatten_nil, List.append_nil, List.cons_append, List.nil_append]
  after_results

theorem V_v1 : (V m c main_v1 : FVec Ideal S1x1024 .f32) = shapeCast S1x1024 (g4 m c) shapeCasts_S1024_S1x1024 := by
  unfold_abbrev_sides
  try simp only [List.flatten_cons, List.flatten_nil, List.append_nil, List.cons_append, List.nil_append]
  after_results
  rfl

/-- The tile's arrays, as real numbers; `r` are the tile's tokens. -/
structure Tile (A : Args) (r : Fin 512 → Fin 4096) (v0 : FVec Ideal S512x2816 .bf16) (v1 : FVec Ideal S2816x1024 .bf16) (v2 v3 : FVec Ideal S512x1024 .f32) (v4 : FVec Ideal S1x1024 .f32) : Prop where
  z : ∀ i k, v0 (ix2 i k) = ((A.z (r i) k : ℝ) : EReal)
  w : ∀ k j, v1 (ix2 k j) = ((A.w k j : ℝ) : EReal)
  x1 : ∀ i k, v2 (ix2 i k) = ((A.x1 (r i) k : ℝ) : EReal)
  tg : ∀ i k, v3 (ix2 i k) = ((A.tg (r i) k : ℝ) : EReal)
  g4 : ∀ k, v4 (ix2 0 k) = ((A.g4 k : ℝ) : EReal)

/-- The tokens of tile `t`. -/
def row (t : Fin cfg0.N) (i : Fin 512) : Fin 4096 := ⟨t.val * 512 + i, by have : t.val < 8 := lt_of_lt_of_eq t.isLt N_0; omega⟩

theorem tile {A : Args} (H : Holds A m c) (t : Fin cfg0.N) : Tile A (row t) (iblk m c 0 t) (iblk m c 1 t) (iblk m c 2 t) (iblk m c 3 t) (iblk m c 4 t) where
  z i k := by
    refine Eq.trans ?_ (H.z (row t i) k)
    blk_ext [iblk, V, idx t, row]
  w k j := by
    refine Eq.trans (b := (V m c main_v0 : FVec Ideal S2816x1024 .bf16) (ix2 k j)) (by blk_ext [iblk, idx t]) ?_
    rw [V_v0]
    pointwise
    exact H.w _ _
  x1 i k := by
    refine Eq.trans ?_ (H.x1 (row t i) k)
    blk_ext [iblk, V, idx t, row]
  tg i k := by
    refine Eq.trans ?_ (H.tg (row t i) k)
    blk_ext [iblk, V, idx t, row]
  g4 k := by
    refine Eq.trans (b := (V m c main_v1 : FVec Ideal S1x1024 .f32) (ix2 0 k)) (by blk_ext [iblk, idx t]) ?_
    rw [V_v1]
    pointwise
    exact H.g4 _

/-! ## What a tile computes -/

theorem w_inv : Ideal.ofBits .f32 0x3A800000#32 = ((1 / 1024 : ℝ) : EReal) := by
  simp [Ideal.ofBits, Ideal.ieee, -EReal.coe_mul]; norm_num

/-- The half of the sum of tokens' parts. -/
theorem half_sum {N : ℕ} (f : Fin N → ℝ) (p : Fin N → EReal) (hp : ∀ k, p k = ((f k : ℝ) : EReal)) :
    Ideal.ofBits .f32 0x3F000000#32 * ∑ k, p k = ((1 / 2 * ∑ k, f k : ℝ) : EReal) := by
  rw [Finset.sum_congr rfl (fun k _ => hp k), Sgu.coe_sum, Sgu.w_half, ← EReal.coe_mul]

section
variable {A : Args} {r : Fin 512 → Fin 4096} {v0 : FVec Ideal S512x2816 .bf16} {v1 : FVec Ideal S2816x1024 .bf16} {v2 v3 : FVec Ideal S512x1024 .f32} {v4 : FVec Ideal S1x1024 .f32} (T : Tile A r v0 v1 v2 v3 v4)
include T

theorem y_val (i : Fin 512) (j : Fin 1024) : (∑ q, (v0 (ix2 i q) : EReal) * v1 (ix2 q j)) = ((A.y (r i) j : ℝ) : EReal) :=
  (Finset.sum_congr rfl fun k _ => congrArg₂ (fun p q : EReal => p * q) (T.z i k) (T.w k j)).trans (coe_dot _ _)

theorem err_val (i : Fin 512) (j : Fin 1024) : ((v2 (ix2 i j) : EReal) + (∑ q, (v0 (ix2 i q) : EReal) * v1 (ix2 q j)) * Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32)
      * v4 (ix2 0 j) - v3 (ix2 i j)) = ((A.err (r i) j : ℝ) : EReal) := by
  refine (congrArg₂ (fun p q : EReal => p - q) (congrArg₂ (fun p q : EReal => p + q) (T.x1 i j) (congrArg₂ (fun p q : EReal => p * q)
    (Rms.coe_hat _ (A.y (r i)) (y_val T i) _ _ (y_val T i) j) (T.g4 j))) (T.tg i j)).trans ?_
  rw [← EReal.coe_mul, ← EReal.coe_add, ← EReal.coe_sub]
  rfl

theorem lossp_val (i : Fin 512) : Ideal.div (∑ l : Fin 1024, ((v2 (ix2 i l) : EReal) + (∑ q, (v0 (ix2 i q) : EReal) * v1 (ix2 q l)) * Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32)
      * v4 (ix2 0 l) - v3 (ix2 i l)) * ((v2 (ix2 i l) : EReal) + (∑ q, (v0 (ix2 i q) : EReal) * v1 (ix2 q l)) * Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32)
      * v4 (ix2 0 l) - v3 (ix2 i l))) (Ideal.ofBits .f32 0x44800000#32) = ((A.lossp (r i) : ℝ) : EReal) := by
  rw [Finset.sum_congr rfl (fun l _ => congrArg₂ (fun p q : EReal => p * q) (err_val T i l) (err_val T i l)), coe_dot, Rms.div_1024]
  rfl

theorem dx2_val (i : Fin 512) (j : Fin 1024) : (((v2 (ix2 i j) : EReal) + (∑ q, (v0 (ix2 i q) : EReal) * v1 (ix2 q j)) * Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32)
      * v4 (ix2 0 j) - v3 (ix2 i j)) * Ideal.ofBits .f32 0x3A800000#32) = ((A.dx2 (r i) j : ℝ) : EReal) := by
  rw [err_val T i j, w_inv, ← EReal.coe_mul]
  rfl

theorem dy_val (i : Fin 512) (j : Fin 1024) : Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32)
      * ((((v2 (ix2 i j) : EReal) + (∑ q, (v0 (ix2 i q) : EReal) * v1 (ix2 q j)) * Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32)
      * v4 (ix2 0 j) - v3 (ix2 i j)) * Ideal.ofBits .f32 0x3A800000#32) * v4 (ix2 0 j) - (∑ q, (v0 (ix2 i q) : EReal) * v1 (ix2 q j)) * Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32)
        * Ideal.div (∑ e : Fin 1024, (((v2 (ix2 i e) : EReal) + (∑ q, (v0 (ix2 i q) : EReal) * v1 (ix2 q e)) * Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32)
      * v4 (ix2 0 e) - v3 (ix2 i e)) * Ideal.ofBits .f32 0x3A800000#32) * v4 (ix2 0 e) * ((∑ q, (v0 (ix2 i q) : EReal) * v1 (ix2 q e)) * Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32))) (Ideal.ofBits .f32 0x44800000#32)) = ((A.dy (r i) j : ℝ) : EReal) :=
  Rms.kernel_val _ (A.y (r i)) (y_val T i) _ (fun l => A.dx2 (r i) l * A.g4 l)
    (fun l => (congrArg₂ (fun p q : EReal => p * q) (dx2_val T i l) (T.g4 l)).trans (EReal.coe_mul _ _).symm) j

theorem dg4p_val (i : Fin 512) (j : Fin 1024) : (((v2 (ix2 i j) : EReal) + (∑ q, (v0 (ix2 i q) : EReal) * v1 (ix2 q j)) * Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32)
      * v4 (ix2 0 j) - v3 (ix2 i j)) * Ideal.ofBits .f32 0x3A800000#32) * ((∑ q, (v0 (ix2 i q) : EReal) * v1 (ix2 q j)) * Ideal.rsqrt (Ideal.div (∑ k, (∑ q, (v0 (ix2 i q) : EReal) * v1 (ix2 q k)) * (∑ q, (v0 (ix2 i q) : EReal) * v1 (ix2 q k))) (Ideal.ofBits .f32 0x44800000#32) + Ideal.ofBits .f32 0x358637BD#32))
    = ((A.dg4p (r i) j : ℝ) : EReal) :=
  (congrArg₂ (fun p q : EReal => p * q) (dx2_val T i j) (Rms.coe_hat _ (A.y (r i)) (y_val T i) _ _ (y_val T i) j)).trans
    (EReal.coe_mul _ _).symm

omit T in
/-- A sum over a tile's rows from the sums over its two halves. -/
theorem halves (f : Fin 512 → ℝ) (p q : Fin 256 → EReal) (hp : ∀ k : Fin 256, p k = ((f ⟨k, by omega⟩ : ℝ) : EReal))
    (hq : ∀ k : Fin 256, q k = ((f ⟨256 + k, by omega⟩ : ℝ) : EReal)) : ∑ k, p k + ∑ k, q k = ((∑ i, f i : ℝ) : EReal) := by
  rw [Finset.sum_congr rfl (fun k _ => hp k), Finset.sum_congr rfl (fun k _ => hq k), Sgu.coe_sum, Sgu.coe_sum, ← EReal.coe_add,
    Fin.sum_univ_add (a := 256) (b := 256) f]
  rfl

omit T in
/-- The half of such a sum. -/
theorem halves_half (f : Fin 512 → ℝ) (p q : Fin 256 → EReal) (hp : ∀ k : Fin 256, p k = ((f ⟨k, by omega⟩ : ℝ) : EReal))
    (hq : ∀ k : Fin 256, q k = ((f ⟨256 + k, by omega⟩ : ℝ) : EReal)) :
    Ideal.ofBits .f32 0x3F000000#32 * ∑ k, p k + Ideal.ofBits .f32 0x3F000000#32 * ∑ k, q k = ((1 / 2 * ∑ i, f i : ℝ) : EReal) := by
  rw [half_sum _ p hp, half_sum _ q hq, ← EReal.coe_add, Fin.sum_univ_add (a := 256) (b := 256) f, ← mul_add]
  rfl
end

variable {A : Args} (H : Holds A m c)
include H

theorem dx2_block (t : Fin cfg0.N) (y0 : Fin 512) (y1 : Fin 1024) :
    ((outsAt0 m c t.val t.isLt).2.1 (ix2 y0 y1) : EReal) = ((A.dx2 (row t y0) y1 : ℝ) : EReal) := by
  have hN : t.val < 8 := lt_of_lt_of_eq t.isLt N_0
  by_cases h : t.val % 8 = 0
  on_goal 1 => rw [outsAt0_A m c t h (by omega) h (by omega)]
  on_goal 2 => rw [outsAt0_B m c t h (by omega) h (by omega)]
  all_goals
    frame_open
    frame_out
    canon_tiles x h using (View.cover_of_tiledBy _ ![256, 1024] (by sl_kernel_rfl) _)
    all_goals
      idx_vars x
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
      rw [show y1 = x1 from Fin.ext h1]
    · rw [show y0 = ⟨256 + x0, by omega⟩ from Fin.ext h0]
      exact dx2_val (tile H t) ⟨256 + x0, by omega⟩ x1
    · rw [show y0 = ⟨x0, by omega⟩ from Fin.ext h0]
      exact dx2_val (tile H t) ⟨x0, by omega⟩ x1

theorem dy_block (t : Fin cfg0.N) (y0 : Fin 512) (y1 : Fin 1024) :
    ((outsAt0 m c t.val t.isLt).2.2.1 (ix2 y0 y1) : EReal) = ((A.dy (row t y0) y1 : ℝ) : EReal) := by
  have hN : t.val < 8 := lt_of_lt_of_eq t.isLt N_0
  by_cases h : t.val % 8 = 0
  on_goal 1 => rw [outsAt0_A m c t h (by omega) h (by omega)]
  on_goal 2 => rw [outsAt0_B m c t h (by omega) h (by omega)]
  all_goals
    frame_open
    frame_out
    canon_tiles x h using (View.cover_of_tiledBy _ ![256, 1024] (by sl_kernel_rfl) _)
    all_goals
      idx_vars x
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
      rw [show y1 = x1 from Fin.ext h1]
    · rw [show y0 = ⟨256 + x0, by omega⟩ from Fin.ext h0]
      exact dy_val (tile H t) ⟨256 + x0, by omega⟩ x1
    · rw [show y0 = ⟨x0, by omega⟩ from Fin.ext h0]
      exact dy_val (tile H t) ⟨x0, by omega⟩ x1

theorem dg4_first (t : Fin cfg0.N) (h : t.val % 8 = 0) (j : Fin 1024) :
    ((outsAt0 m c t.val t.isLt).2.2.2 (ix2 0 j) : EReal) = ((∑ i, A.dg4p (row t i) j : ℝ) : EReal) := by
  have hN : t.val < 8 := lt_of_lt_of_eq t.isLt N_0
  rw [outsAt0_A m c t h (by omega) h (by omega)]
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  exact halves (fun i => A.dg4p (row t i) j) _ _ (fun k => dg4p_val (tile H t) ⟨k, by omega⟩ j) (fun k => dg4p_val (tile H t) ⟨256 + k, by omega⟩ j)

theorem dg4_next (t : Fin cfg0.N) (h : ¬t.val % 8 = 0) (j : Fin 1024) :
    ((outsAt0 m c t.val t.isLt).2.2.2 (ix2 0 j) : EReal) = (outsAt0 m c (t.val - 1) (by omega)).2.2.2 (ix2 0 j) + ((∑ i, A.dg4p (row t i) j : ℝ) : EReal) := by
  have hN : t.val < 8 := lt_of_lt_of_eq t.isLt N_0
  rw [outsAt0_B m c t h (by omega) h (by omega)]
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  refine congrArg₂ (fun p q : EReal => p + q) rfl ?_
  exact halves (fun i => A.dg4p (row t i) j) _ _ (fun k => dg4p_val (tile H t) ⟨k, by omega⟩ j) (fun k => dg4p_val (tile H t) ⟨256 + k, by omega⟩ j)

theorem dg4_sum (t : Fin cfg0.N) (h : t.val % 8 = 7) (j : Fin 1024) :
    ((outsAt0 m c t.val t.isLt).2.2.2 (ix2 0 j) : EReal) = ((A.dg4 j : ℝ) : EReal) := by
  have hN : t.val < 8 := lt_of_lt_of_eq t.isLt N_0
  have s := Pipeline.eq_sum_fin_of_reset_step_of_flush (fun n hn => ((outsAt0 m c n hn).2.2.2 (ix2 0 j) : EReal)) 8 0
    (fun t => ((∑ i, A.dg4p (row t i) j : ℝ) : EReal)) (fun t h0 => (dg4_first H t h0 j).trans (zero_add _).symm) (fun t h0 => dg4_next H t h0 j) t h
  refine s.trans ?_
  rw [zero_add, Sgu.coe_sum, Args.dg4, ← Fin.sum_mul_add_fin 8 512 (fun n : Fin 4096 => A.dg4p n j)]
  refine congrArg _ (Finset.sum_congr rfl fun q _ => Finset.sum_congr rfl fun k _ => congrArg (fun n => A.dg4p n j) (Fin.ext ?_))
  simp only [row]
  omega

theorem loss_first (t : Fin cfg0.N) (h : t.val % 8 = 0) (j : Fin 128) :
    ((outsAt0 m c t.val t.isLt).1 (ix2 0 j) : EReal) = ((1 / 2 * ∑ i, A.lossp (row t i) : ℝ) : EReal) := by
  have hN : t.val < 8 := lt_of_lt_of_eq t.isLt N_0
  rw [outsAt0_A m c t h (by omega) h (by omega)]
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  exact halves_half (fun i => A.lossp (row t i)) _ _ (fun k => lossp_val (tile H t) ⟨k, by omega⟩) (fun k => lossp_val (tile H t) ⟨256 + k, by omega⟩)

theorem loss_next (t : Fin cfg0.N) (h : ¬t.val % 8 = 0) (j : Fin 128) :
    ((outsAt0 m c t.val t.isLt).1 (ix2 0 j) : EReal) = (outsAt0 m c (t.val - 1) (by omega)).1 (ix2 0 j) + ((1 / 2 * ∑ i, A.lossp (row t i) : ℝ) : EReal) := by
  have hN : t.val < 8 := lt_of_lt_of_eq t.isLt N_0
  rw [outsAt0_B m c t h (by omega) h (by omega)]
  frame_open
  simp (disch := decide) only [↓ View.readCov_skip, ↓ View.readCov_cons_toLoadRect, ↓ View.readCov_fill]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  refine congrArg₂ (fun p q : EReal => p + q) rfl ?_
  exact halves_half (fun i => A.lossp (row t i)) _ _ (fun k => lossp_val (tile H t) ⟨k, by omega⟩) (fun k => lossp_val (tile H t) ⟨256 + k, by omega⟩)

theorem loss_sum (t : Fin cfg0.N) (h : t.val % 8 = 7) (j : Fin 128) :
    ((outsAt0 m c t.val t.isLt).1 (ix2 0 j) : EReal) = ((A.loss  : ℝ) : EReal) := by
  have hN : t.val < 8 := lt_of_lt_of_eq t.isLt N_0
  have s := Pipeline.eq_sum_fin_of_reset_step_of_flush (fun n hn => ((outsAt0 m c n hn).1 (ix2 0 j) : EReal)) 8 0
    (fun t => ((1 / 2 * ∑ i, A.lossp (row t i) : ℝ) : EReal)) (fun t h0 => (loss_first H t h0 j).trans (zero_add _).symm) (fun t h0 => loss_next H t h0 j) t h
  refine s.trans ?_
  rw [zero_add, Sgu.coe_sum, Args.loss, ← Finset.mul_sum, ← Fin.sum_mul_add_fin 8 512 (fun n : Fin 4096 => A.lossp n)]
  refine congrArg _ (congrArg _ (Finset.sum_congr rfl fun q _ => Finset.sum_congr rfl fun k _ => congrArg (fun n => A.lossp n) (Fin.ext ?_)))
  simp only [row]
  omega

theorem arr_dx2 : (dats m 0 c).arrAt 6 cfg0.N = fun y : S4096x1024.Idx => ((A.dx2 (y 0) (y 1) : ℝ) : EReal) := by
  refine (dats m 0 c).arrAt_eq_of_covers 6 _ (by decide +kernel) fun t hf y => ?_
  idx_vars y
  blk_simp
  have e0 : (win0_6.blk t).view.emb (ix2 y0 y1) 0 = row t y0 := by
    apply Fin.ext
    blk_simp [idx t, row]
  have e1 : (win0_6.blk t).view.emb (ix2 y0 y1) 1 = y1 := by
    apply Fin.ext
    blk_simp [idx t]
  rw [after0_6, e0, e1]
  exact dx2_block H t y0 y1

theorem arr_dy : (dats m 0 c).arrAt 7 cfg0.N = fun y : S4096x1024.Idx => ((A.dy (y 0) (y 1) : ℝ) : EReal) := by
  refine (dats m 0 c).arrAt_eq_of_covers 7 _ (by decide +kernel) fun t hf y => ?_
  idx_vars y
  blk_simp
  have e0 : (win0_7.blk t).view.emb (ix2 y0 y1) 0 = row t y0 := by
    apply Fin.ext
    blk_simp [idx t, row]
  have e1 : (win0_7.blk t).view.emb (ix2 y0 y1) 1 = y1 := by
    apply Fin.ext
    blk_simp [idx t]
  rw [after0_7, e0, e1]
  exact dy_block H t y0 y1

theorem arr_dg4 : (dats m 0 c).arrAt 8 cfg0.N = fun y : S1x1024.Idx => ((A.dg4 (y 1) : ℝ) : EReal) := by
  refine (dats m 0 c).arrAt_eq_of_covers 8 _ (by decide +kernel) fun t hf y => ?_
  idx_vars y
  have h7 : t.val % 8 = 7 := (by decide +kernel : ∀ t : Fin cfg0.N, (cfg0.win 8).flush t = true → t.val % 8 = 7) t hf
  blk_simp
  have e1 : (win0_8.blk t).view.emb (ix2 y0 y1) 1 = y1 := by
    apply Fin.ext
    blk_simp [idx t]
  rw [after0_8, e1]
  obtain rfl : y0 = 0 := Fin.eq_zero _
  exact dg4_sum H t h7 y1

theorem arr_loss : (dats m 0 c).arrAt 5 cfg0.N = fun y : S1x128.Idx => ((A.loss : ℝ) : EReal) := by
  refine (dats m 0 c).arrAt_eq_of_covers 5 _ (by decide +kernel) fun t hf y => ?_
  idx_vars y
  have h7 : t.val % 8 = 7 := (by decide +kernel : ∀ t : Fin cfg0.N, (cfg0.win 5).flush t = true → t.val % 8 = 7) t hf
  blk_simp
  rw [after0_5]
  obtain rfl : y0 = 0 := Fin.eq_zero _
  exact loss_sum H t h7 y1

end Cert.Kernel10Ideal.Val
end
-- ==== Proof.OutLossValue.lean ====
module

public import proofs.«01_k».proof.Defs
public import proofs.«01_k».proof.Proof.OutLoss
public import proofs.«01_k».proof.Proof.PreFacts
public import proofs.«01_k».proof.Proof.Finite
public import proofs.«01_k».proof.Proof.Gen.Reference10Ideal.Run

@[expose] public section

set_option maxRecDepth 16384

/-!
The loss and its gradients: the reference's arrays, and the equation.
-/

noncomputable section
open Idealize.ShloMosaic Idealize.ShloMosaic.TcCoe Idealize.SL.Sem
namespace Cert.Reference10Ideal.Val
open Cert.Kernel10Ideal.Val (Args)
open Cert.Common Cert.Reference10Ideal Cert.Reference10Ideal.Gen

/-- The arrays of the reference's arguments. -/
abbrev z (m : (ℓ : Loc nD τ sig) → Buf (Elt Ideal) ℓ) (c : Dev nD) : FVec Ideal S4096x2816 .bf16 := m ((c : Thread nD τ).loc main_arg0)
abbrev w (m : (ℓ : Loc nD τ sig) → Buf (Elt Ideal) ℓ) (c : Dev nD) : FVec Ideal S2816x1024 .f32 := m ((c : Thread nD τ).loc main_arg1)
abbrev x1 (m : (ℓ : Loc nD τ sig) → Buf (Elt Ideal) ℓ) (c : Dev nD) : FVec Ideal S4096x1024 .f32 := m ((c : Thread nD τ).loc main_arg2)
abbrev tg (m : (ℓ : Loc nD τ sig) → Buf (Elt Ideal) ℓ) (c : Dev nD) : FVec Ideal S4096x1024 .f32 := m ((c : Thread nD τ).loc main_arg3)
abbrev g4 (m : (ℓ : Loc nD τ sig) → Buf (Elt Ideal) ℓ) (c : Dev nD) : FVec Ideal S1024 .f32 := m ((c : Thread nD τ).loc main_arg4)

/-- The reference's arguments hold the real numbers. -/
structure Holds (A : Args) (m : (ℓ : Loc nD τ sig) → Buf (Elt Ideal) ℓ) (c : Dev nD) : Prop where
  z : ∀ i k, z m c (ix2 i k) = ((A.z i k : ℝ) : EReal)
  w : ∀ i k, w m c (ix2 i k) = ((A.w i k : ℝ) : EReal)
  x1 : ∀ i k, x1 m c (ix2 i k) = ((A.x1 i k : ℝ) : EReal)
  tg : ∀ i k, tg m c (ix2 i k) = ((A.tg i k : ℝ) : EReal)
  g4 : ∀ k, g4 m c (ix1 k) = ((A.g4 k : ℝ) : EReal)

variable {m : (ℓ : Loc nD τ sig) → Buf (Elt Ideal) ℓ} {c : Dev nD}

/-- The feed-forward's output, the difference from the target, and the gradient of the step's output. -/
def yr (m : (ℓ : Loc nD τ sig) → Buf (Elt Ideal) ℓ) (c : Dev nD) : FVec Ideal S4096x1024 .f32 := Host.dotGeneral dot_S4096x2816_S2816x1024_S4096x1024_1_0_0_1_n_n none (extf .f32 (z m c) bitsLt_bf16_f32) (w m c)
def er (m : (ℓ : Loc nD τ sig) → Buf (Elt Ideal) ℓ) (c : Dev nD) : FVec Ideal S4096x1024 .f32 := subf (addf (x1 m c) (mulf (mulf (yr m c) (broadcastInDim S4096x1024 ![0, 1] bcast_S4096x1_S4096x1024_0_1 (Host.rsqrt (addf (Host.divf (broadcastInDim S4096x1 ![0] bcast_S4096_S4096x1_0 (Host.reduceAdd (mulf (yr m c) (yr m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (g4 m c))))) (tg m c)
def dxr (m : (ℓ : Loc nD τ sig) → Buf (Elt Ideal) ℓ) (c : Dev nD) : FVec Ideal S4096x1024 .f32 := mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (er m c))

theorem dy_eq : (Cert.Reference10Ideal.Value.res_main_v55 (F := Ideal) m c : FVec Ideal S4096x1024 .bf16) = truncf .bf16 (addf (addf (mulf (mulf (dxr m c) (broadcastInDim S4096x1024 ![0, 1] bcast_S1x1024_S4096x1024_0_1 (broadcastInDim S1x1024 ![1] bcast_S1024_S1x1024_1 (g4 m c)))) (broadcastInDim S4096x1024 ![0, 1] bcast_S4096x1_S4096x1024_0_1 (Host.rsqrt (addf (Host.divf (broadcastInDim S4096x1 ![0] bcast_S4096_S4096x1_0 (Host.reduceAdd (mulf (yr m c) (yr m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf (yr m c) (broadcastInDim S4096x1024 ![0] bcast_S4096_S4096x1024_0 (Host.reduceAdd (Host.divf (mulf (shapeCast S4096x1 (Host.reduceAdd (mulf (yr m c) (mulf (dxr m c) (broadcastInDim S4096x1024 ![0, 1] bcast_S1x1024_S4096x1024_0_1 (broadcastInDim S1x1024 ![1] bcast_S1024_S1x1024_1 (g4 m c))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (yr m c) (yr m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (yr m c) (yr m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast S4096x1 (Host.reduceAdd (mulf (yr m c) (mulf (dxr m c) (broadcastInDim S4096x1024 ![0, 1] bcast_S1x1024_S4096x1024_0_1 (broadcastInDim S1x1024 ![1] bcast_S1024_S1x1024_1 (g4 m c))))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (yr m c) (yr m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf (yr m c) (yr m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (yr m c))) bitsLt_bf16_f32 := rfl

variable {A : Args} (H : Holds A m c)
include H

theorem y_at (n : Fin 4096) (k : Fin 1024) : (yr m c (ix2 n k) : EReal) = ((A.y n k : ℝ) : EReal) := by
  unfold yr
  pointwise
  exact (Finset.sum_congr rfl fun l _ => congrArg₂ (fun p q : EReal => p * q) (H.z n l) (H.w l k)).trans (coe_dot _ _)

theorem err_at (n : Fin 4096) (k : Fin 1024) : (er m c (ix2 n k) : EReal) = ((A.err n k : ℝ) : EReal) := by
  unfold er
  pointwise
  refine (congrArg₂ (fun p q : EReal => p - q) (congrArg₂ (fun p q : EReal => p + q) (H.x1 n k) (congrArg₂ (fun p q : EReal => p * q)
    (Rms.coe_hat (fun k => yr m c (ix2 n k)) (A.y n) (y_at H n) _ _ (y_at H n) k) (H.g4 k))) (H.tg n k)).trans ?_
  rw [← EReal.coe_mul, ← EReal.coe_add, ← EReal.coe_sub]
  rfl

theorem dx2_at (n : Fin 4096) (k : Fin 1024) : (dxr m c (ix2 n k) : EReal) = ((A.dx2 n k : ℝ) : EReal) := by
  unfold dxr
  pointwise
  rw [err_at H n k, Sgu.w_half, Sgu.w_two, Rms.div_1024, ← EReal.coe_mul, ← EReal.coe_mul]
  refine congrArg _ ?_
  rw [Kernel10Ideal.Val.Args.dx2]
  ring

theorem dy_at (n : Fin 4096) (k : Fin 1024) : ((Cert.Reference10Ideal.Value.res_main_v55 (F := Ideal) m c : FVec Ideal S4096x1024 .bf16) (ix2 n k) : EReal)
    = ((A.dy n k : ℝ) : EReal) := by
  rw [dy_eq]
  pointwise
  exact Rms.ref_val (fun k => yr m c (ix2 n k)) (A.y n) (y_at H n) _ (fun l => A.dx2 n l * A.g4 l)
    (fun l => (congrArg₂ (fun p q : EReal => p * q) (dx2_at H n l) (H.g4 l)).trans (EReal.coe_mul _ _).symm) k

theorem dg4_at (y0 : Fin 1) (k : Fin 1024) : ((shapeCast S1x1024 (Host.reduceAdd (shapeCast S1x1024 (Host.reduceAdd (mulf (mulf (yr m c) (broadcastInDim S4096x1024 ![0, 1] bcast_S4096x1_S4096x1024_0_1 (Host.rsqrt (addf (Host.divf (broadcastInDim S4096x1 ![0] bcast_S4096_S4096x1_0 (Host.reduceAdd (mulf (yr m c) (yr m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (dxr m c)) (constant S_ .f32 0x00000000#32) reducesTo_S4096x1024_S1024_d0 h_S_) shapeCasts_S1024_S1x1024) (constant S_ .f32 0x00000000#32) reducesTo_S1x1024_S1024_d0 h_S_) shapeCasts_S1024_S1x1024 : FVec Ideal S1x1024 .f32) (ix2 y0 k) : EReal) = ((A.dg4 k : ℝ) : EReal) := by
  pointwise
  refine (Fin.sum_univ_one (M := EReal) _).trans ?_
  rw [Kernel10Ideal.Val.Args.dg4, ← Sgu.coe_sum]
  refine Finset.sum_congr (M := EReal) rfl fun n _ => ?_
  refine (congrArg₂ (fun p q : EReal => p * q) (Rms.coe_hat (fun k => yr m c (ix2 n k)) (A.y n) (y_at H n) _ _ (y_at H n) k) (dx2_at H n k)).trans ?_
  rw [← EReal.coe_mul, mul_comm]
  rfl

theorem loss_at (y0 : Fin 1) (y1 : Fin 128) : ((broadcastInDim S1x128 ![] bcast_S_S1x128 (mulf (constant S_ .f32 0x3F000000#32) (Host.reduceAdd (Host.divf (Host.reduceAdd (mulf (er m c) (er m c)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) : FVec Ideal S1x128 .f32) (ix2 y0 y1) : EReal) = ((A.loss : ℝ) : EReal) := by
  pointwise
  exact Kernel10Ideal.Val.half_sum A.lossp _ fun n => (congrArg (fun p : EReal => Ideal.div p (Ideal.ofBits .f32 0x44800000#32))
    ((Finset.sum_congr rfl fun l _ => congrArg₂ (fun p q : EReal => p * q) (err_at H n l) (err_at H n l)).trans (coe_dot _ _))).trans (Rms.div_1024 _)
end Cert.Reference10Ideal.Val

namespace Cert.Kernel10Ideal.Val
open Cert.Kernel10Ideal Cert.Kernel10Ideal.Gen

/-- The real numbers the kernel's arguments hold. -/
def args (m : (ℓ : Loc nD τ sig) → Buf (Elt Ideal) ℓ) (c : Dev nD) : Args where
  z i k := EReal.toReal (z m c (ix2 i k))
  w i k := EReal.toReal (w m c (ix2 i k))
  x1 i k := EReal.toReal (x1 m c (ix2 i k))
  tg i k := EReal.toReal (tg m c (ix2 i k))
  g4 k := EReal.toReal (g4 m c (ix1 k))

theorem holds (m : (ℓ : Loc nD τ sig) → Buf (Elt Ideal) ℓ) (h : Cert.Pre_Kernel10Ideal_finite10 m) (c : Dev nD) : Holds (args m c) m c := by
  obtain ⟨h0, h1, h2, h3, h4⟩ := h c
  exact
  { z := fun i k => Finite.real_of (congrFun h0 (ix2 i k))
    w := fun i k => Finite.real_of (congrFun h1 (ix2 i k))
    x1 := fun i k => Finite.real_of (congrFun h2 (ix2 i k))
    tg := fun i k => Finite.real_of (congrFun h3 (ix2 i k))
    g4 := fun k => Finite.real_of (congrFun h4 (ix1 k))}

/-- The loss and the gradients. -/
def outLoss (A : Args) : FVec Ideal S1x128 .f32 := fun _ => ((A.loss : ℝ) : EReal)
def outDx2 (A : Args) : FVec Ideal S4096x1024 .f32 := fun y => ((A.dx2 (y 0) (y 1) : ℝ) : EReal)
def outDy (A : Args) : FVec Ideal S4096x1024 .bf16 := fun y => ((A.dy (y 0) (y 1) : ℝ) : EReal)
def outDg4 (A : Args) : FVec Ideal S1x1024 .f32 := fun y => ((A.dg4 (y 1) : ℝ) : EReal)

theorem value : Cert.algebraic_Kernel10Ideal_Reference10Ideal_pre_finite10 := by
  intro m ρ m' ρ' hpre hagree
  refine ⟨fun c => outLoss (args m c), fun c => outDx2 (args m c), fun c => outDy (args m c), fun c => outDg4 (args m c), ?_, ?_⟩
  · refine (θ_run (defs (F := Ideal)) _ _).mono (fun r h c => ?_) (Cert.Kernel10Ideal.Value.run_blocks m ρ)
    have H := holds m hpre c
    exact ⟨(h c).1.trans (arr_loss H), (h c).2.1.trans (arr_dx2 H), (h c).2.2.1.trans (arr_dy H), (h c).2.2.2.1.trans (arr_dg4 H), (h c).2.2.2.2⟩
  · refine (θ_run (Reference10Ideal.defs (F := Ideal)) _ _).mono (fun r h c => ?_) (Reference10Ideal.Value.run m' ρ')
    obtain ⟨e0, e1, e2, e3, e4⟩ := hagree c
    have H := holds m hpre c
    have H' : Cert.Reference10Ideal.Val.Holds (args m c) m' c :=
    { z := fun i k => (congrFun e0 (ix2 i k)).trans (H.z i k)
      w := fun i k => (congrFun e1 (ix2 i k)).trans (H.w i k)
      x1 := fun i k => (congrFun e2 (ix2 i k)).trans (H.x1 i k)
      tg := fun i k => (congrFun e3 (ix2 i k)).trans (H.tg i k)
      g4 := fun k => (congrFun e4 (ix1 k)).trans (H.g4 k)}
    refine ⟨(h c).1.trans ?_, (h c).2.1.trans ?_, (h c).2.2.1.trans ?_, (h c).2.2.2.1.trans ?_, (h c).2.2.2.2⟩
    · funext y
      idx_vars y
      exact Cert.Reference10Ideal.Val.loss_at H' _ _
    · funext y
      idx_vars y
      exact Cert.Reference10Ideal.Val.dx2_at H' _ _
    · funext y
      idx_vars y
      exact Cert.Reference10Ideal.Val.dy_at H' _ _
    · funext y
      idx_vars y
      exact Cert.Reference10Ideal.Val.dg4_at H' _ _
end Cert.Kernel10Ideal.Val
end
-- ==== Proof.SigmoidAll.lean ====
module

public import proofs.«01_k».proof.Proof.Sigmoid

@[expose] public section

/-!
The two ways of writing the sigmoid agree on every value, the infinite ones included.
-/

noncomputable section
open Idealize.ShloMosaic

namespace Cert.Common
open Cert.Sgu

theorem half_tanh (h : EReal) (e : h = ((1 / 2 : ℝ) : EReal)) (x : EReal) :
    h * Ideal.tanh (h * x) + h = Ideal.div (1 : EReal) (1 + Ideal.exp (-x)) := by
  subst e
  change _ = Ideal.logistic x
  have p : (0 : ℝ) < 1 / 2 := by norm_num
  induction x with
  | bot =>
    rw [Ideal.logistic_bot, EReal.coe_mul_bot_of_pos p, Ideal.tanh_bot, ← EReal.coe_one, ← EReal.coe_neg, ← EReal.coe_mul, ← EReal.coe_add]
    norm_num
  | top =>
    rw [Ideal.logistic_top, EReal.coe_mul_top_of_pos p, Ideal.tanh_top, mul_one, ← EReal.coe_add, ← EReal.coe_one]
    norm_num
  | coe r =>
    rw [← EReal.coe_mul, Ideal.tanh_coe, ← EReal.coe_mul, ← EReal.coe_add, sigm_tanh]
    exact (sigm_ref r).symm

theorem sigmoid16 (x : EReal) : Ideal.ofBits .bf16 0x3F00#16 * Ideal.tanh (Ideal.ofBits .bf16 0x3F00#16 * x) + Ideal.ofBits .bf16 0x3F00#16
    = Ideal.div (1 : EReal) (1 + Ideal.exp (-x)) := half_tanh _ b_half x

theorem sigmoid32 (x : EReal) : Ideal.ofBits .f32 0x3F000000#32 * Ideal.tanh (Ideal.ofBits .f32 0x3F000000#32 * x)
    + Ideal.ofBits .f32 0x3F000000#32 = Ideal.div (1 : EReal) (1 + Ideal.exp (-x)) := half_tanh _ w_half x

end Cert.Common
end
-- ==== Proof.FfnIn.lean ====
module

public import proofs.«01_k».proof.Proof.Gen.Kernel11Ideal.Value
public import proofs.«01_k».proof.Proof.Common
public import proofs.«01_k».proof.Proof.SigmoidAll

@[expose] public section

set_option maxRecDepth 16384

/-!
The feed-forward's first half: what the kernel leaves in its two arrays, the product with the input weights and its gated
halves.
-/

noncomputable section
open Idealize.ShloMosaic Idealize.ShloMosaic.TcCoe Idealize.SL.Sem
open Idealize.ShloMosaic.Pipeline (Dat)
namespace Cert.Kernel11Ideal.Val
open Cert.Common Cert.Kernel11Ideal Cert.Kernel11Ideal.Gen

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable {m : (ℓ : Loc nD τ sig) → Buf (Elt Ideal) ℓ} {c : Dev nD}

/-- The arrays of the two arguments. -/
abbrev h (m : (ℓ : Loc nD τ sig) → Buf (Elt Ideal) ℓ) (c : Dev nD) : FVec Ideal S4096x1024 .bf16 := m ((c : Thread nD τ).loc main_arg0)
abbrev w (m : (ℓ : Loc nD τ sig) → Buf (Elt Ideal) ℓ) (c : Dev nD) : FVec Ideal S1024x5632 .f32 := m ((c : Thread nD τ).loc main_arg1)

/-- The product with the input weights. -/
def gu (h : FVec Ideal S4096x1024 .bf16) (w : FVec Ideal S1024x5632 .f32) (n : Fin 4096) (l : Fin 5632) : EReal :=
  ∑ k : Fin 1024, (h (ix2 n k) : EReal) * w (ix2 k l)

/-- The gated product of its two halves. -/
def z (h : FVec Ideal S4096x1024 .bf16) (w : FVec Ideal S1024x5632 .f32) (n : Fin 4096) (f : Fin 2816) : EReal :=
  gu h w n ⟨f, by omega⟩ * Ideal.div 1 (1 + Ideal.exp (-gu h w n ⟨f, by omega⟩)) * gu h w n ⟨2816 + f, by omega⟩

theorem V_v1 : (V m c main_v1 : FVec Ideal S5632x1024 .bf16)
    = truncf .bf16 (transpose S5632x1024 [1, 0] (w m c) transposes_S1024x5632_S5632x1024_1_0) bitsLt_bf16_f32 := by
  unfold_abbrev_sides
  after_results

/-- The tokens of tile `t`. -/
def row (t : Fin cfg0.N) (i : Fin 512) : Fin 4096 := ⟨t.val * 512 + i, by have : t.val < 8 := lt_of_lt_of_eq t.isLt N_0; omega⟩

theorem h_at (t : Fin cfg0.N) (i : Fin 512) (k : Fin 1024) : (iblk m c 0 t : Vec Ideal S512x1024 .bf16) (ix2 i k) = h m c (ix2 (row t i) k) := by
  blk_ext [iblk, V, idx t, row]
theorem w_at (t : Fin cfg0.N) (l : Fin 5632) (k : Fin 1024) : (iblk m c 1 t : Vec Ideal S5632x1024 .bf16) (ix2 l k) = w m c (ix2 k l) := by
  refine Eq.trans (b := (V m c main_v1 : FVec Ideal S5632x1024 .bf16) (ix2 l k)) (by blk_ext [iblk, idx t]) ?_
  rw [V_v1]
  pointwise

/-- A tile's entries, at the tile's indices `i`, `l` of the entry `y0`, `y1`. -/
theorem gu_val (t : Fin cfg0.N) (i y0 : Fin 512) (l y1 : Fin 5632) (h0 : (y0 : ℕ) = i) (h1 : (y1 : ℕ) = l) (X : FVec Ideal S512x1024 .bf16)
    (W : FVec Ideal S5632x1024 .bf16) (hX : ∀ k, X (ix2 i k) = h m c (ix2 (row t i) k)) (hW : ∀ k, W (ix2 l k) = w m c (ix2 k l)) :
    ∑ k : Fin 1024, (X (ix2 i k) : EReal) * W (ix2 l k) = gu (h m c) (w m c) (row t y0) y1 := by
  rw [show y0 = i from Fin.ext h0, show y1 = l from Fin.ext h1]
  exact Finset.sum_congr rfl fun k _ => congrArg₂ (fun p q : EReal => p * q) (hX k) (hW k)

theorem z_val (t : Fin cfg0.N) (i y0 : Fin 512) (l l' : Fin 5632) (y1 : Fin 2816) (h0 : (y0 : ℕ) = i) (h1 : (y1 : ℕ) = l) (h2 : 2816 + (y1 : ℕ) = l')
    (X : FVec Ideal S512x1024 .bf16) (W : FVec Ideal S5632x1024 .bf16) (hX : ∀ k, X (ix2 i k) = h m c (ix2 (row t i) k))
    (hW : ∀ l k, W (ix2 l k) = w m c (ix2 k l)) :
    (∑ k : Fin 1024, (X (ix2 i k) : EReal) * W (ix2 l k)) * (Ideal.ofBits .f32 0x3F000000#32 * Ideal.tanh (Ideal.ofBits .f32 0x3F000000#32
      * ∑ k : Fin 1024, (X (ix2 i k) : EReal) * W (ix2 l k)) + Ideal.ofBits .f32 0x3F000000#32) * (∑ k : Fin 1024, (X (ix2 i k) : EReal) * W (ix2 l' k))
      = z (h m c) (w m c) (row t y0) y1 := by
  rw [gu_val t i y0 l ⟨y1, by omega⟩ h0 h1 X W hX (hW l), gu_val t i y0 l' ⟨2816 + y1, by omega⟩ h0 h2 X W hX (hW l'), sigmoid32]
  rfl

theorem gu_block (t : Fin cfg0.N) (y0 : Fin 512) (y1 : Fin 5632) : ((outsAt0 m c t).1 (ix2 y0 y1) : EReal) = gu (h m c) (w m c) (row t y0) y1 := by
  unfold outsAt0
  frame_open
  try simp (disch := decide) only [↓ View.readCov_skip, ↓ View.readCov_cons_toLoadRect, ↓ View.readCov_fill]
  frame_out
  canon_tiles x h using (View.cover_of_tiledBy _ ![512, 256] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16]
  · exact gu_val t x0 y0 ⟨4864 + x1, by omega⟩ y1 h0 h1 (iblk m c 0 t) (iblk m c 1 t) (h_at t x0) (w_at t _)
  · exact gu_val t x0 y0 ⟨2048 + x1, by omega⟩ y1 h0 h1 (iblk m c 0 t) (iblk m c 1 t) (h_at t x0) (w_at t _)
  · exact gu_val t x0 y0 ⟨3840 + x1, by omega⟩ y1 h0 h1 (iblk m c 0 t) (iblk m c 1 t) (h_at t x0) (w_at t _)
  · exact gu_val t x0 y0 ⟨1024 + x1, by omega⟩ y1 h0 h1 (iblk m c 0 t) (iblk m c 1 t) (h_at t x0) (w_at t _)
  · exact gu_val t x0 y0 ⟨2816 + x1, by omega⟩ y1 h0 h1 (iblk m c 0 t) (iblk m c 1 t) (h_at t x0) (w_at t _)
  · exact gu_val t x0 y0 ⟨x1, by omega⟩ y1 h0 h1 (iblk m c 0 t) (iblk m c 1 t) (h_at t x0) (w_at t _)
theorem z_block (t : Fin cfg0.N) (y0 : Fin 512) (y1 : Fin 2816) : ((outsAt0 m c t).2 (ix2 y0 y1) : EReal) = z (h m c) (w m c) (row t y0) y1 := by
  unfold outsAt0
  frame_open
  try simp (disch := decide) only [↓ View.readCov_skip, ↓ View.readCov_cons_toLoadRect, ↓ View.readCov_fill]
  frame_out
  canon_tiles x h using (View.cover_of_tiledBy _ ![512, 256] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16]
  · exact z_val t x0 y0 ⟨2048 + x1, by omega⟩ ⟨4864 + x1, by omega⟩ y1 h0 h1 (by simp only []; omega) (iblk m c 0 t) (iblk m c 1 t) (h_at t x0) (w_at t)
  · exact z_val t x0 y0 ⟨1024 + x1, by omega⟩ ⟨3840 + x1, by omega⟩ y1 h0 h1 (by simp only []; omega) (iblk m c 0 t) (iblk m c 1 t) (h_at t x0) (w_at t)
  · exact z_val t x0 y0 ⟨x1, by omega⟩ ⟨2816 + x1, by omega⟩ y1 h0 h1 (by simp only []; omega) (iblk m c 0 t) (iblk m c 1 t) (h_at t x0) (w_at t)

theorem arr_gu : (dats m 0 c).arrAt 2 cfg0.N = fun y : S4096x5632.Idx => gu (h m c) (w m c) (y 0) (y 1) := by
  refine (dats m 0 c).arrAt_eq_of_covers 2 _ (by decide +kernel) fun t hf y => ?_
  idx_vars y
  blk_simp
  have e0 : (win0_2.blk t).view.emb (ix2 y0 y1) 0 = row t y0 := by
    apply Fin.ext
    blk_simp [idx t, row]
  have e1 : (win0_2.blk t).view.emb (ix2 y0 y1) 1 = y1 := by
    apply Fin.ext
    blk_simp [idx t]
  rw [after0_2, e0, e1]
  exact gu_block t y0 y1
theorem arr_z : (dats m 0 c).arrAt 3 cfg0.N = fun y : S4096x2816.Idx => z (h m c) (w m c) (y 0) (y 1) := by
  refine (dats m 0 c).arrAt_eq_of_covers 3 _ (by decide +kernel) fun t hf y => ?_
  idx_vars y
  blk_simp
  have e0 : (win0_3.blk t).view.emb (ix2 y0 y1) 0 = row t y0 := by
    apply Fin.ext
    blk_simp [idx t, row]
  have e1 : (win0_3.blk t).view.emb (ix2 y0 y1) 1 = y1 := by
    apply Fin.ext
    blk_simp [idx t]
  rw [after0_3, e0, e1]
  exact z_block t y0 y1
end Cert.Kernel11Ideal.Val
end
-- ==== Proof.FfnInValue.lean ====
module

public import proofs.«01_k».proof.Defs
public import proofs.«01_k».proof.Proof.FfnIn
public import proofs.«01_k».proof.Proof.Gen.Reference11Ideal.Run

@[expose] public section

set_option maxRecDepth 16384

/-!
The feed-forward's first half: the kernel's arrays are the reference's.
-/

noncomputable section
open Idealize.ShloMosaic Idealize.ShloMosaic.TcCoe Idealize.SL.Sem
namespace Cert.Kernel11Ideal.Ref
open Cert.Kernel11Ideal.Val Cert.Reference11Ideal Cert.Reference11Ideal.Gen

/-- The reference's arrays, entry by entry. -/
theorem gu_at (h : FVec Ideal S4096x1024 .bf16) (w : FVec Ideal S1024x5632 .f32) (n : Fin 4096) (l : Fin 5632) :
    ((truncf .bf16 (Host.dotGeneral dot_S4096x1024_S1024x5632_S4096x5632_1_0_0_1_n_n none (extf .f32 h bitsLt_bf16_f32) w) bitsLt_bf16_f32 : FVec Ideal S4096x5632 .bf16) (ix2 n l) : EReal) = gu h w n l := by
  pointwise
  rfl

theorem z_at (h : FVec Ideal S4096x1024 .bf16) (w : FVec Ideal S1024x5632 .f32) (n : Fin 4096) (f : Fin 2816) :
    ((truncf .bf16 (mulf (mulf (extractStridedSlice S4096x2816 ![0, 0] (Host.dotGeneral dot_S4096x1024_S1024x5632_S4096x5632_1_0_0_1_n_n none (extf .f32 h bitsLt_bf16_f32) w) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (Host.dotGeneral dot_S4096x1024_S1024x5632_S4096x5632_1_0_0_1_n_n none (extf .f32 h bitsLt_bf16_f32) w) slices_S4096x5632_S4096x2816_0_0)))))) (extractStridedSlice S4096x2816 ![0, 2816] (Host.dotGeneral dot_S4096x1024_S1024x5632_S4096x5632_1_0_0_1_n_n none (extf .f32 h bitsLt_bf16_f32) w) slices_S4096x5632_S4096x2816_0_2816)) bitsLt_bf16_f32 : FVec Ideal S4096x2816 .bf16) (ix2 n f) : EReal) = z h w n f := by
  pointwise
  rw [z, gu, gu]
end Cert.Kernel11Ideal.Ref

namespace Cert.Kernel11Ideal.Val
theorem value : Cert.algebraic_Kernel11Ideal_Reference11Ideal := by
  intro m ρ m' ρ' _ hagree
  refine ⟨fun c => fun y : S4096x5632.Idx => gu (h m c) (w m c) (y 0) (y 1), fun c => fun y : S4096x2816.Idx => z (h m c) (w m c) (y 0) (y 1), ?_, ?_⟩
  · refine (θ_run (defs (F := Ideal)) _ _).mono (fun r h c => ?_) (Cert.Kernel11Ideal.Value.run_blocks m ρ)
    exact ⟨(h c).1.trans arr_gu, (h c).2.1.trans arr_z, (h c).2.2⟩
  · refine (θ_run (Reference11Ideal.defs (F := Ideal)) _ _).mono (fun r h c => ?_) (Reference11Ideal.Value.run m' ρ')
    obtain ⟨e0, e1⟩ := hagree c
    refine ⟨(h c).1.trans ?_, (h c).2.1.trans ?_, (h c).2.2⟩
    · rw [e0, e1]
      funext y
      idx_vars y
      exact Cert.Kernel11Ideal.Ref.gu_at _ _ _ _
    · rw [e0, e1]
      funext y
      idx_vars y
      exact Cert.Kernel11Ideal.Ref.z_at _ _ _ _
end Cert.Kernel11Ideal.Val
end
-- ==== Proof.MixTail.lean ====
module

public import proofs.«01_k».proof.Proof.Gen.Kernel12Ideal.Value
public import proofs.«01_k».proof.Proof.Common
public import proofs.«01_k».proof.Proof.SigmoidAll

@[expose] public section

set_option maxRecDepth 16384

/-!
The end of the mixer: what the kernel leaves in its six arrays, the two branches' products, their gated sum, its product,
the residual sum and its normalisation.
-/

noncomputable section
open Idealize.ShloMosaic Idealize.ShloMosaic.TcCoe Idealize.SL.Sem
open Idealize.ShloMosaic.Pipeline (Dat)
namespace Cert.Kernel12Ideal.Val
open Cert.Common Cert.Kernel12Ideal Cert.Kernel12Ideal.Gen

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

/-- The arguments, entry by entry: the two branches, the gates' inputs, the layer's input, the three weights and the scales of
    the two norms. -/
structure In where
  yg : Fin 4096 → Fin 1024 → EReal
  ys : Fin 4096 → Fin 1024 → EReal
  pg : Fin 4096 → Fin 2048 → EReal
  x : Fin 4096 → Fin 1024 → EReal
  wbg : Fin 1024 → Fin 1024 → EReal
  wbs : Fin 1024 → Fin 1024 → EReal
  wo : Fin 1024 → Fin 1024 → EReal
  g2 : Fin 1024 → EReal
  g3 : Fin 1024 → EReal

namespace In
variable (A : In)
/-- The two branches' products. -/
def t1 (n : Fin 4096) (j : Fin 1024) : EReal := ∑ k, A.yg n k * A.wbg k j
def t2 (n : Fin 4096) (j : Fin 1024) : EReal := ∑ k, A.ys n k * A.wbs k j
/-- The gated sum of the two. -/
def merged (n : Fin 4096) (j : Fin 1024) : EReal :=
  Ideal.div 1 (1 + Ideal.exp (-A.pg n ⟨j, by omega⟩)) * A.t1 n j + Ideal.div 1 (1 + Ideal.exp (-A.pg n ⟨1024 + j, by omega⟩)) * A.t2 n j
/-- The mixer's output. -/
def mix (n : Fin 4096) (j : Fin 1024) : EReal := ∑ k, A.merged n k * A.wo k j
/-- One over the root of the mean of a row's squares. -/
def rr (v : Fin 1024 → EReal) : EReal :=
  Ideal.rsqrt (Ideal.div (∑ k, v k * v k) (Ideal.ofBits .f32 0x44800000#32) + Ideal.ofBits .f32 0x358637BD#32)
/-- The sum of the layer's input and the normalised output. -/
def x1 (n : Fin 4096) (j : Fin 1024) : EReal := A.x n j + A.mix n j * rr (A.mix n) * A.g2 j
/-- The feed-forward's input. -/
def h (n : Fin 4096) (j : Fin 1024) : EReal := A.x1 n j * rr (A.x1 n) * A.g3 j
end In

variable {m : (ℓ : Loc nD τ sig) → Buf (Elt Ideal) ℓ} {c : Dev nD}

/-- The arrays of the arguments. -/
abbrev yg (m : (ℓ : Loc nD τ sig) → Buf (Elt Ideal) ℓ) (c : Dev nD) : FVec Ideal S4096x1024 .bf16 := m ((c : Thread nD τ).loc main_arg0)
abbrev ys (m : (ℓ : Loc nD τ sig) → Buf (Elt Ideal) ℓ) (c : Dev nD) : FVec Ideal S4096x1024 .bf16 := m ((c : Thread nD τ).loc main_arg1)
abbrev pg (m : (ℓ : Loc nD τ sig) → Buf (Elt Ideal) ℓ) (c : Dev nD) : FVec Ideal S4096x2048 .bf16 := m ((c : Thread nD τ).loc main_arg2)
abbrev x (m : (ℓ : Loc nD τ sig) → Buf (Elt Ideal) ℓ) (c : Dev nD) : FVec Ideal S4096x1024 .f32 := m ((c : Thread nD τ).loc main_arg3)
abbrev wbg (m : (ℓ : Loc nD τ sig) → Buf (Elt Ideal) ℓ) (c : Dev nD) : FVec Ideal S1024x1024 .f32 := m ((c : Thread nD τ).loc main_arg4)
abbrev wbs (m : (ℓ : Loc nD τ sig) → Buf (Elt Ideal) ℓ) (c : Dev nD) : FVec Ideal S1024x1024 .f32 := m ((c : Thread nD τ).loc main_arg5)
abbrev wo (m : (ℓ : Loc nD τ sig) → Buf (Elt Ideal) ℓ) (c : Dev nD) : FVec Ideal S1024x1024 .f32 := m ((c : Thread nD τ).loc main_arg6)
abbrev g2 (m : (ℓ : Loc nD τ sig) → Buf (Elt Ideal) ℓ) (c : Dev nD) : FVec Ideal S1024 .f32 := m ((c : Thread nD τ).loc main_arg7)
abbrev g3 (m : (ℓ : Loc nD τ sig) → Buf (Elt Ideal) ℓ) (c : Dev nD) : FVec Ideal S1024 .f32 := m ((c : Thread nD τ).loc main_arg8)

/-- Their entries. -/
def ent (m : (ℓ : Loc nD τ sig) → Buf (Elt Ideal) ℓ) (c : Dev nD) : In where
  yg i k := yg m c (ix2 i k)
  ys i k := ys m c (ix2 i k)
  pg i k := pg m c (ix2 i k)
  x i k := x m c (ix2 i k)
  wbg i k := wbg m c (ix2 i k)
  wbs i k := wbs m c (ix2 i k)
  wo i k := wo m c (ix2 i k)
  g2 k := g2 m c (ix1 k)
  g3 k := g3 m c (ix1 k)

theorem V_v0 : (V m c main_v0 : FVec Ideal S1024x1024 .bf16) = truncf .bf16 (wbg m c) bitsLt_bf16_f32 := by
  unfold_abbrev_sides
  after_results
theorem V_v1 : (V m c main_v1 : FVec Ideal S1024x1024 .bf16) = truncf .bf16 (wbs m c) bitsLt_bf16_f32 := by
  unfold_abbrev_sides
  after_results
theorem V_v2 : (V m c main_v2 : FVec Ideal S1024x1024 .bf16) = truncf .bf16 (wo m c) bitsLt_bf16_f32 := by
  unfold_abbrev_sides
  after_results
theorem V_v3 : (V m c main_v3 : FVec Ideal S1x1024 .f32) = shapeCast S1x1024 (g2 m c) shapeCasts_S1024_S1x1024 := by
  unfold_abbrev_sides
  after_results
  rfl
theorem V_v4 : (V m c main_v4 : FVec Ideal S1x1024 .f32) = shapeCast S1x1024 (g3 m c) shapeCasts_S1024_S1x1024 := by
  unfold_abbrev_sides
  after_results
  rfl

/-- The tokens of tile `t`. -/
def row (t : Fin cfg0.N) (i : Fin 512) : Fin 4096 := ⟨t.val * 512 + i, by have : t.val < 8 := lt_of_lt_of_eq t.isLt N_0; omega⟩

/-- The arrays of a tile, in terms of the arguments; `r` are the tile's tokens. -/
structure Tile (A : In) (r : Fin 512 → Fin 4096) (v0 v1 : FVec Ideal S512x1024 .bf16) (v2 : FVec Ideal S512x2048 .bf16) (v3 : FVec Ideal S512x1024 .f32)
    (v4 v5 v6 : FVec Ideal S1024x1024 .bf16) (v7 v8 : FVec Ideal S1x1024 .f32) : Prop where
  yg : ∀ i k, v0 (ix2 i k) = A.yg (r i) k
  ys : ∀ i k, v1 (ix2 i k) = A.ys (r i) k
  pg : ∀ i k, v2 (ix2 i k) = A.pg (r i) k
  x : ∀ i k, v3 (ix2 i k) = A.x (r i) k
  wbg : ∀ j k, v4 (ix2 j k) = A.wbg j k
  wbs : ∀ j k, v5 (ix2 j k) = A.wbs j k
  wo : ∀ j k, v6 (ix2 j k) = A.wo j k
  g2 : ∀ k, v7 (ix2 0 k) = A.g2 k
  g3 : ∀ k, v8 (ix2 0 k) = A.g3 k

theorem tile (t : Fin cfg0.N) : Tile (ent m c) (row t) (iblk m c 0 t) (iblk m c 1 t) (iblk m c 2 t) (iblk m c 3 t) (iblk m c 4 t) (iblk m c 5 t) (iblk m c 6 t) (iblk m c 7 t) (iblk m c 8 t) where
  yg i k := by
    refine Eq.trans ?_ (rfl : yg m c (ix2 (row t i) k) = _)
    blk_ext [iblk, V, idx t, row]
  ys i k := by
    refine Eq.trans ?_ (rfl : ys m c (ix2 (row t i) k) = _)
    blk_ext [iblk, V, idx t, row]
  pg i k := by
    refine Eq.trans ?_ (rfl : pg m c (ix2 (row t i) k) = _)
    blk_ext [iblk, V, idx t, row]
  x i k := by
    refine Eq.trans ?_ (rfl : x m c (ix2 (row t i) k) = _)
    blk_ext [iblk, V, idx t, row]
  wbg j k := by
    refine Eq.trans (b := (V m c main_v0 : FVec Ideal S1024x1024 .bf16) (ix2 j k)) (by blk_ext [iblk, idx t]) ?_
    rw [V_v0]
    pointwise
    rfl
  wbs j k := by
    refine Eq.trans (b := (V m c main_v1 : FVec Ideal S1024x1024 .bf16) (ix2 j k)) (by blk_ext [iblk, idx t]) ?_
    rw [V_v1]
    pointwise
    rfl
  wo j k := by
    refine Eq.trans (b := (V m c main_v2 : FVec Ideal S1024x1024 .bf16) (ix2 j k)) (by blk_ext [iblk, idx t]) ?_
    rw [V_v2]
    pointwise
    rfl
  g2 k := by
    refine Eq.trans (b := (V m c main_v3 : FVec Ideal S1x1024 .f32) (ix2 0 k)) (by blk_ext [iblk, idx t]) ?_
    rw [V_v3]
    pointwise
    rfl
  g3 k := by
    refine Eq.trans (b := (V m c main_v4 : FVec Ideal S1x1024 .f32) (ix2 0 k)) (by blk_ext [iblk, idx t]) ?_
    rw [V_v4]
    pointwise
    rfl

/-! ## What a tile computes -/

theorem rr_val (X a : Fin 1024 → EReal) (e : ∀ k, X k = a k) :
    Ideal.rsqrt (Ideal.div (∑ k, X k * X k) (Ideal.ofBits .f32 0x44800000#32) + Ideal.ofBits .f32 0x358637BD#32) = In.rr a := by
  rw [show X = a from funext e]
  rfl

section
variable {A : In} {r : Fin 512 → Fin 4096} {v0 v1 : FVec Ideal S512x1024 .bf16} {v2 : FVec Ideal S512x2048 .bf16} {v3 : FVec Ideal S512x1024 .f32}
    {v4 v5 v6 : FVec Ideal S1024x1024 .bf16} {v7 v8 : FVec Ideal S1x1024 .f32} (T : Tile A r v0 v1 v2 v3 v4 v5 v6 v7 v8)
include T

theorem t1_val (i : Fin 512) (j : Fin 1024) : ∑ k, (v0 (ix2 i k) : EReal) * v4 (ix2 k j) = A.t1 (r i) j :=
  Finset.sum_congr rfl fun k _ => congrArg₂ (fun p q : EReal => p * q) (T.yg i k) (T.wbg k j)
theorem t2_val (i : Fin 512) (j : Fin 1024) : ∑ k, (v1 (ix2 i k) : EReal) * v5 (ix2 k j) = A.t2 (r i) j :=
  Finset.sum_congr rfl fun k _ => congrArg₂ (fun p q : EReal => p * q) (T.ys i k) (T.wbs k j)
theorem merged_val (i : Fin 512) (j : Fin 1024) : (Ideal.ofBits .f32 0x3F000000#32 * Ideal.tanh (Ideal.ofBits .f32 0x3F000000#32 * v2 (ix2 i (⟨j, by omega⟩ : Fin 2048))) + Ideal.ofBits .f32 0x3F000000#32) * (∑ l, (v0 (ix2 i l) : EReal) * v4 (ix2 l j))
      + (Ideal.ofBits .f32 0x3F000000#32 * Ideal.tanh (Ideal.ofBits .f32 0x3F000000#32 * v2 (ix2 i (⟨1024 + j, by omega⟩ : Fin 2048))) + Ideal.ofBits .f32 0x3F000000#32) * ∑ l, (v1 (ix2 i l) : EReal) * v5 (ix2 l j)
    = A.merged (r i) j := by
  rw [t1_val T i j, t2_val T i j, T.pg, T.pg, sigmoid32, sigmoid32]
  rfl
theorem mix_val (i : Fin 512) (j : Fin 1024) : ∑ k : Fin 1024, ((Ideal.ofBits .f32 0x3F000000#32 * Ideal.tanh (Ideal.ofBits .f32 0x3F000000#32 * v2 (ix2 i (⟨k, by omega⟩ : Fin 2048))) + Ideal.ofBits .f32 0x3F000000#32) * (∑ l, (v0 (ix2 i l) : EReal) * v4 (ix2 l k))
      + (Ideal.ofBits .f32 0x3F000000#32 * Ideal.tanh (Ideal.ofBits .f32 0x3F000000#32 * v2 (ix2 i (⟨1024 + k, by omega⟩ : Fin 2048))) + Ideal.ofBits .f32 0x3F000000#32) * ∑ l, (v1 (ix2 i l) : EReal) * v5 (ix2 l k)) * v6 (ix2 k j)
    = A.mix (r i) j :=
  Finset.sum_congr rfl fun k _ => congrArg₂ (fun p q : EReal => p * q) (merged_val T i k) (T.wo k j)
theorem x1_val (i : Fin 512) (X : Fin 1024 → EReal) (e : ∀ k, X k = A.mix (r i) k) (j : Fin 1024) :
    v3 (ix2 i j) + X j * Ideal.rsqrt (Ideal.div (∑ k, X k * X k) (Ideal.ofBits .f32 0x44800000#32) + Ideal.ofBits .f32 0x358637BD#32) * v7 (ix2 0 j)
      = A.x1 (r i) j := by
  rw [rr_val X _ e, e, T.x, T.g2]
  rfl
theorem h_val (i : Fin 512) (X : Fin 1024 → EReal) (e : ∀ k, X k = A.x1 (r i) k) (j : Fin 1024) :
    X j * Ideal.rsqrt (Ideal.div (∑ k, X k * X k) (Ideal.ofBits .f32 0x44800000#32) + Ideal.ofBits .f32 0x358637BD#32) * v8 (ix2 0 j)
      = A.h (r i) j := by
  rw [rr_val X _ e, e, T.g3]
  rfl
end

theorem t1_block (t : Fin cfg0.N) (y0 : Fin 512) (y1 : Fin 1024) : (out0_9 (iblk m c 0 t) (iblk m c 1 t) (iblk m c 2 t) (iblk m c 3 t) (iblk m c 4 t) (iblk m c 5 t) (iblk m c 6 t) (iblk m c 7 t) (iblk m c 8 t) (ix2 y0 y1) : EReal) = (ent m c).t1 (row t y0) y1 := by
  unfold out0_9
  frame_open
  frame_out
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]
    rw [show y1 = x1 from Fin.ext h1]
  · rw [show y0 = ⟨256 + x0, by omega⟩ from Fin.ext h0]
    exact t1_val (tile t) ⟨256 + x0, by omega⟩ x1
  · rw [show y0 = ⟨x0, by omega⟩ from Fin.ext h0]
    exact t1_val (tile t) ⟨x0, by omega⟩ x1
theorem t2_block (t : Fin cfg0.N) (y0 : Fin 512) (y1 : Fin 1024) : (out0_10 (iblk m c 0 t) (iblk m c 1 t) (iblk m c 2 t) (iblk m c 3 t) (iblk m c 4 t) (iblk m c 5 t) (iblk m c 6 t) (iblk m c 7 t) (iblk m c 8 t) (ix2 y0 y1) : EReal) = (ent m c).t2 (row t y0) y1 := by
  unfold out0_10
  frame_open
  frame_out
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]
    rw [show y1 = x1 from Fin.ext h1]
  · rw [show y0 = ⟨256 + x0, by omega⟩ from Fin.ext h0]
    exact t2_val (tile t) ⟨256 + x0, by omega⟩ x1
  · rw [show y0 = ⟨x0, by omega⟩ from Fin.ext h0]
    exact t2_val (tile t) ⟨x0, by omega⟩ x1
theorem merged_block (t : Fin cfg0.N) (y0 : Fin 512) (y1 : Fin 1024) : (out0_11 (iblk m c 0 t) (iblk m c 1 t) (iblk m c 2 t) (iblk m c 3 t) (iblk m c 4 t) (iblk m c 5 t) (iblk m c 6 t) (iblk m c 7 t) (iblk m c 8 t) (ix2 y0 y1) : EReal) = (ent m c).merged (row t y0) y1 := by
  unfold out0_11
  frame_open
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]
    rw [show y1 = x1 from Fin.ext h1]
  · rw [show y0 = ⟨256 + x0, by omega⟩ from Fin.ext h0]
    exact merged_val (tile t) ⟨256 + x0, by omega⟩ x1
  · rw [show y0 = ⟨x0, by omega⟩ from Fin.ext h0]
    exact merged_val (tile t) ⟨x0, by omega⟩ x1
theorem mix_block (t : Fin cfg0.N) (y0 : Fin 512) (y1 : Fin 1024) : (out0_12 (iblk m c 0 t) (iblk m c 1 t) (iblk m c 2 t) (iblk m c 3 t) (iblk m c 4 t) (iblk m c 5 t) (iblk m c 6 t) (iblk m c 7 t) (iblk m c 8 t) (ix2 y0 y1) : EReal) = (ent m c).mix (row t y0) y1 := by
  unfold out0_12
  frame_open
  frame_out
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]
    rw [show y1 = x1 from Fin.ext h1]
  · rw [show y0 = ⟨256 + x0, by omega⟩ from Fin.ext h0]
    exact mix_val (tile t) ⟨256 + x0, by omega⟩ x1
  · rw [show y0 = ⟨x0, by omega⟩ from Fin.ext h0]
    exact mix_val (tile t) ⟨x0, by omega⟩ x1
theorem x1_block (t : Fin cfg0.N) (y0 : Fin 512) (y1 : Fin 1024) : (out0_13 (iblk m c 0 t) (iblk m c 1 t) (iblk m c 2 t) (iblk m c 3 t) (iblk m c 4 t) (iblk m c 5 t) (iblk m c 6 t) (iblk m c 7 t) (iblk m c 8 t) (ix2 y0 y1) : EReal) = (ent m c).x1 (row t y0) y1 := by
  unfold out0_13
  frame_open
  frame_out
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]
    rw [show y1 = x1 from Fin.ext h1]
  · rw [show y0 = ⟨256 + x0, by omega⟩ from Fin.ext h0]
    exact x1_val (tile t) ⟨256 + x0, by omega⟩ _ (mix_val (tile t) ⟨256 + x0, by omega⟩) x1
  · rw [show y0 = ⟨x0, by omega⟩ from Fin.ext h0]
    exact x1_val (tile t) ⟨x0, by omega⟩ _ (mix_val (tile t) ⟨x0, by omega⟩) x1
theorem h_block (t : Fin cfg0.N) (y0 : Fin 512) (y1 : Fin 1024) : (out0_14 (iblk m c 0 t) (iblk m c 1 t) (iblk m c 2 t) (iblk m c 3 t) (iblk m c 4 t) (iblk m c 5 t) (iblk m c 6 t) (iblk m c 7 t) (iblk m c 8 t) (ix2 y0 y1) : EReal) = (ent m c).h (row t y0) y1 := by
  unfold out0_14
  frame_open
  frame_out
  canon_tiles x h using (View.cover_of_tiledBy _ ![256, 1024] (by sl_kernel_rfl) _)
  all_goals
    idx_vars x
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]
    rw [show y1 = x1 from Fin.ext h1]
  · rw [show y0 = ⟨256 + x0, by omega⟩ from Fin.ext h0]
    exact h_val (tile t) ⟨256 + x0, by omega⟩ _ (fun k => x1_val (tile t) ⟨256 + x0, by omega⟩ _ (mix_val (tile t) ⟨256 + x0, by omega⟩) k) x1
  · rw [show y0 = ⟨x0, by omega⟩ from Fin.ext h0]
    exact h_val (tile t) ⟨x0, by omega⟩ _ (fun k => x1_val (tile t) ⟨x0, by omega⟩ _ (mix_val (tile t) ⟨x0, by omega⟩) k) x1
theorem arr_t1 : (dats m 0 c).arrAt 9 cfg0.N = fun y : S4096x1024.Idx => (ent m c).t1 (y 0) (y 1) := by
  refine (dats m 0 c).arrAt_eq_of_covers 9 _ (by decide +kernel) fun t hf y => ?_
  idx_vars y
  blk_simp
  have e0 : (win0_9.blk t).view.emb (ix2 y0 y1) 0 = row t y0 := by
    apply Fin.ext
    blk_simp [idx t, row]
  have e1 : (win0_9.blk t).view.emb (ix2 y0 y1) 1 = y1 := by
    apply Fin.ext
    blk_simp [idx t]
  rw [after0_9, e0, e1]
  exact t1_block t y0 y1
theorem arr_t2 : (dats m 0 c).arrAt 10 cfg0.N = fun y : S4096x1024.Idx => (ent m c).t2 (y 0) (y 1) := by
  refine (dats m 0 c).arrAt_eq_of_covers 10 _ (by decide +kernel) fun t hf y => ?_
  idx_vars y
  blk_simp
  have e0 : (win0_10.blk t).view.emb (ix2 y0 y1) 0 = row t y0 := by
    apply Fin.ext
    blk_simp [idx t, row]
  have e1 : (win0_10.blk t).view.emb (ix2 y0 y1) 1 = y1 := by
    apply Fin.ext
    blk_simp [idx t]
  rw [after0_10, e0, e1]
  exact t2_block t y0 y1
theorem arr_merged : (dats m 0 c).arrAt 11 cfg0.N = fun y : S4096x1024.Idx => (ent m c).merged (y 0) (y 1) := by
  refine (dats m 0 c).arrAt_eq_of_covers 11 _ (by decide +kernel) fun t hf y => ?_
  idx_vars y
  blk_simp
  have e0 : (win0_11.blk t).view.emb (ix2 y0 y1) 0 = row t y0 := by
    apply Fin.ext
    blk_simp [idx t, row]
  have e1 : (win0_11.blk t).view.emb (ix2 y0 y1) 1 = y1 := by
    apply Fin.ext
    blk_simp [idx t]
  rw [after0_11, e0, e1]
  exact merged_block t y0 y1
theorem arr_mix : (dats m 0 c).arrAt 12 cfg0.N = fun y : S4096x1024.Idx => (ent m c).mix (y 0) (y 1) := by
  refine (dats m 0 c).arrAt_eq_of_covers 12 _ (by decide +kernel) fun t hf y => ?_
  idx_vars y
  blk_simp
  have e0 : (win0_12.blk t).view.emb (ix2 y0 y1) 0 = row t y0 := by
    apply Fin.ext
    blk_simp [idx t, row]
  have e1 : (win0_12.blk t).view.emb (ix2 y0 y1) 1 = y1 := by
    apply Fin.ext
    blk_simp [idx t]
  rw [after0_12, e0, e1]
  exact mix_block t y0 y1
theorem arr_x1 : (dats m 0 c).arrAt 13 cfg0.N = fun y : S4096x1024.Idx => (ent m c).x1 (y 0) (y 1) := by
  refine (dats m 0 c).arrAt_eq_of_covers 13 _ (by decide +kernel) fun t hf y => ?_
  idx_vars y
  blk_simp
  have e0 : (win0_13.blk t).view.emb (ix2 y0 y1) 0 = row t y0 := by
    apply Fin.ext
    blk_simp [idx t, row]
  have e1 : (win0_13.blk t).view.emb (ix2 y0 y1) 1 = y1 := by
    apply Fin.ext
    blk_simp [idx t]
  rw [after0_13, e0, e1]
  exact x1_block t y0 y1
theorem arr_h : (dats m 0 c).arrAt 14 cfg0.N = fun y : S4096x1024.Idx => (ent m c).h (y 0) (y 1) := by
  refine (dats m 0 c).arrAt_eq_of_covers 14 _ (by decide +kernel) fun t hf y => ?_
  idx_vars y
  blk_simp
  have e0 : (win0_14.blk t).view.emb (ix2 y0 y1) 0 = row t y0 := by
    apply Fin.ext
    blk_simp [idx t, row]
  have e1 : (win0_14.blk t).view.emb (ix2 y0 y1) 1 = y1 := by
    apply Fin.ext
    blk_simp [idx t]
  rw [after0_14, e0, e1]
  exact h_block t y0 y1
end Cert.Kernel12Ideal.Val
end
-- ==== Proof.MixTailValue.lean ====
module

public import proofs.«01_k».proof.Defs
public import proofs.«01_k».proof.Proof.MixTail
public import proofs.«01_k».proof.Proof.Gen.Reference12Ideal.Run

@[expose] public section

set_option maxRecDepth 16384

/-!
The end of the mixer: the kernel's arrays are the reference's.
-/

noncomputable section
open Idealize.ShloMosaic Idealize.ShloMosaic.TcCoe Idealize.SL.Sem
namespace Cert.Reference12Ideal.Val
open Cert.Kernel12Ideal.Val (In)
open Cert.Reference12Ideal Cert.Reference12Ideal.Gen

/-- The arrays of the reference's arguments. -/
abbrev yg (m : (ℓ : Loc nD τ sig) → Buf (Elt Ideal) ℓ) (c : Dev nD) : FVec Ideal S4096x1024 .bf16 := m ((c : Thread nD τ).loc main_arg0)
abbrev ys (m : (ℓ : Loc nD τ sig) → Buf (Elt Ideal) ℓ) (c : Dev nD) : FVec Ideal S4096x1024 .bf16 := m ((c : Thread nD τ).loc main_arg1)
abbrev pg (m : (ℓ : Loc nD τ sig) → Buf (Elt Ideal) ℓ) (c : Dev nD) : FVec Ideal S4096x2048 .bf16 := m ((c : Thread nD τ).loc main_arg2)
abbrev x (m : (ℓ : Loc nD τ sig) → Buf (Elt Ideal) ℓ) (c : Dev nD) : FVec Ideal S4096x1024 .f32 := m ((c : Thread nD τ).loc main_arg3)
abbrev wbg (m : (ℓ : Loc nD τ sig) → Buf (Elt Ideal) ℓ) (c : Dev nD) : FVec Ideal S1024x1024 .f32 := m ((c : Thread nD τ).loc main_arg4)
abbrev wbs (m : (ℓ : Loc nD τ sig) → Buf (Elt Ideal) ℓ) (c : Dev nD) : FVec Ideal S1024x1024 .f32 := m ((c : Thread nD τ).loc main_arg5)
abbrev wo (m : (ℓ : Loc nD τ sig) → Buf (Elt Ideal) ℓ) (c : Dev nD) : FVec Ideal S1024x1024 .f32 := m ((c : Thread nD τ).loc main_arg6)
abbrev g2 (m : (ℓ : Loc nD τ sig) → Buf (Elt Ideal) ℓ) (c : Dev nD) : FVec Ideal S1024 .f32 := m ((c : Thread nD τ).loc main_arg7)
abbrev g3 (m : (ℓ : Loc nD τ sig) → Buf (Elt Ideal) ℓ) (c : Dev nD) : FVec Ideal S1024 .f32 := m ((c : Thread nD τ).loc main_arg8)

/-- Their entries. -/
def ent (m : (ℓ : Loc nD τ sig) → Buf (Elt Ideal) ℓ) (c : Dev nD) : In where
  yg i k := yg m c (ix2 i k)
  ys i k := ys m c (ix2 i k)
  pg i k := pg m c (ix2 i k)
  x i k := x m c (ix2 i k)
  wbg i k := wbg m c (ix2 i k)
  wbs i k := wbs m c (ix2 i k)
  wo i k := wo m c (ix2 i k)
  g2 k := g2 m c (ix1 k)
  g3 k := g3 m c (ix1 k)

variable {m : (ℓ : Loc nD τ sig) → Buf (Elt Ideal) ℓ} {c : Dev nD}

/-- The mixer's output and the sum with the layer's input, which later results go through. -/
def mixr (m : (ℓ : Loc nD τ sig) → Buf (Elt Ideal) ℓ) (c : Dev nD) : FVec Ideal S4096x1024 .f32 := Host.dotGeneral dot_S4096x1024_S1024x1024_S4096x1024_1_0_0_1_n_n none (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 (pg m c) bitsLt_bf16_f32) slices_S4096x2048_S4096x1024_0_0))))) (Host.dotGeneral dot_S4096x1024_S1024x1024_S4096x1024_1_0_0_1_n_n none (extf .f32 (yg m c) bitsLt_bf16_f32) (wbg m c))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 (pg m c) bitsLt_bf16_f32) slices_S4096x2048_S4096x1024_0_1024))))) (Host.dotGeneral dot_S4096x1024_S1024x1024_S4096x1024_1_0_0_1_n_n none (extf .f32 (ys m c) bitsLt_bf16_f32) (wbs m c)))) (wo m c)
abbrev x1r (m : (ℓ : Loc nD τ sig) → Buf (Elt Ideal) ℓ) (c : Dev nD) : FVec Ideal S4096x1024 .f32 := Cert.Reference12Ideal.Value.res_main_v36 (F := Ideal) m c

theorem x1_eq : x1r m c = addf (x m c) (mulf (mulf (mixr m c) (broadcastInDim S4096x1024 ![0, 1] bcast_S4096x1_S4096x1024_0_1 (Host.rsqrt (addf (Host.divf (broadcastInDim S4096x1 ![0] bcast_S4096_S4096x1_0 (Host.reduceAdd (mulf (mixr m c) (mixr m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (g2 m c)))) := rfl

theorem h_eq : (Cert.Reference12Ideal.Value.res_main_v53 (F := Ideal) m c : FVec Ideal S4096x1024 .bf16) = truncf .bf16 (mulf (mulf (x1r m c) (broadcastInDim S4096x1024 ![0, 1] bcast_S4096x1_S4096x1024_0_1 (Host.rsqrt (addf (Host.divf (broadcastInDim S4096x1 ![0] bcast_S4096_S4096x1_0 (Host.reduceAdd (mulf (x1r m c) (x1r m c)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (g3 m c)))) bitsLt_bf16_f32 := rfl

theorem t1_at (n : Fin 4096) (j : Fin 1024) : ((truncf .bf16 (Host.dotGeneral dot_S4096x1024_S1024x1024_S4096x1024_1_0_0_1_n_n none (extf .f32 (yg m c) bitsLt_bf16_f32) (wbg m c)) bitsLt_bf16_f32 : FVec Ideal S4096x1024 .bf16) (ix2 n j) : EReal) = (ent m c).t1 n j := by
  pointwise
  rfl

theorem t2_at (n : Fin 4096) (j : Fin 1024) : ((truncf .bf16 (Host.dotGeneral dot_S4096x1024_S1024x1024_S4096x1024_1_0_0_1_n_n none (extf .f32 (ys m c) bitsLt_bf16_f32) (wbs m c)) bitsLt_bf16_f32 : FVec Ideal S4096x1024 .bf16) (ix2 n j) : EReal) = (ent m c).t2 n j := by
  pointwise
  rfl

theorem merged_at (n : Fin 4096) (j : Fin 1024) : ((truncf .bf16 (addf (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] (extf .f32 (pg m c) bitsLt_bf16_f32) slices_S4096x2048_S4096x1024_0_0))))) (Host.dotGeneral dot_S4096x1024_S1024x1024_S4096x1024_1_0_0_1_n_n none (extf .f32 (yg m c) bitsLt_bf16_f32) (wbg m c))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 (pg m c) bitsLt_bf16_f32) slices_S4096x2048_S4096x1024_0_1024))))) (Host.dotGeneral dot_S4096x1024_S1024x1024_S4096x1024_1_0_0_1_n_n none (extf .f32 (ys m c) bitsLt_bf16_f32) (wbs m c)))) bitsLt_bf16_f32 : FVec Ideal S4096x1024 .bf16) (ix2 n j) : EReal) = (ent m c).merged n j := by
  pointwise
  rfl

theorem mix_at (n : Fin 4096) (j : Fin 1024) : (mixr m c (ix2 n j) : EReal) = (ent m c).mix n j := by
  unfold mixr
  pointwise
  rfl

/-- The normalised entry of a row known entry by entry. -/
theorem hat (X x : Fin 1024 → EReal) (h : ∀ k, X k = x k) (j : Fin 1024) : X j * Ideal.rsqrt (Ideal.div (∑ k, X k * X k) (Ideal.ofBits .f32 0x44800000#32)
    + Ideal.ofBits .f32 0x358637BD#32) = x j * In.rr x := by
  rw [show X = x from funext h]
  rfl

theorem x1_at (n : Fin 4096) (j : Fin 1024) : (x1r m c (ix2 n j) : EReal) = (ent m c).x1 n j := by
  rw [x1_eq]
  pointwise
  exact congrArg₂ (fun p q : EReal => p + q) rfl (congrArg₂ (fun p q : EReal => p * q)
    (hat (fun k => mixr m c (ix2 n k)) _ (mix_at n) j) rfl)

theorem h_at (n : Fin 4096) (j : Fin 1024) : ((Cert.Reference12Ideal.Value.res_main_v53 (F := Ideal) m c : FVec Ideal S4096x1024 .bf16) (ix2 n j) : EReal)
    = (ent m c).h n j := by
  rw [h_eq]
  pointwise
  exact congrArg₂ (fun p q : EReal => p * q) (hat (fun k => x1r m c (ix2 n k)) _ (x1_at n) j) rfl
end Cert.Reference12Ideal.Val

namespace Cert.Kernel12Ideal.Val
open Cert.Kernel12Ideal

theorem value : Cert.algebraic_Kernel12Ideal_Reference12Ideal := by
  intro m ρ m' ρ' _ hagree
  refine ⟨fun c => fun y : S4096x1024.Idx => (ent m c).t1 (y 0) (y 1), fun c => fun y : S4096x1024.Idx => (ent m c).t2 (y 0) (y 1), fun c => fun y : S4096x1024.Idx => (ent m c).merged (y 0) (y 1), fun c => fun y : S4096x1024.Idx => (ent m c).mix (y 0) (y 1), fun c => fun y : S4096x1024.Idx => (ent m c).x1 (y 0) (y 1), fun c => fun y : S4096x1024.Idx => (ent m c).h (y 0) (y 1), ?_, ?_⟩
  · refine (θ_run (defs (F := Ideal)) _ _).mono (fun r h c => ?_) (Cert.Kernel12Ideal.Value.run_blocks m ρ)
    exact ⟨(h c).1.trans arr_t1, (h c).2.1.trans arr_t2, (h c).2.2.1.trans arr_merged, (h c).2.2.2.1.trans arr_mix, (h c).2.2.2.2.1.trans arr_x1, (h c).2.2.2.2.2.1.trans arr_h, (h c).2.2.2.2.2.2⟩
  · refine (θ_run (Reference12Ideal.defs (F := Ideal)) _ _).mono (fun r h c => ?_) (Reference12Ideal.Value.run m' ρ')
    obtain ⟨e0, e1, e2, e3, e4, e5, e6, e7, e8⟩ := hagree c
    have e : Reference12Ideal.Val.ent m' c = ent m c := by
      unfold Reference12Ideal.Val.ent ent
      rw [In.mk.injEq]
      exact ⟨funext fun i => funext fun k => congrFun e0 (ix2 i k), funext fun i => funext fun k => congrFun e1 (ix2 i k), funext fun i => funext fun k => congrFun e2 (ix2 i k), funext fun i => funext fun k => congrFun e3 (ix2 i k), funext fun i => funext fun k => congrFun e4 (ix2 i k), funext fun i => funext fun k => congrFun e5 (ix2 i k), funext fun i => funext fun k => congrFun e6 (ix2 i k), funext fun k => congrFun e7 (ix1 k), funext fun k => congrFun e8 (ix1 k)⟩
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · funext y
      idx_vars y
      exact (Reference12Ideal.Val.t1_at (m := m') (c := c) y0 y1).trans (congrArg (fun A : In => A.t1 y0 y1) e)
    · funext y
      idx_vars y
      exact (Reference12Ideal.Val.t2_at (m := m') (c := c) y0 y1).trans (congrArg (fun A : In => A.t2 y0 y1) e)
    · funext y
      idx_vars y
      exact (Reference12Ideal.Val.merged_at (m := m') (c := c) y0 y1).trans (congrArg (fun A : In => A.merged y0 y1) e)
    · funext y
      idx_vars y
      exact (Reference12Ideal.Val.mix_at (m := m') (c := c) y0 y1).trans (congrArg (fun A : In => A.mix y0 y1) e)
    · funext y
      idx_vars y
      exact (Reference12Ideal.Val.x1_at (m := m') (c := c) y0 y1).trans (congrArg (fun A : In => A.x1 y0 y1) e)
    · funext y
      idx_vars y
      exact (Reference12Ideal.Val.h_at (m := m') (c := c) y0 y1).trans (congrArg (fun A : In => A.h y0 y1) e)
end Cert.Kernel12Ideal.Val
end
-- ==== Proof.InBlocks.lean ====
module

public import proofs.«01_k».proof.Proof.Gen.Kernel13Ideal.Value
public import proofs.«01_k».proof.Proof.TokenSum

@[expose] public section

set_option maxRecDepth 16384

/-!
The gradient of the input projection's weight, cut into the eight devices' blocks: the kernel adds up, over eight tiles of 512
tokens, the products of two column groups' gradients and the normalised input, and at the last tile cuts the two sums and the
two given groups into blocks of 898 rows.
-/

noncomputable section
open Idealize.ShloMosaic Idealize.ShloMosaic.TcCoe Idealize.SL.Sem
open Idealize.ShloMosaic.Pipeline (Dat)
namespace Cert.Kernel13Ideal.Val
open Cert.Common Cert.Kernel13Ideal Cert.Kernel13Ideal.Gen

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0] ∧ win0_6.index t = ![0, 0, 0] :=
  (by decide +kernel : ∀ t : Fin grid0.N, _)

variable {m : (ℓ : Loc nD τ sig) → Buf (Elt Ideal) ℓ} {c : Dev nD}

/-- The arrays of the arguments. -/
abbrev act (m : (ℓ : Loc nD τ sig) → Buf (Elt Ideal) ℓ) (c : Dev nD) : FVec Ideal S4096x1024 .bf16 := m ((c : Thread nD τ).loc main_arg0)
abbrev dpa (m : (ℓ : Loc nD τ sig) → Buf (Elt Ideal) ℓ) (c : Dev nD) : FVec Ideal S4096x3072 .bf16 := m ((c : Thread nD τ).loc main_arg1)
abbrev dlow (m : (ℓ : Loc nD τ sig) → Buf (Elt Ideal) ℓ) (c : Dev nD) : FVec Ideal S4096x128 .bf16 := m ((c : Thread nD τ).loc main_arg2)
abbrev dws (m : (ℓ : Loc nD τ sig) → Buf (Elt Ideal) ℓ) (c : Dev nD) : FVec Ideal S2048x1024 .bf16 := m ((c : Thread nD τ).loc main_arg3)
abbrev dwg (m : (ℓ : Loc nD τ sig) → Buf (Elt Ideal) ℓ) (c : Dev nD) : FVec Ideal S2048x1024 .bf16 := m ((c : Thread nD τ).loc main_arg4)

theorem act_at (t : Fin cfg0.N) (k : Fin 512) (j : Fin 1024) : ((iblk m c 0 t : Vec Ideal S512x1024 .bf16) (ix2 k j) : EReal) = act m c (ix2 (tok N_0 t k) j) := by
  blk_ext [iblk, V, idx t, tok]
theorem dpa_at (t : Fin cfg0.N) (k : Fin 512) (j : Fin 3072) : ((iblk m c 1 t : Vec Ideal S512x3072 .bf16) (ix2 k j) : EReal) = dpa m c (ix2 (tok N_0 t k) j) := by
  blk_ext [iblk, V, idx t, tok]
theorem dlow_at (t : Fin cfg0.N) (k : Fin 512) (j : Fin 128) : ((iblk m c 2 t : Vec Ideal S512x128 .bf16) (ix2 k j) : EReal) = dlow m c (ix2 (tok N_0 t k) j) := by
  blk_ext [iblk, V, idx t, tok]
theorem dws_at (t : Fin cfg0.N) (k : Fin 2048) (j : Fin 1024) : ((iblk m c 3 t : Vec Ideal S2048x1024 .bf16) (ix2 k j) : EReal) = dws m c (ix2 k j) := by
  blk_ext [iblk, V, idx t]
theorem dwg_at (t : Fin cfg0.N) (k : Fin 2048) (j : Fin 1024) : ((iblk m c 4 t : Vec Ideal S2048x1024 .bf16) (ix2 k j) : EReal) = dwg m c (ix2 k j) := by
  blk_ext [iblk, V, idx t]

/-- The product of two arrays over the tokens. -/
def prod {w : ℕ} (x : Fin 4096 → Fin w → EReal) (y : Fin 4096 → Fin 1024 → EReal) (a : Fin w) (b : Fin 1024) : EReal :=
  ∑ n : Fin 4096, x n a * y n b

/-- A tile's part of it. -/
def part {w : ℕ} (x : Fin 4096 → Fin w → EReal) (y : Fin 4096 → Fin 1024 → EReal) (t : Fin cfg0.N) (a : Fin w) (b : Fin 1024) : EReal :=
  ∑ k : Fin 512, x (tok N_0 t k) a * y (tok N_0 t k) b

theorem part_val {w : ℕ} (t : Fin cfg0.N) (X : Fin 512 → Fin w → EReal) (Y : Fin 512 → Fin 1024 → EReal) (x : Fin 4096 → Fin w → EReal)
    (y : Fin 4096 → Fin 1024 → EReal) (hX : ∀ k j, X k j = x (tok N_0 t k) j) (hY : ∀ k j, Y k j = y (tok N_0 t k) j)
    (a a' : Fin w) (b b' : Fin 1024) (ha : (a : ℕ) = a') (hb : (b : ℕ) = b') :
    ∑ k : Fin 512, X k a' * Y k b' = part x y t a b := by
  rw [show a = a' from Fin.ext ha, show b = b' from Fin.ext hb]
  exact Finset.sum_congr rfl fun k _ => congrArg₂ (fun p q : EReal => p * q) (hX k _) (hY k _)

/-- The arguments as functions of token and channel. -/
abbrev actF (m : (ℓ : Loc nD τ sig) → Buf (Elt Ideal) ℓ) (c : Dev nD) : Fin 4096 → Fin 1024 → EReal := fun n a => act m c (ix2 n a)
abbrev dpaF (m : (ℓ : Loc nD τ sig) → Buf (Elt Ideal) ℓ) (c : Dev nD) : Fin 4096 → Fin 3072 → EReal := fun n a => dpa m c (ix2 n a)
abbrev dlowF (m : (ℓ : Loc nD τ sig) → Buf (Elt Ideal) ℓ) (c : Dev nD) : Fin 4096 → Fin 128 → EReal := fun n a => dlow m c (ix2 n a)

theorem dpa_part (t : Fin cfg0.N) (a a' : Fin 3072) (b b' : Fin 1024) (ha : (a : ℕ) = a') (hb : (b : ℕ) = b') :
    ∑ k : Fin 512, @HMul.hMul EReal EReal EReal instHMul ((iblk m c 1 t : Vec Ideal S512x3072 .bf16) (ix2 k a')) ((iblk m c 0 t : Vec Ideal S512x1024 .bf16) (ix2 k b'))
      = part (dpaF m c) (actF m c) t a b :=
  part_val t (fun k j => (iblk m c 1 t : Vec Ideal S512x3072 .bf16) (ix2 k j)) (fun k j => (iblk m c 0 t : Vec Ideal S512x1024 .bf16) (ix2 k j))
    (dpaF m c) (actF m c) (dpa_at t) (act_at t) a a' b b' ha hb

theorem dlow_part (t : Fin cfg0.N) (a : Fin 128) (b : Fin 1024) :
    ∑ k : Fin 512, @HMul.hMul EReal EReal EReal instHMul ((iblk m c 2 t : Vec Ideal S512x128 .bf16) (ix2 k a)) ((iblk m c 0 t : Vec Ideal S512x1024 .bf16) (ix2 k b))
      = part (dlowF m c) (actF m c) t a b :=
  part_val t (fun k j => (iblk m c 2 t : Vec Ideal S512x128 .bf16) (ix2 k j)) (fun k j => (iblk m c 0 t : Vec Ideal S512x1024 .bf16) (ix2 k j))
    (dlowF m c) (actF m c) (dlow_at t) (act_at t) a a b b rfl rfl

set_option maxHeartbeats 1000000 in
theorem stepA (t : Fin cfg0.N) (h0 : t.val % 8 = 0) (h1 : ¬ t.val % 8 = 7) (a : Fin 3072) (b : Fin 1024) :
    ((outsAt0 m c t.val t.isLt).2.2.1 (ix2 a b) : EReal) = part (dpaF m c) (actF m c) t a b := by
  rw [outsAt0_A m c t h0 h1]
  frame_open
  simp (disch := decide) only [↓ View.readCov_skip, ↓ View.readCov_cons_toLoadRect, ↓ View.readCov_fill]
  frame_out
  by_cases ha : a.val < 1024
  rotate_left
  by_cases hb : a.val < 2048
  rotate_left 2
  · refine (canon_of_read (Val := Elt Ideal) VS0_0 _ (Rect.unit ![0, 0] ![1024, 1024] inb_S3072x1024_S1024x1024_0_0) (ix2 ⟨a, ha⟩ b) _ (by idx_ext)).trans ?_
    simp (disch := decide) only [↓ View.readCov_skip, ↓ View.readCov_cons_toLoadRect, ↓ View.readCov_fill]
    pointwise [k0_pay1, k0_pay13, k0_pay14, k0_pay15, k0_pay16, k0_pay17]
    exact dpa_part t a a b b rfl rfl
  · refine (canon_of_read (Val := Elt Ideal) VS0_0 _ (Rect.unit ![1024, 0] ![1024, 1024] inb_S3072x1024_S1024x1024_1024_0) (ix2 ⟨a - 1024, by omega⟩ b) _ (by idx_ext)).trans ?_
    simp (disch := decide) only [↓ View.readCov_skip, ↓ View.readCov_cons_toLoadRect, ↓ View.readCov_fill]
    pointwise [k0_pay1, k0_pay13, k0_pay14, k0_pay15, k0_pay16, k0_pay17]
    exact dpa_part t a ⟨1024 + (a - 1024), by omega⟩ b b (Nat.add_sub_of_le (by omega : 1024 ≤ a.val)).symm rfl
  · refine (canon_of_read (Val := Elt Ideal) VS0_0 _ (Rect.unit ![2048, 0] ![1024, 1024] inb_S3072x1024_S1024x1024_2048_0) (ix2 ⟨a - 2048, by omega⟩ b) _ (by idx_ext)).trans ?_
    simp (disch := decide) only [↓ View.readCov_skip, ↓ View.readCov_cons_toLoadRect, ↓ View.readCov_fill]
    pointwise [k0_pay1, k0_pay13, k0_pay14, k0_pay15, k0_pay16, k0_pay17]
    exact dpa_part t a ⟨2048 + (a - 2048), by omega⟩ b b (Nat.add_sub_of_le (by omega : 2048 ≤ a.val)).symm rfl

theorem lowA (t : Fin cfg0.N) (h0 : t.val % 8 = 0) (h1 : ¬ t.val % 8 = 7) (a : Fin 128) (b : Fin 1024) :
    ((outsAt0 m c t.val t.isLt).2.2.2 (ix2 a b) : EReal) = part (dlowF m c) (actF m c) t a b := by
  rw [outsAt0_A m c t h0 h1]
  frame_open
  try simp (disch := decide) only [↓ View.readCov_skip, ↓ View.readCov_cons_toLoadRect, ↓ View.readCov_fill]
  frame_out
  pointwise [k0_pay1, k0_pay13, k0_pay14, k0_pay15, k0_pay16, k0_pay17]
  exact dlow_part t a b

set_option maxHeartbeats 1000000 in
theorem stepB (t : Fin cfg0.N) (h0 : ¬ t.val % 8 = 0) (h1 : ¬ t.val % 8 = 7) (a : Fin 3072) (b : Fin 1024) :
    ((outsAt0 m c t.val t.isLt).2.2.1 (ix2 a b) : EReal) = (outsAt0 m c (t.val - 1) (by omega)).2.2.1 (ix2 a b) + part (dpaF m c) (actF m c) t a b := by
  rw [outsAt0_B m c t h0 h1]
  frame_open
  simp (disch := decide) only [↓ View.readCov_skip, ↓ View.readCov_cons_toLoadRect, ↓ View.readCov_fill]
  frame_out
  canon_tiles x h using (View.cover_of_tiledBy _ ![1024, 1024] (by sl_kernel_rfl) _)
  all_goals
    idx_vars x
    pointwise [k0_pay1, k0_pay13, k0_pay14, k0_pay15, k0_pay16, k0_pay17]
    refine congrArg₂ (fun p q : EReal => p + q) ((congrFun (Memref.IsWhole.read_unread _ _) _).trans
      (congrArg _ ((ix2_inj ..).2 ⟨Fin.ext h0.symm, Fin.ext h1.symm⟩))) ?_
  · exact dpa_part t a ⟨2048 + x0, by omega⟩ b x1 h0 h1
  · exact dpa_part t a ⟨1024 + x0, by omega⟩ b x1 h0 h1
  · exact dpa_part t a ⟨x0, by omega⟩ b x1 h0 h1

theorem lowB (t : Fin cfg0.N) (h0 : ¬ t.val % 8 = 0) (h1 : ¬ t.val % 8 = 7) (a : Fin 128) (b : Fin 1024) :
    ((outsAt0 m c t.val t.isLt).2.2.2 (ix2 a b) : EReal) = (outsAt0 m c (t.val - 1) (by omega)).2.2.2 (ix2 a b) + part (dlowF m c) (actF m c) t a b := by
  rw [outsAt0_B m c t h0 h1]
  frame_open
  try simp (disch := decide) only [↓ View.readCov_skip, ↓ View.readCov_cons_toLoadRect, ↓ View.readCov_fill]
  frame_out
  pointwise [k0_pay1, k0_pay13, k0_pay14, k0_pay15, k0_pay16, k0_pay17]
  exact congrArg₂ (fun p q : EReal => p + q) (congrFun (Memref.IsWhole.read_unread _ _) _) (dlow_part t a b)

set_option maxHeartbeats 1000000 in
theorem stepC (t : Fin cfg0.N) (h0 : ¬ t.val % 8 = 0) (h1 : t.val % 8 = 7) (a : Fin 3072) (b : Fin 1024) :
    ((outsAt0 m c t.val t.isLt).2.2.1 (ix2 a b) : EReal) = (outsAt0 m c (t.val - 1) (by omega)).2.2.1 (ix2 a b) + part (dpaF m c) (actF m c) t a b := by
  rw [outsAt0_C m c t h0 h1]
  frame_open
  simp (disch := decide) only [↓ View.readCov_skip, ↓ View.readCov_cons_toLoadRect, ↓ View.readCov_fill]
  frame_out
  canon_tiles x h using (View.cover_of_tiledBy _ ![1024, 1024] (by sl_kernel_rfl) _)
  all_goals
    idx_vars x
    pointwise [k0_pay1, k0_pay13, k0_pay14, k0_pay15, k0_pay16, k0_pay17]
    refine congrArg₂ (fun p q : EReal => p + q) ((congrFun (Memref.IsWhole.read_unread _ _) _).trans
      (congrArg _ ((ix2_inj ..).2 ⟨Fin.ext h0.symm, Fin.ext h1.symm⟩))) ?_
  · exact dpa_part t a ⟨2048 + x0, by omega⟩ b x1 h0 h1
  · exact dpa_part t a ⟨1024 + x0, by omega⟩ b x1 h0 h1
  · exact dpa_part t a ⟨x0, by omega⟩ b x1 h0 h1

theorem lowC (t : Fin cfg0.N) (h0 : ¬ t.val % 8 = 0) (h1 : t.val % 8 = 7) (a : Fin 128) (b : Fin 1024) :
    ((outsAt0 m c t.val t.isLt).2.2.2 (ix2 a b) : EReal) = (outsAt0 m c (t.val - 1) (by omega)).2.2.2 (ix2 a b) + part (dlowF m c) (actF m c) t a b := by
  rw [outsAt0_C m c t h0 h1]
  frame_open
  try simp (disch := decide) only [↓ View.readCov_skip, ↓ View.readCov_cons_toLoadRect, ↓ View.readCov_fill]
  frame_out
  pointwise [k0_pay1, k0_pay13, k0_pay14, k0_pay15, k0_pay16, k0_pay17]
  exact congrArg₂ (fun p q : EReal => p + q) (congrFun (Memref.IsWhole.read_unread _ _) _) (dlow_part t a b)

theorem sum_a (t : Fin cfg0.N) (h7 : t.val % 8 = 7) (a : Fin 3072) (b : Fin 1024) :
    ((outsAt0 m c t.val t.isLt).2.2.1 (ix2 a b) : EReal) = prod (dpaF m c) (actF m c) a b :=
  sum_tokens N_0 (fun n hn => (outsAt0 m c n hn).2.2.1 (ix2 a b)) (fun n => dpaF m c n a * actF m c n b)
    (fun t h0 => stepA t h0 (by omega) a b)
    (fun t h0 => by
      by_cases h1 : t.val % 8 = 7
      · exact stepC t h0 h1 a b
      · exact stepB t h0 h1 a b) t h7

theorem sum_low (t : Fin cfg0.N) (h7 : t.val % 8 = 7) (a : Fin 128) (b : Fin 1024) :
    ((outsAt0 m c t.val t.isLt).2.2.2 (ix2 a b) : EReal) = prod (dlowF m c) (actF m c) a b :=
  sum_tokens N_0 (fun n hn => (outsAt0 m c n hn).2.2.2 (ix2 a b)) (fun n => dlowF m c n a * actF m c n b)
    (fun t h0 => lowA t h0 (by omega) a b)
    (fun t h0 => by
      by_cases h1 : t.val % 8 = 7
      · exact lowC t h0 h1 a b
      · exact lowB t h0 h1 a b) t h7

/-- Row `n` of the whole gradient: two products over the tokens and two given groups, one below the other. -/
def grad (m : (ℓ : Loc nD τ sig) → Buf (Elt Ideal) ℓ) (c : Dev nD) (n : ℕ) (b : Fin 1024) : EReal :=
  if h : n < 3072 then prod (dpaF m c) (actF m c) ⟨n, h⟩ b
  else if h1 : n < 3088 then prod (dlowF m c) (actF m c) ⟨n - 3072, by omega⟩ b
  else if h2 : n < 5136 then dws m c (ix2 ⟨n - 3088, by omega⟩ b)
  else if h3 : n < 7184 then dwg m c (ix2 ⟨n - 5136, by omega⟩ b)
  else 0

theorem grad_a (n : ℕ) (a : Fin 3072) (b b' : Fin 1024) (hn : n = a) (hb : (b : ℕ) = b') : prod (dpaF m c) (actF m c) a b' = grad m c n b := by
  obtain rfl : b = b' := Fin.ext hb
  subst hn
  rw [grad, dif_pos a.isLt]
theorem grad_low (n : ℕ) (a : Fin 128) (b b' : Fin 1024) (ha : a.val < 16) (hn : n = 3072 + a) (hb : (b : ℕ) = b') :
    prod (dlowF m c) (actF m c) a b' = grad m c n b := by
  obtain rfl : b = b' := Fin.ext hb
  rw [grad, dif_neg (by omega), dif_pos (by omega)]
  exact congrArg (prod (dlowF m c) (actF m c) · b) (Fin.ext (by simp only []; omega))
theorem grad_s (n : ℕ) (a : Fin 2048) (b b' : Fin 1024) (hn : n = 3088 + a) (hb : (b : ℕ) = b') : (dws m c (ix2 a b') : EReal) = grad m c n b := by
  obtain rfl : b = b' := Fin.ext hb
  rw [grad, dif_neg (by omega), dif_neg (by omega), dif_pos (by omega)]
  exact congrArg (fun i => (dws m c (ix2 i b) : EReal)) (Fin.ext (by simp only []; omega))
theorem grad_g (n : ℕ) (a : Fin 2048) (b b' : Fin 1024) (hn : n = 5136 + a) (hb : (b : ℕ) = b') : (dwg m c (ix2 a b') : EReal) = grad m c n b := by
  obtain rfl : b = b' := Fin.ext hb
  rw [grad, dif_neg (by omega), dif_neg (by omega), dif_neg (by omega), dif_pos (by omega)]
  exact congrArg (fun i => (dwg m c (ix2 i b) : EReal)) (Fin.ext (by simp only []; omega))

/-- The blocks that are kept are the even blocks of the gradient. -/
theorem keepC (t : Fin cfg0.N) (hn : ¬ t.val % 8 = 0) (h7 : t.val % 8 = 7) (d : Fin 4) (r : Fin 898) (b : Fin 1024) :
    ((outsAt0 m c t.val t.isLt).1 (ix3 d r b) : EReal) = grad m c (898 * (2 * d) + r) b := by
  rw [outsAt0_C m c t hn h7]
  frame_open
  frame_out
  canon_tiles x h using (View.cover_of_tiledBy _ ![1, 2, 1024] (by sl_kernel_rfl) _)
  all_goals
    idx_vars x
  · pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    exact (dwg_at t ⟨252 + x1, by omega⟩ x2).trans (grad_g _ ⟨252 + x1, by omega⟩ b x2 (by first | omega | (dsimp only; omega)) h2)
  · pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    exact (dws_at t ⟨504 + x1, by omega⟩ x2).trans (grad_s _ ⟨504 + x1, by omega⟩ b x2 (by first | omega | (dsimp only; omega)) h2)
  · refine Eq.trans ?_ ((sum_a t h7 ⟨1796 + x1, by omega⟩ x2).trans (grad_a _ ⟨1796 + x1, by omega⟩ b x2 (by first | omega | (dsimp only; omega)) h2))
    rw [outsAt0_C m c t hn h7]
    frame_open
    frame_out
    rw [View.readCov_eq_canon']
    pointwise [k0_pay8, k0_pay9, k0_pay10, k0_pay11, k0_pay12]
  · refine Eq.trans ?_ ((sum_a t h7 ⟨x1, by omega⟩ x2).trans (grad_a _ ⟨x1, by omega⟩ b x2 (by first | omega | (dsimp only; omega)) h2))
    rw [outsAt0_C m c t hn h7]
    frame_open
    frame_out
    rw [View.readCov_eq_canon']
    pointwise [k0_pay8, k0_pay9, k0_pay10, k0_pay11, k0_pay12]

/-- The blocks that are sent on are the odd ones. -/
theorem sendC (t : Fin cfg0.N) (hn : ¬ t.val % 8 = 0) (h7 : t.val % 8 = 7) (d : Fin 4) (r : Fin 898) (b : Fin 1024) :
    ((outsAt0 m c t.val t.isLt).2.1 (ix3 d r b) : EReal) = grad m c (898 * (2 * d + 1) + r) b := by
  rw [outsAt0_C m c t hn h7]
  frame_open
  frame_out
  canon_tiles x h using (View.cover_of_tiledBy _ ![1, 2, 1024] (by sl_kernel_rfl) _)
  all_goals
    idx_vars x
  · pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    exact (dwg_at t ⟨1150 + x1, by omega⟩ x2).trans (grad_g _ ⟨1150 + x1, by omega⟩ b x2 (by first | omega | (dsimp only; omega)) h2)
  · pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    exact (dwg_at t ⟨x1, by omega⟩ x2).trans (grad_g _ ⟨x1, by omega⟩ b x2 (by first | omega | (dsimp only; omega)) h2)
  · pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    exact (dws_at t ⟨1402 + x1, by omega⟩ x2).trans (grad_s _ ⟨1402 + x1, by omega⟩ b x2 (by first | omega | (dsimp only; omega)) h2)
  · pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
    exact (dws_at t ⟨x1, by omega⟩ x2).trans (grad_s _ ⟨x1, by omega⟩ b x2 (by first | omega | (dsimp only; omega)) h2)
  · refine Eq.trans ?_ ((sum_low t h7 ⟨x1, by omega⟩ x2).trans (grad_low _ ⟨x1, by omega⟩ b x2 (by first | omega | (dsimp only; omega)) (by first | omega | (dsimp only; omega)) h2))
    rw [outsAt0_C m c t hn h7]
    frame_open
    frame_out
    rw [View.readCov_eq_canon']
    pointwise [k0_pay8, k0_pay9, k0_pay10, k0_pay11, k0_pay12]
    exact congrFun (View.canon_cons_unit_zero (S := S128x1024) (by decide) _ _ _) _
  · refine Eq.trans ?_ ((sum_a t h7 ⟨2694 + x1, by omega⟩ x2).trans (grad_a _ ⟨2694 + x1, by omega⟩ b x2 (by first | omega | (dsimp only; omega)) h2))
    rw [outsAt0_C m c t hn h7]
    frame_open
    frame_out
    rw [View.readCov_eq_canon']
    pointwise [k0_pay8, k0_pay9, k0_pay10, k0_pay11, k0_pay12]
  · refine Eq.trans ?_ ((sum_a t h7 ⟨898 + x1, by omega⟩ x2).trans (grad_a _ ⟨898 + x1, by omega⟩ b x2 (by first | omega | (dsimp only; omega)) h2))
    rw [outsAt0_C m c t hn h7]
    frame_open
    frame_out
    rw [View.readCov_eq_canon']
    pointwise [k0_pay8, k0_pay9, k0_pay10, k0_pay11, k0_pay12]

theorem arr_keep : (dats m 0 c).arrAt 5 cfg0.N = fun y : S4x898x1024.Idx => grad m c (898 * (2 * (y 0).val) + (y 1).val) (y 2) := by
  refine (dats m 0 c).arrAt_eq_of_covers 5 _ (by decide +kernel) fun t hf y => ?_
  idx_vars y
  have h7 : t.val % 8 = 7 := (by decide +kernel : ∀ t : Fin cfg0.N, (cfg0.win 5).flush t = true → t.val % 8 = 7) t hf
  blk_simp
  obtain ⟨-, -, -, -, -, i5, i6⟩ := idx t
  have e2 : (win0_5.blk t).view.emb (ix3 y0 y1 y2) 2 = y2 := by
    apply Fin.ext
    blk_simp [idx t]
  have z0 : win0_5.index t 0 = 0 := by rw [i5]; rfl
  have z1 : win0_5.index t 1 = 0 := by rw [i5]; rfl
  rw [after0_5]
  refine (keepC t (by omega) h7 y0 y1 y2).trans ?_
  exact congrArg₂ (grad m c) (by rw [z0, z1]; omega) e2.symm

theorem arr_send : (dats m 0 c).arrAt 6 cfg0.N = fun y : S4x898x1024.Idx => grad m c (898 * (2 * (y 0).val + 1) + (y 1).val) (y 2) := by
  refine (dats m 0 c).arrAt_eq_of_covers 6 _ (by decide +kernel) fun t hf y => ?_
  idx_vars y
  have h7 : t.val % 8 = 7 := (by decide +kernel : ∀ t : Fin cfg0.N, (cfg0.win 6).flush t = true → t.val % 8 = 7) t hf
  blk_simp
  obtain ⟨-, -, -, -, -, i5, i6⟩ := idx t
  have e2 : (win0_6.blk t).view.emb (ix3 y0 y1 y2) 2 = y2 := by
    apply Fin.ext
    blk_simp [idx t]
  have z0 : win0_6.index t 0 = 0 := by rw [i6]; rfl
  have z1 : win0_6.index t 1 = 0 := by rw [i6]; rfl
  rw [after0_6]
  refine (sendC t (by omega) h7 y0 y1 y2).trans ?_
  exact congrArg₂ (grad m c) (by rw [z0, z1]; omega) e2.symm

end Cert.Kernel13Ideal.Val
end
-- ==== Proof.InBlocksValue.lean ====
module

public import proofs.«01_k».proof.Defs
public import proofs.«01_k».proof.Proof.InBlocks
public import proofs.«01_k».proof.Proof.Gen.Reference13Ideal.Run

@[expose] public section

set_option maxRecDepth 16384

/-!
The gradient of the input projection's weight in blocks: the kernel's arrays are the reference's.
-/

noncomputable section
open Idealize.ShloMosaic Idealize.ShloMosaic.TcCoe Idealize.SL.Sem
namespace Cert.Kernel13Ideal.Val
open Cert.Reference13Ideal Cert.Reference13Ideal.Gen in
/-- The reference's gradient of the attention's columns, as rows. -/
def refA (x : FVec Ideal S4096x1024 .bf16) (p : FVec Ideal S4096x3072 .bf16) : FVec Ideal S3072x1024 .bf16 :=
  truncf .bf16 (transpose S3072x1024 [1, 0] (transpose S1024x3072 [1, 0]
    (Host.dotGeneral (φ₁ := .f32) (φ₂ := .f32) dot_S4096x3072_S4096x1024_S3072x1024_0_0_1_1_n_n none (extf .f32 p bitsLt_bf16_f32) (extf .f32 x bitsLt_bf16_f32))
    transposes_S3072x1024_S1024x3072_1_0) transposes_S1024x3072_S3072x1024_1_0) bitsLt_bf16_f32

open Cert.Reference13Ideal Cert.Reference13Ideal.Gen in
/-- The reference's gradient of the low-rank gate's columns, as rows. -/
def refL (x : FVec Ideal S4096x1024 .bf16) (l : FVec Ideal S4096x128 .bf16) : FVec Ideal S16x1024 .bf16 :=
  truncf .bf16 (transpose S16x1024 [1, 0] (transpose S1024x16 [1, 0]
    (Host.dotGeneral (φ₁ := .f32) (φ₂ := .f32) dot_S4096x16_S4096x1024_S16x1024_0_0_1_1_n_n none
      (extf .f32 (extractStridedSlice S4096x16 ![0, 0] l slices_S4096x128_S4096x16_0_0) bitsLt_bf16_f32) (extf .f32 x bitsLt_bf16_f32))
    transposes_S16x1024_S1024x16_1_0) transposes_S1024x16_S16x1024_1_0) bitsLt_bf16_f32

open Cert.Reference13Ideal Cert.Reference13Ideal.Gen in
/-- The reference's whole gradient: the two products and the two given groups, one below the other. -/
def whole (x : FVec Ideal S4096x1024 .bf16) (p : FVec Ideal S4096x3072 .bf16) (l : FVec Ideal S4096x128 .bf16) (s g : FVec Ideal S2048x1024 .bf16) :
    FVec Ideal S7184x1024 .bf16 :=
  concatenate S7184x1024 0 [⟨S3072x1024, refA x p⟩, ⟨S16x1024, refL x l⟩, ⟨S2048x1024, s⟩, ⟨S2048x1024, g⟩]
    concatenates_S3072x1024_S16x1024_S2048x1024_S2048x1024_S7184x1024_d0

variable (m : (ℓ : Loc nD τ sig) → Buf (Elt Ideal) ℓ) (c : Dev nD)

theorem refA_at (x : FVec Ideal S4096x1024 .bf16) (p : FVec Ideal S4096x3072 .bf16) (a : Fin 3072) (b : Fin 1024) :
    (refA x p (ix2 a b) : EReal) = ∑ n : Fin 4096, @HMul.hMul EReal EReal EReal instHMul (p (ix2 n a)) (x (ix2 n b)) := by
  unfold refA
  pointwise

theorem refL_at (x : FVec Ideal S4096x1024 .bf16) (l : FVec Ideal S4096x128 .bf16) (a : Fin 16) (b : Fin 1024) :
    (refL x l (ix2 a b) : EReal)
      = ∑ n : Fin 4096, @HMul.hMul EReal EReal EReal instHMul (l (ix2 n (⟨a.val, by omega⟩ : Fin 128))) (x (ix2 n b)) := by
  unfold refL
  pointwise

/-- Row by row it is the kernel's. -/
theorem whole_at (n : Fin 7184) (b : Fin 1024) :
    (whole (act m c) (dpa m c) (dlow m c) (dws m c) (dwg m c) (ix2 n b) : EReal) = grad m c n b := by
  generalize hx : act m c = x
  generalize hp : dpa m c = p
  generalize hl : dlow m c = l
  generalize hs : dws m c = s
  generalize hg : dwg m c = g
  unfold whole
  pointwise
  split
  · rw [refA_at]
    subst hx hp
    exact grad_a n.val _ b b rfl rfl
  split
  · rw [refL_at]
    subst hx hl
    exact grad_low n.val _ b b (by first | omega | (dsimp only; omega)) (by first | omega | (dsimp only; omega)) rfl
  split
  · subst hs
    exact grad_s n.val _ b b (by first | omega | (dsimp only; omega)) rfl
  · subst hg
    exact grad_g n.val _ b b (by first | omega | (dsimp only; omega)) rfl

/-- The blocks that are kept. -/
def kept : FVec Ideal S4x898x1024 .bf16 := fun y => grad m c (898 * (2 * (y 0).val) + (y 1).val) (y 2)
/-- The blocks that are sent on. -/
def sent : FVec Ideal S4x898x1024 .bf16 := fun y => grad m c (898 * (2 * (y 0).val + 1) + (y 1).val) (y 2)

open Cert.Reference13Ideal Cert.Reference13Ideal.Gen in
/-- Every second block, from the first on, row by row. -/
theorem even_at (w : FVec Ideal S7184x1024 .bf16) (d : Fin 4) (r : Fin 898) (b : Fin 1024) :
    Host.slice S4x898x1024 ![0, 0, 0] ![2, 1, 1] (shapeCast S8x898x1024 w shapeCasts_S7184x1024_S8x898x1024)
      slicesBy_S8x898x1024_S4x898x1024_0s2_0s1_0s1 (ix3 d r b) = w (ix2 (⟨898 * (2 * d.val) + r.val, by omega⟩ : Fin 7184) b) := by
  pointwise
  exact congrArg (fun i => w (ix2 i b)) (Fin.ext (by dsimp only; omega))

open Cert.Reference13Ideal Cert.Reference13Ideal.Gen in
/-- Every second block, from the second on, row by row. -/
theorem odd_at (w : FVec Ideal S7184x1024 .bf16) (d : Fin 4) (r : Fin 898) (b : Fin 1024) :
    Host.slice S4x898x1024 ![1, 0, 0] ![2, 1, 1] (shapeCast S8x898x1024 w shapeCasts_S7184x1024_S8x898x1024)
      slicesBy_S8x898x1024_S4x898x1024_1s2_0s1_0s1 (ix3 d r b) = w (ix2 (⟨898 * (2 * d.val + 1) + r.val, by omega⟩ : Fin 7184) b) := by
  pointwise
  exact congrArg (fun i => w (ix2 i b)) (Fin.ext (by dsimp only; omega))

theorem value : Cert.algebraic_Kernel13Ideal_Reference13Ideal := by
  intro m ρ m' ρ' _ hagree
  refine ⟨fun c => kept m c, fun c => sent m c, ?_, ?_⟩
  · refine (θ_run (defs (F := Ideal)) _ _).mono (fun r h c => ?_) (Cert.Kernel13Ideal.Value.run_blocks m ρ)
    exact ⟨(h c).1.trans arr_keep, (h c).2.1.trans arr_send, (h c).2.2⟩
  · refine (θ_run (Reference13Ideal.defs (F := Ideal)) _ _).mono (fun r h c => ?_) (Reference13Ideal.Value.run m' ρ')
    obtain ⟨e0, e1, e2, e3, e4⟩ := hagree c
    refine ⟨(h c).1.trans ?_, (h c).2.1.trans ?_, (h c).2.2⟩
    · rw [e0, e1, e2, e3, e4]
      funext y
      idx_vars y
      exact (even_at (whole (act m c) (dpa m c) (dlow m c) (dws m c) (dwg m c)) _ _ _).trans (whole_at m c _ _)
    · rw [e0, e1, e2, e3, e4]
      funext y
      idx_vars y
      exact (odd_at (whole (act m c) (dpa m c) (dlow m c) (dws m c) (dwg m c)) _ _ _).trans (whole_at m c _ _)

end Cert.Kernel13Ideal.Val
end
-- ==== Proof.lean ====
module

public import proofs.«01_k».proof.Defs
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel2.Frame
public import proofs.«01_k».proof.Proof.Gen.Kernel3Ideal.Value
public import proofs.«01_k».proof.Proof.Gen.Reference3Ideal.Run
public import proofs.«01_k».proof.Proof.Gen.Kernel3.Frame
public import proofs.«01_k».proof.Proof.Gen.Kernel4Ideal.Value
public import proofs.«01_k».proof.Proof.Gen.Reference4Ideal.Run
public import proofs.«01_k».proof.Proof.Gen.Kernel4.Frame
public import proofs.«01_k».proof.Proof.Gen.Kernel5Ideal.Value
public import proofs.«01_k».proof.Proof.Gen.Reference5Ideal.Run
public import proofs.«01_k».proof.Proof.Gen.Kernel5.Frame
public import proofs.«01_k».proof.Proof.Gen.Kernel6Ideal.Value
public import proofs.«01_k».proof.Proof.Gen.Reference6Ideal.Run
public import proofs.«01_k».proof.Proof.Gen.Kernel6.Frame
public import proofs.«01_k».proof.Proof.Gen.Kernel7Ideal.Value
public import proofs.«01_k».proof.Proof.Gen.Reference7Ideal.Run
public import proofs.«01_k».proof.Proof.Gen.Kernel7.Frame
public import proofs.«01_k».proof.Proof.Gen.Kernel8Ideal.Value
public import proofs.«01_k».proof.Proof.Gen.Reference8Ideal.Run
public import proofs.«01_k».proof.Proof.Gen.Kernel8.Frame
public import proofs.«01_k».proof.Proof.Gen.Kernel9Ideal.Value
public import proofs.«01_k».proof.Proof.Gen.Reference9Ideal.Run
public import proofs.«01_k».proof.Proof.Gen.Kernel9.Frame
public import proofs.«01_k».proof.Proof.Gen.Kernel10Ideal.Value
public import proofs.«01_k».proof.Proof.Gen.Reference10Ideal.Run
public import proofs.«01_k».proof.Proof.Gen.Kernel10.Frame
public import proofs.«01_k».proof.Proof.Gen.Kernel11Ideal.Value
public import proofs.«01_k».proof.Proof.Gen.Reference11Ideal.Run
public import proofs.«01_k».proof.Proof.Gen.Kernel11.Frame
public import proofs.«01_k».proof.Proof.Gen.Kernel12Ideal.Value
public import proofs.«01_k».proof.Proof.Gen.Reference12Ideal.Run
public import proofs.«01_k».proof.Proof.Gen.Kernel12.Frame
public import proofs.«01_k».proof.Proof.Gen.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite
public import proofs.«01_k».proof.Proof.Arrays
public import proofs.«01_k».proof.Proof.Tiles
public import proofs.«01_k».proof.Proof.RefOut
public import proofs.«01_k».proof.Proof.Finite
public import proofs.«01_k».proof.Proof.InBwdValue
public import proofs.«01_k».proof.Proof.FfnBwdValue
public import proofs.«01_k».proof.Proof.InGradValue
public import proofs.«01_k».proof.Proof.OutBwdValue
public import proofs.«01_k».proof.Proof.MixBwdValue
public import proofs.«01_k».proof.Proof.OutGradValue
public import proofs.«01_k».proof.Proof.MixGradValue
public import proofs.«01_k».proof.Proof.SguGradValue
public import proofs.«01_k».proof.Proof.OutLossValue
public import proofs.«01_k».proof.Proof.FfnInValue
public import proofs.«01_k».proof.Proof.MixTailValue
public import proofs.«01_k».proof.Proof.InBlocksValue
public import proofs.«01_k».proof.Proof.PreFacts
public import proofs.«01_k».proof.Proof.Gen.Kernel13Ideal.Value
public import proofs.«01_k».proof.Proof.Gen.Kernel13.Frame
public import proofs.«01_k».proof.Proof.Gen.Kernel13Ideal
public import proofs.«01_k».proof.Proof.Gen.Reference13Ideal
public import proofs.«01_k».proof.Proof.Gen.Reference13Ideal.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments as they were, and ends with every counter at zero. -/
theorem reference_frame : Cert.quiescent_ReferenceIdeal := fun m ρ _ =>
  (θ_run (Cert.ReferenceIdeal.defs (F := Ideal)) _ _).mono (fun r h => ⟨fun c => (h c).2.2.2.2.2,
    Idealize.ShloMosaic.sem_eq_zero_of_no_sems (by decide) r.2⟩) (Cert.ReferenceIdeal.Value.run m ρ)

theorem reference2_frame : Cert.quiescent_Reference2Ideal := fun m ρ _ =>
  (θ_run (Cert.Reference2Ideal.defs (F := Ideal)) _ _).mono (fun r h => ⟨fun c => (h c).2.2,
    Idealize.ShloMosaic.sem_eq_zero_of_no_sems (by decide) r.2⟩) (Cert.Reference2Ideal.Value.run m ρ)

theorem reference3_frame : Cert.quiescent_Reference3Ideal := fun m ρ _ =>
  (θ_run (Cert.Reference3Ideal.defs (F := Ideal)) _ _).mono (fun r h => ⟨fun c => (h c).2.2.2.2,
    Idealize.ShloMosaic.sem_eq_zero_of_no_sems (by decide) r.2⟩) (Cert.Reference3Ideal.Value.run m ρ)

theorem reference4_frame : Cert.quiescent_Reference4Ideal := fun m ρ _ =>
  (θ_run (Cert.Reference4Ideal.defs (F := Ideal)) _ _).mono (fun r h => ⟨fun c => (h c).2,
    Idealize.ShloMosaic.sem_eq_zero_of_no_sems (by decide) r.2⟩) (Cert.Reference4Ideal.Value.run m ρ)

theorem reference5_frame : Cert.quiescent_Reference5Ideal := fun m ρ _ =>
  (θ_run (Cert.Reference5Ideal.defs (F := Ideal)) _ _).mono (fun r h => ⟨fun c => (h c).2,
    Idealize.ShloMosaic.sem_eq_zero_of_no_sems (by decide) r.2⟩) (Cert.Reference5Ideal.Value.run m ρ)

theorem reference6_frame : Cert.quiescent_Reference6Ideal := fun m ρ _ =>
  (θ_run (Cert.Reference6Ideal.defs (F := Ideal)) _ _).mono (fun r h => ⟨fun c => (h c).2.2.2.2.2,
    Idealize.ShloMosaic.sem_eq_zero_of_no_sems (by decide) r.2⟩) (Cert.Reference6Ideal.Value.run m ρ)

theorem reference7_frame : Cert.quiescent_Reference7Ideal := fun m ρ _ =>
  (θ_run (Cert.Reference7Ideal.defs (F := Ideal)) _ _).mono (fun r h => ⟨fun c => (h c).2,
    Idealize.ShloMosaic.sem_eq_zero_of_no_sems (by decide) r.2⟩) (Cert.Reference7Ideal.Value.run m ρ)

theorem reference8_frame : Cert.quiescent_Reference8Ideal := fun m ρ _ =>
  (θ_run (Cert.Reference8Ideal.defs (F := Ideal)) _ _).mono (fun r h => ⟨fun c => (h c).2.2.2,
    Idealize.ShloMosaic.sem_eq_zero_of_no_sems (by decide) r.2⟩) (Cert.Reference8Ideal.Value.run m ρ)

theorem reference9_frame : Cert.quiescent_Reference9Ideal := fun m ρ _ =>
  (θ_run (Cert.Reference9Ideal.defs (F := Ideal)) _ _).mono (fun r h => ⟨fun c => (h c).2.2,
    Idealize.ShloMosaic.sem_eq_zero_of_no_sems (by decide) r.2⟩) (Cert.Reference9Ideal.Value.run m ρ)

theorem reference10_frame : Cert.quiescent_Reference10Ideal := fun m ρ _ =>
  (θ_run (Cert.Reference10Ideal.defs (F := Ideal)) _ _).mono (fun r h => ⟨fun c => (h c).2.2.2.2,
    Idealize.ShloMosaic.sem_eq_zero_of_no_sems (by decide) r.2⟩) (Cert.Reference10Ideal.Value.run m ρ)

theorem reference11_frame : Cert.quiescent_Reference11Ideal := fun m ρ _ =>
  (θ_run (Cert.Reference11Ideal.defs (F := Ideal)) _ _).mono (fun r h => ⟨fun c => (h c).2.2,
    Idealize.ShloMosaic.sem_eq_zero_of_no_sems (by decide) r.2⟩) (Cert.Reference11Ideal.Value.run m ρ)

theorem reference12_frame : Cert.quiescent_Reference12Ideal := fun m ρ _ =>
  (θ_run (Cert.Reference12Ideal.defs (F := Ideal)) _ _).mono (fun r h => ⟨fun c => (h c).2.2.2.2.2.2,
    Idealize.ShloMosaic.sem_eq_zero_of_no_sems (by decide) r.2⟩) (Cert.Reference12Ideal.Value.run m ρ)

theorem reference13_frame : Cert.quiescent_Reference13Ideal := fun m ρ _ =>
  (θ_run (Cert.Reference13Ideal.defs (F := Ideal)) _ _).mono (fun r h => ⟨fun c => (h c).2.2,
    Idealize.ShloMosaic.sem_eq_zero_of_no_sems (by decide) r.2⟩) (Cert.Reference13Ideal.Value.run m ρ)

open Cert.Sgu in
/-- The kernel's five gradients are the reference's. -/
theorem value : Cert.algebraic_KernelIdeal_ReferenceIdeal_pre_finite := by
  intro m ρ m' ρ' hpre hagree
  have HK := Cert.Finite.holds m hpre
  refine ⟨fun c => fun y : Cert.KernelIdeal.S4096x2048.Idx => (((Cert.Finite.args m c).dps (y 0) (y 1) : ℝ) : EReal),
    fun c => fun y : Cert.KernelIdeal.S4x1x256.Idx => (((Cert.Finite.args m c).dlg (y 0) (y 2) : ℝ) : EReal),
    fun c => fun y : Cert.KernelIdeal.S4x1x256.Idx => (((Cert.Finite.args m c).dlb (y 0) (y 2) : ℝ) : EReal),
    fun c => fun y : Cert.KernelIdeal.S4x128x128.Idx => (((Cert.Finite.args m c).dw (y 0) (y 1) (y 2) : ℝ) : EReal),
    fun c => fun y : Cert.KernelIdeal.S4x128x1.Idx => (((Cert.Finite.args m c).db (y 0) (y 1) : ℝ) : EReal), ?_, ?_⟩
  · refine (θ_run (Cert.KernelIdeal.defs (F := Ideal)) _ _).mono (fun r h c => ?_) (Cert.KernelIdeal.Value.run_blocks m ρ)
    obtain ⟨h0, h1, h2, h3, h4, h⟩ := h c
    exact ⟨h0.trans (Cert.KernelIdeal.Tiles.arr6 (HK c)), h1.trans (Cert.KernelIdeal.Arrays.arr7 (HK c)), h2.trans (Cert.KernelIdeal.Arrays.arr8 (HK c)),
      h3.trans (Cert.KernelIdeal.Arrays.arr9 (HK c)), h4.trans (Cert.KernelIdeal.Arrays.arr10 (HK c)), h⟩
  · refine (θ_run (Cert.ReferenceIdeal.defs (F := Ideal)) _ _).mono (fun r h c => ?_) (Cert.ReferenceIdeal.Value.run m' ρ')
    obtain ⟨e0, e1, e2, e3, e4, e5⟩ := hagree c
    have HR := Cert.Finite.ref_holds m m' c _ (HK c) e0 e1 e2 e3 e4 e5
    obtain ⟨h0, h1, h2, h3, h4, h⟩ := h c
    refine ⟨h0.trans ?_, h1.trans ?_, h2.trans ?_, h3.trans ?_, h4.trans ?_, h⟩
    · exact Cert.ReferenceIdeal.Out.dps_eq HR
    · exact Cert.ReferenceIdeal.Out.dlg_eq HR
    · exact Cert.ReferenceIdeal.Out.dlb_eq HR
    · exact Cert.ReferenceIdeal.Out.dw_eq HR
    · exact Cert.ReferenceIdeal.Out.db_eq HR

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Pre_finite.Gen.facts,
  Cert.PreFacts.finite2,
  Cert.PreFacts.finite3,
  Cert.PreFacts.finite5,
  Cert.PreFacts.finite6,
  Cert.PreFacts.finite10,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  fun m ρ _ => Cert.Kernel2Ideal.Gen.frame m ρ,
  reference2_frame,
  fun m ρ _ => reference2_frame m ρ trivial,
  fun m ρ _ => Cert.Kernel3.Gen.frame m ρ,
  fun m ρ _ => Cert.Kernel3Ideal.Gen.frame m ρ,
  fun m ρ _ => Cert.Kernel3Ideal.Gen.frame m ρ,
  reference3_frame,
  fun m ρ _ => reference3_frame m ρ trivial,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  fun m ρ _ => Cert.Kernel5Ideal.Gen.frame m ρ,
  reference5_frame,
  fun m ρ _ => reference5_frame m ρ trivial,
  fun m ρ _ => Cert.Kernel6.Gen.frame m ρ,
  fun m ρ _ => Cert.Kernel6Ideal.Gen.frame m ρ,
  fun m ρ _ => Cert.Kernel6Ideal.Gen.frame m ρ,
  reference6_frame,
  fun m ρ _ => reference6_frame m ρ trivial,
  fun m ρ _ => Cert.Kernel7.Gen.frame m ρ,
  fun m ρ _ => Cert.Kernel7Ideal.Gen.frame m ρ,
  reference7_frame,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  fun m ρ _ => Cert.Kernel10Ideal.Gen.frame m ρ,
  reference10_frame,
  fun m ρ _ => reference10_frame m ρ trivial,
  fun m ρ _ => Cert.Kernel11.Gen.frame m ρ,
  fun m ρ _ => Cert.Kernel11Ideal.Gen.frame m ρ,
  reference11_frame,
  fun m ρ _ => Cert.Kernel12.Gen.frame m ρ,
  fun m ρ _ => Cert.Kernel12Ideal.Gen.frame m ρ,
  reference12_frame,
  fun m ρ _ => Cert.Kernel13.Gen.frame m ρ,
  fun m ρ _ => Cert.Kernel13Ideal.Gen.frame m ρ,
  reference13_frame,
  IdealRules.named_const.statement Cert.KernelIdeal.κ "gelu_3ac" .f32 0x3DDB33B6#32 (((3 * (12003091 / 268435456)) * (6693141 / 8388608) : ℝ) : EReal) rfl,
  value,
  trivial,
  Cert.Kernel2Ideal.Val.value,
  trivial,
  Cert.Kernel3Ideal.Val.value,
  trivial,
  Cert.Kernel4Ideal.Val.value,
  trivial,
  Cert.Kernel5Ideal.Val.value,
  trivial,
  Cert.Kernel6Ideal.Val.value,
  trivial,
  Cert.Kernel7Ideal.Val.value,
  trivial,
  Cert.Kernel8Ideal.Val.value,
  trivial,
  Cert.Kernel9Ideal.Val.value,
  trivial,
  Cert.Kernel10Ideal.Val.value,
  trivial,
  Cert.Kernel11Ideal.Val.value,
  trivial,
  Cert.Kernel12Ideal.Val.value,
  trivial,
  Cert.Kernel13Ideal.Val.value⟩

end Cert.Proof

end
